-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v54_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v17) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v34_0)) (v1 : (c : Dev Cert.Kernel12Ideal.nD) → Buf (Elt Ideal) ((c.tc : Thread Cert.Kernel12Ideal.nD Cert.Kernel12Ideal.τ).loc Cert.Kernel12Ideal.main_v34_1)) (v2 : (c : Dev Cert.Kernel12Ideal.nD) → Buf (Elt Ideal) ((c.tc : Thread Cert.Kernel12Ideal.nD Cert.Kernel12Ideal.τ).loc Cert.Kernel12Ideal.main_v34_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v34_0) = v0 c
          ∧ r.2.mem ((c.tc : Thread Cert.Kernel12Ideal.nD Cert.Kernel12Ideal.τ).loc Cert.Kernel12Ideal.main_v34_1) = v1 c
          ∧ r.2.mem ((c.tc : Thread Cert.Kernel12Ideal.nD Cert.Kernel12Ideal.τ).loc Cert.Kernel12Ideal.main_v34_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v146) = v0 c
          ∧ r.2.mem ((c.tc : Thread Cert.Reference12Ideal.nD Cert.Reference12Ideal.τ).loc Cert.Reference12Ideal.main_v149) = v1 c
          ∧ r.2.mem ((c.tc : Thread Cert.Reference12Ideal.nD Cert.Reference12Ideal.τ).loc Cert.Reference12Ideal.main_v151) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v6)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_v8) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_v8) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v18_0)) (v1 : (c : Dev Cert.Kernel16Ideal.nD) → Buf (Elt Ideal) ((c.tc : Thread Cert.Kernel16Ideal.nD Cert.Kernel16Ideal.τ).loc Cert.Kernel16Ideal.main_v18_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v18_0) = v0 c
          ∧ r.2.mem ((c.tc : Thread Cert.Kernel16Ideal.nD Cert.Kernel16Ideal.τ).loc Cert.Kernel16Ideal.main_v18_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v93) = v0 c
          ∧ r.2.mem ((c.tc : Thread Cert.Reference16Ideal.nD Cert.Reference16Ideal.τ).loc Cert.Reference16Ideal.main_v71) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Kernel.lean ====
abbrev S9216x6144 : Shape := ⟨2, ![9216, 6144]⟩
abbrev S2x1024 : Shape := ⟨2, ![2, 1024]⟩
abbrev S1x128 : Shape := ⟨2, ![1, 128]⟩
abbrev S_ : Shape := ⟨0, ![]⟩
abbrev S1024 : Shape := ⟨1, ![1024]⟩
abbrev S1x1024 : Shape := ⟨2, ![1, 1024]⟩
abbrev S128 : Shape := ⟨1, ![128]⟩
abbrev S8192x1024 : Shape := ⟨2, ![8192, 1024]⟩
abbrev S2x8x128x128 : Shape := ⟨4, ![2, 8, 128, 128]⟩
abbrev S64x1024 : Shape := ⟨2, ![64, 1024]⟩
abbrev S1x8x128x128 : Shape := ⟨4, ![1, 8, 128, 128]⟩
abbrev S64x64 : Shape := ⟨2, ![64, 64]⟩
abbrev S64x128 : Shape := ⟨2, ![64, 128]⟩
abbrev S1x1x128x128 : Shape := ⟨4, ![1, 1, 128, 128]⟩
abbrev S128x128 : Shape := ⟨2, ![128, 128]⟩
abbrev S64 : Shape := ⟨1, ![64]⟩
abbrev S64x1 : Shape := ⟨2, ![64, 1]⟩

abbrev nBuf : Space → Nat
  | .hbm => 27
  | .vmem => 15
  | .smem => 0
  | _ => 0

abbrev bufTy : (tb : Table) → Fin (tcTables nBuf tb) → BufTy
  | .hbm, ⟨0, _⟩ => ⟨S9216x6144, .f32⟩
  | .hbm, ⟨1, _⟩ => ⟨S2x1024, .f32⟩
  | .hbm, ⟨2, _⟩ => ⟨S1x128, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S2x1024, .f32⟩
  | .hbm, ⟨16, _⟩ => ⟨S2x1024, .f32⟩
  | .hbm, ⟨17, _⟩ => ⟨S_, .f32⟩
  | .hbm, ⟨18, _⟩ => ⟨S_, .f32⟩
  | .hbm, ⟨19, _⟩ => ⟨S2x1024, .f32⟩
  | .hbm, ⟨20, _⟩ => ⟨S1x1024, .f32⟩
  | .hbm, ⟨21, _⟩ => ⟨S1024, .f32⟩
  | .hbm, ⟨22, _⟩ => ⟨S128, .f32⟩
  | .hbm, ⟨23, _⟩ => ⟨S1x1024, .f32⟩
  | .hbm, ⟨24, _⟩ => ⟨S1x128, .f32⟩
  | .hbm, ⟨25, _⟩ => ⟨S8192x1024, .bf16⟩
  | .hbm, ⟨26, _⟩ => ⟨S2x8x128x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S1x1024, .f32⟩
  | .local _ .vmem, ⟨9, _⟩ => ⟨S1x128, .f32⟩
  | .local _ .vmem, ⟨10, _⟩ => ⟨S64x1024, .bf16⟩
  | .local _ .vmem, ⟨11, _⟩ => ⟨S64x1024, .bf16⟩
  | .local _ .vmem, ⟨12, _⟩ => ⟨S1x8x128x128, .f32⟩
  | .local _ .vmem, ⟨13, _⟩ => ⟨S1x8x128x128, .f32⟩
  | .local _ .vmem, ⟨14, _⟩ => ⟨S1x8x128x128, .f32⟩
  | _, _ => ⟨S9216x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v832 : BitVec 1 := Scalar.cmpi .eq arg1 c63_i32
  let v833 : BitVec 32 := Scalar.extui v832
  let c0_i32_373 : BitVec 32 := 0#32
  let v834 : BitVec 1 := Scalar.cmpi .ne v833 c0_i32_373
  v834

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c3_i32 : BitVec 32 := 3#32
  let c0_i32_0 : BitVec 32 := 0#32
  ![v2.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S9216x6144 : Shape := ⟨2, ![9216, 6144]⟩
abbrev S2x1024 : Shape := ⟨2, ![2, 1024]⟩
abbrev S1x128 : Shape := ⟨2, ![1, 128]⟩
abbrev S_ : Shape := ⟨0, ![]⟩
abbrev S1024 : Shape := ⟨1, ![1024]⟩
abbrev S1x1024 : Shape := ⟨2, ![1, 1024]⟩
abbrev S9216x1024 : Shape := ⟨2, ![9216, 1024]⟩
abbrev S8192x1024 : Shape := ⟨2, ![8192, 1024]⟩
abbrev S2x4096x8x128 : Shape := ⟨4, ![2, 4096, 8, 128]⟩
abbrev S64x64 : Shape := ⟨2, ![64, 64]⟩
abbrev S2x8x128x128 : Shape := ⟨4, ![2, 8, 128, 128]⟩
abbrev S2x64x64x8x128 : Shape := ⟨5, ![2, 64, 64, 8, 128]⟩
abbrev S64x2x8x64x128 : Shape := ⟨5, ![64, 2, 8, 64, 128]⟩
abbrev S1x2x8x64x128 : Shape := ⟨5, ![1, 2, 8, 64, 128]⟩
abbrev S2x8x64x128 : Shape := ⟨4, ![2, 8, 64, 128]⟩
abbrev S2x8x1x128 : Shape := ⟨4, ![2, 8, 1, 128]⟩
abbrev S2x8x64x64 : Shape := ⟨4, ![2, 8, 64, 64]⟩
abbrev S2x8x128 : Shape := ⟨3, ![2, 8, 128]⟩
abbrev S2x8x128x1 : Shape := ⟨4, ![2, 8, 128, 1]⟩
abbrev S2x4096x8 : Shape := ⟨3, ![2, 4096, 8]⟩
abbrev S2x4096x8x1 : Shape := ⟨4, ![2, 4096, 8, 1]⟩
abbrev S128 : Shape := ⟨1, ![128]⟩
abbrev S1x1x1x128 : Shape := ⟨4, ![1, 1, 1, 128]⟩

abbrev nBuf : Space → Nat
  | .hbm => 183
  | .vmem => 0
  | .smem => 0
  | _ => 0

abbrev hbmTy0_0 (i : Nat) : BufTy := match i % 128 with
  | 0 => ⟨S9216x6144, .f32⟩
  | 1 => ⟨S2x1024, .f32⟩
  | 2 => ⟨S1x128, .f32⟩
  | 3 => ⟨S_, .f32⟩
  | 4 => ⟨S1024, .f32⟩
  | 5 => ⟨S_, .f32⟩
  | 6 => ⟨S1024, .f32⟩
  | 7 => ⟨S1024, .f32⟩
  | 8 => ⟨S1x1024, .f32⟩
  | 9 => ⟨S2x1024, .f32⟩
  | 10 => ⟨S2x1024, .f32⟩
  | 11 => ⟨S2x1024, .f32⟩
  | 12 => ⟨S_, .f32⟩
  | 13 => ⟨S1024, .f32⟩
  | 14 => ⟨S1x1024, .f32⟩
  | 15 => ⟨S2x1024, .f32⟩
  | 16 => ⟨S2x1024, .f32⟩
  | 17 => ⟨S_, .f32⟩
  | 18 => ⟨S_, .f32⟩
  | 19 => ⟨S2x1024, .f32⟩
  | 20 => ⟨S1x1024, .f32⟩
  | 21 => ⟨S1024, .f32⟩
  | 22 => ⟨S_, .f32⟩
  | 23 => ⟨S1024, .f32⟩
  | 24 => ⟨S1024, .f32⟩
  | 25 => ⟨S9216x1024, .f32⟩
  | 26 => ⟨S9216x1024, .f32⟩
  | 27 => ⟨S9216x1024, .f32⟩
  | 28 => ⟨S_, .f32⟩
  | 29 => ⟨S9216x1024, .f32⟩
  | 30 => ⟨S9216x1024, .f32⟩
  | 31 => ⟨S_, .f32⟩
  | 32 => ⟨S9216x1024, .f32⟩
  | 33 => ⟨S9216x1024, .f32⟩
  | 34 => ⟨S1x1024, .f32⟩
  | 35 => ⟨S9216x1024, .f32⟩
  | 36 => ⟨S9216x1024, .f32⟩
  | 37 => ⟨S1x1024, .f32⟩
  | 38 => ⟨S9216x1024, .f32⟩
  | 39 => ⟨S9216x1024, .f32⟩
  | 40 => ⟨S9216x1024, .f32⟩
  | 41 => ⟨S8192x1024, .f32⟩
  | 42 => ⟨S2x4096x8x128, .f32⟩
  | 43 => ⟨S_, .f32⟩
  | 44 => ⟨S9216x1024, .f32⟩
  | 45 => ⟨S9216x1024, .f32⟩
  | 46 => ⟨S8192x1024, .f32⟩
  | 47 => ⟨S2x4096x8x128, .f32⟩
  | 48 => ⟨S9216x1024, .f32⟩
  | 49 => ⟨S8192x1024, .f32⟩
  | 50 => ⟨S2x4096x8x128, .f32⟩
  | 51 => ⟨S9216x1024, .f32⟩
  | 52 => ⟨S8192x1024, .f32⟩
  | 53 => ⟨S2x4096x8x128, .f32⟩
  | 54 => ⟨S_, .i1⟩
  | 55 => ⟨S64x64, .i1⟩
  | 56 => ⟨S64x64, .i32⟩
  | 57 => ⟨S_, .i32⟩
  | 58 => ⟨S64x64, .i32⟩
  | 59 => ⟨S64x64, .i32⟩
  | 60 => ⟨S64x64, .i32⟩
  | 61 => ⟨S64x64, .i1⟩
  | 62 => ⟨S_, .i1⟩
  | 63 => ⟨S64x64, .i1⟩
  | 64 => ⟨S64x64, .i1⟩
  | 65 => ⟨S_, .f32⟩
  | 66 => ⟨S2x8x128x128, .f32⟩
  | 67 => ⟨S2x64x64x8x128, .f32⟩
  | 68 => ⟨S64x2x8x64x128, .f32⟩
  | 69 => ⟨S2x64x64x8x128, .f32⟩
  | 70 => ⟨S64x2x8x64x128, .f32⟩
  | 71 => ⟨S2x64x64x8x128, .f32⟩
  | 72 => ⟨S64x2x8x64x128, .f32⟩
  | 73 => ⟨S2x64x64x8x128, .f32⟩
  | 74 => ⟨S64x2x8x64x128, .f32⟩
  | 75 => ⟨S_, .f32⟩
  | 76 => ⟨S64x2x8x64x128, .f32⟩
  | 77 => ⟨S_, .i32⟩
  | 78 => ⟨S64x2x8x64x128, .f32⟩
  | 79 => ⟨S64x2x8x64x128, .f32⟩
  | 80 => ⟨S64x2x8x64x128, .f32⟩
  | 81 => ⟨S64x2x8x64x128, .f32⟩
  | 82 => ⟨S64x64, .i1⟩
  | 83 => ⟨S_, .i32⟩
  | 84 => ⟨S2x8x128x128, .f32⟩
  | 85 => ⟨S64x2x8x64x128, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S1x2x8x64x128, .f32⟩
  | 93 => ⟨S2x8x64x128, .f32⟩
  | 94 => ⟨S_, .i32⟩
  | 95 => ⟨S_, .i32⟩
  | 96 => ⟨S_, .i32⟩
  | 97 => ⟨S_, .i32⟩
  | 98 => ⟨S1x2x8x64x128, .f32⟩
  | 99 => ⟨S2x8x64x128, .f32⟩
  | 100 => ⟨S_, .i32⟩
  | 101 => ⟨S_, .i32⟩
  | 102 => ⟨S_, .i32⟩
  | 103 => ⟨S_, .i32⟩
  | 104 => ⟨S1x2x8x64x128, .f32⟩
  | 105 => ⟨S2x8x64x128, .f32⟩
  | 106 => ⟨S_, .i32⟩
  | 107 => ⟨S_, .i32⟩
  | 108 => ⟨S_, .i32⟩
  | 109 => ⟨S_, .i32⟩
  | 110 => ⟨S1x2x8x64x128, .f32⟩
  | 111 => ⟨S2x8x64x128, .f32⟩
  | 112 => ⟨S_, .f32⟩
  | 113 => ⟨S_, .f32⟩
  | 114 => ⟨S2x8x64x128, .f32⟩
  | 115 => ⟨S2x8x1x128, .f32⟩
  | 116 => ⟨S2x8x64x128, .f32⟩
  | 117 => ⟨S2x8x64x128, .f32⟩
  | 118 => ⟨S2x8x64x128, .f32⟩
  | 119 => ⟨S2x8x64x128, .f32⟩
  | 120 => ⟨S2x8x64x128, .f32⟩
  | 121 => ⟨S2x8x64x64, .f32⟩
  | 122 => ⟨S_, .f32⟩
  | 123 => ⟨S_, .f32⟩
  | 124 => ⟨S2x8x64x64, .i1⟩
  | 125 => ⟨S2x8x64x64, .f32⟩
  | 126 => ⟨S2x8x64x64, .f32⟩
  | 127 => ⟨S2x8x64x128, .f32⟩
  | _ => ⟨S9216x6144, .f32⟩

abbrev hbmTy0_1 (i : Nat) : BufTy := match i % 128 with
  | 0 => ⟨S2x8x64x128, .f32⟩
  | 1 => ⟨S2x8x64x128, .f32⟩
  | 2 => ⟨S2x8x128, .f32⟩
  | 3 => ⟨S2x8x128, .f32⟩
  | 4 => ⟨S2x8x128x1, .f32⟩
  | 5 => ⟨S2x8x128x128, .f32⟩
  | 6 => ⟨S2x8x128x128, .f32⟩
  | 7 => ⟨S2x8x64x128, .f32⟩
  | 8 => ⟨S2x8x64x128, .f32⟩
  | 9 => ⟨S2x8x64x128, .f32⟩
  | 10 => ⟨S2x8x64x128, .f32⟩
  | 11 => ⟨S2x8x128x128, .f32⟩
  | 12 => ⟨S2x8x128x128, .f32⟩
  | 13 => ⟨S1x2x8x64x128, .f32⟩
  | 14 => ⟨S_, .i32⟩
  | 15 => ⟨S_, .i32⟩
  | 16 => ⟨S_, .i32⟩
  | 17 => ⟨S_, .i32⟩
  | 18 => ⟨S64x2x8x64x128, .f32⟩
  | 19 => ⟨S_, .i32⟩
  | 20 => ⟨S_, .i32⟩
  | 21 => ⟨S2x64x64x8x128, .f32⟩
  | 22 => ⟨S2x4096x8x128, .f32⟩
  | 23 => ⟨S2x4096x8x128, .f32⟩
  | 24 => ⟨S_, .f32⟩
  | 25 => ⟨S2x4096x8, .f32⟩
  | 26 => ⟨S2x4096x8x1, .f32⟩
  | 27 => ⟨S_, .f32⟩
  | 28 => ⟨S2x4096x8x1, .f32⟩
  | 29 => ⟨S2x4096x8x1, .f32⟩
  | 30 => ⟨S_, .f32⟩
  | 31 => ⟨S2x4096x8x1, .f32⟩
  | 32 => ⟨S2x4096x8x1, .f32⟩
  | 33 => ⟨S2x4096x8x1, .f32⟩
  | 34 => ⟨S2x4096x8x128, .f32⟩
  | 35 => ⟨S2x4096x8x128, .f32⟩
  | 36 => ⟨S128, .f32⟩
  | 37 => ⟨S1x1x1x128, .f32⟩
  | 38 => ⟨S2x4096x8x128, .f32⟩
  | 39 => ⟨S2x4096x8x128, .f32⟩
  | 40 => ⟨S9216x1024, .f32⟩
  | 41 => ⟨S8192x1024, .f32⟩
  | 42 => ⟨S2x4096x8x128, .f32⟩
  | 43 => ⟨S2x4096x8x128, .f32⟩
  | 44 => ⟨S2x4096x8x128, .f32⟩
  | 45 => ⟨S_, .f32⟩
  | 46 => ⟨S2x4096x8x128, .f32⟩
  | 47 => ⟨S2x4096x8x128, .f32⟩
  | 48 => ⟨S_, .f32⟩
  | 49 => ⟨S2x4096x8x128, .f32⟩
  | 50 => ⟨S2x4096x8x128, .f32⟩
  | 51 => ⟨S2x4096x8x128, .f32⟩
  | 52 => ⟨S2x4096x8x128, .f32⟩
  | 53 => ⟨S8192x1024, .f32⟩
  | 54 => ⟨S8192x1024, .bf16⟩
  | _ => ⟨S9216x6144, .f32⟩

abbrev hbmTy (i : Nat) : BufTy := match i / 128 with
  | 0 => hbmTy0_0 i
  | 1 => hbmTy0_1 i
  | _ => ⟨S9216x6144, .f32⟩

abbrev bufTy : (tb : Table) → Fin (tcTables nBuf tb) → BufTy
  | .hbm, ⟨i, _⟩ => hbmTy i
  | _, _ => ⟨S9216x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c : Ref sig .tc := ⟨.hbm, 54, rfl⟩
abbrev main_v42 : Ref sig .tc := ⟨.hbm, 55, rfl⟩
abbrev main_call1_v0 : Ref sig .tc := ⟨.hbm, 56, rfl⟩
abbrev main_call1_c : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_0 : Ref sig .tc := ⟨.hbm, 62, rfl⟩
abbrev main_call1_v5 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_c_8 : Ref sig .tc := ⟨.hbm, 77, rfl⟩
abbrev main_v54_0 : Ref sig .tc := ⟨.hbm, 78, rfl⟩
abbrev main_v54_1 : Ref sig .tc := ⟨.hbm, 79, rfl⟩
abbrev main_v54_2 : Ref sig .tc := ⟨.hbm, 80, rfl⟩
abbrev main_v54_3 : Ref sig .tc := ⟨.hbm, 81, rfl⟩
abbrev main_v54_4 : Ref sig .tc := ⟨.hbm, 82, rfl⟩
abbrev main_v54_5 : Ref sig .tc := ⟨.hbm, 83, rfl⟩
abbrev main_v54_6 : Ref sig .tc := ⟨.hbm, 84, rfl⟩
abbrev main_v54_7 : Ref sig .tc := ⟨.hbm, 85, rfl⟩
abbrev main_while0c_c_19 : Ref sig .tc := ⟨.hbm, 86, rfl⟩
abbrev main_while0c_v78 : Ref sig .tc := ⟨.hbm, 87, rfl⟩
abbrev main_while0b_call2_c : Ref sig .tc := ⟨.hbm, 88, rfl⟩
abbrev main_while0b_call2_c_0 : Ref sig .tc := ⟨.hbm, 89, rfl⟩
abbrev main_while0b_call2_c_1 : Ref sig .tc := ⟨.hbm, 90, rfl⟩
abbrev main_while0b_call2_c_2 : Ref sig .tc := ⟨.hbm, 91, rfl⟩
abbrev main_while0b_call2_v0 : Ref sig .tc := ⟨.hbm, 92, rfl⟩
abbrev main_while0b_v78 : Ref sig .tc := ⟨.hbm, 93, rfl⟩
abbrev main_while0b_call3_c : Ref sig .tc := ⟨.hbm, 94, rfl⟩
abbrev main_while0b_call3_c_0 : Ref sig .tc := ⟨.hbm, 95, rfl⟩
abbrev main_while0b_call3_c_1 : Ref sig .tc := ⟨.hbm, 96, rfl⟩
abbrev main_while0b_call3_c_2 : Ref sig .tc := ⟨.hbm, 97, rfl⟩
abbrev main_while0b_call3_v0 : Ref sig .tc := ⟨.hbm, 98, rfl⟩
abbrev main_while0b_v79 : Ref sig .tc := ⟨.hbm, 99, rfl⟩
abbrev main_while0b_call4_c : Ref sig .tc := ⟨.hbm, 100, rfl⟩
abbrev main_while0b_call4_c_0 : Ref sig .tc := ⟨.hbm, 101, rfl⟩
abbrev main_while0b_call4_c_1 : Ref sig .tc := ⟨.hbm, 102, rfl⟩
abbrev main_while0b_call4_c_2 : Ref sig .tc := ⟨.hbm, 103, rfl⟩
abbrev main_while0b_call4_v0 : Ref sig .tc := ⟨.hbm, 104, rfl⟩
abbrev main_while0b_v80 : Ref sig .tc := ⟨.hbm, 105, rfl⟩
abbrev main_while0b_call5_c : Ref sig .tc := ⟨.hbm, 106, rfl⟩
abbrev main_while0b_call5_c_0 : Ref sig .tc := ⟨.hbm, 107, rfl⟩
abbrev main_while0b_call5_c_1 : Ref sig .tc := ⟨.hbm, 108, rfl⟩
abbrev main_while0b_call5_c_2 : Ref sig .tc := ⟨.hbm, 109, rfl⟩
abbrev main_while0b_call5_v0 : Ref sig .tc := ⟨.hbm, 110, rfl⟩
abbrev main_while0b_v81 : Ref sig .tc := ⟨.hbm, 111, rfl⟩
abbrev main_while0b_call6_call0_cst : Ref sig .tc := ⟨.hbm, 112, rfl⟩
abbrev main_while0b_call6_call0_v0 : Ref sig .tc := ⟨.hbm, 113, rfl⟩
abbrev main_while0b_v82 : Ref sig .tc := ⟨.hbm, 114, rfl⟩
abbrev main_while0b_v83 : Ref sig .tc := ⟨.hbm, 115, rfl⟩
abbrev main_while0b_v84 : Ref sig .tc := ⟨.hbm, 116, rfl⟩
abbrev main_while0b_v85 : Ref sig .tc := ⟨.hbm, 117, rfl⟩
abbrev main_while0b_v86 : Ref sig .tc := ⟨.hbm, 118, rfl⟩
abbrev main_while0b_v87 : Ref sig .tc := ⟨.hbm, 119, rfl⟩
abbrev main_while0b_v88 : Ref sig .tc := ⟨.hbm, 120, rfl⟩
abbrev main_while0b_v89 : Ref sig .tc := ⟨.hbm, 121, rfl⟩
abbrev main_while0b_cst_19 : Ref sig .tc := ⟨.hbm, 122, rfl⟩
abbrev main_while0b_call7_v0 : Ref sig .tc := ⟨.hbm, 123, rfl⟩
abbrev main_while0b_call7_v1 : Ref sig .tc := ⟨.hbm, 124, rfl⟩
abbrev main_while0b_call7_v2 : Ref sig .tc := ⟨.hbm, 125, rfl⟩
abbrev main_while0b_v90 : Ref sig .tc := ⟨.hbm, 126, rfl⟩
abbrev main_while0b_v91 : Ref sig .tc := ⟨.hbm, 127, rfl⟩
abbrev main_while0b_v92 : Ref sig .tc := ⟨.hbm, 128, rfl⟩
abbrev main_while0b_v93 : Ref sig .tc := ⟨.hbm, 129, rfl⟩
abbrev main_while0b_v94 : Ref sig .tc := ⟨.hbm, 130, rfl⟩
abbrev main_while0b_v95 : Ref sig .tc := ⟨.hbm, 131, rfl⟩
abbrev main_while0b_v96 : Ref sig .tc := ⟨.hbm, 132, rfl⟩
abbrev main_while0b_v97 : Ref sig .tc := ⟨.hbm, 133, rfl⟩
abbrev main_while0b_v98 : Ref sig .tc := ⟨.hbm, 134, rfl⟩
abbrev main_while0b_v99 : Ref sig .tc := ⟨.hbm, 135, rfl⟩
abbrev main_while0b_v100 : Ref sig .tc := ⟨.hbm, 136, rfl⟩
abbrev main_while0b_v101 : Ref sig .tc := ⟨.hbm, 137, rfl⟩
abbrev main_while0b_v102 : Ref sig .tc := ⟨.hbm, 138, rfl⟩
abbrev main_while0b_v103 : Ref sig .tc := ⟨.hbm, 139, rfl⟩
abbrev main_while0b_v104 : Ref sig .tc := ⟨.hbm, 140, rfl⟩
abbrev main_while0b_call8_v0 : Ref sig .tc := ⟨.hbm, 141, rfl⟩
abbrev main_while0b_call8_c : Ref sig .tc := ⟨.hbm, 142, rfl⟩
abbrev main_while0b_call8_c_0 : Ref sig .tc := ⟨.hbm, 143, rfl⟩
abbrev main_while0b_call8_c_1 : Ref sig .tc := ⟨.hbm, 144, rfl⟩
abbrev main_while0b_call8_c_2 : Ref sig .tc := ⟨.hbm, 145, rfl⟩
abbrev main_while0b_v105 : Ref sig .tc := ⟨.hbm, 146, rfl⟩
abbrev main_while0b_c_20 : Ref sig .tc := ⟨.hbm, 147, rfl⟩
abbrev main_while0b_v106 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_cst_9 : Ref sig .tc := ⟨.hbm, 152, rfl⟩
abbrev main_v58 : Ref sig .tc := ⟨.hbm, 153, rfl⟩
abbrev main_v59 : Ref sig .tc := ⟨.hbm, 154, rfl⟩
abbrev main_cst_10 : Ref sig .tc := ⟨.hbm, 155, rfl⟩
abbrev main_v60 : Ref sig .tc := ⟨.hbm, 156, rfl⟩
abbrev main_v61 : Ref sig .tc := ⟨.hbm, 157, rfl⟩
abbrev main_cst_11 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_call9_v0 : Ref sig .tc := ⟨.hbm, 171, rfl⟩
abbrev main_call9_v1 : Ref sig .tc := ⟨.hbm, 172, rfl⟩
abbrev main_call9_cst : Ref sig .tc := ⟨.hbm, 173, rfl⟩
abbrev main_call9_v2 : Ref sig .tc := ⟨.hbm, 174, rfl⟩
abbrev main_call9_v3 : Ref sig .tc := ⟨.hbm, 175, rfl⟩
abbrev main_call9_cst_0 : Ref sig .tc := ⟨.hbm, 176, rfl⟩
abbrev main_call9_v4 : Ref sig .tc := ⟨.hbm, 177, rfl⟩
abbrev main_call9_v5 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_v77 : Ref sig .tc := ⟨.hbm, 182, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S9216x2048 : Shape := ⟨2, ![9216, 2048]⟩
abbrev S2x2048 : Shape := ⟨2, ![2, 2048]⟩
abbrev S2x2048x8192 : Shape := ⟨3, ![2, 2048, 8192]⟩
abbrev S1x2048 : Shape := ⟨2, ![1, 2048]⟩
abbrev S2048 : Shape := ⟨1, ![2048]⟩
abbrev S9216x8192 : Shape := ⟨2, ![9216, 8192]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S9216x2048, .f32⟩
  | .hbm, ⟨1, _⟩ => ⟨S2x2048, .f32⟩
  | .hbm, ⟨2, _⟩ => ⟨S2x2048x8192, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S9216x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .f32⟩
  | .local _ .vmem, ⟨4, _⟩ => ⟨S1x2048x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S9216x2048 : Shape := ⟨2, ![9216, 2048]⟩
abbrev S2x2048 : Shape := ⟨2, ![2, 2048]⟩
abbrev S2x2048x8192 : Shape := ⟨3, ![2, 2048, 8192]⟩
abbrev S1x2048 : Shape := ⟨2, ![1, 2048]⟩
abbrev S2048 : Shape := ⟨1, ![2048]⟩
abbrev S_ : Shape := ⟨0, ![]⟩
abbrev S9216 : Shape := ⟨1, ![9216]⟩
abbrev S9216x1 : Shape := ⟨2, ![9216, 1]⟩
abbrev S1x2048x8192 : Shape := ⟨3, ![1, 2048, 8192]⟩
abbrev S2048x8192 : Shape := ⟨2, ![2048, 8192]⟩
abbrev S9216x8192 : Shape := ⟨2, ![9216, 8192]⟩

abbrev nBuf : Space → Nat
  | .hbm => 29
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2x2048, .f32⟩
  | .hbm, ⟨2, _⟩ => ⟨S2x2048x8192, .f32⟩
  | .hbm, ⟨3, _⟩ => ⟨S1x2048, .f32⟩
  | .hbm, ⟨4, _⟩ => ⟨S2048, .f32⟩
  | .hbm, ⟨5, _⟩ => ⟨S9216x2048, .f32⟩
  | .hbm, ⟨6, _⟩ => ⟨S_, .f32⟩
  | .hbm, ⟨7, _⟩ => ⟨S9216, .f32⟩
  | .hbm, ⟨8, _⟩ => ⟨S9216x1, .f32⟩
  | .hbm, ⟨9, _⟩ => ⟨S_, .f32⟩
  | .hbm, ⟨10, _⟩ => ⟨S9216x1, .f32⟩
  | .hbm, ⟨11, _⟩ => ⟨S9216x1, .f32⟩
  | .hbm, ⟨12, _⟩ => ⟨S_, .f32⟩
  | .hbm, ⟨13, _⟩ => ⟨S9216x1, .f32⟩
  | .hbm, ⟨14, _⟩ => ⟨S9216x1, .f32⟩
  | .hbm, ⟨15, _⟩ => ⟨S9216x1, .f32⟩
  | .hbm, ⟨16, _⟩ => ⟨S9216x2048, .f32⟩
  | .hbm, ⟨17, _⟩ => ⟨S9216x2048, .f32⟩
  | .hbm, ⟨18, _⟩ => ⟨S1x2048, .f32⟩
  | .hbm, ⟨19, _⟩ => ⟨S9216x2048, .f32⟩
  | .hbm, ⟨20, _⟩ => ⟨S9216x2048, .f32⟩
  | .hbm, ⟨21, _⟩ => ⟨S1x2048x8192, .f32⟩
  | .hbm, ⟨22, _⟩ => ⟨S2048x8192, .f32⟩
  | .hbm, ⟨23, _⟩ => ⟨S9216x8192, .f32⟩
  | .hbm, ⟨24, _⟩ => ⟨S_, .f32⟩
  | .hbm, ⟨25, _⟩ => ⟨S9216x8192, .f32⟩
  | .hbm, ⟨26, _⟩ => ⟨S9216x8192, .f32⟩
  | .hbm, ⟨27, _⟩ => ⟨S9216x8192, .f32⟩
  | .hbm, ⟨28, _⟩ => ⟨S9216x8192, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_cst : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel3.lean ====
abbrev S9216x8192 : Shape := ⟨2, ![9216, 8192]⟩
abbrev S2x8192x2048 : Shape := ⟨3, ![2, 8192, 2048]⟩
abbrev S9216x2048 : Shape := ⟨2, ![9216, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S9216x8192, .bf16⟩
  | .hbm, ⟨1, _⟩ => ⟨S2x8192x2048, .f32⟩
  | .hbm, ⟨2, _⟩ => ⟨S9216x2048, .f32⟩
  | .hbm, ⟨3, _⟩ => ⟨S9216x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S9216x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![9, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S9216x8192 : Shape := ⟨2, ![9216, 8192]⟩
abbrev S2x8192x2048 : Shape := ⟨3, ![2, 8192, 2048]⟩
abbrev S9216x2048 : Shape := ⟨2, ![9216, 2048]⟩
abbrev S1x8192x2048 : Shape := ⟨3, ![1, 8192, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S9216x8192, .bf16⟩
  | .hbm, ⟨1, _⟩ => ⟨S2x8192x2048, .f32⟩
  | .hbm, ⟨2, _⟩ => ⟨S9216x2048, .f32⟩
  | .hbm, ⟨3, _⟩ => ⟨S9216x8192, .f32⟩
  | .hbm, ⟨4, _⟩ => ⟨S1x8192x2048, .f32⟩
  | .hbm, ⟨5, _⟩ => ⟨S8192x2048, .f32⟩
  | .hbm, ⟨6, _⟩ => ⟨S9216x2048, .f32⟩
  | .hbm, ⟨7, _⟩ => ⟨S9216x2048, .f32⟩
  | _, _ => ⟨S9216x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S2x4096x2048 : Shape := ⟨3, ![2, 4096, 2048]⟩
abbrev S128x8x2048 : Shape := ⟨3, ![128, 8, 2048]⟩
abbrev S1x2048 : Shape := ⟨2, ![1, 2048]⟩
abbrev S1x2048x5640 : Shape := ⟨3, ![1, 2048, 5640]⟩
abbrev S8192x2048 : Shape := ⟨2, ![8192, 2048]⟩
abbrev S1024x2048 : Shape := ⟨2, ![1024, 2048]⟩
abbrev S9216x2048 : Shape := ⟨2, ![9216, 2048]⟩
abbrev S2048x5640 : Shape := ⟨2, ![2048, 5640]⟩
abbrev S2048x4096 : Shape := ⟨2, ![2048, 4096]⟩
abbrev S2048x1536 : Shape := ⟨2, ![2048, 1536]⟩
abbrev S2048x8 : Shape := ⟨2, ![2048, 8]⟩
abbrev S_ : Shape := ⟨0, ![]⟩
abbrev S2048x128 : Shape := ⟨2, ![2048, 128]⟩
abbrev S2048x5760 : Shape := ⟨2, ![2048, 5760]⟩
abbrev S2048 : Shape := ⟨1, ![2048]⟩
abbrev S2048x6144 : Shape := ⟨2, ![2048, 6144]⟩
abbrev S9216x6144 : Shape := ⟨2, ![9216, 6144]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 21
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S1x2048, .f32⟩
  | .hbm, ⟨3, _⟩ => ⟨S1x2048x5640, .f32⟩
  | .hbm, ⟨4, _⟩ => ⟨S8192x2048, .f32⟩
  | .hbm, ⟨5, _⟩ => ⟨S1024x2048, .f32⟩
  | .hbm, ⟨6, _⟩ => ⟨S9216x2048, .f32⟩
  | .hbm, ⟨7, _⟩ => ⟨S2048x5640, .f32⟩
  | .hbm, ⟨8, _⟩ => ⟨S2048x4096, .f32⟩
  | .hbm, ⟨9, _⟩ => ⟨S2048x1536, .f32⟩
  | .hbm, ⟨10, _⟩ => ⟨S2048x8, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S2048x5760, .f32⟩
  | .hbm, ⟨15, _⟩ => ⟨S2048, .f32⟩
  | .hbm, ⟨16, _⟩ => ⟨S_, .i32⟩
  | .hbm, ⟨17, _⟩ => ⟨S_, .f32⟩
  | .hbm, ⟨18, _⟩ => ⟨S2048x6144, .f32⟩
  | .hbm, ⟨19, _⟩ => ⟨S1x2048, .f32⟩
  | .hbm, ⟨20, _⟩ => ⟨S9216x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .f32⟩
  | .local _ .vmem, ⟨4, _⟩ => ⟨S2048x1024, .f32⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![9, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x4096x2048 : Shape := ⟨3, ![2, 4096, 2048]⟩
abbrev S128x8x2048 : Shape := ⟨3, ![128, 8, 2048]⟩
abbrev S1x2048 : Shape := ⟨2, ![1, 2048]⟩
abbrev S1x2048x5640 : Shape := ⟨3, ![1, 2048, 5640]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x5640 : Shape := ⟨2, ![2048, 5640]⟩
abbrev S2x4096x5640 : Shape := ⟨3, ![2, 4096, 5640]⟩
abbrev S8192x5640 : Shape := ⟨2, ![8192, 5640]⟩
abbrev S128x8 : Shape := ⟨2, ![128, 8]⟩
abbrev S128x8x1 : Shape := ⟨3, ![128, 8, 1]⟩
abbrev S128x8x5640 : Shape := ⟨3, ![128, 8, 5640]⟩
abbrev S1024x5640 : Shape := ⟨2, ![1024, 5640]⟩
abbrev S9216x5640 : Shape := ⟨2, ![9216, 5640]⟩
abbrev S9216x1536 : Shape := ⟨2, ![9216, 1536]⟩
abbrev S9216x8 : Shape := ⟨2, ![9216, 8]⟩
abbrev S9216x4096 : Shape := ⟨2, ![9216, 4096]⟩
abbrev S9216x504 : Shape := ⟨2, ![9216, 504]⟩
abbrev S9216x6144 : Shape := ⟨2, ![9216, 6144]⟩

abbrev nBuf : Space → Nat
  | .hbm => 51
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S1x2048, .f32⟩
  | .hbm, ⟨3, _⟩ => ⟨S1x2048x5640, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2048x5640, .f32⟩
  | .hbm, ⟨22, _⟩ => ⟨S2x4096x5640, .f32⟩
  | .hbm, ⟨23, _⟩ => ⟨S8192x5640, .f32⟩
  | .hbm, ⟨24, _⟩ => ⟨S2048, .f32⟩
  | .hbm, ⟨25, _⟩ => ⟨S128x8x2048, .f32⟩
  | .hbm, ⟨26, _⟩ => ⟨S_, .f32⟩
  | .hbm, ⟨27, _⟩ => ⟨S128x8, .f32⟩
  | .hbm, ⟨28, _⟩ => ⟨S128x8x1, .f32⟩
  | .hbm, ⟨29, _⟩ => ⟨S_, .f32⟩
  | .hbm, ⟨30, _⟩ => ⟨S128x8x1, .f32⟩
  | .hbm, ⟨31, _⟩ => ⟨S128x8x1, .f32⟩
  | .hbm, ⟨32, _⟩ => ⟨S_, .f32⟩
  | .hbm, ⟨33, _⟩ => ⟨S128x8x1, .f32⟩
  | .hbm, ⟨34, _⟩ => ⟨S128x8x1, .f32⟩
  | .hbm, ⟨35, _⟩ => ⟨S128x8x1, .f32⟩
  | .hbm, ⟨36, _⟩ => ⟨S128x8x2048, .f32⟩
  | .hbm, ⟨37, _⟩ => ⟨S128x8x2048, .f32⟩
  | .hbm, ⟨38, _⟩ => ⟨S1x1x2048, .f32⟩
  | .hbm, ⟨39, _⟩ => ⟨S128x8x2048, .f32⟩
  | .hbm, ⟨40, _⟩ => ⟨S128x8x2048, .f32⟩
  | .hbm, ⟨41, _⟩ => ⟨S2048x5640, .f32⟩
  | .hbm, ⟨42, _⟩ => ⟨S128x8x5640, .f32⟩
  | .hbm, ⟨43, _⟩ => ⟨S1024x5640, .f32⟩
  | .hbm, ⟨44, _⟩ => ⟨S9216x5640, .f32⟩
  | .hbm, ⟨45, _⟩ => ⟨S9216x1536, .f32⟩
  | .hbm, ⟨46, _⟩ => ⟨S9216x8, .f32⟩
  | .hbm, ⟨47, _⟩ => ⟨S9216x4096, .f32⟩
  | .hbm, ⟨48, _⟩ => ⟨S_, .f32⟩
  | .hbm, ⟨49, _⟩ => ⟨S9216x504, .f32⟩
  | .hbm, ⟨50, _⟩ => ⟨S9216x6144, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel5.lean ====
abbrev S2x256x2048 : Shape := ⟨3, ![2, 256, 2048]⟩
abbrev S2x2048 : Shape := ⟨2, ![2, 2048]⟩
abbrev S2x2048x512 : Shape := ⟨3, ![2, 2048, 512]⟩
abbrev S1x2048x512 : Shape := ⟨3, ![1, 2048, 512]⟩
abbrev S2048x512 : Shape := ⟨2, ![2048, 512]⟩
abbrev S2048x1024 : Shape := ⟨2, ![2048, 1024]⟩
abbrev S512x2048 : Shape := ⟨2, ![512, 2048]⟩
abbrev S1x2048 : Shape := ⟨2, ![1, 2048]⟩
abbrev S2048 : Shape := ⟨1, ![2048]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 5
  | .smem => 0
  | _ => 0

abbrev bufTy : (tb : Table) → Fin (tcTables nBuf tb) → BufTy
  | .hbm, ⟨0, _⟩ => ⟨S2x256x2048, .f32⟩
  | .hbm, ⟨1, _⟩ => ⟨S2x2048, .f32⟩
  | .hbm, ⟨2, _⟩ => ⟨S2x2048x512, .f32⟩
  | .hbm, ⟨3, _⟩ => ⟨S2x2048x512, .f32⟩
  | .hbm, ⟨4, _⟩ => ⟨S1x2048x512, .f32⟩
  | .hbm, ⟨5, _⟩ => ⟨S2048x512, .f32⟩
  | .hbm, ⟨6, _⟩ => ⟨S1x2048x512, .f32⟩
  | .hbm, ⟨7, _⟩ => ⟨S2048x512, .f32⟩
  | .hbm, ⟨8, _⟩ => ⟨S2048x1024, .f32⟩
  | .hbm, ⟨9, _⟩ => ⟨S512x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S512x1024, .f32⟩
  | .local _ .vmem, ⟨0, _⟩ => ⟨S512x2048, .f32⟩
  | .local _ .vmem, ⟨1, _⟩ => ⟨S1x2048, .f32⟩
  | .local _ .vmem, ⟨2, _⟩ => ⟨S2048x1024, .f32⟩
  | .local _ .vmem, ⟨3, _⟩ => ⟨S512x1024, .f32⟩
  | .local _ .vmem, ⟨4, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference5Ideal.lean ====
abbrev S2x256x2048 : Shape := ⟨3, ![2, 256, 2048]⟩
abbrev S2x2048 : Shape := ⟨2, ![2, 2048]⟩
abbrev S2x2048x512 : Shape := ⟨3, ![2, 2048, 512]⟩
abbrev S1x2048 : Shape := ⟨2, ![1, 2048]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S1x2048x512 : Shape := ⟨3, ![1, 2048, 512]⟩
abbrev S2048x512 : Shape := ⟨2, ![2048, 512]⟩
abbrev S2x256x512 : Shape := ⟨3, ![2, 256, 512]⟩
abbrev S2x256x1024 : Shape := ⟨3, ![2, 256, 1024]⟩
abbrev S512x1024 : Shape := ⟨2, ![512, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x2048, .f32⟩
  | .hbm, ⟨2, _⟩ => ⟨S2x2048x512, .f32⟩
  | .hbm, ⟨3, _⟩ => ⟨S2x2048x512, .f32⟩
  | .hbm, ⟨4, _⟩ => ⟨S1x2048, .f32⟩
  | .hbm, ⟨5, _⟩ => ⟨S2048, .f32⟩
  | .hbm, ⟨6, _⟩ => ⟨S2x256x2048, .f32⟩
  | .hbm, ⟨7, _⟩ => ⟨S_, .f32⟩
  | .hbm, ⟨8, _⟩ => ⟨S2x256, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S2x256x1, .f32⟩
  | .hbm, ⟨17, _⟩ => ⟨S2x256x2048, .f32⟩
  | .hbm, ⟨18, _⟩ => ⟨S2x256x2048, .f32⟩
  | .hbm, ⟨19, _⟩ => ⟨S1x1x2048, .f32⟩
  | .hbm, ⟨20, _⟩ => ⟨S2x256x2048, .f32⟩
  | .hbm, ⟨21, _⟩ => ⟨S2x256x2048, .f32⟩
  | .hbm, ⟨22, _⟩ => ⟨S1x2048x512, .f32⟩
  | .hbm, ⟨23, _⟩ => ⟨S2048x512, .f32⟩
  | .hbm, ⟨24, _⟩ => ⟨S2x256x512, .f32⟩
  | .hbm, ⟨25, _⟩ => ⟨S1x2048x512, .f32⟩
  | .hbm, ⟨26, _⟩ => ⟨S2048x512, .f32⟩
  | .hbm, ⟨27, _⟩ => ⟨S2x256x512, .f32⟩
  | .hbm, ⟨28, _⟩ => ⟨S2x256x1024, .f32⟩
  | .hbm, ⟨29, _⟩ => ⟨S512x1024, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel6.lean ====
abbrev S9216x2048 : Shape := ⟨2, ![9216, 2048]⟩
abbrev S2048 : Shape := ⟨1, ![2048]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S9216x2048 : Shape := ⟨2, ![9216, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel7.lean ====
abbrev S9216x2048 : Shape := ⟨2, ![9216, 2048]⟩
abbrev S2048 : Shape := ⟨1, ![2048]⟩
abbrev S1x2048 : Shape := ⟨2, ![1, 2048]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S1x2048, .f32⟩
  | .hbm, ⟨3, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S9216x2048 : Shape := ⟨2, ![9216, 2048]⟩
abbrev S2048 : Shape := ⟨1, ![2048]⟩
abbrev S1024x2048 : Shape := ⟨2, ![1024, 2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S9216x2048 : Shape := ⟨2, ![9216, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9216x2048, .bf16⟩
  | .hbm, ⟨1, _⟩ => ⟨S1x2048x2048, .f32⟩
  | .hbm, ⟨2, _⟩ => ⟨S9216x2048, .f32⟩
  | .hbm, ⟨3, _⟩ => ⟨S9216x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S9216x2048 : Shape := ⟨2, ![9216, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S1x2048x2048, .f32⟩
  | .hbm, ⟨2, _⟩ => ⟨S9216x2048, .f32⟩
  | .hbm, ⟨3, _⟩ => ⟨S9216x2048, .f32⟩
  | .hbm, ⟨4, _⟩ => ⟨S2048x2048, .f32⟩
  | .hbm, ⟨5, _⟩ => ⟨S9216x2048, .f32⟩
  | .hbm, ⟨6, _⟩ => ⟨S9216x2048, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S9216x512 : Shape := ⟨2, ![9216, 512]⟩
abbrev S2x512x2048 : Shape := ⟨3, ![2, 512, 2048]⟩
abbrev S9216x2048 : Shape := ⟨2, ![9216, 2048]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9216x512, .bf16⟩
  | .hbm, ⟨1, _⟩ => ⟨S2x512x2048, .f32⟩
  | .hbm, ⟨2, _⟩ => ⟨S9216x2048, .f32⟩
  | .hbm, ⟨3, _⟩ => ⟨S9216x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .f32⟩
  | .local _ .vmem, ⟨3, _⟩ => ⟨S1x512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S9216x512 : Shape := ⟨2, ![9216, 512]⟩
abbrev S2x512x2048 : Shape := ⟨3, ![2, 512, 2048]⟩
abbrev S9216x2048 : Shape := ⟨2, ![9216, 2048]⟩
abbrev S1x512x2048 : Shape := ⟨3, ![1, 512, 2048]⟩
abbrev S512x2048 : Shape := ⟨2, ![512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S9216x512, .bf16⟩
  | .hbm, ⟨1, _⟩ => ⟨S2x512x2048, .f32⟩
  | .hbm, ⟨2, _⟩ => ⟨S9216x2048, .f32⟩
  | .hbm, ⟨3, _⟩ => ⟨S9216x512, .f32⟩
  | .hbm, ⟨4, _⟩ => ⟨S1x512x2048, .f32⟩
  | .hbm, ⟨5, _⟩ => ⟨S512x2048, .f32⟩
  | .hbm, ⟨6, _⟩ => ⟨S9216x2048, .f32⟩
  | .hbm, ⟨7, _⟩ => ⟨S9216x2048, .f32⟩
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S9216x2048 : Shape := ⟨2, ![9216, 2048]⟩
abbrev S2x2048 : Shape := ⟨2, ![2, 2048]⟩
abbrev S2x2048x512 : Shape := ⟨3, ![2, 2048, 512]⟩
abbrev S1x2048 : Shape := ⟨2, ![1, 2048]⟩
abbrev S2048 : Shape := ⟨1, ![2048]⟩
abbrev S9216x512 : Shape := ⟨2, ![9216, 512]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 7
  | .vmem => 7
  | .smem => 0
  | _ => 0

abbrev bufTy : (tb : Table) → Fin (tcTables nBuf tb) → BufTy
  | .hbm, ⟨0, _⟩ => ⟨S9216x2048, .f32⟩
  | .hbm, ⟨1, _⟩ => ⟨S2x2048, .f32⟩
  | .hbm, ⟨2, _⟩ => ⟨S2x2048x512, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S9216x512, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![9, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S9216x2048 : Shape := ⟨2, ![9216, 2048]⟩
abbrev S2x2048 : Shape := ⟨2, ![2, 2048]⟩
abbrev S2x2048x512 : Shape := ⟨3, ![2, 2048, 512]⟩
abbrev S1x2048 : Shape := ⟨2, ![1, 2048]⟩
abbrev S2048 : Shape := ⟨1, ![2048]⟩
abbrev S_ : Shape := ⟨0, ![]⟩
abbrev S9216 : Shape := ⟨1, ![9216]⟩
abbrev S9216x1 : Shape := ⟨2, ![9216, 1]⟩
abbrev S1x2048x512 : Shape := ⟨3, ![1, 2048, 512]⟩
abbrev S2048x512 : Shape := ⟨2, ![2048, 512]⟩
abbrev S9216x512 : Shape := ⟨2, ![9216, 512]⟩

abbrev nBuf : Space → Nat
  | .hbm => 24
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2x2048, .f32⟩
  | .hbm, ⟨2, _⟩ => ⟨S2x2048x512, .f32⟩
  | .hbm, ⟨3, _⟩ => ⟨S1x2048, .f32⟩
  | .hbm, ⟨4, _⟩ => ⟨S2048, .f32⟩
  | .hbm, ⟨5, _⟩ => ⟨S9216x2048, .f32⟩
  | .hbm, ⟨6, _⟩ => ⟨S_, .f32⟩
  | .hbm, ⟨7, _⟩ => ⟨S9216, .f32⟩
  | .hbm, ⟨8, _⟩ => ⟨S9216x1, .f32⟩
  | .hbm, ⟨9, _⟩ => ⟨S_, .f32⟩
  | .hbm, ⟨10, _⟩ => ⟨S9216x1, .f32⟩
  | .hbm, ⟨11, _⟩ => ⟨S9216x1, .f32⟩
  | .hbm, ⟨12, _⟩ => ⟨S_, .f32⟩
  | .hbm, ⟨13, _⟩ => ⟨S9216x1, .f32⟩
  | .hbm, ⟨14, _⟩ => ⟨S9216x1, .f32⟩
  | .hbm, ⟨15, _⟩ => ⟨S9216x1, .f32⟩
  | .hbm, ⟨16, _⟩ => ⟨S9216x2048, .f32⟩
  | .hbm, ⟨17, _⟩ => ⟨S9216x2048, .f32⟩
  | .hbm, ⟨18, _⟩ => ⟨S1x2048, .f32⟩
  | .hbm, ⟨19, _⟩ => ⟨S9216x2048, .f32⟩
  | .hbm, ⟨20, _⟩ => ⟨S9216x2048, .f32⟩
  | .hbm, ⟨21, _⟩ => ⟨S1x2048x512, .f32⟩
  | .hbm, ⟨22, _⟩ => ⟨S2048x512, .f32⟩
  | .hbm, ⟨23, _⟩ => ⟨S9216x512, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel11.lean ====
abbrev S9216x2048 : Shape := ⟨2, ![9216, 2048]⟩
abbrev S1x2048 : Shape := ⟨2, ![1, 2048]⟩
abbrev S1x2048x1088 : Shape := ⟨3, ![1, 2048, 1088]⟩
abbrev S2048 : Shape := ⟨1, ![2048]⟩
abbrev S2048x1088 : Shape := ⟨2, ![2048, 1088]⟩
abbrev S_ : Shape := ⟨0, ![]⟩
abbrev S2048x1152 : Shape := ⟨2, ![2048, 1152]⟩
abbrev S9216x1152 : Shape := ⟨2, ![9216, 1152]⟩
abbrev S1024x2048 : Shape := ⟨2, ![1024, 2048]⟩
abbrev S2048x384 : Shape := ⟨2, ![2048, 384]⟩
abbrev S1024x384 : Shape := ⟨2, ![1024, 384]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S9216x2048, .f32⟩
  | .hbm, ⟨1, _⟩ => ⟨S1x2048, .f32⟩
  | .hbm, ⟨2, _⟩ => ⟨S1x2048x1088, .f32⟩
  | .hbm, ⟨3, _⟩ => ⟨S2048, .f32⟩
  | .hbm, ⟨4, _⟩ => ⟨S2048x1088, .f32⟩
  | .hbm, ⟨5, _⟩ => ⟨S_, .i32⟩
  | .hbm, ⟨6, _⟩ => ⟨S_, .f32⟩
  | .hbm, ⟨7, _⟩ => ⟨S2048x1152, .f32⟩
  | .hbm, ⟨8, _⟩ => ⟨S1x2048, .f32⟩
  | .hbm, ⟨9, _⟩ => ⟨S9216x1152, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x384, .f32⟩
  | .local _ .vmem, ⟨4, _⟩ => ⟨S2048x384, .f32⟩
  | .local _ .vmem, ⟨5, _⟩ => ⟨S1024x384, .f32⟩
  | .local _ .vmem, ⟨6, _⟩ => ⟨S1024x384, .f32⟩
  | .local _ .vmem, ⟨7, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![9, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S9216x2048 : Shape := ⟨2, ![9216, 2048]⟩
abbrev S1x2048 : Shape := ⟨2, ![1, 2048]⟩
abbrev S1x2048x1088 : Shape := ⟨3, ![1, 2048, 1088]⟩
abbrev S2048 : Shape := ⟨1, ![2048]⟩
abbrev S_ : Shape := ⟨0, ![]⟩
abbrev S9216 : Shape := ⟨1, ![9216]⟩
abbrev S9216x1 : Shape := ⟨2, ![9216, 1]⟩
abbrev S2048x1088 : Shape := ⟨2, ![2048, 1088]⟩
abbrev S9216x1088 : Shape := ⟨2, ![9216, 1088]⟩
abbrev S9216x64 : Shape := ⟨2, ![9216, 64]⟩
abbrev S9216x1152 : Shape := ⟨2, ![9216, 1152]⟩

abbrev nBuf : Space → Nat
  | .hbm => 25
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S1x2048, .f32⟩
  | .hbm, ⟨2, _⟩ => ⟨S1x2048x1088, .f32⟩
  | .hbm, ⟨3, _⟩ => ⟨S2048, .f32⟩
  | .hbm, ⟨4, _⟩ => ⟨S9216x2048, .f32⟩
  | .hbm, ⟨5, _⟩ => ⟨S_, .f32⟩
  | .hbm, ⟨6, _⟩ => ⟨S9216, .f32⟩
  | .hbm, ⟨7, _⟩ => ⟨S9216x1, .f32⟩
  | .hbm, ⟨8, _⟩ => ⟨S_, .f32⟩
  | .hbm, ⟨9, _⟩ => ⟨S9216x1, .f32⟩
  | .hbm, ⟨10, _⟩ => ⟨S9216x1, .f32⟩
  | .hbm, ⟨11, _⟩ => ⟨S_, .f32⟩
  | .hbm, ⟨12, _⟩ => ⟨S9216x1, .f32⟩
  | .hbm, ⟨13, _⟩ => ⟨S9216x1, .f32⟩
  | .hbm, ⟨14, _⟩ => ⟨S9216x1, .f32⟩
  | .hbm, ⟨15, _⟩ => ⟨S9216x2048, .f32⟩
  | .hbm, ⟨16, _⟩ => ⟨S9216x2048, .f32⟩
  | .hbm, ⟨17, _⟩ => ⟨S1x2048, .f32⟩
  | .hbm, ⟨18, _⟩ => ⟨S9216x2048, .f32⟩
  | .hbm, ⟨19, _⟩ => ⟨S9216x2048, .f32⟩
  | .hbm, ⟨20, _⟩ => ⟨S2048x1088, .f32⟩
  | .hbm, ⟨21, _⟩ => ⟨S9216x1088, .f32⟩
  | .hbm, ⟨22, _⟩ => ⟨S_, .f32⟩
  | .hbm, ⟨23, _⟩ => ⟨S9216x64, .f32⟩
  | .hbm, ⟨24, _⟩ => ⟨S9216x1152, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel12.lean ====
abbrev S9216x1152 : Shape := ⟨2, ![9216, 1152]⟩
abbrev S1x512 : Shape := ⟨2, ![1, 512]⟩
abbrev S512 : Shape := ⟨1, ![512]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S8 : Shape := ⟨1, ![8]⟩
abbrev S_ : Shape := ⟨0, ![]⟩
abbrev S1x8 : Shape := ⟨2, ![1, 8]⟩
abbrev S128x8 : Shape := ⟨2, ![128, 8]⟩
abbrev S1024 : Shape := ⟨1, ![1024]⟩
abbrev S9216 : Shape := ⟨1, ![9216]⟩
abbrev S32 : Shape := ⟨1, ![32]⟩
abbrev S9216x1 : Shape := ⟨2, ![9216, 1]⟩
abbrev S1x32 : Shape := ⟨2, ![1, 32]⟩
abbrev S9216x32 : Shape := ⟨2, ![9216, 32]⟩
abbrev S9216x128 : Shape := ⟨2, ![9216, 128]⟩
abbrev S9216x512 : Shape := ⟨2, ![9216, 512]⟩
abbrev S1024x1152 : Shape := ⟨2, ![1024, 1152]⟩
abbrev S1024x128 : Shape := ⟨2, ![1024, 128]⟩
abbrev S1024x512 : Shape := ⟨2, ![1024, 512]⟩
abbrev S1024x1 : Shape := ⟨2, ![1024, 1]⟩

abbrev nBuf : Space → Nat
  | .hbm => 44
  | .vmem => 16
  | .smem => 0
  | _ => 0

abbrev bufTy : (tb : Table) → Fin (tcTables nBuf tb) → BufTy
  | .hbm, ⟨0, _⟩ => ⟨S9216x1152, .f32⟩
  | .hbm, ⟨1, _⟩ => ⟨S1x512, .f32⟩
  | .hbm, ⟨2, _⟩ => ⟨S1x512, .f32⟩
  | .hbm, ⟨3, _⟩ => ⟨S512, .f32⟩
  | .hbm, ⟨4, _⟩ => ⟨S512, .f32⟩
  | .hbm, ⟨5, _⟩ => ⟨S4096, .i32⟩
  | .hbm, ⟨6, _⟩ => ⟨S1x4096, .i32⟩
  | .hbm, ⟨7, _⟩ => ⟨S2x4096, .i32⟩
  | .hbm, ⟨8, _⟩ => ⟨S8192, .i32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S1x8, .i32⟩
  | .hbm, ⟨14, _⟩ => ⟨S128x8, .i32⟩
  | .hbm, ⟨15, _⟩ => ⟨S1024, .i32⟩
  | .hbm, ⟨16, _⟩ => ⟨S9216, .i32⟩
  | .hbm, ⟨17, _⟩ => ⟨S9216, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S9216x1, .f32⟩
  | .hbm, ⟨27, _⟩ => ⟨S1x32, .f32⟩
  | .hbm, ⟨28, _⟩ => ⟨S9216x32, .f32⟩
  | .hbm, ⟨29, _⟩ => ⟨S9216x32, .f32⟩
  | .hbm, ⟨30, _⟩ => ⟨S9216x32, .f32⟩
  | .hbm, ⟨31, _⟩ => ⟨S9216x32, .f32⟩
  | .hbm, ⟨32, _⟩ => ⟨S9216x32, .f32⟩
  | .hbm, ⟨33, _⟩ => ⟨S_, .f32⟩
  | .hbm, ⟨34, _⟩ => ⟨S9216x32, .f32⟩
  | .hbm, ⟨35, _⟩ => ⟨S9216x128, .f32⟩
  | .hbm, ⟨36, _⟩ => ⟨S9216x32, .f32⟩
  | .hbm, ⟨37, _⟩ => ⟨S9216x128, .f32⟩
  | .hbm, ⟨38, _⟩ => ⟨S9216x128, .f32⟩
  | .hbm, ⟨39, _⟩ => ⟨S1x512, .f32⟩
  | .hbm, ⟨40, _⟩ => ⟨S1x512, .f32⟩
  | .hbm, ⟨41, _⟩ => ⟨S9216x512, .bf16⟩
  | .hbm, ⟨42, _⟩ => ⟨S9216x512, .f32⟩
  | .hbm, ⟨43, _⟩ => ⟨S9216x128, .f32⟩
  | .local _ .vmem, ⟨0, _⟩ => ⟨S1024x1152, .f32⟩
  | .local _ .vmem, ⟨1, _⟩ => ⟨S1024x1152, .f32⟩
  | .local _ .vmem, ⟨2, _⟩ => ⟨S1x512, .f32⟩
  | .local _ .vmem, ⟨3, _⟩ => ⟨S1x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | .local _ .vmem, ⟨14, _⟩ => ⟨S1024x128, .f32⟩
  | .local _ .vmem, ⟨15, _⟩ => ⟨S1024x128, .f32⟩
  | _, _ => ⟨S9216x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34_0 : Ref sig .tc := ⟨.hbm, 41, rfl⟩
abbrev main_v34_1 : Ref sig .tc := ⟨.hbm, 42, rfl⟩
abbrev main_v34_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S9216x1152 : Shape := ⟨2, ![9216, 1152]⟩
abbrev S1x512 : Shape := ⟨2, ![1, 512]⟩
abbrev S8192x1152 : Shape := ⟨2, ![8192, 1152]⟩
abbrev S2x4096x1152 : Shape := ⟨3, ![2, 4096, 1152]⟩
abbrev S4096 : Shape := ⟨1, ![4096]⟩
abbrev S2x4096x512 : Shape := ⟨3, ![2, 4096, 512]⟩
abbrev S2x4096x64 : Shape := ⟨3, ![2, 4096, 64]⟩
abbrev S512 : Shape := ⟨1, ![512]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S2x4096x1x64 : Shape := ⟨4, ![2, 4096, 1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S2x4096x1x32 : Shape := ⟨4, ![2, 4096, 1, 32]⟩
abbrev S1x4096x1x32 : Shape := ⟨4, ![1, 4096, 1, 32]⟩
abbrev S1024x1152 : Shape := ⟨2, ![1024, 1152]⟩
abbrev S128x8x1152 : Shape := ⟨3, ![128, 8, 1152]⟩
abbrev S8 : Shape := ⟨1, ![8]⟩
abbrev S128x8x512 : Shape := ⟨3, ![128, 8, 512]⟩
abbrev S128x8x64 : Shape := ⟨3, ![128, 8, 64]⟩
abbrev S128x8 : Shape := ⟨2, ![128, 8]⟩
abbrev S128x8x1 : Shape := ⟨3, ![128, 8, 1]⟩
abbrev S128x8x1x64 : Shape := ⟨4, ![128, 8, 1, 64]⟩
abbrev S8x1 : Shape := ⟨2, ![8, 1]⟩
abbrev S8x32 : Shape := ⟨2, ![8, 32]⟩
abbrev S8x1x32 : Shape := ⟨3, ![8, 1, 32]⟩
abbrev S128x8x1x32 : Shape := ⟨4, ![128, 8, 1, 32]⟩
abbrev S1x8x1x32 : Shape := ⟨4, ![1, 8, 1, 32]⟩
abbrev S8192x64 : Shape := ⟨2, ![8192, 64]⟩
abbrev S1024x64 : Shape := ⟨2, ![1024, 64]⟩
abbrev S9216x64 : Shape := ⟨2, ![9216, 64]⟩
abbrev S8192x512 : Shape := ⟨2, ![8192, 512]⟩
abbrev S1024x512 : Shape := ⟨2, ![1024, 512]⟩
abbrev S9216x512 : Shape := ⟨2, ![9216, 512]⟩
abbrev S9216x128 : Shape := ⟨2, ![9216, 128]⟩

abbrev nBuf : Space → Nat
  | .hbm => 173
  | .vmem => 0
  | .smem => 0
  | _ => 0

abbrev hbmTy0_0 (i : Nat) : BufTy := match i % 128 with
  | 0 => ⟨S9216x1152, .f32⟩
  | 1 => ⟨S1x512, .f32⟩
  | 2 => ⟨S1x512, .f32⟩
  | 3 => ⟨S8192x1152, .f32⟩
  | 4 => ⟨S2x4096x1152, .f32⟩
  | 5 => ⟨S4096, .i32⟩
  | 6 => ⟨S2x4096x512, .f32⟩
  | 7 => ⟨S2x4096x512, .f32⟩
  | 8 => ⟨S2x4096x64, .f32⟩
  | 9 => ⟨S512, .f32⟩
  | 10 => ⟨S2x4096x512, .f32⟩
  | 11 => ⟨S_, .f32⟩
  | 12 => ⟨S2x4096, .f32⟩
  | 13 => ⟨S2x4096x1, .f32⟩
  | 14 => ⟨S_, .f32⟩
  | 15 => ⟨S2x4096x1, .f32⟩
  | 16 => ⟨S2x4096x1, .f32⟩
  | 17 => ⟨S_, .f32⟩
  | 18 => ⟨S2x4096x1, .f32⟩
  | 19 => ⟨S2x4096x1, .f32⟩
  | 20 => ⟨S2x4096x1, .f32⟩
  | 21 => ⟨S2x4096x512, .f32⟩
  | 22 => ⟨S2x4096x512, .f32⟩
  | 23 => ⟨S1x1x512, .f32⟩
  | 24 => ⟨S2x4096x512, .f32⟩
  | 25 => ⟨S2x4096x512, .f32⟩
  | 26 => ⟨S512, .f32⟩
  | 27 => ⟨S2x4096x512, .f32⟩
  | 28 => ⟨S_, .f32⟩
  | 29 => ⟨S2x4096, .f32⟩
  | 30 => ⟨S2x4096x1, .f32⟩
  | 31 => ⟨S_, .f32⟩
  | 32 => ⟨S2x4096x1, .f32⟩
  | 33 => ⟨S2x4096x1, .f32⟩
  | 34 => ⟨S_, .f32⟩
  | 35 => ⟨S2x4096x1, .f32⟩
  | 36 => ⟨S2x4096x1, .f32⟩
  | 37 => ⟨S2x4096x1, .f32⟩
  | 38 => ⟨S2x4096x512, .f32⟩
  | 39 => ⟨S2x4096x512, .f32⟩
  | 40 => ⟨S1x1x512, .f32⟩
  | 41 => ⟨S2x4096x512, .f32⟩
  | 42 => ⟨S2x4096x512, .f32⟩
  | 43 => ⟨S2x4096x1x64, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S4096, .f32⟩
  | 53 => ⟨S4096x1, .f32⟩
  | 54 => ⟨S1x32, .f32⟩
  | 55 => ⟨S4096x32, .f32⟩
  | 56 => ⟨S4096x32, .f32⟩
  | 57 => ⟨S4096x32, .f32⟩
  | 58 => ⟨S4096x32, .f32⟩
  | 59 => ⟨S4096x1x32, .f32⟩
  | 60 => ⟨S4096x32, .f32⟩
  | 61 => ⟨S4096x1x32, .f32⟩
  | 62 => ⟨S2x4096x1x32, .f32⟩
  | 63 => ⟨S2x4096x1x32, .f32⟩
  | 64 => ⟨S1x4096x1x32, .f32⟩
  | 65 => ⟨S2x4096x1x32, .f32⟩
  | 66 => ⟨S2x4096x1x32, .f32⟩
  | 67 => ⟨S1x4096x1x32, .f32⟩
  | 68 => ⟨S2x4096x1x32, .f32⟩
  | 69 => ⟨S2x4096x1x32, .f32⟩
  | 70 => ⟨S2x4096x1x32, .f32⟩
  | 71 => ⟨S1x4096x1x32, .f32⟩
  | 72 => ⟨S2x4096x1x32, .f32⟩
  | 73 => ⟨S2x4096x1x32, .f32⟩
  | 74 => ⟨S1x4096x1x32, .f32⟩
  | 75 => ⟨S2x4096x1x32, .f32⟩
  | 76 => ⟨S2x4096x1x32, .f32⟩
  | 77 => ⟨S2x4096x1x32, .f32⟩
  | 78 => ⟨S2x4096x1x64, .f32⟩
  | 79 => ⟨S2x4096x64, .f32⟩
  | 80 => ⟨S1024x1152, .f32⟩
  | 81 => ⟨S128x8x1152, .f32⟩
  | 82 => ⟨S8, .i32⟩
  | 83 => ⟨S_, .i32⟩
  | 84 => ⟨S8, .i32⟩
  | 85 => ⟨S8, .i32⟩
  | 86 => ⟨S128x8x512, .f32⟩
  | 87 => ⟨S128x8x512, .f32⟩
  | 88 => ⟨S128x8x64, .f32⟩
  | 89 => ⟨S512, .f32⟩
  | 90 => ⟨S128x8x512, .f32⟩
  | 91 => ⟨S_, .f32⟩
  | 92 => ⟨S128x8, .f32⟩
  | 93 => ⟨S128x8x1, .f32⟩
  | 94 => ⟨S_, .f32⟩
  | 95 => ⟨S128x8x1, .f32⟩
  | 96 => ⟨S128x8x1, .f32⟩
  | 97 => ⟨S_, .f32⟩
  | 98 => ⟨S128x8x1, .f32⟩
  | 99 => ⟨S128x8x1, .f32⟩
  | 100 => ⟨S128x8x1, .f32⟩
  | 101 => ⟨S128x8x512, .f32⟩
  | 102 => ⟨S128x8x512, .f32⟩
  | 103 => ⟨S1x1x512, .f32⟩
  | 104 => ⟨S128x8x512, .f32⟩
  | 105 => ⟨S128x8x512, .f32⟩
  | 106 => ⟨S512, .f32⟩
  | 107 => ⟨S128x8x512, .f32⟩
  | 108 => ⟨S_, .f32⟩
  | 109 => ⟨S128x8, .f32⟩
  | 110 => ⟨S128x8x1, .f32⟩
  | 111 => ⟨S_, .f32⟩
  | 112 => ⟨S128x8x1, .f32⟩
  | 113 => ⟨S128x8x1, .f32⟩
  | 114 => ⟨S_, .f32⟩
  | 115 => ⟨S128x8x1, .f32⟩
  | 116 => ⟨S128x8x1, .f32⟩
  | 117 => ⟨S128x8x1, .f32⟩
  | 118 => ⟨S128x8x512, .f32⟩
  | 119 => ⟨S128x8x512, .f32⟩
  | 120 => ⟨S1x1x512, .f32⟩
  | 121 => ⟨S128x8x512, .f32⟩
  | 122 => ⟨S128x8x512, .f32⟩
  | 123 => ⟨S128x8x1x64, .f32⟩
  | 124 => ⟨S32, .f32⟩
  | 125 => ⟨S32, .f32⟩
  | 126 => ⟨S_, .f32⟩
  | 127 => ⟨S32, .f32⟩
  | _ => ⟨S9216x1152, .f32⟩

abbrev hbmTy0_1 (i : Nat) : BufTy := match i % 128 with
  | 0 => ⟨S32, .f32⟩
  | 1 => ⟨S_, .f32⟩
  | 2 => ⟨S32, .f32⟩
  | 3 => ⟨S32, .f32⟩
  | 4 => ⟨S8, .f32⟩
  | 5 => ⟨S8x1, .f32⟩
  | 6 => ⟨S1x32, .f32⟩
  | 7 => ⟨S8x32, .f32⟩
  | 8 => ⟨S8x32, .f32⟩
  | 9 => ⟨S8x32, .f32⟩
  | 10 => ⟨S8x32, .f32⟩
  | 11 => ⟨S8x1x32, .f32⟩
  | 12 => ⟨S8x32, .f32⟩
  | 13 => ⟨S8x1x32, .f32⟩
  | 14 => ⟨S128x8x1x32, .f32⟩
  | 15 => ⟨S128x8x1x32, .f32⟩
  | 16 => ⟨S1x8x1x32, .f32⟩
  | 17 => ⟨S128x8x1x32, .f32⟩
  | 18 => ⟨S128x8x1x32, .f32⟩
  | 19 => ⟨S1x8x1x32, .f32⟩
  | 20 => ⟨S128x8x1x32, .f32⟩
  | 21 => ⟨S128x8x1x32, .f32⟩
  | 22 => ⟨S128x8x1x32, .f32⟩
  | 23 => ⟨S1x8x1x32, .f32⟩
  | 24 => ⟨S128x8x1x32, .f32⟩
  | 25 => ⟨S128x8x1x32, .f32⟩
  | 26 => ⟨S1x8x1x32, .f32⟩
  | 27 => ⟨S128x8x1x32, .f32⟩
  | 28 => ⟨S128x8x1x32, .f32⟩
  | 29 => ⟨S128x8x1x32, .f32⟩
  | 30 => ⟨S128x8x1x64, .f32⟩
  | 31 => ⟨S128x8x64, .f32⟩
  | 32 => ⟨S8192x64, .f32⟩
  | 33 => ⟨S1024x64, .f32⟩
  | 34 => ⟨S9216x64, .f32⟩
  | 35 => ⟨S8192x512, .f32⟩
  | 36 => ⟨S1024x512, .f32⟩
  | 37 => ⟨S9216x512, .f32⟩
  | 38 => ⟨S9216x512, .bf16⟩
  | 39 => ⟨S8192x512, .f32⟩
  | 40 => ⟨S1024x512, .f32⟩
  | 41 => ⟨S9216x512, .f32⟩
  | 42 => ⟨S_, .f32⟩
  | 43 => ⟨S9216x64, .f32⟩
  | 44 => ⟨S9216x128, .f32⟩
  | _ => ⟨S9216x1152, .f32⟩

abbrev hbmTy (i : Nat) : BufTy := match i / 128 with
  | 0 => hbmTy0_0 i
  | 1 => hbmTy0_1 i
  | _ => ⟨S9216x1152, .f32⟩

abbrev bufTy : (tb : Table) → Fin (tcTables nBuf tb) → BufTy
  | .hbm, ⟨i, _⟩ => hbmTy i
  | _, _ => ⟨S9216x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_c : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_cst_7 : Ref sig .tc := ⟨.hbm, 91, rfl⟩
abbrev main_v79 : Ref sig .tc := ⟨.hbm, 92, rfl⟩
abbrev main_v80 : Ref sig .tc := ⟨.hbm, 93, rfl⟩
abbrev main_cst_8 : Ref sig .tc := ⟨.hbm, 94, rfl⟩
abbrev main_v81 : Ref sig .tc := ⟨.hbm, 95, rfl⟩
abbrev main_v82 : Ref sig .tc := ⟨.hbm, 96, rfl⟩
abbrev main_cst_9 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_cst_10 : Ref sig .tc := ⟨.hbm, 108, rfl⟩
abbrev main_v93 : Ref sig .tc := ⟨.hbm, 109, rfl⟩
abbrev main_v94 : Ref sig .tc := ⟨.hbm, 110, rfl⟩
abbrev main_cst_11 : Ref sig .tc := ⟨.hbm, 111, rfl⟩
abbrev main_v95 : Ref sig .tc := ⟨.hbm, 112, rfl⟩
abbrev main_v96 : Ref sig .tc := ⟨.hbm, 113, rfl⟩
abbrev main_cst_12 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_cst_13 : Ref sig .tc := ⟨.hbm, 126, rfl⟩
abbrev main_v108 : Ref sig .tc := ⟨.hbm, 127, rfl⟩
abbrev main_v109 : Ref sig .tc := ⟨.hbm, 128, rfl⟩
abbrev main_cst_14 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_cst_15 : Ref sig .tc := ⟨.hbm, 170, rfl⟩
abbrev main_v150 : Ref sig .tc := ⟨.hbm, 171, rfl⟩
abbrev main_v151 : Ref sig .tc := ⟨.hbm, 172, rfl⟩

abbrev nD : Nat := 1
abbrev τ : Topo := Topo.v7x

variable {F : FTy → Type} [FloatOps F]
-- ==== Kernel13.lean ====
abbrev S9216x512 : Shape := ⟨2, ![9216, 512]⟩
abbrev S1x512x16x128 : Shape := ⟨4, ![1, 512, 16, 128]⟩
abbrev S512x16x128 : Shape := ⟨3, ![512, 16, 128]⟩
abbrev S512x2048 : Shape := ⟨2, ![512, 2048]⟩
abbrev S512x4096 : Shape := ⟨2, ![512, 4096]⟩
abbrev S8192x512 : Shape := ⟨2, ![8192, 512]⟩
abbrev S8192x4096 : Shape := ⟨2, ![8192, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S9216x512, .f32⟩
  | .hbm, ⟨1, _⟩ => ⟨S1x512x16x128, .f32⟩
  | .hbm, ⟨2, _⟩ => ⟨S1x512x16x128, .f32⟩
  | .hbm, ⟨3, _⟩ => ⟨S512x16x128, .f32⟩
  | .hbm, ⟨4, _⟩ => ⟨S512x2048, .f32⟩
  | .hbm, ⟨5, _⟩ => ⟨S512x16x128, .f32⟩
  | .hbm, ⟨6, _⟩ => ⟨S512x2048, .f32⟩
  | .hbm, ⟨7, _⟩ => ⟨S512x4096, .f32⟩
  | .hbm, ⟨8, _⟩ => ⟨S8192x512, .f32⟩
  | .hbm, ⟨9, _⟩ => ⟨S8192x4096, .bf16⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | _, _ => ⟨S9216x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S9216x512 : Shape := ⟨2, ![9216, 512]⟩
abbrev S1x512x16x128 : Shape := ⟨4, ![1, 512, 16, 128]⟩
abbrev S8192x512 : Shape := ⟨2, ![8192, 512]⟩
abbrev S2x4096x512 : Shape := ⟨3, ![2, 4096, 512]⟩
abbrev S512x16x128 : Shape := ⟨3, ![512, 16, 128]⟩
abbrev S2x4096x16x128 : Shape := ⟨4, ![2, 4096, 16, 128]⟩
abbrev S8192x2048 : Shape := ⟨2, ![8192, 2048]⟩
abbrev S8192x4096 : Shape := ⟨2, ![8192, 4096]⟩

abbrev nBuf : Space → Nat
  | .hbm => 13
  | .vmem => 0
  | .smem => 0
  | _ => 0

abbrev bufTy : (tb : Table) → Fin (tcTables nBuf tb) → BufTy
  | .hbm, ⟨0, _⟩ => ⟨S9216x512, .f32⟩
  | .hbm, ⟨1, _⟩ => ⟨S1x512x16x128, .f32⟩
  | .hbm, ⟨2, _⟩ => ⟨S1x512x16x128, .f32⟩
  | .hbm, ⟨3, _⟩ => ⟨S8192x512, .f32⟩
  | .hbm, ⟨4, _⟩ => ⟨S2x4096x512, .f32⟩
  | .hbm, ⟨5, _⟩ => ⟨S512x16x128, .f32⟩
  | .hbm, ⟨6, _⟩ => ⟨S2x4096x16x128, .f32⟩
  | .hbm, ⟨7, _⟩ => ⟨S512x16x128, .f32⟩
  | .hbm, ⟨8, _⟩ => ⟨S2x4096x16x128, .f32⟩
  | .hbm, ⟨9, _⟩ => ⟨S8192x2048, .f32⟩
  | .hbm, ⟨10, _⟩ => ⟨S8192x2048, .f32⟩
  | .hbm, ⟨11, _⟩ => ⟨S8192x4096, .f32⟩
  | .hbm, ⟨12, _⟩ => ⟨S8192x4096, .bf16⟩
  | _, _ => ⟨S9216x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel14.lean ====
abbrev S8192x128 : Shape := ⟨2, ![8192, 128]⟩
abbrev S1x8 : Shape := ⟨2, ![1, 8]⟩
abbrev S8 : Shape := ⟨1, ![8]⟩
abbrev S_ : Shape := ⟨0, ![]⟩
abbrev S128 : Shape := ⟨1, ![128]⟩
abbrev S1x128 : Shape := ⟨2, ![1, 128]⟩
abbrev S512x128 : Shape := ⟨2, ![512, 128]⟩
abbrev S512x512 : Shape := ⟨2, ![512, 512]⟩

abbrev nBuf : Space → Nat
  | .hbm => 9
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S1x8, .f32⟩
  | .hbm, ⟨2, _⟩ => ⟨S8, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S8192x128, .f32⟩
  | .hbm, ⟨8, _⟩ => ⟨S8192x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S8192x128 : Shape := ⟨2, ![8192, 128]⟩
abbrev S1x8 : Shape := ⟨2, ![1, 8]⟩
abbrev S8 : Shape := ⟨1, ![8]⟩
abbrev S_ : Shape := ⟨0, ![]⟩
abbrev S128 : Shape := ⟨1, ![128]⟩
abbrev S1x128 : Shape := ⟨2, ![1, 128]⟩
abbrev S2x4096x128 : Shape := ⟨3, ![2, 4096, 128]⟩

abbrev nBuf : Space → Nat
  | .hbm => 30
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1x8, .f32⟩
  | .hbm, ⟨2, _⟩ => ⟨S8, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .i1⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S2x4096x128, .f32⟩
  | .hbm, ⟨26, _⟩ => ⟨S_, .f32⟩
  | .hbm, ⟨27, _⟩ => ⟨S_, .f32⟩
  | .hbm, ⟨28, _⟩ => ⟨S2x4096x128, .f32⟩
  | .hbm, ⟨29, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call1_v0 : Ref sig .tc := ⟨.hbm, 9, rfl⟩
abbrev main_call1_call0_cst : Ref sig .tc := ⟨.hbm, 10, rfl⟩
abbrev main_call1_call0_v0 : Ref sig .tc := ⟨.hbm, 11, rfl⟩
abbrev main_call1_call0_v1 : Ref sig .tc := ⟨.hbm, 12, rfl⟩
abbrev main_call1_call0_v2 : Ref sig .tc := ⟨.hbm, 13, rfl⟩
abbrev main_call1_call0_v3 : Ref sig .tc := ⟨.hbm, 14, rfl⟩
abbrev main_call1_call0_v4 : Ref sig .tc := ⟨.hbm, 15, rfl⟩
abbrev main_call1_call0_v5 : Ref sig .tc := ⟨.hbm, 16, rfl⟩
abbrev main_call1_call0_v6 : Ref sig .tc := ⟨.hbm, 17, rfl⟩
abbrev main_call1_call0_v7 : Ref sig .tc := ⟨.hbm, 18, rfl⟩
abbrev main_call1_call0_v8 : Ref sig .tc := ⟨.hbm, 19, rfl⟩
abbrev main_call1_call0_v9 : Ref sig .tc := ⟨.hbm, 20, rfl⟩
abbrev main_call1_call0_v10 : Ref sig .tc := ⟨.hbm, 21, rfl⟩
abbrev main_call1_call0_v11 : Ref sig .tc := ⟨.hbm, 22, rfl⟩
abbrev main_call1_v1 : Ref sig .tc := ⟨.hbm, 23, rfl⟩
abbrev main_v5 : Ref sig .tc := ⟨.hbm, 24, rfl⟩
abbrev main_v6 : Ref sig .tc := ⟨.hbm, 25, rfl⟩
abbrev main_call2_call0_cst : Ref sig .tc := ⟨.hbm, 26, rfl⟩
abbrev main_call2_call0_v0 : Ref sig .tc := ⟨.hbm, 27, rfl⟩
abbrev main_v7 : Ref sig .tc := ⟨.hbm, 28, rfl⟩
abbrev main_v8 : Ref sig .tc := ⟨.hbm, 29, rfl⟩

abbrev nD : Nat := 1
abbrev τ : Topo := Topo.v7x

variable {F : FTy → Type} [FloatOps F]
-- ==== Kernel15.lean ====
abbrev S1024x128 : Shape := ⟨2, ![1024, 128]⟩
abbrev S1x8 : Shape := ⟨2, ![1, 8]⟩
abbrev S8 : Shape := ⟨1, ![8]⟩
abbrev S_ : Shape := ⟨0, ![]⟩
abbrev S128 : Shape := ⟨1, ![128]⟩
abbrev S1x128 : Shape := ⟨2, ![1, 128]⟩
abbrev S512x128 : Shape := ⟨2, ![512, 128]⟩
abbrev S512x512 : Shape := ⟨2, ![512, 512]⟩

abbrev nBuf : Space → Nat
  | .hbm => 9
  | .vmem => 8
  | .smem => 0
  | _ => 0

abbrev bufTy : (tb : Table) → Fin (tcTables nBuf tb) → BufTy
  | .hbm, ⟨0, _⟩ => ⟨S1024x128, .f32⟩
  | .hbm, ⟨1, _⟩ => ⟨S1x8, .f32⟩
  | .hbm, ⟨2, _⟩ => ⟨S8, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S1024x128, .f32⟩
  | .hbm, ⟨8, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S1024x128 : Shape := ⟨2, ![1024, 128]⟩
abbrev S1x8 : Shape := ⟨2, ![1, 8]⟩
abbrev S8 : Shape := ⟨1, ![8]⟩
abbrev S_ : Shape := ⟨0, ![]⟩
abbrev S128 : Shape := ⟨1, ![128]⟩
abbrev S1x128 : Shape := ⟨2, ![1, 128]⟩
abbrev S128x8x128 : Shape := ⟨3, ![128, 8, 128]⟩

abbrev nBuf : Space → Nat
  | .hbm => 30
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1x8, .f32⟩
  | .hbm, ⟨2, _⟩ => ⟨S8, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S_, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x128, .i1⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S1024x128, .f32⟩
  | .hbm, ⟨22, _⟩ => ⟨S1024x128, .f32⟩
  | .hbm, ⟨23, _⟩ => ⟨S1024x128, .f32⟩
  | .hbm, ⟨24, _⟩ => ⟨S1024x128, .f32⟩
  | .hbm, ⟨25, _⟩ => ⟨S128x8x128, .f32⟩
  | .hbm, ⟨26, _⟩ => ⟨S_, .f32⟩
  | .hbm, ⟨27, _⟩ => ⟨S_, .f32⟩
  | .hbm, ⟨28, _⟩ => ⟨S128x8x128, .f32⟩
  | .hbm, ⟨29, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call1_v0 : Ref sig .tc := ⟨.hbm, 9, rfl⟩
abbrev main_call1_call0_cst : Ref sig .tc := ⟨.hbm, 10, rfl⟩
abbrev main_call1_call0_v0 : Ref sig .tc := ⟨.hbm, 11, rfl⟩
abbrev main_call1_call0_v1 : Ref sig .tc := ⟨.hbm, 12, rfl⟩
abbrev main_call1_call0_v2 : Ref sig .tc := ⟨.hbm, 13, rfl⟩
abbrev main_call1_call0_v3 : Ref sig .tc := ⟨.hbm, 14, rfl⟩
abbrev main_call1_call0_v4 : Ref sig .tc := ⟨.hbm, 15, rfl⟩
abbrev main_call1_call0_v5 : Ref sig .tc := ⟨.hbm, 16, rfl⟩
abbrev main_call1_call0_v6 : Ref sig .tc := ⟨.hbm, 17, rfl⟩
abbrev main_call1_call0_v7 : Ref sig .tc := ⟨.hbm, 18, rfl⟩
abbrev main_call1_call0_v8 : Ref sig .tc := ⟨.hbm, 19, rfl⟩
abbrev main_call1_call0_v9 : Ref sig .tc := ⟨.hbm, 20, rfl⟩
abbrev main_call1_call0_v10 : Ref sig .tc := ⟨.hbm, 21, rfl⟩
abbrev main_call1_call0_v11 : Ref sig .tc := ⟨.hbm, 22, rfl⟩
abbrev main_call1_v1 : Ref sig .tc := ⟨.hbm, 23, rfl⟩
abbrev main_v5 : Ref sig .tc := ⟨.hbm, 24, rfl⟩
abbrev main_v6 : Ref sig .tc := ⟨.hbm, 25, rfl⟩
abbrev main_call2_call0_cst : Ref sig .tc := ⟨.hbm, 26, rfl⟩
abbrev main_call2_call0_v0 : Ref sig .tc := ⟨.hbm, 27, rfl⟩
abbrev main_v7 : Ref sig .tc := ⟨.hbm, 28, rfl⟩
abbrev main_v8 : Ref sig .tc := ⟨.hbm, 29, rfl⟩

abbrev nD : Nat := 1
abbrev τ : Topo := Topo.v7x

variable {F : FTy → Type} [FloatOps F]
-- ==== Kernel16.lean ====
abbrev S9216x6144 : Shape := ⟨2, ![9216, 6144]⟩
abbrev S2x1024 : Shape := ⟨2, ![2, 1024]⟩
abbrev S1x128 : Shape := ⟨2, ![1, 128]⟩
abbrev S1x128x8x128x128 : Shape := ⟨5, ![1, 128, 8, 128, 128]⟩
abbrev S_ : Shape := ⟨0, ![]⟩
abbrev S1024 : Shape := ⟨1, ![1024]⟩
abbrev S1x1024 : Shape := ⟨2, ![1, 1024]⟩
abbrev S128 : Shape := ⟨1, ![128]⟩
abbrev S128x8x128x128 : Shape := ⟨4, ![128, 8, 128, 128]⟩
abbrev S1024x1024 : Shape := ⟨2, ![1024, 1024]⟩
abbrev S16x1024 : Shape := ⟨2, ![16, 1024]⟩
abbrev S2x8x128x128 : Shape := ⟨4, ![2, 8, 128, 128]⟩
abbrev S1x1x128x128 : Shape := ⟨4, ![1, 1, 128, 128]⟩
abbrev S128x128 : Shape := ⟨2, ![128, 128]⟩
abbrev S8x8 : Shape := ⟨2, ![8, 8]⟩
abbrev S8x128 : Shape := ⟨2, ![8, 128]⟩
abbrev S8 : Shape := ⟨1, ![8]⟩
abbrev S8x1 : Shape := ⟨2, ![8, 1]⟩

abbrev nBuf : Space → Nat
  | .hbm => 29
  | .vmem => 17
  | .smem => 0
  | _ => 0

abbrev bufTy : (tb : Table) → Fin (tcTables nBuf tb) → BufTy
  | .hbm, ⟨0, _⟩ => ⟨S9216x6144, .f32⟩
  | .hbm, ⟨1, _⟩ => ⟨S2x1024, .f32⟩
  | .hbm, ⟨2, _⟩ => ⟨S1x128, .f32⟩
  | .hbm, ⟨3, _⟩ => ⟨S1x128x8x128x128, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S2x1024, .f32⟩
  | .hbm, ⟨17, _⟩ => ⟨S2x1024, .f32⟩
  | .hbm, ⟨18, _⟩ => ⟨S_, .f32⟩
  | .hbm, ⟨19, _⟩ => ⟨S_, .f32⟩
  | .hbm, ⟨20, _⟩ => ⟨S2x1024, .f32⟩
  | .hbm, ⟨21, _⟩ => ⟨S1x1024, .f32⟩
  | .hbm, ⟨22, _⟩ => ⟨S1024, .f32⟩
  | .hbm, ⟨23, _⟩ => ⟨S128, .f32⟩
  | .hbm, ⟨24, _⟩ => ⟨S128x8x128x128, .f32⟩
  | .hbm, ⟨25, _⟩ => ⟨S1x1024, .f32⟩
  | .hbm, ⟨26, _⟩ => ⟨S1x128, .f32⟩
  | .hbm, ⟨27, _⟩ => ⟨S1024x1024, .bf16⟩
  | .hbm, ⟨28, _⟩ => ⟨S128x8x128x128, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S1x1024, .f32⟩
  | .local _ .vmem, ⟨9, _⟩ => ⟨S1x128, .f32⟩
  | .local _ .vmem, ⟨10, _⟩ => ⟨S2x8x128x128, .f32⟩
  | .local _ .vmem, ⟨11, _⟩ => ⟨S2x8x128x128, .f32⟩
  | .local _ .vmem, ⟨12, _⟩ => ⟨S16x1024, .bf16⟩
  | .local _ .vmem, ⟨13, _⟩ => ⟨S16x1024, .bf16⟩
  | .local _ .vmem, ⟨14, _⟩ => ⟨S2x8x128x128, .f32⟩
  | .local _ .vmem, ⟨15, _⟩ => ⟨S2x8x128x128, .f32⟩
  | .local _ .vmem, ⟨16, _⟩ => ⟨S2x8x128x128, .f32⟩
  | _, _ => ⟨S9216x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![64, 1], ![false, false]⟩

def k0_cond2 (i : grid0.Coords) : BitVec 1 :=
  let arg1 : BitVec 32 := BitVec.ofNat 32 (i 1).val
  let c0_i32_623 : BitVec 32 := 0#32
  let v1368 : BitVec 1 := Scalar.cmpi .eq arg1 c0_i32_623
  let v1369 : BitVec 32 := Scalar.extui v1368
  let c0_i32_624 : BitVec 32 := 0#32
  let v1370 : BitVec 1 := Scalar.cmpi .ne v1369 c0_i32_624
  v1370

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c2_i32 : BitVec 32 := 2#32
  let c0_i32 : BitVec 32 := 0#32
  ![v2.toNat, c2_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c3_i32 : BitVec 32 := 3#32
  let c0_i32 : BitVec 32 := 0#32
  ![v2.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference16Ideal.lean ====
abbrev S9216x6144 : Shape := ⟨2, ![9216, 6144]⟩
abbrev S2x1024 : Shape := ⟨2, ![2, 1024]⟩
abbrev S1x128 : Shape := ⟨2, ![1, 128]⟩
abbrev S1x128x8x128x128 : Shape := ⟨5, ![1, 128, 8, 128, 128]⟩
abbrev S_ : Shape := ⟨0, ![]⟩
abbrev S1024 : Shape := ⟨1, ![1024]⟩
abbrev S1x1024 : Shape := ⟨2, ![1, 1024]⟩
abbrev S9216x1024 : Shape := ⟨2, ![9216, 1024]⟩
abbrev S1024x1024 : Shape := ⟨2, ![1024, 1024]⟩
abbrev S128x8x8x128 : Shape := ⟨4, ![128, 8, 8, 128]⟩
abbrev S8x8 : Shape := ⟨2, ![8, 8]⟩
abbrev S128x8x128x128 : Shape := ⟨4, ![128, 8, 128, 128]⟩
abbrev S128x8x1x128 : Shape := ⟨4, ![128, 8, 1, 128]⟩
abbrev S128x8x8x8 : Shape := ⟨4, ![128, 8, 8, 8]⟩
abbrev S128x8x128 : Shape := ⟨3, ![128, 8, 128]⟩
abbrev S128x8x128x1 : Shape := ⟨4, ![128, 8, 128, 1]⟩
abbrev S128x8x8 : Shape := ⟨3, ![128, 8, 8]⟩
abbrev S128x8x8x1 : Shape := ⟨4, ![128, 8, 8, 1]⟩
abbrev S128 : Shape := ⟨1, ![128]⟩
abbrev S1x1x1x128 : Shape := ⟨4, ![1, 1, 1, 128]⟩

abbrev nBuf : Space → Nat
  | .hbm => 133
  | .vmem => 0
  | .smem => 0
  | _ => 0

abbrev hbmTy0_0 (i : Nat) : BufTy := match i % 128 with
  | 0 => ⟨S9216x6144, .f32⟩
  | 1 => ⟨S2x1024, .f32⟩
  | 2 => ⟨S1x128, .f32⟩
  | 3 => ⟨S1x128x8x128x128, .f32⟩
  | 4 => ⟨S_, .f32⟩
  | 5 => ⟨S1024, .f32⟩
  | 6 => ⟨S_, .f32⟩
  | 7 => ⟨S1024, .f32⟩
  | 8 => ⟨S1024, .f32⟩
  | 9 => ⟨S1x1024, .f32⟩
  | 10 => ⟨S2x1024, .f32⟩
  | 11 => ⟨S2x1024, .f32⟩
  | 12 => ⟨S2x1024, .f32⟩
  | 13 => ⟨S_, .f32⟩
  | 14 => ⟨S1024, .f32⟩
  | 15 => ⟨S1x1024, .f32⟩
  | 16 => ⟨S2x1024, .f32⟩
  | 17 => ⟨S2x1024, .f32⟩
  | 18 => ⟨S_, .f32⟩
  | 19 => ⟨S_, .f32⟩
  | 20 => ⟨S2x1024, .f32⟩
  | 21 => ⟨S1x1024, .f32⟩
  | 22 => ⟨S1024, .f32⟩
  | 23 => ⟨S_, .f32⟩
  | 24 => ⟨S1024, .f32⟩
  | 25 => ⟨S1024, .f32⟩
  | 26 => ⟨S9216x1024, .f32⟩
  | 27 => ⟨S9216x1024, .f32⟩
  | 28 => ⟨S9216x1024, .f32⟩
  | 29 => ⟨S_, .f32⟩
  | 30 => ⟨S9216x1024, .f32⟩
  | 31 => ⟨S9216x1024, .f32⟩
  | 32 => ⟨S_, .f32⟩
  | 33 => ⟨S9216x1024, .f32⟩
  | 34 => ⟨S9216x1024, .f32⟩
  | 35 => ⟨S1x1024, .f32⟩
  | 36 => ⟨S9216x1024, .f32⟩
  | 37 => ⟨S9216x1024, .f32⟩
  | 38 => ⟨S1x1024, .f32⟩
  | 39 => ⟨S9216x1024, .f32⟩
  | 40 => ⟨S9216x1024, .f32⟩
  | 41 => ⟨S9216x1024, .f32⟩
  | 42 => ⟨S1024x1024, .f32⟩
  | 43 => ⟨S128x8x8x128, .f32⟩
  | 44 => ⟨S_, .f32⟩
  | 45 => ⟨S9216x1024, .f32⟩
  | 46 => ⟨S9216x1024, .f32⟩
  | 47 => ⟨S1024x1024, .f32⟩
  | 48 => ⟨S128x8x8x128, .f32⟩
  | 49 => ⟨S9216x1024, .f32⟩
  | 50 => ⟨S1024x1024, .f32⟩
  | 51 => ⟨S128x8x8x128, .f32⟩
  | 52 => ⟨S9216x1024, .f32⟩
  | 53 => ⟨S1024x1024, .f32⟩
  | 54 => ⟨S128x8x8x128, .f32⟩
  | 55 => ⟨S128x8x8x128, .f32⟩
  | 56 => ⟨S128x8x8x128, .f32⟩
  | 57 => ⟨S128x8x8x128, .f32⟩
  | 58 => ⟨S128x8x8x128, .f32⟩
  | 59 => ⟨S_, .i1⟩
  | 60 => ⟨S8x8, .i1⟩
  | 61 => ⟨S8x8, .i32⟩
  | 62 => ⟨S_, .i32⟩
  | 63 => ⟨S8x8, .i32⟩
  | 64 => ⟨S8x8, .i32⟩
  | 65 => ⟨S8x8, .i32⟩
  | 66 => ⟨S8x8, .i1⟩
  | 67 => ⟨S_, .i1⟩
  | 68 => ⟨S8x8, .i1⟩
  | 69 => ⟨S8x8, .i1⟩
  | 70 => ⟨S128x8x128x128, .f32⟩
  | 71 => ⟨S_, .f32⟩
  | 72 => ⟨S_, .f32⟩
  | 73 => ⟨S128x8x8x128, .f32⟩
  | 74 => ⟨S128x8x1x128, .f32⟩
  | 75 => ⟨S128x8x8x128, .f32⟩
  | 76 => ⟨S128x8x8x128, .f32⟩
  | 77 => ⟨S128x8x8x128, .f32⟩
  | 78 => ⟨S128x8x8x128, .f32⟩
  | 79 => ⟨S128x8x8x128, .f32⟩
  | 80 => ⟨S128x8x8x8, .f32⟩
  | 81 => ⟨S_, .f32⟩
  | 82 => ⟨S_, .f32⟩
  | 83 => ⟨S128x8x8x8, .i1⟩
  | 84 => ⟨S128x8x8x8, .f32⟩
  | 85 => ⟨S128x8x8x8, .f32⟩
  | 86 => ⟨S128x8x8x128, .f32⟩
  | 87 => ⟨S128x8x8x128, .f32⟩
  | 88 => ⟨S128x8x8x128, .f32⟩
  | 89 => ⟨S128x8x128, .f32⟩
  | 90 => ⟨S128x8x128, .f32⟩
  | 91 => ⟨S128x8x128x1, .f32⟩
  | 92 => ⟨S128x8x128x128, .f32⟩
  | 93 => ⟨S128x8x128x128, .f32⟩
  | 94 => ⟨S128x8x8x128, .f32⟩
  | 95 => ⟨S128x8x8x128, .f32⟩
  | 96 => ⟨S128x8x8x128, .f32⟩
  | 97 => ⟨S128x8x8x128, .f32⟩
  | 98 => ⟨S128x8x128x128, .f32⟩
  | 99 => ⟨S128x8x128x128, .f32⟩
  | 100 => ⟨S128x8x8x128, .f32⟩
  | 101 => ⟨S128x8x8x128, .f32⟩
  | 102 => ⟨S_, .f32⟩
  | 103 => ⟨S128x8x8, .f32⟩
  | 104 => ⟨S128x8x8x1, .f32⟩
  | 105 => ⟨S_, .f32⟩
  | 106 => ⟨S128x8x8x1, .f32⟩
  | 107 => ⟨S128x8x8x1, .f32⟩
  | 108 => ⟨S_, .f32⟩
  | 109 => ⟨S128x8x8x1, .f32⟩
  | 110 => ⟨S128x8x8x1, .f32⟩
  | 111 => ⟨S128x8x8x1, .f32⟩
  | 112 => ⟨S128x8x8x128, .f32⟩
  | 113 => ⟨S128x8x8x128, .f32⟩
  | 114 => ⟨S128, .f32⟩
  | 115 => ⟨S1x1x1x128, .f32⟩
  | 116 => ⟨S128x8x8x128, .f32⟩
  | 117 => ⟨S128x8x8x128, .f32⟩
  | 118 => ⟨S9216x1024, .f32⟩
  | 119 => ⟨S1024x1024, .f32⟩
  | 120 => ⟨S128x8x8x128, .f32⟩
  | 121 => ⟨S128x8x8x128, .f32⟩
  | 122 => ⟨S128x8x8x128, .f32⟩
  | 123 => ⟨S_, .f32⟩
  | 124 => ⟨S128x8x8x128, .f32⟩
  | 125 => ⟨S128x8x8x128, .f32⟩
  | 126 => ⟨S_, .f32⟩
  | 127 => ⟨S128x8x8x128, .f32⟩
  | _ => ⟨S9216x6144, .f32⟩

abbrev hbmTy0_1 (i : Nat) : BufTy := match i % 128 with
  | 0 => ⟨S128x8x8x128, .f32⟩
  | 1 => ⟨S128x8x8x128, .f32⟩
  | 2 => ⟨S128x8x8x128, .f32⟩
  | 3 => ⟨S1024x1024, .f32⟩
  | 4 => ⟨S1024x1024, .bf16⟩
  | _ => ⟨S9216x6144, .f32⟩

abbrev hbmTy (i : Nat) : BufTy := match i / 128 with
  | 0 => hbmTy0_0 i
  | 1 => hbmTy0_1 i
  | _ => ⟨S9216x6144, .f32⟩

abbrev bufTy : (tb : Table) → Fin (tcTables nBuf tb) → BufTy
  | .hbm, ⟨i, _⟩ => hbmTy i
  | _, _ => ⟨S9216x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c : Ref sig .tc := ⟨.hbm, 59, rfl⟩
abbrev main_v46 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_c_0 : Ref sig .tc := ⟨.hbm, 67, rfl⟩
abbrev main_call1_v5 : Ref sig .tc := ⟨.hbm, 68, rfl⟩
abbrev main_v47 : Ref sig .tc := ⟨.hbm, 69, rfl⟩
abbrev main_v48 : Ref sig .tc := ⟨.hbm, 70, rfl⟩
abbrev main_call2_call0_cst : Ref sig .tc := ⟨.hbm, 71, rfl⟩
abbrev main_call2_call0_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_7 : Ref sig .tc := ⟨.hbm, 102, rfl⟩
abbrev main_v74 : Ref sig .tc := ⟨.hbm, 103, rfl⟩
abbrev main_v75 : Ref sig .tc := ⟨.hbm, 104, rfl⟩
abbrev main_cst_8 : Ref sig .tc := ⟨.hbm, 105, rfl⟩
abbrev main_v76 : Ref sig .tc := ⟨.hbm, 106, rfl⟩
abbrev main_v77 : Ref sig .tc := ⟨.hbm, 107, rfl⟩
abbrev main_cst_9 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_call4_v0 : Ref sig .tc := ⟨.hbm, 121, rfl⟩
abbrev main_call4_v1 : Ref sig .tc := ⟨.hbm, 122, rfl⟩
abbrev main_call4_cst : Ref sig .tc := ⟨.hbm, 123, rfl⟩
abbrev main_call4_v2 : Ref sig .tc := ⟨.hbm, 124, rfl⟩
abbrev main_call4_v3 : Ref sig .tc := ⟨.hbm, 125, rfl⟩
abbrev main_call4_cst_0 : Ref sig .tc := ⟨.hbm, 126, rfl⟩
abbrev main_call4_v4 : Ref sig .tc := ⟨.hbm, 127, rfl⟩
abbrev main_call4_v5 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩

abbrev nD : Nat := 1
abbrev τ : Topo := Topo.v7x

variable {F : FTy → Type} [FloatOps F]
-- ==== Proof.HgrnHead.lean ====
/-
  One head of one chunk of the recurrence, as the kernel's body writes it: vectors of 64 positions by 128 channels, and the
  128 by 128 state held transposed (value channel by key channel).
-/
module

public import proofs.«01_k».proof.Proof.Gen.KernelIdeal.Skeleton
public import Idealize.ShloMosaic.Lib.Pointwise

@[expose] public section

set_option maxRecDepth 16384

noncomputable section

namespace Cert.KernelIdeal.Hgrn

open Idealize.ShloMosaic Idealize.ShloMosaic.TcCoe Cert.KernelIdeal Cert.KernelIdeal.Gen

variable {F : FTy → Type} [FloatOps F]

/-- The forget gate: the lower bound plus the rest of the unit times the sigmoid. -/
def gate (lb : Vec F S1x128 .f32) (f : Vec F S64x128 .f32) : Vec F S64x128 .f32 :=
  addf (broadcastTo S64x128 lb broadcasts_S1x128_S64x128)
    (mulf (broadcastTo S64x128 (subf (broadcast S1x128 (Scalar.ofBits .f32 0x3F800000#32)) lb) broadcasts_S1x128_S64x128) (logistic f))

/-- What the gate leaves of the unit: the key of the position. -/
def key (lb : Vec F S1x128 .f32) (f : Vec F S64x128 .f32) : Vec F S64x128 .f32 :=
  subf (broadcast S64x128 (Scalar.ofBits .f32 0x3F800000#32)) (gate lb f)

/-- One round of the doubling prefix sum: every row from `s` on takes the row `s` above it. -/
def dbl (s : BitVec 32) (x : Vec F S64x128 .f32) : Vec F S64x128 .f32 :=
  addf x (select (cmpi .sge (iota .tc S64x128 32 [0] iota_S64x128_d0_w32) (broadcast S64x128 s))
    (dynamicRotate 0 s none x rotates_S64x128_d0) (broadcast S64x128 (Scalar.ofBits .f32 0x00000000#32)))

/-- The prefix sum along the positions, in six rounds. -/
def cum (x : Vec F S64x128 .f32) : Vec F S64x128 .f32 :=
  dbl 32#32 (dbl 16#32 (dbl 8#32 (dbl 4#32 (dbl 2#32 (dbl 1#32 x)))))

/-- The logarithm of the decay up to each position. -/
def dec (lb : Vec F S1x128 .f32) (f : Vec F S64x128 .f32) : Vec F S64x128 .f32 := cum (log (gate lb f))

/-- The decay of the whole chunk. -/
def last (lb : Vec F S1x128 .f32) (f : Vec F S64x128 .f32) : Vec F S1x128 .f32 :=
  extractStridedSlice S1x128 ![63, 0] (dec lb f) slices_S64x128_o63_0_S1x128

def qe (lb : Vec F S1x128 .f32) (f q : Vec F S64x128 .f32) : Vec F S64x128 .bf16 :=
  truncf .bf16 (mulf q (exp (dec lb f))) bitsLt_bf16_f32

def ke (lb : Vec F S1x128 .f32) (f : Vec F S64x128 .f32) : Vec F S64x128 .bf16 :=
  truncf .bf16 (mulf (key lb f) (exp (subf (broadcast S64x128 (Scalar.ofBits .f32 0x00000000#32)) (dec lb f)))) bitsLt_bf16_f32

/-- The pairs of positions a chunk mixes: the later with the earlier. -/
def mask : IVec S64x64 1 := k0_pay11

def att (lb : Vec F S1x128 .f32) (f q : Vec F S64x128 .f32) : Vec F S64x64 .bf16 :=
  truncf .bf16 (select mask (matmul dot_S64x128_S64x128_S64x64_1_1_0_0_n_n none (qe lb f q) (ke lb f) (constant S64x64 .f32 0x00000000#32))
    (broadcast S64x64 (Scalar.ofBits .f32 0x00000000#32))) bitsLt_bf16_f32

/-- The output of the chunk before the norm: what the positions of the chunk give, and what the state gives. -/
def mix (lb : Vec F S1x128 .f32) (f q v : Vec F S64x128 .f32) (st : Vec F S128x128 .f32) : Vec F S64x128 .f32 :=
  addf (matmul dot_S64x64_S64x128_S64x128_1_0_0_1_n_n none (att lb f q) (truncf .bf16 v bitsLt_bf16_f32) (constant S64x128 .f32 0x00000000#32))
    (matmul dot_S64x128_S128x128_S64x128_1_1_0_0_n_n none (qe lb f q) (truncf .bf16 st bitsLt_bf16_f32) (constant S64x128 .f32 0x00000000#32))

/-- The state after the chunk. -/
def nxt (lb : Vec F S1x128 .f32) (f v : Vec F S64x128 .f32) (st : Vec F S128x128 .f32) : Vec F S128x128 .f32 :=
  addf (mulf st (broadcastTo S128x128 (exp (last lb f)) broadcasts_S1x128_S128x128))
    (matmul dot_S64x128_S64x128_S128x128_0_0_1_1_n_n none (truncf .bf16 v bitsLt_bf16_f32)
      (truncf .bf16 (mulf (key lb f) (exp (subf (broadcastTo S64x128 (last lb f) broadcasts_S1x128_S64x128) (dec lb f)))) bitsLt_bf16_f32)
      (constant S128x128 .f32 0x00000000#32))

/-- The normalised and gated output. -/
def outp (nw : Vec F S1x128 .f32) (o g : Vec F S64x128 .f32) : Vec F S64x128 .bf16 :=
  truncf .bf16 (mulf (mulf (mulf o (broadcastTo S64x128 (rsqrt (addf (divf
      (shapeCast S64x1 (multiReduction .add [1] S64 (mulf o o) 0x00000000#32 reduces_S64x128_S64 (.inl rfl) rfl) shapeCasts_S64_S64x1)
      (broadcast S64x1 (Scalar.ofBits .f32 0x43000000#32))) (broadcast S64x1 (Scalar.ofBits .f32 0x358637BD#32)))) broadcasts_S64x1_S64x128))
    (broadcastTo S64x128 nw broadcasts_S1x128_S64x128)) (mulf g (logistic g))) bitsLt_bf16_f32

end Cert.KernelIdeal.Hgrn

end
-- ==== Proof.HgrnPieces.lean ====
/-
  What one point of the grid leaves in its windows, head by head: the output block, the carried state and, at the last chunk, the
  state's transpose, each as one function of the blocks read and of the state before the point.
-/
module

public import proofs.«01_k».proof.Proof.HgrnHead
public import proofs.«01_k».proof.Proof.Gen.KernelIdeal.Value
public import Idealize.ShloMosaic.Lib.Tactic
public import Idealize.ShloMosaic.Lib.Pipeline.ReadBack

@[expose] public section

set_option maxRecDepth 16384

noncomputable section

namespace Cert.KernelIdeal.Hgrn

open Idealize.ShloMosaic Idealize.ShloMosaic.TcCoe Cert.KernelIdeal Cert.KernelIdeal.Gen

variable {F : FTy → Type} [FloatOps F]

/-- Head `h`'s 128 columns of a block of rows. -/
def hd (h : Fin 8) (x : Vec F S64x1024 .f32) : Vec F S64x128 .f32 :=
  fun j => x (ix2 (j 0) ⟨128 * h.val + (j 1).val, by have := h.isLt; have : (j 1).val < 128 := (j 1).isLt; omega⟩)

/-- Head `h`'s 128 columns of the row of lower bounds. -/
def hd1 (h : Fin 8) (x : Vec F S1x1024 .f32) : Vec F S1x128 .f32 :=
  fun j => x (ix2 (j 0) ⟨128 * h.val + (j 1).val, by have := h.isLt; have : (j 1).val < 128 := (j 1).isLt; omega⟩)

/-- Head `h`'s state. -/
def hs (h : Fin 8) (s : Vec F S1x8x128x128 .f32) : Vec F S128x128 .f32 := fun j => s (ix4 0 h (j 0) (j 1))

theorem ld_hd (x : Vec F S64x1024 .f32) (h : Fin 8) (o : ℕ) (ho : o = 128 * h.val) (inb) :
    View.ld x (Rect.unit ![0, o] ![64, 128] inb) = hd h x := by
  subst ho; funext j; refine congrArg x (funext fun a => Fin.ext ?_)
  match a with
  | ⟨0, _⟩ => show 0 + 1 * (j 0).val = (j 0).val; omega
  | ⟨1, _⟩ => show 128 * h.val + 1 * (j 1).val = 128 * h.val + (j 1).val; omega

theorem ld_hd1 (x : Vec F S1x1024 .f32) (h : Fin 8) (o : ℕ) (ho : o = 128 * h.val) (inb) :
    View.ld x (Rect.unit ![0, o] ![1, 128] inb) = hd1 h x := by
  subst ho; funext j; refine congrArg x (funext fun a => Fin.ext ?_)
  match a with
  | ⟨0, _⟩ => show 0 + 1 * (j 0).val = (j 0).val; omega
  | ⟨1, _⟩ => show 128 * h.val + 1 * (j 1).val = 128 * h.val + (j 1).val; omega

theorem cast_drop (v : Vec F S1x1x128x128 .f32) (hc) : shapeCast S128x128 v hc = fun j => v (ix4 0 0 (j 0) (j 1)) := by
  funext j; idx_vars j
  pointwise

theorem ld_hs (s : Vec F S1x8x128x128 .f32) (h : Fin 8) (o : ℕ) (ho : o = h.val) (inb) (hc) :
    shapeCast (s := S1x1x128x128) S128x128 (View.ld s (Rect.unit ![0, o, 0, 0] ![1, 1, 128, 128] inb)) hc = hs h s := by
  rw [cast_drop]
  subst ho; funext j; refine congrArg s (funext fun a => Fin.ext ?_)
  match a with
  | ⟨0, _⟩ => rfl
  | ⟨1, _⟩ => show h.val + 1 * 0 = h.val; omega
  | ⟨2, _⟩ => show 0 + 1 * (j 0).val = (j 0).val; omega
  | ⟨3, _⟩ => show 0 + 1 * (j 1).val = (j 1).val; omega

/-- The block of outputs a point leaves. -/
def O6 (x0 x1 x2 x3 : Vec F S64x1024 .f32) (x4 : Vec F S1x1024 .f32) (x5 : Vec F S1x128 .f32) (s : Vec F S1x8x128x128 .f32) :
    Vec F S64x1024 .bf16 := fun j =>
  have hl : (j 1).val < 1024 := (j 1).isLt
  have h : Fin 8 := ⟨(j 1).val / 128, by omega⟩
  outp x5 (mix (hd1 h x4) (hd h x1) (hd h x0) (hd h x2) (hs h s)) (hd h x3) (ix2 (j 0) ⟨(j 1).val % 128, by omega⟩)

/-- The state a point leaves. -/
def S0 (x1 x2 : Vec F S64x1024 .f32) (x4 : Vec F S1x1024 .f32) (s : Vec F S1x8x128x128 .f32) : Vec F S1x8x128x128 .f32 := fun j =>
  nxt (hd1 (j 1) x4) (hd (j 1) x1) (hd (j 1) x2) (hs (j 1) s) (ix2 (j 2) (j 3))

theorem pieceO (x0 x1 x2 x3 : Vec F S64x1024 .f32) (x4 : Vec F S1x1024 .f32) (x5 : Vec F S1x128 .f32) (s : Vec F S1x8x128x128 .f32)
    (h : Fin 8) (o : ℕ) (ho : o = 128 * h.val) (p : ℕ) (hp : p = h.val) (i0 i1 i2 i3 i4 i5 i6 i7) (hc hc' hc'')
    (x : S64x128.Idx) :
    outp (shapeCast (s := S1x128) S1x128 (View.ld x5 (Rect.unit ![0, 0] ![1, 128] i5)) hc'')
      (mix (shapeCast (s := S1x128) S1x128 (View.ld x4 (Rect.unit ![0, o] ![1, 128] i4)) hc) (View.ld x1 (Rect.unit ![0, o] ![64, 128] i1))
        (View.ld x0 (Rect.unit ![0, o] ![64, 128] i0)) (View.ld x2 (Rect.unit ![0, o] ![64, 128] i2))
        (shapeCast (s := S1x1x128x128) S128x128 (View.ld s (Rect.unit ![0, p, 0, 0] ![1, 1, 128, 128] i6)) hc'))
      (View.ld x3 (Rect.unit ![0, o] ![64, 128] i3)) x
    = O6 x0 x1 x2 x3 x4 x5 s ((Rect.unit (s := S64x1024) ![0, o] ![64, 128] i7).emb x) := by
  rw [ld_hd x1 h o ho, ld_hd x0 h o ho, ld_hd x2 h o ho, ld_hd x3 h o ho, ld_hs s h p hp, ld_hd1 x4 h o ho, shapeCast_self, shapeCast_self,
    View.ld_unit_zero (S := S1x128) (funext fun a => by fin_cases a <;> rfl)]
  subst ho
  have hl : (x 1).val < 128 := (x 1).isLt
  have e1 : ((Rect.unit (s := S64x1024) ![0, 128 * h.val] ![64, 128] i7).emb x 1).val = 128 * h.val + (x 1).val := by
    show 128 * h.val + 1 * (x 1).val = _; omega
  have e0 : ((Rect.unit (s := S64x1024) ![0, 128 * h.val] ![64, 128] i7).emb x 0).val = (x 0).val := by
    show 0 + 1 * (x 0).val = _; omega
  have hh : (⟨((Rect.unit (s := S64x1024) ![0, 128 * h.val] ![64, 128] i7).emb x 1).val / 128, by rw [e1]; omega⟩ : Fin 8) = h :=
    Fin.ext (by show _ / 128 = _; rw [e1]; omega)
  unfold O6
  dsimp only
  rw [hh]
  congr 1
  funext a
  match a with
  | ⟨0, _⟩ => exact Fin.ext e0.symm
  | ⟨1, _⟩ => exact Fin.ext (by show (x 1).val = _ % 128; rw [e1]; omega)

theorem pieceS (x1 x2 : Vec F S64x1024 .f32) (x4 : Vec F S1x1024 .f32) (s : Vec F S1x8x128x128 .f32)
    (h : Fin 8) (o : ℕ) (ho : o = 128 * h.val) (p : ℕ) (hp : p = h.val) (i1 i2 i4 i6 i7) (hc hc' hc'')
    (x : S1x1x128x128.Idx) :
    shapeCast S1x1x128x128 (nxt (shapeCast (s := S1x128) S1x128 (View.ld x4 (Rect.unit ![0, o] ![1, 128] i4)) hc) (View.ld x1 (Rect.unit ![0, o] ![64, 128] i1))
        (View.ld x2 (Rect.unit ![0, o] ![64, 128] i2))
        (shapeCast (s := S1x1x128x128) S128x128 (View.ld s (Rect.unit ![0, p, 0, 0] ![1, 1, 128, 128] i6)) hc')) hc'' x
    = S0 x1 x2 x4 s ((Rect.unit (s := S1x8x128x128) ![0, p, 0, 0] ![1, 1, 128, 128] i7).emb x) := by
  rw [ld_hd x1 h o ho, ld_hd x2 h o ho, ld_hs s h p hp, ld_hd1 x4 h o ho, shapeCast_self]
  subst hp
  have e1 : (Rect.unit (s := S1x8x128x128) ![0, h.val, 0, 0] ![1, 1, 128, 128] i7).emb x 1 = h :=
    Fin.ext (by show h.val + 1 * (x 1).val = _; have : (x 1).val < 1 := (x 1).isLt; omega)
  have e2 : (Rect.unit (s := S1x8x128x128) ![0, h.val, 0, 0] ![1, 1, 128, 128] i7).emb x 2 = x 2 :=
    Fin.ext (by show 0 + 1 * (x 2).val = _; omega)
  have e3 : (Rect.unit (s := S1x8x128x128) ![0, h.val, 0, 0] ![1, 1, 128, 128] i7).emb x 3 = x 3 :=
    Fin.ext (by show 0 + 1 * (x 3).val = _; omega)
  unfold S0
  rw [e1, e2, e3]
  idx_vars x
  pointwise

end Cert.KernelIdeal.Hgrn

end
-- ==== Proof.HgrnCases.lean ====
/-
  The three cases of the body: whichever conditions hold, a point leaves the same functions of its blocks and of the state before it.
-/
module

public import proofs.«01_k».proof.Proof.HgrnPieces

@[expose] public section

set_option maxRecDepth 16384

noncomputable section

namespace Cert.KernelIdeal.Hgrn

open Idealize.ShloMosaic Idealize.ShloMosaic.TcCoe Cert.KernelIdeal Cert.KernelIdeal.Gen

variable {F : FTy → Type} [FloatOps F]

variable (c : Dev nD) (i : grid0.Coords) (a0 : Memref sig .tc .vmem S64x1024 .f32) (h0 : a0.IsWhole) (a1 : Memref sig .tc .vmem S64x1024 .f32)
  (h1 : a1.IsWhole) (a2 : Memref sig .tc .vmem S64x1024 .f32) (h2 : a2.IsWhole) (a3 : Memref sig .tc .vmem S64x1024 .f32) (h3 : a3.IsWhole)
  (a4 : Memref sig .tc .vmem S1x1024 .f32) (h4 : a4.IsWhole) (a5 : Memref sig .tc .vmem S1x128 .f32) (h5 : a5.IsWhole)
  (a6 : Memref sig .tc .vmem S64x1024 .bf16) (h6 : a6.IsWhole) (a7 : Memref sig .tc .vmem S1x8x128x128 .f32) (h7 : a7.IsWhole)
  (a8 : Memref sig .tc .vmem S1x8x128x128 .f32) (h8 : a8.IsWhole)
  (x0 x1 x2 x3 : Vec F S64x1024 .f32) (x4 : Vec F S1x1024 .f32) (x5 : Vec F S1x128 .f32) (xs0 : Vec F S1x8x128x128 .f32)

theorem out0_B_6_eq (hc0 : ¬cond0_0 i) (hc1 : ¬cond0_1 i) :
    out0_B_6 (F := F) c i a0 h0 a1 h1 a2 h2 a3 h3 a4 h4 a5 h5 a6 h6 a7 h7 a8 h8 hc0 hc1 x0 x1 x2 x3 x4 x5 xs0 = O6 x0 x1 x2 x3 x4 x5 xs0 := by
  unfold out0_B_6
  rw [View.read_writes_eq_canon _ _ _ (cover0_B_6 c i a0 h0 a1 h1 a2 h2 a3 h3 a4 h4 a5 h5 a6 h6 a7 h7 a8 h8 hc0 hc1 x0 x1 x2 x3 x4 x5 xs0)]
  have hcov := cover0_B_6 c i a0 h0 a1 h1 a2 h2 a3 h3 a4 h4 a5 h5 a6 h6 a7 h7 a8 h8 hc0 hc1 x0 x1 x2 x3 x4 x5 xs0
  revert hcov
  unfold kernelRun0_B
  dsimp only
  sl_unfold_words
  simp only [View.readAt_eq_ld, h0.read_unread, h1.read_unread, h2.read_unread, h3.read_unread, h4.read_unread, h5.read_unread, h8.read_unread]
  intro hcov
  funext y
  refine View.canon_apply_of_pieces _ _ ?_ y (hcov y)
  simp only [List.forall_mem_cons, List.not_mem_nil, false_imp_iff, implies_true, and_true]
  refine ⟨fun x => ?_, fun x => ?_, fun x => ?_, fun x => ?_, fun x => ?_, fun x => ?_, fun x => ?_, fun x => ?_⟩
  · exact pieceO x0 x1 x2 x3 x4 x5 xs0 7 896 rfl 7 rfl _ _ _ _ _ _ _ _ _ _ _ x
  · exact pieceO x0 x1 x2 x3 x4 x5 xs0 6 768 rfl 6 rfl _ _ _ _ _ _ _ _ _ _ _ x
  · exact pieceO x0 x1 x2 x3 x4 x5 xs0 5 640 rfl 5 rfl _ _ _ _ _ _ _ _ _ _ _ x
  · exact pieceO x0 x1 x2 x3 x4 x5 xs0 4 512 rfl 4 rfl _ _ _ _ _ _ _ _ _ _ _ x
  · exact pieceO x0 x1 x2 x3 x4 x5 xs0 3 384 rfl 3 rfl _ _ _ _ _ _ _ _ _ _ _ x
  · exact pieceO x0 x1 x2 x3 x4 x5 xs0 2 256 rfl 2 rfl _ _ _ _ _ _ _ _ _ _ _ x
  · exact pieceO x0 x1 x2 x3 x4 x5 xs0 1 128 rfl 1 rfl _ _ _ _ _ _ _ _ _ _ _ x
  · exact pieceO x0 x1 x2 x3 x4 x5 xs0 0 0 rfl 0 rfl _ _ _ _ _ _ _ _ _ _ _ x

theorem sout0_B_0_eq (hc0 : ¬cond0_0 i) (hc1 : ¬cond0_1 i) :
    sout0_B_0 (F := F) c i a0 h0 a1 h1 a2 h2 a3 h3 a4 h4 a5 h5 a6 h6 a7 h7 a8 h8 hc0 hc1 x0 x1 x2 x3 x4 x5 xs0 = S0 x1 x2 x4 xs0 := by
  unfold sout0_B_0
  rw [View.read_writes_eq_canon _ _ _ (scover0_B_0 c i a0 h0 a1 h1 a2 h2 a3 h3 a4 h4 a5 h5 a6 h6 a7 h7 a8 h8 hc0 hc1 x0 x1 x2 x3 x4 x5 xs0)]
  have hcov := scover0_B_0 c i a0 h0 a1 h1 a2 h2 a3 h3 a4 h4 a5 h5 a6 h6 a7 h7 a8 h8 hc0 hc1 x0 x1 x2 x3 x4 x5 xs0
  revert hcov
  unfold kernelRun0_B
  dsimp only
  sl_unfold_words
  simp only [View.readAt_eq_ld, h0.read_unread, h1.read_unread, h2.read_unread, h3.read_unread, h4.read_unread, h5.read_unread, h8.read_unread]
  intro hcov
  funext y
  refine View.canon_apply_of_pieces _ _ ?_ y (hcov y)
  simp only [List.forall_mem_cons, List.not_mem_nil, false_imp_iff, implies_true, and_true]
  refine ⟨fun x => ?_, fun x => ?_, fun x => ?_, fun x => ?_, fun x => ?_, fun x => ?_, fun x => ?_, fun x => ?_⟩
  · exact pieceS x1 x2 x4 xs0 7 896 rfl 7 rfl _ _ _ _ _ _ _ _ x
  · exact pieceS x1 x2 x4 xs0 6 768 rfl 6 rfl _ _ _ _ _ _ _ _ x
  · exact pieceS x1 x2 x4 xs0 5 640 rfl 5 rfl _ _ _ _ _ _ _ _ x
  · exact pieceS x1 x2 x4 xs0 4 512 rfl 4 rfl _ _ _ _ _ _ _ _ x
  · exact pieceS x1 x2 x4 xs0 3 384 rfl 3 rfl _ _ _ _ _ _ _ _ x
  · exact pieceS x1 x2 x4 xs0 2 256 rfl 2 rfl _ _ _ _ _ _ _ _ x
  · exact pieceS x1 x2 x4 xs0 1 128 rfl 1 rfl _ _ _ _ _ _ _ _ x
  · exact pieceS x1 x2 x4 xs0 0 0 rfl 0 rfl _ _ _ _ _ _ _ _ x

theorem out0_C_6_eq (hc0 : ¬cond0_0 i) (hc1 : cond0_1 i) :
    out0_C_6 (F := F) c i a0 h0 a1 h1 a2 h2 a3 h3 a4 h4 a5 h5 a6 h6 a7 h7 a8 h8 hc0 hc1 x0 x1 x2 x3 x4 x5 xs0 = O6 x0 x1 x2 x3 x4 x5 xs0 := by
  unfold out0_C_6
  rw [View.read_writes_eq_canon _ _ _ (cover0_C_6 c i a0 h0 a1 h1 a2 h2 a3 h3 a4 h4 a5 h5 a6 h6 a7 h7 a8 h8 hc0 hc1 x0 x1 x2 x3 x4 x5 xs0)]
  have hcov := cover0_C_6 c i a0 h0 a1 h1 a2 h2 a3 h3 a4 h4 a5 h5 a6 h6 a7 h7 a8 h8 hc0 hc1 x0 x1 x2 x3 x4 x5 xs0
  revert hcov
  unfold kernelRun0_C
  dsimp only
  sl_unfold_words
  simp only [View.readAt_eq_ld, h0.read_unread, h1.read_unread, h2.read_unread, h3.read_unread, h4.read_unread, h5.read_unread, h8.read_unread]
  intro hcov
  funext y
  refine View.canon_apply_of_pieces _ _ ?_ y (hcov y)
  simp only [List.forall_mem_cons, List.not_mem_nil, false_imp_iff, implies_true, and_true]
  refine ⟨fun x => ?_, fun x => ?_, fun x => ?_, fun x => ?_, fun x => ?_, fun x => ?_, fun x => ?_, fun x => ?_⟩
  · exact pieceO x0 x1 x2 x3 x4 x5 xs0 7 896 rfl 7 rfl _ _ _ _ _ _ _ _ _ _ _ x
  · exact pieceO x0 x1 x2 x3 x4 x5 xs0 6 768 rfl 6 rfl _ _ _ _ _ _ _ _ _ _ _ x
  · exact pieceO x0 x1 x2 x3 x4 x5 xs0 5 640 rfl 5 rfl _ _ _ _ _ _ _ _ _ _ _ x
  · exact pieceO x0 x1 x2 x3 x4 x5 xs0 4 512 rfl 4 rfl _ _ _ _ _ _ _ _ _ _ _ x
  · exact pieceO x0 x1 x2 x3 x4 x5 xs0 3 384 rfl 3 rfl _ _ _ _ _ _ _ _ _ _ _ x
  · exact pieceO x0 x1 x2 x3 x4 x5 xs0 2 256 rfl 2 rfl _ _ _ _ _ _ _ _ _ _ _ x
  · exact pieceO x0 x1 x2 x3 x4 x5 xs0 1 128 rfl 1 rfl _ _ _ _ _ _ _ _ _ _ _ x
  · exact pieceO x0 x1 x2 x3 x4 x5 xs0 0 0 rfl 0 rfl _ _ _ _ _ _ _ _ _ _ _ x

theorem sout0_C_0_eq (hc0 : ¬cond0_0 i) (hc1 : cond0_1 i) :
    sout0_C_0 (F := F) c i a0 h0 a1 h1 a2 h2 a3 h3 a4 h4 a5 h5 a6 h6 a7 h7 a8 h8 hc0 hc1 x0 x1 x2 x3 x4 x5 xs0 = S0 x1 x2 x4 xs0 := by
  unfold sout0_C_0
  rw [View.read_writes_eq_canon _ _ _ (scover0_C_0 c i a0 h0 a1 h1 a2 h2 a3 h3 a4 h4 a5 h5 a6 h6 a7 h7 a8 h8 hc0 hc1 x0 x1 x2 x3 x4 x5 xs0)]
  have hcov := scover0_C_0 c i a0 h0 a1 h1 a2 h2 a3 h3 a4 h4 a5 h5 a6 h6 a7 h7 a8 h8 hc0 hc1 x0 x1 x2 x3 x4 x5 xs0
  revert hcov
  unfold kernelRun0_C
  dsimp only
  sl_unfold_words
  simp only [View.readAt_eq_ld, h0.read_unread, h1.read_unread, h2.read_unread, h3.read_unread, h4.read_unread, h5.read_unread, h8.read_unread]
  intro hcov
  funext y
  refine View.canon_apply_of_pieces _ _ ?_ y (hcov y)
  simp only [List.forall_mem_cons, List.not_mem_nil, false_imp_iff, implies_true, and_true]
  refine ⟨fun x => ?_, fun x => ?_, fun x => ?_, fun x => ?_, fun x => ?_, fun x => ?_, fun x => ?_, fun x => ?_⟩
  · exact pieceS x1 x2 x4 xs0 7 896 rfl 7 rfl _ _ _ _ _ _ _ _ x
  · exact pieceS x1 x2 x4 xs0 6 768 rfl 6 rfl _ _ _ _ _ _ _ _ x
  · exact pieceS x1 x2 x4 xs0 5 640 rfl 5 rfl _ _ _ _ _ _ _ _ x
  · exact pieceS x1 x2 x4 xs0 4 512 rfl 4 rfl _ _ _ _ _ _ _ _ x
  · exact pieceS x1 x2 x4 xs0 3 384 rfl 3 rfl _ _ _ _ _ _ _ _ x
  · exact pieceS x1 x2 x4 xs0 2 256 rfl 2 rfl _ _ _ _ _ _ _ _ x
  · exact pieceS x1 x2 x4 xs0 1 128 rfl 1 rfl _ _ _ _ _ _ _ _ x
  · exact pieceS x1 x2 x4 xs0 0 0 rfl 0 rfl _ _ _ _ _ _ _ _ x

/-- The state written out: each head's block transposed, so that key channels come first. -/
def swap (G : Vec F S1x8x128x128 .f32) : Vec F S1x8x128x128 .f32 := fun j => G (ix4 (j 0) (j 1) (j 3) (j 2))

theorem pieceT (G : Vec F S1x8x128x128 .f32) (w : Vec F S1x1x128x128 .f32) (p : ℕ) (i7 i8)
    (hw : ∀ x : S1x1x128x128.Idx, w x = G ((Rect.unit (s := S1x8x128x128) ![0, p, 0, 0] ![1, 1, 128, 128] i7).emb x)) (x : S1x1x128x128.Idx) :
    k0_pay2 w x = swap G ((Rect.unit (s := S1x8x128x128) ![0, p, 0, 0] ![1, 1, 128, 128] i8).emb x) := by
  have e : k0_pay2 w x = w (ix4 0 0 (x 3) (x 2)) := by
    idx_vars x
    pointwise [k0_pay2]
  rw [e, hw]
  unfold swap
  have x0 : (x 0).val < 1 := (x 0).isLt
  have x1 : (x 1).val < 1 := (x 1).isLt
  congr 1
  funext a
  match a with
  | ⟨0, _⟩ => exact Fin.ext (by show 0 + 1 * 0 = 0 + 1 * (x 0).val; omega)
  | ⟨1, _⟩ => exact Fin.ext (by show p + 1 * 0 = p + 1 * (x 1).val; omega)
  | ⟨2, _⟩ => rfl
  | ⟨3, _⟩ => rfl

theorem out0_C_7_eq (hc0 : ¬cond0_0 i) (hc1 : cond0_1 i) :
    out0_C_7 (F := F) c i a0 h0 a1 h1 a2 h2 a3 h3 a4 h4 a5 h5 a6 h6 a7 h7 a8 h8 hc0 hc1 x0 x1 x2 x3 x4 x5 xs0 = swap (S0 x1 x2 x4 xs0) := by
  unfold out0_C_7
  rw [View.read_writes_eq_canon _ _ _ (cover0_C_7 c i a0 h0 a1 h1 a2 h2 a3 h3 a4 h4 a5 h5 a6 h6 a7 h7 a8 h8 hc0 hc1 x0 x1 x2 x3 x4 x5 xs0)]
  have hcov := cover0_C_7 c i a0 h0 a1 h1 a2 h2 a3 h3 a4 h4 a5 h5 a6 h6 a7 h7 a8 h8 hc0 hc1 x0 x1 x2 x3 x4 x5 xs0
  revert hcov
  unfold kernelRun0_C
  dsimp only
  sl_unfold_words
  simp (disch := decide) only [View.readAt_eq_ld, h0.read_unread, h1.read_unread, h2.read_unread, h3.read_unread, h4.read_unread, h5.read_unread, h8.read_unread, ↓View.readCov_cons_toLoadRect, ↓View.readCov_skip]
  intro hcov
  funext y
  refine View.canon_apply_of_pieces _ _ ?_ y (hcov y)
  simp only [List.forall_mem_cons, List.not_mem_nil, false_imp_iff, implies_true, and_true]
  refine ⟨fun x => ?_, fun x => ?_, fun x => ?_, fun x => ?_, fun x => ?_, fun x => ?_, fun x => ?_, fun x => ?_⟩
  · exact pieceT (S0 x1 x2 x4 xs0) _ 7 (by decide) _ (fun x => pieceS x1 x2 x4 xs0 7 896 rfl 7 rfl _ _ _ _ _ _ _ _ x) x
  · exact pieceT (S0 x1 x2 x4 xs0) _ 6 (by decide) _ (fun x => pieceS x1 x2 x4 xs0 6 768 rfl 6 rfl _ _ _ _ _ _ _ _ x) x
  · exact pieceT (S0 x1 x2 x4 xs0) _ 5 (by decide) _ (fun x => pieceS x1 x2 x4 xs0 5 640 rfl 5 rfl _ _ _ _ _ _ _ _ x) x
  · exact pieceT (S0 x1 x2 x4 xs0) _ 4 (by decide) _ (fun x => pieceS x1 x2 x4 xs0 4 512 rfl 4 rfl _ _ _ _ _ _ _ _ x) x
  · exact pieceT (S0 x1 x2 x4 xs0) _ 3 (by decide) _ (fun x => pieceS x1 x2 x4 xs0 3 384 rfl 3 rfl _ _ _ _ _ _ _ _ x) x
  · exact pieceT (S0 x1 x2 x4 xs0) _ 2 (by decide) _ (fun x => pieceS x1 x2 x4 xs0 2 256 rfl 2 rfl _ _ _ _ _ _ _ _ x) x
  · exact pieceT (S0 x1 x2 x4 xs0) _ 1 (by decide) _ (fun x => pieceS x1 x2 x4 xs0 1 128 rfl 1 rfl _ _ _ _ _ _ _ _ x) x
  · exact pieceT (S0 x1 x2 x4 xs0) _ 0 (by decide) _ (fun x => pieceS x1 x2 x4 xs0 0 0 rfl 0 rfl _ _ _ _ _ _ _ _ x) x

theorem out0_A_6_eq (hc0 : cond0_0 i) (hc1 : ¬cond0_1 i) :
    out0_A_6 (F := F) c i a0 h0 a1 h1 a2 h2 a3 h3 a4 h4 a5 h5 a6 h6 a7 h7 a8 h8 hc0 hc1 x0 x1 x2 x3 x4 x5 = O6 x0 x1 x2 x3 x4 x5 k0_pay10 := by
  unfold out0_A_6
  rw [View.read_writes_eq_canon _ _ _ (cover0_A_6 c i a0 h0 a1 h1 a2 h2 a3 h3 a4 h4 a5 h5 a6 h6 a7 h7 a8 h8 hc0 hc1 x0 x1 x2 x3 x4 x5)]
  have hcov := cover0_A_6 c i a0 h0 a1 h1 a2 h2 a3 h3 a4 h4 a5 h5 a6 h6 a7 h7 a8 h8 hc0 hc1 x0 x1 x2 x3 x4 x5
  revert hcov
  unfold kernelRun0_A
  dsimp only
  sl_unfold_words
  simp (disch := decide) only [View.readAt_eq_ld, h0.read_unread, h1.read_unread, h2.read_unread, h3.read_unread, h4.read_unread, h5.read_unread, h8.read_unread, ↓View.readCov_skip, View.readCov_fill]
  intro hcov
  funext y
  refine View.canon_apply_of_pieces _ _ ?_ y (hcov y)
  simp only [List.forall_mem_cons, List.not_mem_nil, false_imp_iff, implies_true, and_true]
  refine ⟨fun x => ?_, fun x => ?_, fun x => ?_, fun x => ?_, fun x => ?_, fun x => ?_, fun x => ?_, fun x => ?_⟩
  · exact pieceO x0 x1 x2 x3 x4 x5 k0_pay10 7 896 rfl 7 rfl _ _ _ _ _ _ _ _ _ _ _ x
  · exact pieceO x0 x1 x2 x3 x4 x5 k0_pay10 6 768 rfl 6 rfl _ _ _ _ _ _ _ _ _ _ _ x
  · exact pieceO x0 x1 x2 x3 x4 x5 k0_pay10 5 640 rfl 5 rfl _ _ _ _ _ _ _ _ _ _ _ x
  · exact pieceO x0 x1 x2 x3 x4 x5 k0_pay10 4 512 rfl 4 rfl _ _ _ _ _ _ _ _ _ _ _ x
  · exact pieceO x0 x1 x2 x3 x4 x5 k0_pay10 3 384 rfl 3 rfl _ _ _ _ _ _ _ _ _ _ _ x
  · exact pieceO x0 x1 x2 x3 x4 x5 k0_pay10 2 256 rfl 2 rfl _ _ _ _ _ _ _ _ _ _ _ x
  · exact pieceO x0 x1 x2 x3 x4 x5 k0_pay10 1 128 rfl 1 rfl _ _ _ _ _ _ _ _ _ _ _ x
  · exact pieceO x0 x1 x2 x3 x4 x5 k0_pay10 0 0 rfl 0 rfl _ _ _ _ _ _ _ _ _ _ _ x

theorem heads_cover (y : S1x8x128x128.Idx) (i7 i6 i5 i4 i3 i2 i1 i0) (w7 w6 w5 w4 w3 w2 w1 w0) :
    ∃ p ∈ ([⟨Rect.unit ![0, 7, 0, 0] ![1, 1, 128, 128] i7, w7⟩, ⟨Rect.unit ![0, 6, 0, 0] ![1, 1, 128, 128] i6, w6⟩,
      ⟨Rect.unit ![0, 5, 0, 0] ![1, 1, 128, 128] i5, w5⟩, ⟨Rect.unit ![0, 4, 0, 0] ![1, 1, 128, 128] i4, w4⟩,
      ⟨Rect.unit ![0, 3, 0, 0] ![1, 1, 128, 128] i3, w3⟩, ⟨Rect.unit ![0, 2, 0, 0] ![1, 1, 128, 128] i2, w2⟩,
      ⟨Rect.unit ![0, 1, 0, 0] ![1, 1, 128, 128] i1, w1⟩, ⟨Rect.unit ![0, 0, 0, 0] ![1, 1, 128, 128] i0, w0⟩] :
      List (View.Piece (Elt F) S1x8x128x128 (.f32))), y ∈ p.1.set :=
  View.cover_of_tiledL (s := S1x8x128x128) _ S1x1x128x128.size (by sl_kernel_rfl) y

theorem sout0_A_0_eq (hc0 : cond0_0 i) (hc1 : ¬cond0_1 i) :
    sout0_A_0 (F := F) c i a0 h0 a1 h1 a2 h2 a3 h3 a4 h4 a5 h5 a6 h6 a7 h7 a8 h8 hc0 hc1 x0 x1 x2 x3 x4 x5 = S0 x1 x2 x4 k0_pay10 := by
  unfold sout0_A_0
  rw [View.read_writes_eq_canon _ _ _ (scover0_A_0 c i a0 h0 a1 h1 a2 h2 a3 h3 a4 h4 a5 h5 a6 h6 a7 h7 a8 h8 hc0 hc1 x0 x1 x2 x3 x4 x5)]
  have hcov := scover0_A_0 c i a0 h0 a1 h1 a2 h2 a3 h3 a4 h4 a5 h5 a6 h6 a7 h7 a8 h8 hc0 hc1 x0 x1 x2 x3 x4 x5
  revert hcov
  unfold kernelRun0_A
  dsimp only
  sl_unfold_words
  simp (disch := decide) only [View.readAt_eq_ld, h0.read_unread, h1.read_unread, h2.read_unread, h3.read_unread, h4.read_unread, h5.read_unread, h8.read_unread, ↓View.readCov_skip, View.readCov_fill]
  intro hcov
  funext y
  refine View.canon_append_of_pieces _ [_] [_, _, _, _, _, _, _, _] ?_ y ?_
  rotate_left
  · exact heads_cover y _ _ _ _ _ _ _ _ _ _ _ _ _ _ _ _
  simp only [List.forall_mem_cons, List.not_mem_nil, false_imp_iff, implies_true, and_true]
  refine ⟨fun x => ?_, fun x => ?_, fun x => ?_, fun x => ?_, fun x => ?_, fun x => ?_, fun x => ?_, fun x => ?_⟩
  · exact pieceS x1 x2 x4 k0_pay10 7 896 rfl 7 rfl _ _ _ _ _ _ _ _ x
  · exact pieceS x1 x2 x4 k0_pay10 6 768 rfl 6 rfl _ _ _ _ _ _ _ _ x
  · exact pieceS x1 x2 x4 k0_pay10 5 640 rfl 5 rfl _ _ _ _ _ _ _ _ x
  · exact pieceS x1 x2 x4 k0_pay10 4 512 rfl 4 rfl _ _ _ _ _ _ _ _ x
  · exact pieceS x1 x2 x4 k0_pay10 3 384 rfl 3 rfl _ _ _ _ _ _ _ _ x
  · exact pieceS x1 x2 x4 k0_pay10 2 256 rfl 2 rfl _ _ _ _ _ _ _ _ x
  · exact pieceS x1 x2 x4 k0_pay10 1 128 rfl 1 rfl _ _ _ _ _ _ _ _ x
  · exact pieceS x1 x2 x4 k0_pay10 0 0 rfl 0 rfl _ _ _ _ _ _ _ _ x

end Cert.KernelIdeal.Hgrn

end
-- ==== Proof.HgrnFold.lean ====
/-
  What every point of the kernel's grid leaves, as a recursion over the points, and the blocks the points read.
-/
module

public import proofs.«01_k».proof.Proof.HgrnCases
public import proofs.«01_k».proof.Proof.Gen.ReferenceIdeal.Step
public import Idealize.ShloMosaic.Lib.StableHlo.RunRead

@[expose] public section

set_option maxRecDepth 65536

noncomputable section

namespace Cert.KernelIdeal.Hgrn

open Idealize.ShloMosaic Idealize.ShloMosaic.TcCoe Idealize.SL.Sem Idealize.ShloMosaic.StableHlo Cert.KernelIdeal Cert.KernelIdeal.Gen

variable {F : FTy → Type} [FloatOps F]
variable (m : (ℓ : Loc nD τ sig) → Buf (Elt F) ℓ)

/-- The state before point `t`: zero at a sequence's first chunk, else what the point before left. -/
def before (c : Dev nD) (t : Fin cfg0.N) : Vec F S1x8x128x128 .f32 :=
  if t.val % 64 = 0 then k0_pay10 else (outsAt0 m c (t.val - 1) (Nat.lt_of_le_of_lt (Nat.sub_le _ _) t.isLt)).2.2

theorem left_out (c : Dev nD) (t : Fin cfg0.N) : (outsAt0 m c t.val t.isLt).1
    = O6 (iblk m c 0 t) (iblk m c 1 t) (iblk m c 2 t) (iblk m c 3 t) (iblk m c 4 t) (iblk m c 5 t) (before m c t) := by
  unfold before
  by_cases h0 : t.val % 64 = 0
  · have h1 : ¬t.val % 64 = 63 := by omega
    rw [if_pos h0, outsAt0_A m c t h0 h1]
    dsimp only
    exact out0_A_6_eq (F := F) ..
  · rw [if_neg h0]
    by_cases h1 : t.val % 64 = 63
    · rw [outsAt0_C m c t h0 h1]
      dsimp only
      exact out0_C_6_eq (F := F) ..
    · rw [outsAt0_B m c t h0 h1]
      dsimp only
      exact out0_B_6_eq (F := F) ..

theorem left_state (c : Dev nD) (t : Fin cfg0.N) : (outsAt0 m c t.val t.isLt).2.2
    = S0 (iblk m c 1 t) (iblk m c 2 t) (iblk m c 4 t) (before m c t) := by
  unfold before
  by_cases h0 : t.val % 64 = 0
  · have h1 : ¬t.val % 64 = 63 := by omega
    rw [if_pos h0, outsAt0_A m c t h0 h1]
    dsimp only
    exact sout0_A_0_eq (F := F) ..
  · rw [if_neg h0]
    by_cases h1 : t.val % 64 = 63
    · rw [outsAt0_C m c t h0 h1]
      dsimp only
      exact sout0_C_0_eq (F := F) ..
    · rw [outsAt0_B m c t h0 h1]
      dsimp only
      exact sout0_B_0_eq (F := F) ..

theorem left_final (c : Dev nD) (t : Fin cfg0.N) (h1 : t.val % 64 = 63) : (outsAt0 m c t.val t.isLt).2.1
    = swap (S0 (iblk m c 1 t) (iblk m c 2 t) (iblk m c 4 t) (before m c t)) := by
  have h0 : ¬t.val % 64 = 0 := by omega
  unfold before
  rw [if_neg h0, outsAt0_C m c t h0 h1]
  dsimp only
  exact out0_C_7_eq (F := F) ..

/-! ## The blocks -/

theorem rows_idx : ∀ t : Fin cfg0.N, win0_0.index t = ![t.val, 0] ∧ win0_1.index t = ![t.val, 1] ∧ win0_2.index t = ![t.val, 2] ∧ win0_3.index t = ![t.val, 3] :=
  (by decide +kernel : ∀ t : Fin grid0.N, _)

theorem point_lt (t : Fin cfg0.N) : t.val < 128 := lt_of_lt_of_eq t.isLt (show cfg0.N = 128 from N_0)

theorem V_bound (c : Dev nD) : V m c main_v15
    = shapeCast S1x1024 (Cert.ReferenceIdeal.Step.A_main_v13 (F := F) (m ((c : Thread nD τ).loc main_arg0)) (m ((c : Thread nD τ).loc main_arg1))) shapeCasts_S1024_S1x1024 := by
  simp only [V, hostOps0, hostOps0_1, hostOps0_2, List.flatten_cons, List.flatten_nil, List.append_nil, List.cons_append, List.nil_append]
  after_reads_simp
  rfl

theorem cast_back (x : Vec F S1x128 .f32) (h h') : shapeCast S1x128 (shapeCast S128 x h) h' = x := by
  funext j; idx_vars j
  pointwise

theorem V_norm (c : Dev nD) : V m c main_v16 = m ((c : Thread nD τ).loc main_arg2) := by
  simp only [V, hostOps0, hostOps0_1, hostOps0_2, List.flatten_cons, List.flatten_nil, List.append_nil, List.cons_append, List.nil_append]
  after_reads_simp
  exact cast_back _ _ _

theorem blk0 (c : Dev nD) (t : Fin cfg0.N) (r : Fin 64) (k : Fin 1024) : iblk m c 0 t (ix2 r k)
    = m ((c : Thread nD τ).loc main_arg0) (ix2 ⟨t.val * 64 + r.val, by have := point_lt t; omega⟩ ⟨0 + k.val, by omega⟩) := by
  rw [← V_main_arg0 m c]
  refine congrArg (V m c main_arg0) (funext fun a => ?_)
  have e := congrFun (rows_idx t).1
  match a with
  | ⟨0, _⟩ => exact Fin.ext (by have := e 0; show win0_0.index t 0 * 64 + 1 * r.val = _; rw [this]; show t.val * 64 + 1 * r.val = t.val * 64 + r.val; omega)
  | ⟨1, _⟩ => exact Fin.ext (by have := e 1; show win0_0.index t 1 * 1024 + 1 * k.val = _; rw [this]; show 0 * 1024 + 1 * k.val = 0 + k.val; omega)

theorem blk1 (c : Dev nD) (t : Fin cfg0.N) (r : Fin 64) (k : Fin 1024) : iblk m c 1 t (ix2 r k)
    = m ((c : Thread nD τ).loc main_arg0) (ix2 ⟨t.val * 64 + r.val, by have := point_lt t; omega⟩ ⟨1024 + k.val, by omega⟩) := by
  rw [← V_main_arg0 m c]
  refine congrArg (V m c main_arg0) (funext fun a => ?_)
  have e := congrFun (rows_idx t).2.1
  match a with
  | ⟨0, _⟩ => exact Fin.ext (by have := e 0; show win0_1.index t 0 * 64 + 1 * r.val = _; rw [this]; show t.val * 64 + 1 * r.val = t.val * 64 + r.val; omega)
  | ⟨1, _⟩ => exact Fin.ext (by have := e 1; show win0_1.index t 1 * 1024 + 1 * k.val = _; rw [this]; show 1 * 1024 + 1 * k.val = 1024 + k.val; omega)

theorem blk2 (c : Dev nD) (t : Fin cfg0.N) (r : Fin 64) (k : Fin 1024) : iblk m c 2 t (ix2 r k)
    = m ((c : Thread nD τ).loc main_arg0) (ix2 ⟨t.val * 64 + r.val, by have := point_lt t; omega⟩ ⟨2048 + k.val, by omega⟩) := by
  rw [← V_main_arg0 m c]
  refine congrArg (V m c main_arg0) (funext fun a => ?_)
  have e := congrFun (rows_idx t).2.2.1
  match a with
  | ⟨0, _⟩ => exact Fin.ext (by have := e 0; show win0_2.index t 0 * 64 + 1 * r.val = _; rw [this]; show t.val * 64 + 1 * r.val = t.val * 64 + r.val; omega)
  | ⟨1, _⟩ => exact Fin.ext (by have := e 1; show win0_2.index t 1 * 1024 + 1 * k.val = _; rw [this]; show 2 * 1024 + 1 * k.val = 2048 + k.val; omega)

theorem blk3 (c : Dev nD) (t : Fin cfg0.N) (r : Fin 64) (k : Fin 1024) : iblk m c 3 t (ix2 r k)
    = m ((c : Thread nD τ).loc main_arg0) (ix2 ⟨t.val * 64 + r.val, by have := point_lt t; omega⟩ ⟨3072 + k.val, by omega⟩) := by
  rw [← V_main_arg0 m c]
  refine congrArg (V m c main_arg0) (funext fun a => ?_)
  have e := congrFun (rows_idx t).2.2.2
  match a with
  | ⟨0, _⟩ => exact Fin.ext (by have := e 0; show win0_3.index t 0 * 64 + 1 * r.val = _; rw [this]; show t.val * 64 + 1 * r.val = t.val * 64 + r.val; omega)
  | ⟨1, _⟩ => exact Fin.ext (by have := e 1; show win0_3.index t 1 * 1024 + 1 * k.val = _; rw [this]; show 3 * 1024 + 1 * k.val = 3072 + k.val; omega)

theorem blk4 (c : Dev nD) (t : Fin cfg0.N) : iblk m c 4 t
    = shapeCast S1x1024 (Cert.ReferenceIdeal.Step.A_main_v13 (F := F) (m ((c : Thread nD τ).loc main_arg0)) (m ((c : Thread nD τ).loc main_arg1))) shapeCasts_S1024_S1x1024 := by
  rw [← V_bound m c]
  refine funext fun j => congrArg (V m c main_v15) (funext fun a => ?_)
  match a with
  | ⟨0, _⟩ => exact Fin.ext (show 0 * 1 + 1 * (j 0).val = (j 0).val by omega)
  | ⟨1, _⟩ => exact Fin.ext ((show 0 * 1024 + 1 * (j 1).val = (j 1).val by omega))

theorem blk5 (c : Dev nD) (t : Fin cfg0.N) : iblk m c 5 t = m ((c : Thread nD τ).loc main_arg2) := by
  rw [← V_norm m c]
  refine funext fun j => congrArg (V m c main_v16) (funext fun a => ?_)
  match a with
  | ⟨0, _⟩ => exact Fin.ext (show 0 * 1 + 1 * (j 0).val = (j 0).val by omega)
  | ⟨1, _⟩ => exact Fin.ext ((show 0 * 128 + 1 * (j 1).val = (j 1).val by omega))

end Cert.KernelIdeal.Hgrn

end
-- ==== Proof.HgrnSum.lean ====
/-
  The kernel's prefix sum at an index: six doubling rounds leave, in row `r`, the sum of rows `0 … r`.
-/
module

public import proofs.«01_k».proof.Proof.HgrnHead
public import Idealize.ShloMosaic.Lib.Pointwise

@[expose] public section

set_option maxRecDepth 16384

noncomputable section

namespace Cert.KernelIdeal.Hgrn

open Idealize.ShloMosaic Idealize.ShloMosaic.TcCoe Cert.KernelIdeal Cert.KernelIdeal.Gen

/-- The sum of the `w` terms of `a` that end with term `r`. -/
def wsum (a : ℕ → EReal) (w r : ℕ) : EReal := ∑ s ∈ Finset.range w, if s ≤ r then a (r - s) else 0

theorem wsum_one (a : ℕ → EReal) (r : ℕ) : wsum a 1 r = a r := by simp [wsum]

theorem wsum_double (a : ℕ → EReal) (w r : ℕ) : wsum a (w + w) r = wsum a w r + (if w ≤ r then wsum a w (r - w) else 0) := by
  unfold wsum
  rw [Finset.sum_range_add]
  congr 1
  split_ifs with h
  · refine Finset.sum_congr rfl fun s _ => ?_
    by_cases h' : w + s ≤ r
    · rw [if_pos h', if_pos (by omega)]; congr 1; omega
    · rw [if_neg h', if_neg (by omega)]
  · exact Finset.sum_eq_zero fun s _ => if_neg (by omega)

theorem wsum_all (a : ℕ → EReal) (w r : ℕ) (hr : r < w) : wsum a w r = ∑ s ∈ Finset.range (r + 1), a s := by
  unfold wsum
  rw [← Finset.sum_range_reflect a (r + 1), ← Finset.sum_filter]
  refine Finset.sum_congr ?_ fun s _ => by congr 1
  ext s; simp only [Finset.mem_filter, Finset.mem_range]; omega

/-- Column `k` of a block of rows as a sequence. -/
def col (x : Vec Ideal S64x128 .f32) (k : Fin 128) (s : ℕ) : EReal := if h : s < 64 then x (ix2 ⟨s, h⟩ k) else 0

theorem col_eq (x : Vec Ideal S64x128 .f32) (k : Fin 128) (r : Fin 64) : x (ix2 r k) = col x k r.val := by
  unfold col; rw [dif_pos r.isLt]

theorem ge_bit (w : Fin 64) : ∀ r : Fin 64, IntOp.cmpi .sge (BitVec.ofNat 32 r.val) (BitVec.ofNat 32 w.val) = if w.val ≤ r.val then 1#1 else 0#1 := by
  revert w; decide +kernel

theorem dbl_apply (x y : Vec Ideal S64x128 .f32) (w : ℕ) (hw : w < 64)
    (h : ∀ (r : Fin 64) (k : Fin 128), y (ix2 r k) = wsum (col x k) w r.val)
    (hd : ∀ (r : Fin 64) (k : Fin 128), dbl (BitVec.ofNat 32 w) y (ix2 r k) = y (ix2 r k)
      + Scalar.select (IntOp.cmpi .sge (BitVec.ofNat 32 r.val) (BitVec.ofNat 32 w)) (y (ix2 ⟨(r.val + 64 - w) % 64, Nat.mod_lt _ (by omega)⟩ k)) 0)
    (r : Fin 64) (k : Fin 128) : dbl (BitVec.ofNat 32 w) y (ix2 r k) = wsum (col x k) (w + w) r.val := by
  rw [hd, wsum_double, h, h]
  congr 1
  rw [ge_bit ⟨w, hw⟩ r]
  by_cases hr : w ≤ r.val
  · rw [if_pos hr, if_pos hr]
    show wsum (col x k) w ((r.val + 64 - w) % 64) = _
    congr 1
    have := r.isLt
    omega
  · rw [if_neg hr, if_neg hr]; rfl

theorem dbl_read_1 (y : Vec Ideal S64x128 .f32) (r : Fin 64) (k : Fin 128) : dbl (BitVec.ofNat 32 1) y (ix2 r k) = y (ix2 r k)
    + Scalar.select (IntOp.cmpi .sge (BitVec.ofNat 32 r.val) (BitVec.ofNat 32 1)) (y (ix2 ⟨(r.val + 64 - 1) % 64, Nat.mod_lt _ (by omega)⟩ k)) 0 := by
  pointwise [dbl]

theorem dbl_read_2 (y : Vec Ideal S64x128 .f32) (r : Fin 64) (k : Fin 128) : dbl (BitVec.ofNat 32 2) y (ix2 r k) = y (ix2 r k)
    + Scalar.select (IntOp.cmpi .sge (BitVec.ofNat 32 r.val) (BitVec.ofNat 32 2)) (y (ix2 ⟨(r.val + 64 - 2) % 64, Nat.mod_lt _ (by omega)⟩ k)) 0 := by
  pointwise [dbl]

theorem dbl_read_4 (y : Vec Ideal S64x128 .f32) (r : Fin 64) (k : Fin 128) : dbl (BitVec.ofNat 32 4) y (ix2 r k) = y (ix2 r k)
    + Scalar.select (IntOp.cmpi .sge (BitVec.ofNat 32 r.val) (BitVec.ofNat 32 4)) (y (ix2 ⟨(r.val + 64 - 4) % 64, Nat.mod_lt _ (by omega)⟩ k)) 0 := by
  pointwise [dbl]

theorem dbl_read_8 (y : Vec Ideal S64x128 .f32) (r : Fin 64) (k : Fin 128) : dbl (BitVec.ofNat 32 8) y (ix2 r k) = y (ix2 r k)
    + Scalar.select (IntOp.cmpi .sge (BitVec.ofNat 32 r.val) (BitVec.ofNat 32 8)) (y (ix2 ⟨(r.val + 64 - 8) % 64, Nat.mod_lt _ (by omega)⟩ k)) 0 := by
  pointwise [dbl]

theorem dbl_read_16 (y : Vec Ideal S64x128 .f32) (r : Fin 64) (k : Fin 128) : dbl (BitVec.ofNat 32 16) y (ix2 r k) = y (ix2 r k)
    + Scalar.select (IntOp.cmpi .sge (BitVec.ofNat 32 r.val) (BitVec.ofNat 32 16)) (y (ix2 ⟨(r.val + 64 - 16) % 64, Nat.mod_lt _ (by omega)⟩ k)) 0 := by
  pointwise [dbl]

theorem dbl_read_32 (y : Vec Ideal S64x128 .f32) (r : Fin 64) (k : Fin 128) : dbl (BitVec.ofNat 32 32) y (ix2 r k) = y (ix2 r k)
    + Scalar.select (IntOp.cmpi .sge (BitVec.ofNat 32 r.val) (BitVec.ofNat 32 32)) (y (ix2 ⟨(r.val + 64 - 32) % 64, Nat.mod_lt _ (by omega)⟩ k)) 0 := by
  pointwise [dbl]

theorem cum_apply (x : Vec Ideal S64x128 .f32) (r : Fin 64) (k : Fin 128) : cum x (ix2 r k) = ∑ s ∈ Finset.range (r.val + 1), col x k s := by
  rw [← wsum_all _ 64 _ r.isLt]
  revert r k
  have h0 : ∀ (r : Fin 64) (k : Fin 128), x (ix2 r k) = wsum (col x k) 1 r.val := fun r k => by rw [wsum_one, ← col_eq]
  have h1 := dbl_apply x _ 1 (by omega) h0 (dbl_read_1 _)
  have h2 := dbl_apply x _ 2 (by omega) h1 (dbl_read_2 _)
  have h3 := dbl_apply x _ 4 (by omega) h2 (dbl_read_4 _)
  have h4 := dbl_apply x _ 8 (by omega) h3 (dbl_read_8 _)
  have h5 := dbl_apply x _ 16 (by omega) h4 (dbl_read_16 _)
  exact dbl_apply x _ 32 (by omega) h5 (dbl_read_32 _)

end Cert.KernelIdeal.Hgrn

end
-- ==== Proof.HgrnLoop.lean ====
/-
  The reference's loop: what the valuation holds before every trip, and the results as trip number 64 leaves them.
-/
module

public import proofs.«01_k».proof.Proof.Gen.ReferenceIdeal.Run
public import proofs.«01_k».proof.Proof.Gen.ReferenceIdeal.Step

@[expose] public section

set_option maxRecDepth 65536

noncomputable section

namespace Cert.ReferenceIdeal.Hgrn

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- Before trip `j` the carried buffers hold the state `s`, the counter `j` and the causal mask. -/
structure At (V : Valuation τ sig (Elt F)) (s : State F) (j : ℕ) : Prop where
  state : V (Proc.devRef .tc main_v54_6) = s.main_v54_6
  outs : V (Proc.devRef .tc main_v54_7) = s.main_v54_7
  q : V (Proc.devRef .tc main_v54_0) = s.main_v54_0
  k : V (Proc.devRef .tc main_v54_1) = s.main_v54_1
  v : V (Proc.devRef .tc main_v54_2) = s.main_v54_2
  l : V (Proc.devRef .tc main_v54_3) = s.main_v54_3
  count : V (Proc.devRef .tc main_v54_5) = constantI S_ 32 (BitVec.ofNat 32 j)
  mask : V (Proc.devRef .tc main_v54_4) = Cert.ReferenceIdeal.Step.K_main_v43 (F := F)

variable {V : Valuation τ sig (Elt F)} {s : State F} {j : ℕ}

theorem state_next (h : At V s j) : step_main_v54_6 V = (step j s).main_v54_6 := by
  obtain ⟨h6, h7, h0, h1, h2, h3, h5, h4⟩ := h
  unfold step_main_v54_6
  simp only [res_main_while0b_v79, res_main_while0b_v80, res_main_while0b_v82, res_main_while0b_v83, res_main_while0b_v85, h6, h7, h0, h1, h2, h3, h4, h5]
  rfl

theorem outs_next (h : At V s j) : step_main_v54_7 V = (step j s).main_v54_7 := by
  obtain ⟨h6, h7, h0, h1, h2, h3, h5, h4⟩ := h
  unfold step_main_v54_7
  simp only [res_main_while0b_v79, res_main_while0b_v80, res_main_while0b_v82, res_main_while0b_v83, res_main_while0b_v85, h6, h7, h0, h1, h2, h3, h4, h5]
  rfl

theorem count_next (h : At V s j) : step_main_v54_5 V = constantI S_ 32 (BitVec.ofNat 32 (j + 1)) := by
  unfold step_main_v54_5
  rw [h.count]
  funext i
  show BitVec.ofNat 32 j + 1#32 = BitVec.ofNat 32 (j + 1)
  rw [BitVec.ofNat_add]

theorem At.next (h : At V s j) : At (STEP V) (step j s) (j + 1) :=
  ⟨(STEP_main_v54_6 V).trans (state_next h), (STEP_main_v54_7 V).trans (outs_next h), (STEP_main_v54_0 V).trans h.q,
    (STEP_main_v54_1 V).trans h.k, (STEP_main_v54_2 V).trans h.v, (STEP_main_v54_3 V).trans h.l,
    (STEP_main_v54_5 V).trans (count_next h), (STEP_main_v54_4 V).trans h.mask⟩

variable (m : (ℓ : Loc nD τ sig) → Buf (Elt F) ℓ) (ρ : Dev nD → PrngReg)

/-- The states of the loop, one per trip. -/
def states (c : Dev nD) : ℕ → State F
  | 0 => init (m ((c.tc : Thread nD τ).loc main_arg0)) (m ((c.tc : Thread nD τ).loc main_arg1))
  | k + 1 => step k (states c k)

set_option maxHeartbeats 800000 in
theorem at_entry (c : Dev nD) : At (entryContents preI m c) (states m c 0) 0 := by
  unfold states
  constructor
  all_goals (simp only [entryContents, afterL_cons, afterL_nil]; after_reads_simp)
  all_goals rfl

theorem at_trip (c : Dev nD) (k : ℕ) : At (STEP^[k] (entryContents preI m c)) (states m c k) k := by
  induction k with
  | zero => exact at_entry m c
  | succ k ih => rw [Function.iterate_succ_apply']; exact ih.next

/-- Every run ends with the outputs and the state of the last trip, and with the arguments as they were. -/
theorem runs : θ_run (defs (F := F)) (onTc (τ := τ) (main (F := F))) ⟨m, fun _ => 0, ρ⟩ fun r => ∀ c : Dev nD,
      r.2.mem ((c.tc : Thread nD τ).loc main_v77) = Cert.ReferenceIdeal.Step.R_main_v77 (states m c 64) (m ((c.tc : Thread nD τ).loc main_arg0)) (m ((c.tc : Thread nD τ).loc main_arg2))
      ∧ r.2.mem ((c.tc : Thread nD τ).loc main_v54_6) = (states m c 64).main_v54_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨ho, hS, ha0, ha1, ha2⟩ := h c
  refine ⟨ho.trans ?_, hS.trans (at_trip m c 64).state, ha0, ha1, ha2⟩
  unfold out_main_v77
  rw [(at_trip m c 64).outs, iter_main_arg0 m c 64, iter_main_arg2 m c 64]
  rfl

end Cert.ReferenceIdeal.Hgrn

end
-- ==== Proof.HgrnWindow.lean ====
/-
  A running sum along the third axis, as the reference writes it: a window that ends at each row and reaches over all before it.
-/
module

public import Idealize.ShloMosaic.Lib.Pointwise

@[expose] public section

set_option maxRecDepth 16384

noncomputable section

namespace Cert.HgrnWindow

open Idealize.ShloMosaic

theorem foldl_sum {α : Type} (g : α → EReal) (l : List α) (a : EReal) : l.foldl (fun r n => r + g n) a = a + (l.map g).sum := by
  induction l generalizing a with
  | nil => simp
  | cons x l ih => rw [List.foldl_cons, ih, List.map_cons, List.sum_cons, add_assoc]

/-- The window's places are its rows. -/
def winEquiv (W : ℕ) : Fin W ≃ Shape.Idx (⟨4, ![1, 1, W, 1]⟩ : Shape) where
  toFun s := ix4 0 0 s 0
  invFun i := i 2
  left_inv _ := rfl
  right_inv i := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _

/-- Row `s` of a chunk's column as a sequence. -/
def row {A B W C : ℕ} (x : FVec Ideal (⟨4, ![A, B, W, C]⟩ : Shape) .f32) (b : Fin A) (h : Fin B) (k : Fin C) (s : ℕ) : EReal :=
  if hs : s < W then x (ix4 b h ⟨s, hs⟩ k) else 0

/-- A window that ends at each row and reaches over all before it. -/
theorem winAdd {A B W C : ℕ} (P : ℕ) (hP : P + 1 = W) (x : FVec Ideal (⟨4, ![A, B, W, C]⟩ : Shape) .f32) {u : Shape} (z : FVec Ideal u .f32)
    (hu : 0 < u.numel) (hz : z (Shape.Idx.first hu) = 0) (hw) (b : Fin A) (h : Fin B) (r : Fin W) (k : Fin C) :
    Host.reduceWindowAdd (F := Ideal) (s := (⟨4, ![A, B, W, C]⟩ : Shape)) (t := (⟨4, ![A, B, W, C]⟩ : Shape)) ![1, 1, W, 1] ![1, 1, 1, 1] ![0, 0, P, 0] ![0, 0, 0, 0] x z hw hu (ix4 b h r k)
      = ∑ s ∈ Finset.range (r.val + 1), row x b h k s := by
  unfold Host.reduceWindowAdd
  simp only [FloatOps.hostReduceWindowAdd, hz, Ideal.hostReduceWindowAdd]
  unfold Host.reduceWindow
  dsimp only
  rw [foldl_sum, zero_add, ← Fin.sum_univ_def]
  let G : Shape.Idx (⟨4, ![1, 1, W, 1]⟩ : Shape) → EReal := fun p => if hin : ∀ a : Fin 4, (![0, 0, P, 0] : Fin 4 → ℕ) a ≤ (ix4 b h r k (a.cast hw.1.symm)).val * (![1, 1, 1, 1] : Fin 4 → ℕ) a + (p a).val
      ∧ (ix4 b h r k (a.cast hw.1.symm)).val * (![1, 1, 1, 1] : Fin 4 → ℕ) a + (p a).val - (![0, 0, P, 0] : Fin 4 → ℕ) a < (⟨4, ![A, B, W, C]⟩ : Shape).size a
      then x (fun a => ⟨(ix4 b h r k (a.cast hw.1.symm)).val * (![1, 1, 1, 1] : Fin 4 → ℕ) a + (p a).val - (![0, 0, P, 0] : Fin 4 → ℕ) a, (hin a).2⟩) else 0
  refine (Finset.sum_congr (g := fun i => G ((Shape.rowMajor (⟨4, ![1, 1, W, 1]⟩ : Shape)).symm i)) rfl fun i _ => ?_).trans ?_
  · dsimp only [G]
    by_cases hp : ∀ a : Fin 4, (![0, 0, P, 0] : Fin 4 → ℕ) a ≤ (ix4 b h r k (a.cast hw.1.symm)).val * (![1, 1, 1, 1] : Fin 4 → ℕ) a + ((Shape.rowMajor (⟨4, ![1, 1, W, 1]⟩ : Shape)).symm i a).val
      ∧ (ix4 b h r k (a.cast hw.1.symm)).val * (![1, 1, 1, 1] : Fin 4 → ℕ) a + ((Shape.rowMajor (⟨4, ![1, 1, W, 1]⟩ : Shape)).symm i a).val - (![0, 0, P, 0] : Fin 4 → ℕ) a < (⟨4, ![A, B, W, C]⟩ : Shape).size a
    · refine (dif_pos hp).trans (Eq.symm ?_)
      exact dif_pos hp
    · refine (dif_neg hp).trans (Eq.symm ?_)
      exact dif_neg hp
  rw [Equiv.sum_comp (Shape.rowMajor (⟨4, ![1, 1, W, 1]⟩ : Shape)).symm G, ← Equiv.sum_comp (winEquiv W)]
  have hr := r.isLt
  have e : ∀ s : Fin W, G (winEquiv W s)
      = if P ≤ r.val + s.val then row x b h k (r.val + s.val - P) else 0 := by
    intro s
    have hs := s.isLt
    dsimp only [G]
    by_cases hP : P ≤ r.val + s.val
    · rw [if_pos hP, dif_pos]
      · unfold row
        rw [dif_pos (by omega)]
        congr 1; funext a
        match a with
        | ⟨0, _⟩ => exact Fin.ext (by show b.val * 1 + 0 - 0 = b.val; omega)
        | ⟨1, _⟩ => exact Fin.ext (by show h.val * 1 + 0 - 0 = h.val; omega)
        | ⟨2, _⟩ => exact Fin.ext (by show r.val * 1 + s.val - P = r.val + s.val - P; omega)
        | ⟨3, _⟩ => exact Fin.ext (by show k.val * 1 + 0 - 0 = k.val; omega)
      · intro a
        have hb := b.isLt
        have hh := h.isLt
        have hk := k.isLt
        match a with
        | ⟨0, _⟩ => exact ⟨Nat.zero_le _, by show b.val * 1 + 0 - 0 < A; omega⟩
        | ⟨1, _⟩ => exact ⟨Nat.zero_le _, by show h.val * 1 + 0 - 0 < B; omega⟩
        | ⟨2, _⟩ => exact ⟨by show P ≤ r.val * 1 + s.val; omega, by show r.val * 1 + s.val - P < W; omega⟩
        | ⟨3, _⟩ => exact ⟨Nat.zero_le _, by show k.val * 1 + 0 - 0 < C; omega⟩
    · rw [if_neg hP, dif_neg]
      intro hin
      have : P ≤ r.val * 1 + s.val := (hin 2).1
      omega
  refine (Finset.sum_congr rfl fun s _ => e s).trans ?_
  rw [Fin.sum_univ_eq_sum_range (fun s => if P ≤ r.val + s then row x b h k (r.val + s - P) else 0), ← Finset.sum_filter]
  refine Finset.sum_nbij' (fun s => r.val + s - P) (fun s => s + P - r.val) ?_ ?_ ?_ ?_ ?_
  · intro s hs; simp only [Finset.mem_filter, Finset.mem_range] at *; omega
  · intro s hs; simp only [Finset.mem_filter, Finset.mem_range] at *; omega
  · intro s hs; simp only [Finset.mem_filter, Finset.mem_range] at *; omega
  · intro s hs; simp only [Finset.mem_filter, Finset.mem_range] at *; omega
  · intro s hs; rfl

end Cert.HgrnWindow

end
-- ==== Proof.HgrnTrip.lean ====
/-
  One trip of the reference's loop at an index: the chunk's entries, its prefix sum, its output before the norm and the state it hands on.
-/
module

public import proofs.«01_k».proof.Proof.HgrnLoop
public import proofs.«01_k».proof.Proof.HgrnWindow
public import Idealize.ShloMosaic.Lib.Pointwise
public import Idealize.ShloMosaic.Lib.Tactic

@[expose] public section

set_option maxRecDepth 16384

noncomputable section

namespace Cert.ReferenceIdeal.Hgrn

open Idealize.ShloMosaic Idealize.ShloMosaic.TcCoe Cert.ReferenceIdeal Cert.ReferenceIdeal.Gen Cert.ReferenceIdeal.Step
open Cert.HgrnWindow (row winAdd)

/-- Where trip `n` reads and writes the stacked arrays. -/
theorem starts (n : ℕ) (hn : n < 64) (h) : ∀ a : Fin 5, Host.clampedStart S64x2x8x64x128 S1x2x8x64x128 h
    (fun k => BitVec.toInt (((![constantI S_ 32 (BitVec.ofNat 32 n), constantI S_ 32 0#32, constantI S_ 32 0#32,
      constantI S_ 32 0#32, constantI S_ 32 0#32] : Fin 5 → S_.Idx → BitVec 32)) k (Shape.Idx.first h_S_))) a = (![n, 0, 0, 0, 0] : Fin 5 → ℕ) a := by
  obtain ⟨n, rfl⟩ : ∃ k : Fin 64, n = k.val := ⟨⟨n, hn⟩, rfl⟩
  clear hn
  revert h n
  decide +kernel

section
variable (s : State Ideal) (n : ℕ) (hn : n < 64) (b : Fin 2) (h : Fin 8) (r : Fin 64) (k : Fin 128)

theorem q_at : b5 n s (ix4 b h r k) = s.main_v54_0 (ix5 ⟨n, hn⟩ b h r k) := by
  pointwise [b5, b4, b3, b2, b1, b0]
  simp only [starts n hn]
  congr 1; funext a
  fin_cases a <;> first | rfl | exact Fin.ext (Nat.zero_add _)

theorem k_at : b11 n s (ix4 b h r k) = s.main_v54_1 (ix5 ⟨n, hn⟩ b h r k) := by
  pointwise [b11, b10, b9, b8, b7, b6]
  simp only [starts n hn]
  congr 1; funext a
  fin_cases a <;> first | rfl | exact Fin.ext (Nat.zero_add _)

theorem v_at : b17 n s (ix4 b h r k) = s.main_v54_2 (ix5 ⟨n, hn⟩ b h r k) := by
  pointwise [b17, b16, b15, b14, b13, b12]
  simp only [starts n hn]
  congr 1; funext a
  fin_cases a <;> first | rfl | exact Fin.ext (Nat.zero_add _)

theorem l_at : b23 n s (ix4 b h r k) = s.main_v54_3 (ix5 ⟨n, hn⟩ b h r k) := by
  pointwise [b23, b22, b21, b20, b19, b18]
  simp only [starts n hn]
  congr 1; funext a
  fin_cases a <;> first | rfl | exact Fin.ext (Nat.zero_add _)

end

section
variable (s : State Ideal) (n : ℕ) (hn : n < 64) (b : Fin 2) (h : Fin 8) (r : Fin 64) (k : Fin 128)

/-- The logarithm of the decay up to each position. -/
theorem dec_at : b26 n s (ix4 b h r k) = ∑ t ∈ Finset.range (r.val + 1), row (b23 n s) b h k t := by
  unfold b26
  exact winAdd 63 rfl _ _ h_S_ (by pointwise [b25, b24]) _ b h r k

include hn in
theorem stack_at (a : Fin 64) : b58 n s (ix5 a b h r k) = if a.val = n then b41 n s (ix4 b h r k) else s.main_v54_7 (ix5 a b h r k) := by
  pointwise [b58, b54, b55, b56, b57]
  simp only [starts n hn]
  pointwise [b53]
  by_cases ha : a.val = n
  · rw [if_pos ha]; exact dif_pos (by show n ≤ a.val ∧ a.val < n + 1; omega)
  · rw [if_neg ha]; exact dif_neg (by show ¬(n ≤ a.val ∧ a.val < n + 1); omega)

theorem mix_at : b41 n s (ix4 b h r k) = ∑ x : Fin 64, Scalar.select
        (Scalar.select (IntOp.cmpi .sge (IntOp.addi (BitVec.ofNat 32 r.val) 0#32) (BitVec.ofNat 32 x.val)) 1#1 0#1)
        ((∑ y : Fin 128, b5 n s (ix4 b h r y) * Ideal.exp (b26 n s (ix4 b h r y)) * (b11 n s (ix4 b h x y) * Ideal.exp (-b26 n s (ix4 b h x y))))
          * b17 n s (ix4 b h x k)) 0
      + ∑ y : Fin 128, b5 n s (ix4 b h r y) * Ideal.exp (b26 n s (ix4 b h r y)) * s.main_v54_6 (ix4 b h y k) := by
  pointwise [b41, b40, b39, b38, b37, b36, b35, b34, b33, b32, b31, b30, b29, b28, K_main_v43,
    K_main_call1_v4, K_main_call1_v2, K_main_call1_v0, K_main_call1_v3, K_main_call1_v1, K_main_v42, K_main_c, K_main_call1_c, K_main_call1_v5, K_main_call1_c_0]

theorem next_at (i j : Fin 128) : b52 n s (ix4 b h i j) = Ideal.exp (b26 n s (ix4 b h 63 i)) * s.main_v54_6 (ix4 b h i j)
      + ∑ x : Fin 64, b11 n s (ix4 b h x i) * Ideal.exp (b26 n s (ix4 b h 63 i) - b26 n s (ix4 b h x i)) * b17 n s (ix4 b h x j) := by
  pointwise [b52, b51, b50, b49, b48, b47, b46, b45, b44, b43, b42, b27]

end
end Cert.ReferenceIdeal.Hgrn

end
-- ==== Proof.HgrnJoin.lean ====
/-
  A chunk of the kernel and a trip of the reference: the same output before the norm and the same state, head by head.
-/
module

public import proofs.«01_k».proof.Proof.HgrnFold
public import proofs.«01_k».proof.Proof.HgrnSum
public import proofs.«01_k».proof.Proof.HgrnTrip

@[expose] public section

set_option maxRecDepth 65536

noncomputable section

namespace Cert.Hgrn

open Idealize.ShloMosaic Idealize.ShloMosaic.TcCoe Idealize.SL.Sem
open Cert.KernelIdeal.Hgrn
open Cert.ReferenceIdeal.Step (State step init b5 b11 b17 b23 b26 b41 b52 b58)
open Cert.HgrnWindow (row)
open Cert.ReferenceIdeal.Hgrn (states dec_at mix_at next_at)

theorem causal_bit : ∀ r x : Fin 64, IntOp.cmpi .sle (BitVec.ofNat 32 x.val) (BitVec.ofNat 32 r.val)
    = Scalar.select (IntOp.cmpi .sge (IntOp.addi (BitVec.ofNat 32 r.val) 0#32) (BitVec.ofNat 32 x.val)) 1#1 0#1 := by
  decide +kernel

section
variable (lb : Vec Ideal Cert.KernelIdeal.S1x128 .f32) (f q v : Vec Ideal Cert.KernelIdeal.S64x128 .f32) (st : Vec Ideal Cert.KernelIdeal.S128x128 .f32)
variable (s : State Ideal) (n : ℕ) (b : Fin 2) (h : Fin 8)
variable (hq : ∀ (r : Fin 64) (k : Fin 128), q (ix2 r k) = b5 n s (ix4 b h r k))
variable (hk : ∀ (r : Fin 64) (k : Fin 128), (1 : EReal) - gate lb f (ix2 r k) = b11 n s (ix4 b h r k))
variable (hv : ∀ (r : Fin 64) (k : Fin 128), v (ix2 r k) = b17 n s (ix4 b h r k))
variable (hl : ∀ (r : Fin 64) (k : Fin 128), log (gate lb f) (ix2 r k) = b23 n s (ix4 b h r k))
variable (hst : ∀ (i j : Fin 128), st (ix2 j i) = s.main_v54_6 (ix4 b h i j))

include hl in
theorem dec_eq (r : Fin 64) (k : Fin 128) : dec lb f (ix2 r k) = b26 n s (ix4 b h r k) := by
  rw [dec_at]
  unfold dec
  rw [cum_apply]
  refine Finset.sum_congr rfl fun t ht => ?_
  have : t < 64 := by have := r.isLt; have := Finset.mem_range.mp ht; omega
  unfold col row
  rw [dif_pos this, dif_pos this]
  exact hl _ _

theorem mix_read (r : Fin 64) (j : Fin 128) : mix lb f q v st (ix2 r j) = ∑ x : Fin 64, Scalar.select
        (IntOp.cmpi .sle (BitVec.ofNat 32 x.val) (BitVec.ofNat 32 r.val))
        ((∑ y : Fin 128, q (ix2 r y) * Ideal.exp (dec lb f (ix2 r y)) * ((1 - gate lb f (ix2 x y)) * Ideal.exp (0 - dec lb f (ix2 x y))))
          * v (ix2 x j)) 0
      + ∑ y : Fin 128, q (ix2 r y) * Ideal.exp (dec lb f (ix2 r y)) * st (ix2 j y) := by
  pointwise [mix, att, qe, ke, mask, Cert.KernelIdeal.Gen.k0_pay11, key]

theorem nxt_read (j i : Fin 128) : nxt lb f v st (ix2 j i) = st (ix2 j i) * Ideal.exp (dec lb f (ix2 63 i))
      + ∑ x : Fin 64, v (ix2 x j) * ((1 - gate lb f (ix2 x i)) * Ideal.exp (dec lb f (ix2 63 i) - dec lb f (ix2 x i))) := by
  pointwise [nxt, key, last]

include hq hk hv hl hst in
theorem mix_eq (r : Fin 64) (j : Fin 128) : mix lb f q v st (ix2 r j) = b41 n s (ix4 b h r j) := by
  rw [mix_read, mix_at]
  simp only [dec_eq lb f s n b h hl, hq, hk, hv, hst, causal_bit, zero_sub]

include hk hv hl hst in
theorem nxt_eq (i j : Fin 128) : nxt lb f v st (ix2 j i) = b52 n s (ix4 b h i j) := by
  rw [nxt_read, next_at]
  simp only [dec_eq lb f s n b h hl, hk, hv, hst]
  rw [mul_comm]
  refine congrArg₂ _ rfl (Finset.sum_congr rfl fun x _ => ?_)
  rw [mul_comm]
end

end Cert.Hgrn
end
-- ==== Proof.HgrnValue.lean ====
/-
  The kernel's results are the reference's: by induction over the chunks of a sequence.
-/
module

public import proofs.«01_k».proof.Proof.HgrnJoin

@[expose] public section

set_option maxRecDepth 65536

noncomputable section

namespace Cert.Hgrn

open Idealize.ShloMosaic Idealize.ShloMosaic.TcCoe Idealize.SL.Sem
open Cert.KernelIdeal.Hgrn
open Cert.ReferenceIdeal.Step
open Cert.ReferenceIdeal.Hgrn (states q_at k_at v_at l_at stack_at dec_at mix_at next_at)

section
variable (x0 : (⟨Cert.ReferenceIdeal.S9216x6144, .f32⟩ : BufTy).Contents (Elt Ideal)) (x1 : (⟨Cert.ReferenceIdeal.S2x1024, .f32⟩ : BufTy).Contents (Elt Ideal))

/-- The states before the trips. -/
def seq : ℕ → State Ideal
  | 0 => init x0 x1
  | n + 1 => step n (seq n)

theorem seq_const (n : ℕ) : (seq x0 x1 n).main_v54_0 = A_main_v46 x0 x1 ∧ (seq x0 x1 n).main_v54_1 = A_main_v48 x0 x1
    ∧ (seq x0 x1 n).main_v54_2 = A_main_v50 x0 x1 ∧ (seq x0 x1 n).main_v54_3 = A_main_v52 x0 x1 := by
  induction n with
  | zero => exact ⟨rfl, rfl, rfl, rfl⟩
  | succ n ih => exact ih

variable (n : Fin 64) (b : Fin 2) (h : Fin 8) (r : Fin 64) (k : Fin 128)

theorem bound_row : b.val * 4096 + n.val * 64 + r.val < 9216 := by omega

theorem q_read : A_main_v46 x0 x1 (ix5 n b h r k) = x0 (ix2 ⟨b.val * 4096 + n.val * 64 + r.val, bound_row n b r⟩ ⟨h.val * 128 + k.val, by omega⟩) := by
  pointwise [A_main_v46, A_main_v45, A_main_v31, A_main_v30, A_main_v29]

theorem v_read : A_main_v50 x0 x1 (ix5 n b h r k) = x0 (ix2 ⟨b.val * 4096 + n.val * 64 + r.val, bound_row n b r⟩ ⟨2048 + (h.val * 128 + k.val), by omega⟩) := by
  pointwise [A_main_v50, A_main_v49, A_main_v38, A_main_v37, A_main_v36]

/-- The gate of a position, as the reference writes it. -/
def gateAt : EReal := A_main_v13 x0 x1 (ix1 ⟨h.val * 128 + k.val, by omega⟩) + (1 - A_main_v13 x0 x1 (ix1 ⟨h.val * 128 + k.val, by omega⟩))
  * Ideal.div 1 (1 + Ideal.exp (-x0 (ix2 ⟨b.val * 4096 + n.val * 64 + r.val, bound_row n b r⟩ ⟨1024 + (h.val * 128 + k.val), by omega⟩)))

theorem k_read : A_main_v48 x0 x1 (ix5 n b h r k) = 1 - gateAt x0 x1 n b h r k := by
  unfold gateAt
  pointwise [A_main_v48, A_main_v47, A_main_v35, A_main_v34, A_main_v33, K_main_v32, K_main_cst_5, A_main_v28, A_main_v27, A_main_v26, A_main_v25,
    A_main_v24, A_main_v23, A_main_v22, A_main_v20, A_main_v18, A_main_v17, A_main_v16, A_main_v15, K_main_v14, K_main_v19, K_main_v21, K_main_cst_2,
    K_main_cst_3, K_main_cst_4]

theorem l_read : A_main_v52 x0 x1 (ix5 n b h r k) = Ideal.log (gateAt x0 x1 n b h r k) := by
  unfold gateAt
  pointwise [A_main_v52, A_main_v51, A_main_v41, A_main_v40, A_main_v39, A_main_v28, A_main_v27, A_main_v26, A_main_v25,
    A_main_v24, A_main_v23, A_main_v22, A_main_v20, A_main_v18, A_main_v17, A_main_v16, A_main_v15, K_main_v14, K_main_v19, K_main_v21, K_main_cst_2,
    K_main_cst_3, K_main_cst_4]

/-- The stacked outputs after `N` trips. -/
theorem seq_outs (N : ℕ) (hN : N ≤ 64) (a : Fin 64) (ha : a.val < N) :
    (seq x0 x1 N).main_v54_7 (ix5 a b h r k) = b41 a.val (seq x0 x1 a.val) (ix4 b h r k) := by
  induction N with
  | zero => omega
  | succ N ih =>
    show b58 N (seq x0 x1 N) (ix5 a b h r k) = _
    rw [stack_at (seq x0 x1 N) N (by omega)]
    by_cases e : a.val = N
    · rw [if_pos e, e]
    · rw [if_neg e, ih (by omega) (by omega)]

end

variable (m : (ℓ : Loc Cert.KernelIdeal.nD Cert.KernelIdeal.τ Cert.KernelIdeal.sig) → Buf (Elt Ideal) ℓ) (c : Dev Cert.KernelIdeal.nD)

/-- The kernel's arguments. -/
abbrev a0 : (⟨Cert.ReferenceIdeal.S9216x6144, .f32⟩ : BufTy).Contents (Elt Ideal) := m ((c : Thread Cert.KernelIdeal.nD Cert.KernelIdeal.τ).loc Cert.KernelIdeal.main_arg0)
abbrev a1 : (⟨Cert.ReferenceIdeal.S2x1024, .f32⟩ : BufTy).Contents (Elt Ideal) := m ((c : Thread Cert.KernelIdeal.nD Cert.KernelIdeal.τ).loc Cert.KernelIdeal.main_arg1)
abbrev a2 : (⟨Cert.ReferenceIdeal.S1x128, .f32⟩ : BufTy).Contents (Elt Ideal) := m ((c : Thread Cert.KernelIdeal.nD Cert.KernelIdeal.τ).loc Cert.KernelIdeal.main_arg2)

open Cert.KernelIdeal (cfg0)
open Cert.KernelIdeal.Gen (iblk outsAt0)

section
variable (t : Fin cfg0.N) (n : Fin 64) (b : Fin 2) (ht : t.val = 64 * b.val + n.val) (h : Fin 8)

include ht in
theorem head_q (r : Fin 64) (k : Fin 128) : hd h (iblk m c 0 t) (ix2 r k) = b5 n.val (seq (a0 m c) (a1 m c) n.val) (ix4 b h r k) := by
  rw [q_at _ n.val n.isLt, (seq_const _ _ _).1, q_read]
  refine (blk0 m c t r ⟨128 * h.val + k.val, by omega⟩).trans (congrArg (a0 m c) ?_)
  congr 1 <;> exact Fin.ext (by dsimp only; omega)

include ht in
theorem head_v (r : Fin 64) (k : Fin 128) : hd h (iblk m c 2 t) (ix2 r k) = b17 n.val (seq (a0 m c) (a1 m c) n.val) (ix4 b h r k) := by
  rw [v_at _ n.val n.isLt, (seq_const _ _ _).2.2.1, v_read]
  refine (blk2 m c t r ⟨128 * h.val + k.val, by omega⟩).trans (congrArg (a0 m c) ?_)
  congr 1 <;> exact Fin.ext (by dsimp only; omega)

theorem gate_read (lb : Vec Ideal Cert.KernelIdeal.S1x128 .f32) (f : Vec Ideal Cert.KernelIdeal.S64x128 .f32) (r : Fin 64) (k : Fin 128) :
    gate lb f (ix2 r k) = lb (ix2 0 k) + (1 - lb (ix2 0 k)) * Ideal.logistic (f (ix2 r k)) := by
  pointwise [gate]

theorem flat_read (x : FVec Ideal Cert.KernelIdeal.S1024 .f32) (hc) (k : Fin 1024) : shapeCast Cert.KernelIdeal.S1x1024 x hc (ix2 0 k) = x (ix1 k) := by
  pointwise

include ht in
theorem head_gate (r : Fin 64) (k : Fin 128) : gate (hd1 h (iblk m c 4 t)) (hd h (iblk m c 1 t)) (ix2 r k) = gateAt (a0 m c) (a1 m c) n b h r k := by
  rw [gate_read]
  have e : hd1 h (iblk m c 4 t) (ix2 0 k) = A_main_v13 (a0 m c) (a1 m c) (ix1 ⟨h.val * 128 + k.val, by omega⟩) := by
    rw [blk4]
    refine (flat_read _ _ ⟨128 * h.val + k.val, by omega⟩).trans (congrArg (A_main_v13 (a0 m c) (a1 m c)) ?_)
    congr 1; exact Fin.ext (by dsimp only; omega)
  have e' : hd h (iblk m c 1 t) (ix2 r k) = a0 m c (ix2 ⟨b.val * 4096 + n.val * 64 + r.val, bound_row n b r⟩ ⟨1024 + (h.val * 128 + k.val), by omega⟩) := by
    refine (blk1 m c t r ⟨128 * h.val + k.val, by omega⟩).trans (congrArg (a0 m c) ?_)
    congr 1 <;> exact Fin.ext (by dsimp only; omega)
  rw [e, e']
  rfl

include ht in
theorem head_k (r : Fin 64) (k : Fin 128) : (1 : EReal) - gate (hd1 h (iblk m c 4 t)) (hd h (iblk m c 1 t)) (ix2 r k)
    = b11 n.val (seq (a0 m c) (a1 m c) n.val) (ix4 b h r k) := by
  rw [k_at _ n.val n.isLt, (seq_const _ _ _).2.1, k_read, head_gate m c t n b ht]

include ht in
theorem head_l (r : Fin 64) (k : Fin 128) : log (gate (hd1 h (iblk m c 4 t)) (hd h (iblk m c 1 t))) (ix2 r k)
    = b23 n.val (seq (a0 m c) (a1 m c) n.val) (ix4 b h r k) := by
  rw [l_at _ n.val n.isLt, (seq_const _ _ _).2.2.2, l_read, ← head_gate m c t n b ht]
  rfl

end

/-- Before chunk `n` of sequence `b` the kernel's state is the reference's, transposed. -/
theorem state_eq (b : Fin 2) (n : ℕ) : ∀ (hn : n < 64) (t : Fin cfg0.N) (ht : t.val = 64 * b.val + n) (h : Fin 8) (i j : Fin 128),
    hs h (before m c t) (ix2 j i) = (seq (a0 m c) (a1 m c) n).main_v54_6 (ix4 b h i j) := by
  induction n with
  | zero =>
    intro hn t ht h i j
    unfold before
    rw [if_pos (by omega)]
    show Cert.KernelIdeal.Gen.k0_pay10 (ix4 0 h j i) = K_main_v44 (ix4 b h i j)
    pointwise [Cert.KernelIdeal.Gen.k0_pay10, K_main_v44, K_main_cst_6]
  | succ n ih =>
    intro hn t ht h i j
    unfold before
    rw [if_neg (by omega)]
    have hlt : t.val - 1 < cfg0.N := Nat.lt_of_le_of_lt (Nat.sub_le _ _) t.isLt
    have ht' : (⟨t.val - 1, hlt⟩ : Fin cfg0.N).val = 64 * b.val + (⟨n, by omega⟩ : Fin 64).val := by show t.val - 1 = 64 * b.val + n; omega
    rw [left_state m c ⟨t.val - 1, hlt⟩]
    show nxt (hd1 h (iblk m c 4 ⟨t.val - 1, hlt⟩)) (hd h (iblk m c 1 ⟨t.val - 1, hlt⟩)) (hd h (iblk m c 2 ⟨t.val - 1, hlt⟩))
      (hs h (before m c ⟨t.val - 1, hlt⟩)) (ix2 j i) = b52 n (seq (a0 m c) (a1 m c) n) (ix4 b h i j)
    exact nxt_eq _ _ _ _ _ n b h (head_k m c _ ⟨n, by omega⟩ b ht' h) (head_v m c _ ⟨n, by omega⟩ b ht' h) (head_l m c _ ⟨n, by omega⟩ b ht' h)
      (ih (by omega) _ ht' h) i j

theorem mixed_eq (b : Fin 2) (n : Fin 64) (t : Fin cfg0.N) (ht : t.val = 64 * b.val + n.val) (h : Fin 8) (r : Fin 64) (j : Fin 128) :
    mix (hd1 h (iblk m c 4 t)) (hd h (iblk m c 1 t)) (hd h (iblk m c 0 t)) (hd h (iblk m c 2 t)) (hs h (before m c t)) (ix2 r j)
      = b41 n.val (seq (a0 m c) (a1 m c) n.val) (ix4 b h r j) :=
  mix_eq _ _ _ _ _ _ n.val b h (head_q m c t n b ht h) (head_k m c t n b ht h) (head_v m c t n b ht h) (head_l m c t n b ht h)
    (state_eq m c b n.val n.isLt t ht h) r j

theorem point_final (b : Fin 2) : 64 * b.val + 63 < cfg0.N := lt_of_lt_of_eq (by omega) (show 128 = cfg0.N from Cert.KernelIdeal.Gen.N_0.symm)

theorem final_eq (b : Fin 2) (h : Fin 8) (i j : Fin 128) :
    (outsAt0 m c (64 * b.val + 63) (point_final b)).2.1 (ix4 0 h i j) = (seq (a0 m c) (a1 m c) 64).main_v54_6 (ix4 b h i j) := by
  have e := left_final m c ⟨64 * b.val + 63, point_final b⟩ (by show (64 * b.val + 63) % 64 = 63; omega)
  rw [e]
  show nxt (hd1 h (iblk m c 4 ⟨64 * b.val + 63, point_final b⟩)) (hd h (iblk m c 1 ⟨64 * b.val + 63, point_final b⟩))
      (hd h (iblk m c 2 ⟨64 * b.val + 63, point_final b⟩)) (hs h (before m c ⟨64 * b.val + 63, point_final b⟩)) (ix2 j i)
    = b52 63 (seq (a0 m c) (a1 m c) 63) (ix4 b h i j)
  exact nxt_eq _ _ _ _ _ 63 b h (head_k m c _ 63 b rfl h) (head_v m c _ 63 b rfl h) (head_l m c _ 63 b rfl h)
    (state_eq m c b 63 (by omega) _ rfl h) i j

theorem outs_at (p p' : ℕ) (e : p = p') (hp : p < cfg0.N) (hp' : p' < cfg0.N) : outsAt0 m c p hp = outsAt0 m c p' hp' := by subst e; rfl

theorem G7_eq : Cert.KernelIdeal.Value.G7 m c = (seq (a0 m c) (a1 m c) 64).main_v54_6 := by
  funext i
  idx_vars i
  have e0 : Cert.KernelIdeal.Value.pt7Of (ix4 i0 i1 i2 i3) = 64 * i0.val + 63 := by
    show 64 * (1 * (i0.val / 1 - 0) + 1 * (i1.val / 8 - 0) + 1 * (i2.val / 128 - 0) + 1 * (i3.val / 128 - 0)) + 63 = _
    omega
  have el : Cert.KernelIdeal.Value.loc7Of (ix4 i0 i1 i2 i3) = ix4 0 i1 i2 i3 := by
    funext a
    match a with
    | ⟨0, _⟩ => exact Fin.ext (by show i0.val % 1 = 0; omega)
    | ⟨1, _⟩ => exact Fin.ext (by show i1.val % 8 = i1.val; omega)
    | ⟨2, _⟩ => exact Fin.ext (by show i2.val % 128 = i2.val; omega)
    | ⟨3, _⟩ => exact Fin.ext (by show i3.val % 128 = i3.val; omega)
  unfold Cert.KernelIdeal.Value.G7
  refine (dif_pos (by rw [e0]; exact point_final i0)).trans ?_
  rw [el, ← Cert.KernelIdeal.Value.outsAt0_sweep m c _ (by rw [e0]; exact point_final i0)]
  refine Eq.trans ?_ (final_eq m c i0 i1 i2 i3)
  rw [outs_at m c _ _ e0 _ (point_final i0)]

theorem outp_read (nw : Vec Ideal Cert.KernelIdeal.S1x128 .f32) (o g : Vec Ideal Cert.KernelIdeal.S64x128 .f32) (r : Fin 64) (j : Fin 128) :
    outp nw o g (ix2 r j) = o (ix2 r j) * Ideal.rsqrt (Ideal.div (∑ x : Fin 128, o (ix2 r x) * o (ix2 r x)) (Ideal.ofBits FTy.f32 1124073472#32)
      + Ideal.ofBits FTy.f32 897988541#32) * nw (ix2 0 j) * (g (ix2 r j) * Ideal.logistic (g (ix2 r j))) := by
  pointwise [outp]

theorem ref_read (s : State Ideal) (x0 : (⟨Cert.ReferenceIdeal.S9216x6144, .f32⟩ : BufTy).Contents (Elt Ideal)) (x2 : (⟨Cert.ReferenceIdeal.S1x128, .f32⟩ : BufTy).Contents (Elt Ideal))
    (p : Fin 8192) (w : Fin 1024) (o : Fin 128 → EReal) (n : Fin 64) (b : Fin 2) (h : Fin 8) (r : Fin 64) (j : Fin 128)
    (hn : p.val % 4096 / 64 = n.val) (hb : p.val / 4096 = b.val) (hh : w.val / 128 = h.val) (hr : p.val % 4096 % 64 = r.val) (hj : w.val % 128 = j.val)
    (ho : ∀ x : Fin 128, s.main_v54_7 (ix5 n b h r x) = o x) :
    R_main_v77 s x0 x2 (ix2 p w) = o j * Ideal.rsqrt (Ideal.div (∑ x : Fin 128, o x * o x) (Ideal.ofBits FTy.f32 1124073472#32)
      + Ideal.ofBits FTy.f32 897988541#32) * x2 (ix2 0 j) * (x0 (ix2 ⟨p.val, by omega⟩ ⟨3072 + w.val, by omega⟩)
        * Ideal.div 1 (1 + Ideal.exp (-x0 (ix2 ⟨p.val, by omega⟩ ⟨3072 + w.val, by omega⟩)))) := by
  simp only [← ho]
  obtain ⟨n, hn'⟩ := n
  obtain ⟨b, hb'⟩ := b
  obtain ⟨h, hh'⟩ := h
  obtain ⟨r, hr'⟩ := r
  obtain ⟨j, hj'⟩ := j
  dsimp only at hn hb hh hr hj
  subst hn hb hh hr hj
  pointwise [R_main_v77]

theorem G6_eq : Cert.KernelIdeal.Value.G6 m c = R_main_v77 (seq (a0 m c) (a1 m c) 64) (a0 m c) (a2 m c) := by
  funext i
  idx_vars i
  have hN : 128 = cfg0.N := Cert.KernelIdeal.Gen.N_0.symm
  have ht : i0.val / 64 < cfg0.N := lt_of_lt_of_eq (by omega) hN
  have e0 : Cert.KernelIdeal.Value.pt6Of (ix2 i0 i1) = i0.val / 64 := by
    show 1 * (i0.val / 64 - 0) + 1 * (i1.val / 1024 - 0) = _
    omega
  have el : Cert.KernelIdeal.Value.loc6Of (ix2 i0 i1) = ix2 ⟨i0.val % 64, by omega⟩ i1 := by
    funext a
    match a with
    | ⟨0, _⟩ => rfl
    | ⟨1, _⟩ => exact Fin.ext (by show i1.val % 1024 = i1.val; omega)
  unfold Cert.KernelIdeal.Value.G6
  refine (dif_pos (by rw [e0]; exact ht)).trans ?_
  rw [el, ← Cert.KernelIdeal.Value.outsAt0_sweep m c _ (by rw [e0]; exact ht), outs_at m c _ _ e0 _ ht, left_out m c ⟨i0.val / 64, ht⟩, blk5]
  have hb : i0.val / 4096 < 2 := by omega
  have hn : i0.val % 4096 / 64 < 64 := by omega
  have hh : i1.val / 128 < 8 := by omega
  have hj : i1.val % 128 < 128 := by omega
  have hr : i0.val % 64 < 64 := by omega
  have htt : (⟨i0.val / 64, ht⟩ : Fin cfg0.N).val = 64 * (⟨i0.val / 4096, hb⟩ : Fin 2).val + (⟨i0.val % 4096 / 64, hn⟩ : Fin 64).val := by
    show i0.val / 64 = 64 * (i0.val / 4096) + i0.val % 4096 / 64; omega
  refine Eq.trans ?_ (ref_read _ _ _ i0 i1 (fun x => b41 (i0.val % 4096 / 64) (seq (a0 m c) (a1 m c) (i0.val % 4096 / 64)) (ix4 ⟨i0.val / 4096, hb⟩ ⟨i1.val / 128, hh⟩ ⟨i0.val % 64, hr⟩ x))
    ⟨i0.val % 4096 / 64, hn⟩ ⟨i0.val / 4096, hb⟩ ⟨i1.val / 128, hh⟩ ⟨i0.val % 64, hr⟩ ⟨i1.val % 128, hj⟩ rfl rfl rfl (by show _ = i0.val % 64; omega) rfl
    (fun x => seq_outs _ _ _ _ _ _ 64 le_rfl _ hn)).symm
  show outp (a2 m c) (mix (hd1 ⟨i1.val / 128, hh⟩ (iblk m c 4 ⟨i0.val / 64, ht⟩)) (hd ⟨i1.val / 128, hh⟩ (iblk m c 1 ⟨i0.val / 64, ht⟩))
    (hd ⟨i1.val / 128, hh⟩ (iblk m c 0 ⟨i0.val / 64, ht⟩)) (hd ⟨i1.val / 128, hh⟩ (iblk m c 2 ⟨i0.val / 64, ht⟩))
    (hs ⟨i1.val / 128, hh⟩ (before m c ⟨i0.val / 64, ht⟩))) (hd ⟨i1.val / 128, hh⟩ (iblk m c 3 ⟨i0.val / 64, ht⟩)) (ix2 ⟨i0.val % 64, hr⟩ ⟨i1.val % 128, hj⟩) = _
  rw [outp_read]
  simp only [mixed_eq m c _ _ _ htt]
  have eg : hd ⟨i1.val / 128, hh⟩ (iblk m c 3 ⟨i0.val / 64, ht⟩) (ix2 ⟨i0.val % 64, hr⟩ ⟨i1.val % 128, hj⟩)
      = a0 m c (ix2 ⟨i0.val, by omega⟩ ⟨3072 + i1.val, by omega⟩) := by
    refine (blk3 m c _ ⟨i0.val % 64, hr⟩ ⟨128 * (i1.val / 128) + i1.val % 128, by omega⟩).trans (congrArg (a0 m c) ?_)
    congr 1 <;> exact Fin.ext (by dsimp only; omega)
  rw [eg]
  rfl

end Cert.Hgrn
end
-- ==== Proof.FfUp.lean ====
/-
  The first product of the feed-forward part: what a point of the grid leaves, what the array ends with, what the reference
  computes, and that they are equal.
-/
module

public import proofs.«01_k».proof.Proof.Gen.Kernel2Ideal.Value
public import proofs.«01_k».proof.Proof.Gen.Reference2Ideal.Run
public import proofs.«01_k».proof.Defs
public import Idealize.ShloMosaic.Lib.Pointwise
public import Idealize.ShloMosaic.Lib.Pipeline.Value
public import Idealize.ShloMosaic.Lib.StableHlo.RunRead

@[expose] public section

set_option maxRecDepth 65536

noncomputable section

namespace Cert.Kernel2Ideal.Up

open Idealize.ShloMosaic Idealize.ShloMosaic.TcCoe Idealize.SL.Sem Idealize.ShloMosaic.StableHlo Cert.Kernel2Ideal Cert.Kernel2Ideal.Gen

section Points

variable {F : FTy → Type} [FloatOps F]
variable (m : (ℓ : Loc nD τ sig) → Buf (Elt F) ℓ)

section Cases

variable (c : Dev nD) (i : grid0.Coords) (a2 : Memref sig .tc .vmem S1024x2048 .f32) (h2 : a2.IsWhole) (a3 : Memref sig .tc .vmem S1x2048 .f32)
  (h3 : a3.IsWhole) (a4 : Memref sig .tc .vmem S1x2048x1024 .f32) (h4 : a4.IsWhole) (a5 : Memref sig .tc .vmem S1024x1024 .bf16) (h5 : a5.IsWhole)
  (a6 : Memref sig .tc .vmem S1024x2048 .bf16) (h6 : a6.IsWhole)
  (x0 : Vec F S1024x2048 .f32) (x1 : Vec F S1x2048 .f32) (x2 : Vec F S1x2048x1024 .f32) (xs0 : Vec F S1024x2048 .bf16)

theorem sout0_A_0_eq (hc0 : cond0_0 i) : sout0_A_0 (F := F) c i a2 h2 a3 h3 a4 h4 a5 h5 a6 h6 hc0 x0 x1 x2 = k0_pay1 x0 x1 := by
  unfold sout0_A_0
  rw [View.read_writes_eq_canon _ _ _ (scover0_A_0 c i a2 h2 a3 h3 a4 h4 a5 h5 a6 h6 hc0 x0 x1 x2)]
  unfold kernelRun0_A
  dsimp only
  sl_unfold_words
  simp only [View.readAt_eq_ld, h2.read_unread, h3.read_unread]
  rw [View.canon_unit_zero (S := S1024x2048) (funext fun a => by fin_cases a <;> rfl),
    View.ld_unit_zero (S := S1024x2048) (funext fun a => by fin_cases a <;> rfl), View.ld_unit_zero (S := S1x2048) (funext fun a => by fin_cases a <;> rfl)]

theorem out0_A_3_eq (hc0 : cond0_0 i) : out0_A_3 (F := F) c i a2 h2 a3 h3 a4 h4 a5 h5 a6 h6 hc0 x0 x1 x2 = k0_pay2 (k0_pay1 x0 x1) x2 := by
  unfold out0_A_3
  rw [View.read_writes_eq_canon _ _ _ (cover0_A_3 c i a2 h2 a3 h3 a4 h4 a5 h5 a6 h6 hc0 x0 x1 x2)]
  unfold kernelRun0_A
  dsimp only
  sl_unfold_words
  simp only [View.readAt_eq_ld, h2.read_unread, h3.read_unread, h4.read_unread]
  rw [View.canon_unit_zero (S := S1024x1024) (funext fun a => by fin_cases a <;> rfl),
    View.readCov_unit_zero (S := S1024x2048) (h := funext fun a => by fin_cases a <;> rfl),
    View.ld_unit_zero (S := S1024x2048) (funext fun a => by fin_cases a <;> rfl), View.ld_unit_zero (S := S1x2048) (funext fun a => by fin_cases a <;> rfl),
    View.ld_unit_zero (S := S1x2048x1024) (funext fun a => by fin_cases a <;> rfl)]

theorem out0_B_3_eq (hc0 : ¬cond0_0 i) : out0_B_3 (F := F) c i a2 h2 a3 h3 a4 h4 a5 h5 a6 h6 hc0 x0 x1 x2 xs0 = k0_pay2 xs0 x2 := by
  unfold out0_B_3
  rw [View.read_writes_eq_canon _ _ _ (cover0_B_3 c i a2 h2 a3 h3 a4 h4 a5 h5 a6 h6 hc0 x0 x1 x2 xs0)]
  unfold kernelRun0_B
  dsimp only
  sl_unfold_words
  simp only [View.readAt_eq_ld, h4.read_unread, h6.read_unread]
  rw [View.canon_unit_zero (S := S1024x1024) (funext fun a => by fin_cases a <;> rfl),
    View.ld_unit_zero (S := S1024x2048) (funext fun a => by fin_cases a <;> rfl), View.ld_unit_zero (S := S1x2048x1024) (funext fun a => by fin_cases a <;> rfl)]

end Cases

theorem N_72 : cfg0.N = 72 := N_0

theorem idx_x : ∀ t : Fin cfg0.N, win0_0.index t = ![t.val / 8, 0] ∧ win0_1.index t = ![0, 0] ∧ win0_2.index t = ![0, 0, t.val % 8] :=
  (by decide +kernel : ∀ t : Fin grid0.N, _)

theorem blk0 (c : Dev nD) (t : Fin cfg0.N) (r : Fin 1024) (k : Fin 2048) : iblk m c 0 t (ix2 r k)
    = m ((c : Thread nD τ).loc main_arg0) (ix2 ⟨t.val / 8 * 1024 + r.val, by have := lt_of_lt_of_eq t.isLt N_72; omega⟩ k) := by
  rw [← V_main_arg0 m c]
  refine congrArg (V m c main_arg0) (funext fun a => ?_)
  have e := congrFun (idx_x t).1
  match a with
  | ⟨0, _⟩ => exact Fin.ext (by have := e 0; show win0_0.index t 0 * 1024 + 1 * r.val = _; rw [this]; show t.val / 8 * 1024 + 1 * r.val = t.val / 8 * 1024 + r.val; omega)
  | ⟨1, _⟩ => exact Fin.ext (by have := e 1; show win0_0.index t 1 * 2048 + 1 * k.val = _; rw [this]; show 0 * 2048 + 1 * k.val = k.val; omega)

theorem blk1 (c : Dev nD) (t : Fin cfg0.N) (k : Fin 2048) : iblk m c 1 t (ix2 0 k) = m ((c : Thread nD τ).loc main_arg1) (ix2 0 k) := by
  have hv : V m c main_v2 = shapeCast S1x2048 (shapeCast S2048 (extractStridedSlice S1x2048 ![0, 0] (m ((c : Thread nD τ).loc main_arg1)) slices_S2x2048_S1x2048_0_0) shapeCasts_S1x2048_S2048) shapeCasts_S2048_S1x2048 := by
    simp only [V, hostOps0, List.flatten_cons, List.flatten_nil, List.append_nil, List.cons_append, List.nil_append]
    after_reads_simp
    rfl
  have he : iblk m c 1 t (ix2 0 k) = V m c main_v2 (ix2 0 k) := by
    refine congrArg (V m c main_v2) (funext fun a => ?_)
    have e := congrFun (idx_x t).2.1
    match a with
    | ⟨0, _⟩ => exact Fin.ext (by have := e 0; show win0_1.index t 0 * 1 + 1 * 0 = _; rw [this]; rfl)
    | ⟨1, _⟩ => exact Fin.ext (by have := e 1; show win0_1.index t 1 * 2048 + 1 * k.val = _; rw [this]; show 0 * 2048 + 1 * k.val = k.val; omega)
  rw [he, hv]
  pointwise

theorem blk2 (c : Dev nD) (t : Fin cfg0.N) (k : Fin 2048) (j : Fin 1024) : iblk m c 2 t (ix3 0 k j)
    = m ((c : Thread nD τ).loc main_arg2) (ix3 0 k ⟨t.val % 8 * 1024 + j.val, by omega⟩) := by
  rw [← V_main_arg2 m c]
  refine congrArg (V m c main_arg2) (funext fun a => ?_)
  have e := congrFun (idx_x t).2.2
  match a with
  | ⟨0, _⟩ => exact Fin.ext (by have := e 0; show win0_2.index t 0 * 1 + 1 * 0 = _; rw [this]; rfl)
  | ⟨1, _⟩ => exact Fin.ext (by have := e 1; show win0_2.index t 1 * 2048 + 1 * k.val = _; rw [this]; show 0 * 2048 + 1 * k.val = k.val; omega)
  | ⟨2, _⟩ => exact Fin.ext (by have := e 2; show win0_2.index t 2 * 1024 + 1 * j.val = _; rw [this]; show t.val % 8 * 1024 + 1 * j.val = t.val % 8 * 1024 + j.val; omega)

/-- The points of one row block read the same rows. -/
theorem same_rows (c : Dev nD) (t u : Fin cfg0.N) (h : t.val / 8 = u.val / 8) : iblk m c 0 t = iblk m c 0 u := by
  funext j; idx_vars j
  exact (blk0 m c t _ _).trans (Eq.trans (by simp only [h]) (blk0 m c u _ _).symm)

theorem same_gain (c : Dev nD) (t u : Fin cfg0.N) : iblk m c 1 t = iblk m c 1 u := by
  funext j; idx_vars j
  obtain rfl : j0 = 0 := Subsingleton.elim _ _
  exact (blk1 m c t _).trans (blk1 m c u _).symm

/-- The scratch holds the normed rows of the point's row block. -/
theorem carried (c : Dev nD) : ∀ (n : ℕ) (hn : n < cfg0.N), (outsAt0 m c n hn).2 = k0_pay1 (iblk m c 0 ⟨n, hn⟩) (iblk m c 1 ⟨n, hn⟩) := by
  intro n
  induction n with
  | zero => intro hn; rw [outsAt0_A m c ⟨0, hn⟩ rfl]; dsimp only; exact sout0_A_0_eq (F := F) ..
  | succ n ih =>
    intro hn
    by_cases h0 : (n + 1) % 8 = 0
    · rw [outsAt0_A m c ⟨n + 1, hn⟩ h0]; dsimp only; exact sout0_A_0_eq (F := F) ..
    · rw [outsAt0_B m c ⟨n + 1, hn⟩ h0]
      dsimp only
      refine (ih (by omega)).trans ?_
      rw [same_rows m c ⟨n, by omega⟩ ⟨n + 1, hn⟩ (by show n / 8 = (n + 1) / 8; omega), same_gain m c ⟨n, by omega⟩ ⟨n + 1, hn⟩]

theorem left_out (c : Dev nD) (t : Fin cfg0.N) : (outsAt0 m c t.val t.isLt).1 = k0_pay2 (k0_pay1 (iblk m c 0 t) (iblk m c 1 t)) (iblk m c 2 t) := by
  by_cases h0 : t.val % 8 = 0
  · rw [outsAt0_A m c t h0]; dsimp only; exact out0_A_3_eq (F := F) ..
  · rw [outsAt0_B m c t h0]
    dsimp only
    have hp : t.val - 1 < cfg0.N := Nat.lt_of_le_of_lt (Nat.sub_le _ _) t.isLt
    rw [carried m c (t.val - 1) hp, same_rows m c ⟨t.val - 1, hp⟩ t (by show (t.val - 1) / 8 = _; omega), same_gain m c ⟨t.val - 1, hp⟩ t]
    exact out0_B_3_eq (F := F) ..

end Points

/-! ## The values -/

/-- An element of a row after its norm. -/
def normed (x g : Fin 2048 → EReal) (k : Fin 2048) : EReal :=
  x k * Ideal.rsqrt (Ideal.div (∑ k, x k * x k) (Ideal.ofBits .f32 0x45000000#32) + Ideal.ofBits .f32 0x358637BD#32) * g k

/-- One element of the product of a normed row with a column, cut off below at zero and squared. -/
def up (x g w : Fin 2048 → EReal) : EReal := max (∑ k, normed x g k * w k) 0 * max (∑ k, normed x g k * w k) 0

theorem pay_read (x : Vec Ideal S1024x2048 .f32) (g : Vec Ideal S1x2048 .f32) (w : Vec Ideal S1x2048x1024 .f32) (r : Fin 1024) (j : Fin 1024) :
    k0_pay2 (k0_pay1 x g) w (ix2 r j) = up (fun k => x (ix2 r k)) (fun k => g (ix2 0 k)) (fun k => w (ix3 0 k j)) := by
  pointwise [k0_pay1, k0_pay2]
  rfl

variable (m : (ℓ : Loc nD τ sig) → Buf (Elt Ideal) ℓ)

theorem outs_at (c : Dev nD) (n k : ℕ) (e : n = k) (hn : n < cfg0.N) (hk : k < cfg0.N) : outsAt0 m c n hn = outsAt0 m c k hk := by
  subst e; rfl

/-- What the result ends with. -/
theorem kernel_read (c : Dev nD) (i0 : Fin 9216) (i1 : Fin 8192) : Cert.Kernel2Ideal.Value.G3 m c (ix2 i0 i1)
    = up (fun k => m ((c : Thread nD τ).loc main_arg0) (ix2 i0 k)) (fun k => m ((c : Thread nD τ).loc main_arg1) (ix2 0 k))
        (fun k => m ((c : Thread nD τ).loc main_arg2) (ix3 0 k i1)) := by
  have ht : 8 * (i0.val / 1024) + i1.val / 1024 < cfg0.N := lt_of_lt_of_eq (by omega) N_72.symm
  have e0 : Cert.Kernel2Ideal.Value.pt3Of (ix2 i0 i1) = 8 * (i0.val / 1024) + i1.val / 1024 := by
    show 8 * (i0.val / 1024 - 0) + 1 * (i1.val / 1024 - 0) = _
    omega
  have el : Cert.Kernel2Ideal.Value.loc3Of (ix2 i0 i1) = ix2 ⟨i0.val % 1024, by omega⟩ ⟨i1.val % 1024, by omega⟩ := by
    funext a
    match a with
    | ⟨0, _⟩ => rfl
    | ⟨1, _⟩ => rfl
  unfold Cert.Kernel2Ideal.Value.G3
  refine (dif_pos (by rw [e0]; exact ht)).trans ?_
  rw [el, ← Cert.Kernel2Ideal.Value.outsAt0_sweep m c _ (by rw [e0]; exact ht), outs_at m c _ _ e0 _ ht,
    left_out m c ⟨8 * (i0.val / 1024) + i1.val / 1024, ht⟩, pay_read]
  congr 1
  · funext k
    refine (blk0 m c _ _ _).trans (congrArg (m ((c : Thread nD τ).loc main_arg0)) ?_)
    congr 1; exact Fin.ext (by dsimp only; omega)
  · funext k
    exact blk1 m c _ _
  · funext k
    refine (blk2 m c _ _ _).trans (congrArg (m ((c : Thread nD τ).loc main_arg2)) ?_)
    congr 1; exact Fin.ext (by dsimp only; omega)

end Cert.Kernel2Ideal.Up

namespace Cert.Up

open Idealize.ShloMosaic Idealize.ShloMosaic.TcCoe Idealize.SL.Sem Idealize.ShloMosaic.StableHlo

/-- The kernel and the reference end with the same array. -/
theorem same_values : Cert.algebraic_Kernel2Ideal_Reference2Ideal := by
  intro m g m' g' _ hargs
  refine ⟨fun c => Cert.Kernel2Ideal.Value.G3 m c, Cert.Kernel2Ideal.Value.run m g,
    (θ_run _ _ _).mono (fun r h c => ?_) (Cert.Reference2Ideal.Value.run m' g')⟩
  obtain ⟨h0, h1, h2⟩ := hargs c
  obtain ⟨ho, hk⟩ := h c
  refine ⟨ho.trans ?_, hk⟩
  rw [h0, h1, h2]
  funext i
  idx_vars i
  refine Eq.trans ?_ (Cert.Kernel2Ideal.Up.kernel_read m c i0 i1).symm
  pointwise [Cert.Kernel2Ideal.Up.up, Cert.Kernel2Ideal.Up.normed]

end Cert.Up

end
-- ==== Proof.FfDown.lean ====
/-
  The second product of the feed-forward part: four partial products kept in scratch, the residual added at the last, against
  one product of the whole row.
-/
module

public import proofs.«01_k».proof.Proof.Gen.Kernel3Ideal.Value
public import proofs.«01_k».proof.Proof.Gen.Reference3Ideal.Run
public import proofs.«01_k».proof.Defs
public import Idealize.ShloMosaic.Lib.Pointwise
public import Idealize.ShloMosaic.Lib.Pipeline.Value
public import Idealize.ShloMosaic.Lib.StableHlo.RunRead

@[expose] public section

set_option maxRecDepth 65536

noncomputable section

namespace Cert.Kernel3Ideal.Down

open Idealize.ShloMosaic Idealize.ShloMosaic.TcCoe Idealize.SL.Sem Idealize.ShloMosaic.StableHlo Cert.Kernel3Ideal Cert.Kernel3Ideal.Gen

section Points

variable {F : FTy → Type} [FloatOps F]
variable (m : (ℓ : Loc nD τ sig) → Buf (Elt F) ℓ)

theorem off2 : (![0, 0] : Fin S1024x1024.rank → ℕ) = fun _ => 0 := by funext a; fin_cases a <;> rfl
theorem off2' : (![0, 0] : Fin S1024x2048.rank → ℕ) = fun _ => 0 := by funext a; fin_cases a <;> rfl
theorem off3 : (![0, 0, 0] : Fin S1x2048x1024.rank → ℕ) = fun _ => 0 := by funext a; fin_cases a <;> rfl

section Cases

variable (c : Dev nD) (i : grid0.Coords) (a3 : Memref sig .tc .vmem S1024x2048 .bf16) (h3 : a3.IsWhole)
  (a4 : Memref sig .tc .vmem S1x2048x1024 .f32) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 : Vec F S1024x2048 .bf16) (x1 : Vec F S1x2048x1024 .f32) (x2 : Vec F S1024x1024 .f32) (xs0 : Vec F S1024x1024 .f32)

theorem sout0_A_0_eq (hc0 : cond0_0 i) (hc1 : ¬cond0_1 i) (hc2 : ¬cond0_2 i) :
    sout0_A_0 (F := F) c i a3 h3 a4 h4 a5 h5 a6 h6 a7 h7 hc0 hc1 hc2 x0 x1 x2 = k0_pay2 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  sl_unfold_words
  simp only [View.readAt_eq_ld, h3.read_unread, h4.read_unread]
  rw [View.canon_unit_zero off2, View.ld_unit_zero off2', View.ld_unit_zero off3]

theorem sout0_B_0_eq (hc0 : ¬cond0_0 i) (hc1 : cond0_1 i) (hc2 : ¬cond0_2 i) :
    sout0_B_0 (F := F) c i a3 h3 a4 h4 a5 h5 a6 h6 a7 h7 hc0 hc1 hc2 x0 x1 x2 xs0 = k0_pay3 x0 x1 xs0 := by
  unfold sout0_B_0
  rw [View.read_writes_eq_canon _ _ _ (scover0_B_0 c i a3 h3 a4 h4 a5 h5 a6 h6 a7 h7 hc0 hc1 hc2 x0 x1 x2 xs0)]
  unfold kernelRun0_B
  dsimp only
  sl_unfold_words
  simp only [View.readAt_eq_ld, h3.read_unread, h4.read_unread, h7.read_unread]
  rw [View.canon_unit_zero off2, View.ld_unit_zero off2', View.ld_unit_zero off3, View.ld_unit_zero off2]

theorem out0_C_3_eq (hc0 : ¬cond0_0 i) (hc1 : cond0_1 i) (hc2 : cond0_2 i) :
    out0_C_3 (F := F) c i a3 h3 a4 h4 a5 h5 a6 h6 a7 h7 hc0 hc1 hc2 x0 x1 x2 xs0 = k0_pay4 (k0_pay3 x0 x1 xs0) x2 := by
  unfold out0_C_3
  rw [View.read_writes_eq_canon _ _ _ (cover0_C_3 c i a3 h3 a4 h4 a5 h5 a6 h6 a7 h7 hc0 hc1 hc2 x0 x1 x2 xs0)]
  unfold kernelRun0_C
  dsimp only
  sl_unfold_words
  simp only [View.readAt_eq_ld, h3.read_unread, h4.read_unread, h5.read_unread, h7.read_unread]
  rw [View.canon_unit_zero off2, View.readCov_unit_zero (h := off2), View.ld_unit_zero off2', View.ld_unit_zero off3, View.ld_unit_zero off2, View.ld_unit_zero off2]

end Cases

theorem N_72 : cfg0.N = 72 := N_0

theorem idx_all : ∀ t : Fin cfg0.N, win0_0.index t = ![t.val / 8, t.val % 4] ∧ win0_1.index t = ![0, t.val % 4, t.val / 4 % 2] ∧ win0_2.index t = ![t.val / 8, t.val / 4 % 2] :=
  (by decide +kernel : ∀ t : Fin grid0.N, _)

theorem blk0 (c : Dev nD) (t : Fin cfg0.N) (r : Fin 1024) (k : Fin 2048) : iblk m c 0 t (ix2 r k)
    = m ((c : Thread nD τ).loc main_arg0) (ix2 ⟨t.val / 8 * 1024 + r.val, by have := lt_of_lt_of_eq t.isLt N_72; omega⟩ ⟨t.val % 4 * 2048 + k.val, by omega⟩) := by
  rw [← V_main_arg0 m c]
  refine congrArg (V m c main_arg0) (funext fun a => ?_)
  have e := congrFun (idx_all t).1
  match a with
  | ⟨0, _⟩ => exact Fin.ext (by have := e 0; show win0_0.index t 0 * 1024 + 1 * r.val = _; rw [this]; show t.val / 8 * 1024 + 1 * r.val = t.val / 8 * 1024 + r.val; omega)
  | ⟨1, _⟩ => exact Fin.ext (by have := e 1; show win0_0.index t 1 * 2048 + 1 * k.val = _; rw [this]; show t.val % 4 * 2048 + 1 * k.val = t.val % 4 * 2048 + k.val; omega)

theorem blk1 (c : Dev nD) (t : Fin cfg0.N) (k : Fin 2048) (j : Fin 1024) : iblk m c 1 t (ix3 0 k j)
    = m ((c : Thread nD τ).loc main_arg1) (ix3 0 ⟨t.val % 4 * 2048 + k.val, by omega⟩ ⟨t.val / 4 % 2 * 1024 + j.val, by omega⟩) := by
  rw [← V_main_arg1 m c]
  refine congrArg (V m c main_arg1) (funext fun a => ?_)
  have e := congrFun (idx_all t).2.1
  match a with
  | ⟨0, _⟩ => exact Fin.ext (by have := e 0; show win0_1.index t 0 * 1 + 1 * 0 = _; rw [this]; rfl)
  | ⟨1, _⟩ => exact Fin.ext (by have := e 1; show win0_1.index t 1 * 2048 + 1 * k.val = _; rw [this]; show t.val % 4 * 2048 + 1 * k.val = t.val % 4 * 2048 + k.val; omega)
  | ⟨2, _⟩ => exact Fin.ext (by have := e 2; show win0_1.index t 2 * 1024 + 1 * j.val = _; rw [this]; show t.val / 4 % 2 * 1024 + 1 * j.val = t.val / 4 % 2 * 1024 + j.val; omega)

theorem blk2 (c : Dev nD) (t : Fin cfg0.N) (r j : Fin 1024) : iblk m c 2 t (ix2 r j)
    = m ((c : Thread nD τ).loc main_arg2) (ix2 ⟨t.val / 8 * 1024 + r.val, by have := lt_of_lt_of_eq t.isLt N_72; omega⟩ ⟨t.val / 4 % 2 * 1024 + j.val, by omega⟩) := by
  rw [← V_main_arg2 m c]
  refine congrArg (V m c main_arg2) (funext fun a => ?_)
  have e := congrFun (idx_all t).2.2
  match a with
  | ⟨0, _⟩ => exact Fin.ext (by have := e 0; show win0_2.index t 0 * 1024 + 1 * r.val = _; rw [this]; show t.val / 8 * 1024 + 1 * r.val = t.val / 8 * 1024 + r.val; omega)
  | ⟨1, _⟩ => exact Fin.ext (by have := e 1; show win0_2.index t 1 * 1024 + 1 * j.val = _; rw [this]; show t.val / 4 % 2 * 1024 + 1 * j.val = t.val / 4 % 2 * 1024 + j.val; omega)

/-- The first point of a block's four sets the scratch to its product. -/
theorem carried_first (c : Dev nD) (t : Fin cfg0.N) (h0 : t.val % 4 = 0) : (outsAt0 m c t.val t.isLt).2 = k0_pay2 (iblk m c 0 t) (iblk m c 1 t) := by
  rw [outsAt0_A m c t h0 (by omega) (by omega)]; dsimp only; exact sout0_A_0_eq (F := F) ..

/-- The next two add theirs. -/
theorem carried_next (c : Dev nD) (n : ℕ) (hn : n + 1 < cfg0.N) (h0 : (n + 1) % 4 ≠ 0) (h2 : (n + 1) % 4 ≠ 3) : (outsAt0 m c (n + 1) hn).2
    = k0_pay3 (iblk m c 0 ⟨n + 1, hn⟩) (iblk m c 1 ⟨n + 1, hn⟩) (outsAt0 m c n (by omega)).2 := by
  rw [outsAt0_B m c ⟨n + 1, hn⟩ h0 (by show 1 ≤ (n + 1) % 4; omega) h2]; dsimp only; exact sout0_B_0_eq (F := F) ..

/-- The last adds its product and the residual, and writes the block. -/
theorem left_last (c : Dev nD) (n : ℕ) (hn : n + 1 < cfg0.N) (h2 : (n + 1) % 4 = 3) : (outsAt0 m c (n + 1) hn).1
    = k0_pay4 (k0_pay3 (iblk m c 0 ⟨n + 1, hn⟩) (iblk m c 1 ⟨n + 1, hn⟩) (outsAt0 m c n (by omega)).2) (iblk m c 2 ⟨n + 1, hn⟩) := by
  rw [outsAt0_C m c ⟨n + 1, hn⟩ (by show ¬(n + 1) % 4 = 0; omega) (by show 1 ≤ (n + 1) % 4; omega) h2]; dsimp only; exact out0_C_3_eq (F := F) ..

end Points

/-! ## The values -/

/-- One block's product at an index. -/
def partOf (a : S1024x2048.Idx → EReal) (w : S1x2048x1024.Idx → EReal) (r j : Fin 1024) : EReal := ∑ k : Fin 2048, a (ix2 r k) * w (ix3 0 k j)

/-- One term of the whole row's product. -/
def term (a : S9216x8192.Idx → EReal) (w : S2x8192x2048.Idx → EReal) (i : Fin 9216) (j : Fin 2048) (k : Fin 8192) : EReal := a (ix2 i k) * w (ix3 0 k j)

/-- The whole row's product at an index. -/
def down (a : S9216x8192.Idx → EReal) (w : S2x8192x2048.Idx → EReal) (i : Fin 9216) (j : Fin 2048) : EReal := ∑ k : Fin 8192, term a w i j k

theorem pay2_read (a : Vec Ideal S1024x2048 .bf16) (w : Vec Ideal S1x2048x1024 .f32) (r j : Fin 1024) :
    k0_pay2 a w (ix2 r j) = partOf a w r j := by
  pointwise [k0_pay1, k0_pay2, partOf]

theorem pay3_read (a : Vec Ideal S1024x2048 .bf16) (w : Vec Ideal S1x2048x1024 .f32) (s : Vec Ideal S1024x1024 .f32) (r j : Fin 1024) :
    k0_pay3 a w s (ix2 r j) = s (ix2 r j) + partOf a w r j := by
  pointwise [k0_pay1, k0_pay3, partOf]

theorem pay4_read (s x : Vec Ideal S1024x1024 .f32) (r j : Fin 1024) : k0_pay4 s x (ix2 r j) = s (ix2 r j) + x (ix2 r j) := by
  pointwise [k0_pay4]

variable (m : (ℓ : Loc nD τ sig) → Buf (Elt Ideal) ℓ)

theorem outs_at (c : Dev nD) (n k : ℕ) (e : n = k) (hn : n < cfg0.N) (hk : k < cfg0.N) : outsAt0 m c n hn = outsAt0 m c k hk := by
  subst e; rfl

/-- A sum over 8192 terms as four sums of 2048. -/
theorem sum_quarters (f : Fin 8192 → EReal) : ∑ k, f k
    = ((∑ k : Fin 2048, f ⟨0 * 2048 + k.val, by omega⟩ + ∑ k : Fin 2048, f ⟨1 * 2048 + k.val, by omega⟩)
      + ∑ k : Fin 2048, f ⟨2 * 2048 + k.val, by omega⟩) + ∑ k : Fin 2048, f ⟨3 * 2048 + k.val, by omega⟩ := by
  have e : ∑ k, f k = ∑ q : Fin 4, ∑ k : Fin 2048, f ⟨q.val * 2048 + k.val, by omega⟩ := by
    rw [← Fintype.sum_prod_type']
    refine (Fintype.sum_equiv (finProdFinEquiv (m := 4) (n := 2048)) _ _ fun p => congrArg f (Fin.ext ?_)).symm
    show p.1.val * 2048 + p.2.val = p.2.val + 2048 * p.1.val
    omega
  rw [e, Fin.sum_univ_four]
  rfl

/-- What the result ends with. -/
theorem kernel_read (c : Dev nD) (i0 : Fin 9216) (i1 : Fin 2048) : Cert.Kernel3Ideal.Value.G3 m c (ix2 i0 i1)
    = down (m ((c : Thread nD τ).loc main_arg0)) (m ((c : Thread nD τ).loc main_arg1)) i0 i1
      + m ((c : Thread nD τ).loc main_arg2) (ix2 i0 i1) := by
  obtain ⟨n, en⟩ : ∃ n, n = 8 * (i0.val / 1024) + 4 * (i1.val / 1024) := ⟨_, rfl⟩
  have hN : cfg0.N = 72 := N_72
  have e0 : Cert.Kernel3Ideal.Value.pt3Of (ix2 i0 i1) = n + 3 := by
    show 4 * (2 * (i0.val / 1024 - 0) + 1 * (i1.val / 1024 - 0)) + 3 = _
    omega
  have ht : n + 3 < cfg0.N := by omega
  have el : Cert.Kernel3Ideal.Value.loc3Of (ix2 i0 i1) = ix2 ⟨i0.val % 1024, by omega⟩ ⟨i1.val % 1024, by omega⟩ := by
    funext a
    match a with
    | ⟨0, _⟩ => rfl
    | ⟨1, _⟩ => rfl
  have part : ∀ (q : ℕ) (hq : q < 4) (h : n + q < cfg0.N),
      partOf (iblk m c 0 ⟨n + q, h⟩) (iblk m c 1 ⟨n + q, h⟩) ⟨i0.val % 1024, by omega⟩ ⟨i1.val % 1024, by omega⟩
        = ∑ k : Fin 2048, term (m ((c : Thread nD τ).loc main_arg0)) (m ((c : Thread nD τ).loc main_arg1)) i0 i1 ⟨q * 2048 + k.val, by omega⟩ := by
    intro q hq h
    unfold partOf
    refine Finset.sum_congr rfl fun k _ => ?_
    unfold term
    rw [blk0, blk1]
    congr 2 <;> congr 1 <;> exact Fin.ext (by dsimp only; omega)
  unfold Cert.Kernel3Ideal.Value.G3
  refine (dif_pos (by rw [e0]; exact ht)).trans ?_
  rw [el, ← Cert.Kernel3Ideal.Value.outsAt0_sweep m c _ (by rw [e0]; exact ht), outs_at m c _ _ e0 _ ht,
    left_last m c (n + 2) ht (by omega), pay4_read, pay3_read, carried_next m c (n + 1) (by omega) (by omega) (by omega), pay3_read,
    carried_next m c n (by omega) (by omega) (by omega), pay3_read, carried_first m c ⟨n, by omega⟩ (by dsimp only; omega), pay2_read]
  unfold down
  rw [sum_quarters]
  rw [part 1 (by omega) (by omega), part 2 (by omega) (by omega), part 3 (by omega) (by omega)]
  have p0 := part 0 (by omega) (by omega)
  simp only [Nat.add_zero] at p0
  rw [p0]
  congr 1
  refine (blk2 m c _ _ _).trans (congrArg (m ((c : Thread nD τ).loc main_arg2)) ?_)
  congr 1 <;> exact Fin.ext (by dsimp only; omega)

end Cert.Kernel3Ideal.Down

namespace Cert.Down

open Idealize.ShloMosaic Idealize.ShloMosaic.TcCoe Idealize.SL.Sem Idealize.ShloMosaic.StableHlo

/-- The kernel and the reference end with the same array. -/
theorem same_values : Cert.algebraic_Kernel3Ideal_Reference3Ideal := by
  intro m g m' g' _ hargs
  refine ⟨fun c => Cert.Kernel3Ideal.Value.G3 m c, Cert.Kernel3Ideal.Value.run m g,
    (θ_run _ _ _).mono (fun r h c => ?_) (Cert.Reference3Ideal.Value.run m' g')⟩
  obtain ⟨h0, h1, h2⟩ := hargs c
  obtain ⟨ho, hk⟩ := h c
  refine ⟨ho.trans ?_, hk⟩
  rw [h0, h1, h2]
  funext i
  idx_vars i
  refine Eq.trans ?_ (Cert.Kernel3Ideal.Down.kernel_read m c i0 i1).symm
  rw [add_comm]
  pointwise [Cert.Kernel3Ideal.Down.down, Cert.Kernel3Ideal.Down.term]

end Cert.Down

end
-- ==== Proof.EvenIn.lean ====
/-
  The even layer's projection: one call over the rearranged, zero-filled weight columns, against the product of the normed rows
  with the weights as they are, the prompt's rows and the samples' each on their own.
-/
module

public import proofs.«01_k».proof.Proof.Gen.Kernel4Ideal.Value
public import proofs.«01_k».proof.Proof.Gen.Reference4Ideal.Run
public import proofs.«01_k».proof.Defs
public import Idealize.ShloMosaic.Lib.Pointwise
public import Idealize.ShloMosaic.Lib.Pipeline.Value
public import Idealize.ShloMosaic.Lib.StableHlo.RunRead

@[expose] public section

set_option maxRecDepth 65536

noncomputable section

namespace Cert.Kernel4Ideal.EvenIn

open Idealize.ShloMosaic Idealize.ShloMosaic.TcCoe Idealize.SL.Sem Idealize.ShloMosaic.StableHlo Cert.Kernel4Ideal Cert.Kernel4Ideal.Gen

section Points

variable {F : FTy → Type} [FloatOps F]
variable (m : (ℓ : Loc nD τ sig) → Buf (Elt F) ℓ)

section Cases

variable (c : Dev nD) (i : grid0.Coords) (a2 : Memref sig .tc .vmem S1024x2048 .f32) (h2 : a2.IsWhole) (a3 : Memref sig .tc .vmem S1x2048 .f32)
  (h3 : a3.IsWhole) (a4 : Memref sig .tc .vmem S2048x1024 .f32) (h4 : a4.IsWhole) (a5 : Memref sig .tc .vmem S1024x1024 .f32) (h5 : a5.IsWhole)
  (a6 : Memref sig .tc .vmem S1024x2048 .bf16) (h6 : a6.IsWhole)
  (x0 : Vec F S1024x2048 .f32) (x1 : Vec F S1x2048 .f32) (x2 : Vec F S2048x1024 .f32) (xs0 : Vec F S1024x2048 .bf16)

theorem sout0_A_0_eq (hc0 : cond0_0 i) : sout0_A_0 (F := F) c i a2 h2 a3 h3 a4 h4 a5 h5 a6 h6 hc0 x0 x1 x2 = k0_pay1 x0 x1 := by
  unfold sout0_A_0
  rw [View.read_writes_eq_canon _ _ _ (scover0_A_0 c i a2 h2 a3 h3 a4 h4 a5 h5 a6 h6 hc0 x0 x1 x2)]
  unfold kernelRun0_A
  dsimp only
  sl_unfold_words
  simp only [View.readAt_eq_ld, h2.read_unread, h3.read_unread]
  rw [View.canon_unit_zero (S := S1024x2048) (funext fun a => by fin_cases a <;> rfl),
    View.ld_unit_zero (S := S1024x2048) (funext fun a => by fin_cases a <;> rfl), View.ld_unit_zero (S := S1x2048) (funext fun a => by fin_cases a <;> rfl)]

theorem out0_A_3_eq (hc0 : cond0_0 i) : out0_A_3 (F := F) c i a2 h2 a3 h3 a4 h4 a5 h5 a6 h6 hc0 x0 x1 x2 = k0_pay2 (k0_pay1 x0 x1) x2 := by
  unfold out0_A_3
  rw [View.read_writes_eq_canon _ _ _ (cover0_A_3 c i a2 h2 a3 h3 a4 h4 a5 h5 a6 h6 hc0 x0 x1 x2)]
  unfold kernelRun0_A
  dsimp only
  sl_unfold_words
  simp only [View.readAt_eq_ld, h2.read_unread, h3.read_unread, h4.read_unread]
  rw [View.canon_unit_zero (S := S1024x1024) (funext fun a => by fin_cases a <;> rfl),
    View.readCov_unit_zero (S := S1024x2048) (h := funext fun a => by fin_cases a <;> rfl),
    View.ld_unit_zero (S := S1024x2048) (funext fun a => by fin_cases a <;> rfl), View.ld_unit_zero (S := S1x2048) (funext fun a => by fin_cases a <;> rfl),
    View.ld_unit_zero (S := S2048x1024) (funext fun a => by fin_cases a <;> rfl)]

theorem out0_B_3_eq (hc0 : ¬cond0_0 i) : out0_B_3 (F := F) c i a2 h2 a3 h3 a4 h4 a5 h5 a6 h6 hc0 x0 x1 x2 xs0 = k0_pay2 xs0 x2 := by
  unfold out0_B_3
  rw [View.read_writes_eq_canon _ _ _ (cover0_B_3 c i a2 h2 a3 h3 a4 h4 a5 h5 a6 h6 hc0 x0 x1 x2 xs0)]
  unfold kernelRun0_B
  dsimp only
  sl_unfold_words
  simp only [View.readAt_eq_ld, h4.read_unread, h6.read_unread]
  rw [View.canon_unit_zero (S := S1024x1024) (funext fun a => by fin_cases a <;> rfl),
    View.ld_unit_zero (S := S1024x2048) (funext fun a => by fin_cases a <;> rfl), View.ld_unit_zero (S := S2048x1024) (funext fun a => by fin_cases a <;> rfl)]

end Cases

theorem N_54 : cfg0.N = 54 := N_0

theorem idx_x : ∀ t : Fin cfg0.N, win0_0.index t = ![t.val / 6, 0] ∧ win0_1.index t = ![0, 0] ∧ win0_2.index t = ![0, t.val % 6] :=
  (by decide +kernel : ∀ t : Fin grid0.N, _)

/-- The prompt's rows over the samples'. -/
def rows (x : Vec F S2x4096x2048 .f32) (y : Vec F S128x8x2048 .f32) : Vec F S9216x2048 .f32 :=
  concatenate S9216x2048 0 [⟨S8192x2048, shapeCast S8192x2048 x shapeCasts_S2x4096x2048_S8192x2048⟩, ⟨S1024x2048, shapeCast S1024x2048 y shapeCasts_S128x8x2048_S1024x2048⟩] concatenates_S8192x2048_S1024x2048_S9216x2048_d0

/-- The weights' columns in the call's order, the gates' eight filled up with zeros to a lane block. -/
def columns (w : Vec F S1x2048x5640 .f32) : Vec F S2048x5760 .f32 :=
  concatenate S2048x5760 1 [⟨S2048x4096, extractStridedSlice S2048x4096 ![0, 1544] (shapeCast S2048x5640 w shapeCasts_S1x2048x5640_S2048x5640) slices_S2048x5640_S2048x4096_0_1544⟩,
    ⟨S2048x1536, extractStridedSlice S2048x1536 ![0, 0] (shapeCast S2048x5640 w shapeCasts_S1x2048x5640_S2048x5640) slices_S2048x5640_S2048x1536_0_0⟩,
    ⟨S2048x128, pad S2048x128 ![0, 0] ![0, 120] ![0, 0] (extractStridedSlice S2048x8 ![0, 1536] (shapeCast S2048x5640 w shapeCasts_S1x2048x5640_S2048x5640) slices_S2048x5640_S2048x8_0_1536)
      (sitofp .f32 (constantI S_ 32 0#32)) pads_S2048x8_S2048x128_000_01200 h_S_⟩] concatenates_S2048x4096_S2048x1536_S2048x128_S2048x5760_d1

/-- The same filled up with zeros to six blocks. -/
def weights (w : Vec F S1x2048x5640 .f32) : Vec F S2048x6144 .f32 :=
  pad S2048x6144 ![0, 0] ![0, 384] ![0, 0] (columns w) (sitofp .f32 (constantI S_ 32 0#32)) pads_S2048x5760_S2048x6144_000_03840 h_S_

theorem gain_read (x : Vec F S1x2048 .f32) (k : Fin 2048) : shapeCast S1x2048 (shapeCast S2048 x shapeCasts_S1x2048_S2048) shapeCasts_S2048_S1x2048 (ix2 0 k) = x (ix2 0 k) := by
  pointwise

theorem V_rows (c : Dev nD) : V m c main_v2 = rows (m ((c : Thread nD τ).loc main_arg0)) (m ((c : Thread nD τ).loc main_arg1)) := by
  simp only [V, hostOps0, hostOps0_1, hostOps0_2, hostOps0_3, hostOps0_4, List.flatten_cons, List.flatten_nil, List.append_nil, List.cons_append, List.nil_append]
  after_reads_simp
  rfl

theorem V_gain (c : Dev nD) : V m c main_v11 = shapeCast S1x2048 (shapeCast S2048 (m ((c : Thread nD τ).loc main_arg2)) shapeCasts_S1x2048_S2048) shapeCasts_S2048_S1x2048 := by
  simp only [V, hostOps0, hostOps0_1, hostOps0_2, hostOps0_3, hostOps0_4, List.flatten_cons, List.flatten_nil, List.append_nil, List.cons_append, List.nil_append]
  after_reads_simp
  rfl

theorem V_weights (c : Dev nD) : V m c main_v10 = weights (m ((c : Thread nD τ).loc main_arg3)) := by
  simp only [V, hostOps0, hostOps0_1, hostOps0_2, hostOps0_3, hostOps0_4, List.flatten_cons, List.flatten_nil, List.append_nil, List.cons_append, List.nil_append]
  after_reads_simp
  rfl

theorem blk0 (c : Dev nD) (t : Fin cfg0.N) (r : Fin 1024) (k : Fin 2048) : iblk m c 0 t (ix2 r k)
    = rows (m ((c : Thread nD τ).loc main_arg0)) (m ((c : Thread nD τ).loc main_arg1)) (ix2 ⟨t.val / 6 * 1024 + r.val, by have := lt_of_lt_of_eq t.isLt N_54; omega⟩ k) := by
  rw [← V_rows m c]
  refine congrArg (V m c main_v2) (funext fun a => ?_)
  have e := congrFun (idx_x t).1
  match a with
  | ⟨0, _⟩ => exact Fin.ext (by have := e 0; show win0_0.index t 0 * 1024 + 1 * r.val = _; rw [this]; show t.val / 6 * 1024 + 1 * r.val = t.val / 6 * 1024 + r.val; omega)
  | ⟨1, _⟩ => exact Fin.ext (by have := e 1; show win0_0.index t 1 * 2048 + 1 * k.val = _; rw [this]; show 0 * 2048 + 1 * k.val = k.val; omega)

theorem blk1 (c : Dev nD) (t : Fin cfg0.N) (k : Fin 2048) : iblk m c 1 t (ix2 0 k) = m ((c : Thread nD τ).loc main_arg2) (ix2 0 k) := by
  have he : iblk m c 1 t (ix2 0 k) = V m c main_v11 (ix2 0 k) := by
    refine congrArg (V m c main_v11) (funext fun a => ?_)
    have e := congrFun (idx_x t).2.1
    match a with
    | ⟨0, _⟩ => exact Fin.ext (by have := e 0; show win0_1.index t 0 * 1 + 1 * 0 = _; rw [this]; rfl)
    | ⟨1, _⟩ => exact Fin.ext (by have := e 1; show win0_1.index t 1 * 2048 + 1 * k.val = _; rw [this]; show 0 * 2048 + 1 * k.val = k.val; omega)
  rw [he, V_gain]
  exact gain_read _ k

theorem blk2 (c : Dev nD) (t : Fin cfg0.N) (k : Fin 2048) (j : Fin 1024) : iblk m c 2 t (ix2 k j)
    = weights (m ((c : Thread nD τ).loc main_arg3)) (ix2 k ⟨t.val % 6 * 1024 + j.val, by omega⟩) := by
  rw [← V_weights m c]
  refine congrArg (V m c main_v10) (funext fun a => ?_)
  have e := congrFun (idx_x t).2.2
  match a with
  | ⟨0, _⟩ => exact Fin.ext (by have := e 0; show win0_2.index t 0 * 2048 + 1 * k.val = _; rw [this]; show 0 * 2048 + 1 * k.val = k.val; omega)
  | ⟨1, _⟩ => exact Fin.ext (by have := e 1; show win0_2.index t 1 * 1024 + 1 * j.val = _; rw [this]; show t.val % 6 * 1024 + 1 * j.val = t.val % 6 * 1024 + j.val; omega)

/-- The points of one row block read the same rows. -/
theorem same_rows (c : Dev nD) (t u : Fin cfg0.N) (h : t.val / 6 = u.val / 6) : iblk m c 0 t = iblk m c 0 u := by
  funext j; idx_vars j
  exact (blk0 m c t _ _).trans (Eq.trans (by simp only [h]) (blk0 m c u _ _).symm)

theorem same_gain (c : Dev nD) (t u : Fin cfg0.N) : iblk m c 1 t = iblk m c 1 u := by
  funext j; idx_vars j
  obtain rfl : j0 = 0 := Subsingleton.elim _ _
  exact (blk1 m c t _).trans (blk1 m c u _).symm

/-- The scratch holds the normed rows of the point's row block. -/
theorem carried (c : Dev nD) : ∀ (n : ℕ) (hn : n < cfg0.N), (outsAt0 m c n hn).2 = k0_pay1 (iblk m c 0 ⟨n, hn⟩) (iblk m c 1 ⟨n, hn⟩) := by
  intro n
  induction n with
  | zero => intro hn; rw [outsAt0_A m c ⟨0, hn⟩ rfl]; dsimp only; exact sout0_A_0_eq (F := F) ..
  | succ n ih =>
    intro hn
    by_cases h0 : (n + 1) % 6 = 0
    · rw [outsAt0_A m c ⟨n + 1, hn⟩ h0]; dsimp only; exact sout0_A_0_eq (F := F) ..
    · rw [outsAt0_B m c ⟨n + 1, hn⟩ h0]
      dsimp only
      refine (ih (by omega)).trans ?_
      rw [same_rows m c ⟨n, by omega⟩ ⟨n + 1, hn⟩ (by show n / 6 = (n + 1) / 6; omega), same_gain m c ⟨n, by omega⟩ ⟨n + 1, hn⟩]

theorem left_out (c : Dev nD) (t : Fin cfg0.N) : (outsAt0 m c t.val t.isLt).1 = k0_pay2 (k0_pay1 (iblk m c 0 t) (iblk m c 1 t)) (iblk m c 2 t) := by
  by_cases h0 : t.val % 6 = 0
  · rw [outsAt0_A m c t h0]; dsimp only; exact out0_A_3_eq (F := F) ..
  · rw [outsAt0_B m c t h0]
    dsimp only
    have hp : t.val - 1 < cfg0.N := Nat.lt_of_le_of_lt (Nat.sub_le _ _) t.isLt
    rw [carried m c (t.val - 1) hp, same_rows m c ⟨t.val - 1, hp⟩ t (by show (t.val - 1) / 6 = _; omega), same_gain m c ⟨t.val - 1, hp⟩ t]
    exact out0_B_3_eq (F := F) ..

end Points

/-! ## The values -/

/-- An element of a row after its norm. -/
def normed (x g : Fin 2048 → EReal) (k : Fin 2048) : EReal :=
  x k * Ideal.rsqrt (Ideal.div (∑ k, x k * x k) (Ideal.ofBits .f32 0x45000000#32) + Ideal.ofBits .f32 0x358637BD#32) * g k

/-- One element of the product of a normed row with a column. -/
def proj (x g w : Fin 2048 → EReal) : EReal := ∑ k, normed x g k * w k

theorem pay_read (x : Vec Ideal S1024x2048 .f32) (g : Vec Ideal S1x2048 .f32) (w : Vec Ideal S2048x1024 .f32) (r : Fin 1024) (j : Fin 1024) :
    k0_pay2 (k0_pay1 x g) w (ix2 r j) = proj (fun k => x (ix2 r k)) (fun k => g (ix2 0 k)) (fun k => w (ix2 k j)) := by
  pointwise [k0_pay1, k0_pay2]
  rfl

variable (m : (ℓ : Loc nD τ sig) → Buf (Elt Ideal) ℓ)

theorem outs_at (c : Dev nD) (n k : ℕ) (e : n = k) (hn : n < cfg0.N) (hk : k < cfg0.N) : outsAt0 m c n hn = outsAt0 m c k hk := by
  subst e; rfl

/-- What the result ends with. -/
theorem kernel_read (c : Dev nD) (i0 : Fin 9216) (i1 : Fin 6144) : Cert.Kernel4Ideal.Value.G3 m c (ix2 i0 i1)
    = proj (fun k => rows (m ((c : Thread nD τ).loc main_arg0)) (m ((c : Thread nD τ).loc main_arg1)) (ix2 i0 k)) (fun k => m ((c : Thread nD τ).loc main_arg2) (ix2 0 k))
        (fun k => weights (m ((c : Thread nD τ).loc main_arg3)) (ix2 k i1)) := by
  have ht : 6 * (i0.val / 1024) + i1.val / 1024 < cfg0.N := lt_of_lt_of_eq (by omega) N_54.symm
  have e0 : Cert.Kernel4Ideal.Value.pt3Of (ix2 i0 i1) = 6 * (i0.val / 1024) + i1.val / 1024 := by
    show 6 * (i0.val / 1024 - 0) + 1 * (i1.val / 1024 - 0) = _
    omega
  have el : Cert.Kernel4Ideal.Value.loc3Of (ix2 i0 i1) = ix2 ⟨i0.val % 1024, by omega⟩ ⟨i1.val % 1024, by omega⟩ := by
    funext a
    match a with
    | ⟨0, _⟩ => rfl
    | ⟨1, _⟩ => rfl
  unfold Cert.Kernel4Ideal.Value.G3
  refine (dif_pos (by rw [e0]; exact ht)).trans ?_
  rw [el, ← Cert.Kernel4Ideal.Value.outsAt0_sweep m c _ (by rw [e0]; exact ht), outs_at m c _ _ e0 _ ht,
    left_out m c ⟨6 * (i0.val / 1024) + i1.val / 1024, ht⟩, pay_read]
  congr 1
  · funext k
    refine (blk0 m c _ _ _).trans (congrArg (rows _ _) ?_)
    congr 1; exact Fin.ext (by dsimp only; omega)
  · funext k
    exact blk1 m c _ _
  · funext k
    refine (blk2 m c _ _ _).trans (congrArg (weights _) ?_)
    congr 1; exact Fin.ext (by dsimp only; omega)

theorem rows_read (x : Vec Ideal S2x4096x2048 .f32) (y : Vec Ideal S128x8x2048 .f32) (i : Fin 9216) (k : Fin 2048) :
    rows x y (ix2 i k) = if h : i.val < 8192 then x (ix3 ⟨i.val / 4096, by omega⟩ ⟨i.val % 4096, by omega⟩ k)
      else y (ix3 ⟨(i.val - 8192) / 8, by omega⟩ ⟨(i.val - 8192) % 8, by omega⟩ k) := by
  pointwise [rows]

/-- The fill is zero. -/
theorem fill_zero : (FloatOps.sitofp FTy.f32 0#32 : Ideal .f32) = (0 : EReal) := by
  show (((0#32 : BitVec 32).toInt : ℝ) : EReal) = 0
  simp

theorem columns_read (w : Vec Ideal S1x2048x5640 .f32) (k : Fin 2048) (j : Fin 5760) :
    columns w (ix2 k j) = if h : j.val < 4096 then w (ix3 0 k ⟨1544 + j.val, by omega⟩)
      else if h : j.val < 5640 then w (ix3 0 k ⟨j.val - 4096, by omega⟩) else 0 := by
  pointwise [columns]
  by_cases h1 : j.val < 4096
  · simp only [h1, ↓reduceDIte]
  · by_cases h2 : j.val < 5640
    · by_cases h3 : j.val - 4096 < 1536
      · simp only [h1, h2, h3, ↓reduceDIte]
      · have h4 : j.val - 4096 - 1536 < 8 := by omega
        simp only [h1, h2, h3, h4, ↓reduceDIte]
        congr 2
        exact Fin.ext (by dsimp only; omega)
    · have h3 : ¬j.val - 4096 < 1536 := by omega
      have h4 : ¬j.val - 4096 - 1536 < 8 := by omega
      simp only [h1, h2, h3, h4, ↓reduceDIte]
      exact fill_zero

theorem weights_read (w : Vec Ideal S1x2048x5640 .f32) (k : Fin 2048) (j : Fin 6144) :
    weights w (ix2 k j) = if h : j.val < 5760 then columns w (ix2 k ⟨j.val, h⟩) else 0 := by
  pointwise [weights]
  split
  · rfl
  · exact fill_zero

end Cert.Kernel4Ideal.EvenIn

namespace Cert.Reference4Ideal.Parts

open Idealize.ShloMosaic Idealize.ShloMosaic.TcCoe Idealize.SL.Sem Idealize.ShloMosaic.StableHlo Cert.Reference4Ideal Cert.Reference4Ideal.Gen Cert.Kernel4Ideal.EvenIn

/-- The prompt's projection. -/
def ofPrompt (x : Vec Ideal S2x4096x2048 .f32) (g : Vec Ideal S1x2048 .f32) (w : Vec Ideal S1x2048x5640 .f32) : Vec Ideal S8192x5640 .f32 :=
  shapeCast S8192x5640 (Host.dotGeneral (F := Ideal) (φ₂ := .f32) dot_S2x4096x2048_S2048x5640_S2x4096x5640_2_0_01_1_n_n none (mulf (mulf x (broadcastInDim S2x4096x2048 ![0, 1, 2]
    bcast_S2x4096x1_S2x4096x2048_0_1_2 (Host.rsqrt (addf (Host.divf (broadcastInDim S2x4096x1 ![0, 1] bcast_S2x4096_S2x4096x1_0_1 (Host.reduceAdd (mulf x
    x) (constant (F := Ideal) S_ .f32 0x00000000#32) reducesTo_S2x4096x2048_S2x4096_d2 h_S_)) (broadcastInDim S2x4096x1 ![] bcast_S_S2x4096x1 (constant (F := Ideal) S_ .f32
    0x45000000#32))) (broadcastInDim S2x4096x1 ![] bcast_S_S2x4096x1 (constant (F := Ideal) S_ .f32 0x358637BD#32)))))) (broadcastInDim S2x4096x2048 ![0, 1, 2]
    bcast_S1x1x2048_S2x4096x2048_0_1_2 (broadcastInDim S1x1x2048 ![2] bcast_S2048_S1x1x2048_2 (shapeCast S2048 g shapeCasts_S1x2048_S2048)))) (shapeCast
    S2048x5640 w shapeCasts_S1x2048x5640_S2048x5640)) shapeCasts_S2x4096x5640_S8192x5640

/-- The samples' projection. -/
def ofSample (x : Vec Ideal S128x8x2048 .f32) (g : Vec Ideal S1x2048 .f32) (w : Vec Ideal S1x2048x5640 .f32) : Vec Ideal S1024x5640 .f32 :=
  shapeCast S1024x5640 (Host.dotGeneral (F := Ideal) (φ₂ := .f32) dot_S128x8x2048_S2048x5640_S128x8x5640_2_0_01_1_n_n none (mulf (mulf x (broadcastInDim S128x8x2048 ![0, 1, 2]
    bcast_S128x8x1_S128x8x2048_0_1_2 (Host.rsqrt (addf (Host.divf (broadcastInDim S128x8x1 ![0, 1] bcast_S128x8_S128x8x1_0_1 (Host.reduceAdd (mulf x x)
    (constant (F := Ideal) S_ .f32 0x00000000#32) reducesTo_S128x8x2048_S128x8_d2 h_S_)) (broadcastInDim S128x8x1 ![] bcast_S_S128x8x1 (constant (F := Ideal) S_ .f32
    0x45000000#32))) (broadcastInDim S128x8x1 ![] bcast_S_S128x8x1 (constant (F := Ideal) S_ .f32 0x358637BD#32)))))) (broadcastInDim S128x8x2048 ![0, 1, 2]
    bcast_S1x1x2048_S128x8x2048_0_1_2 (broadcastInDim S1x1x2048 ![2] bcast_S2048_S1x1x2048_2 (shapeCast S2048 g shapeCasts_S1x2048_S2048)))) (shapeCast
    S2048x5640 w shapeCasts_S1x2048x5640_S2048x5640)) shapeCasts_S128x8x5640_S1024x5640

/-- Both, one over the other. -/
def together (a : Vec Ideal S8192x5640 .f32) (b : Vec Ideal S1024x5640 .f32) : Vec Ideal S9216x5640 .f32 :=
  concatenate S9216x5640 0 [⟨S8192x5640, a⟩, ⟨S1024x5640, b⟩] concatenates_S8192x5640_S1024x5640_S9216x5640_d0

/-- Their columns in the call's order. -/
def arranged (z : Vec Ideal S9216x5640 .f32) : Vec Ideal S9216x6144 .f32 :=
  concatenate S9216x6144 1 [⟨S9216x4096, ((extractStridedSlice S9216x4096 ![0, 1544] z slices_S9216x5640_S9216x4096_0_1544))⟩, ⟨S9216x1536,
    ((extractStridedSlice S9216x1536 ![0, 0] z slices_S9216x5640_S9216x1536_0_0))⟩, ⟨S9216x8, ((extractStridedSlice S9216x8 ![0, 1536] z
    slices_S9216x5640_S9216x8_0_1536))⟩, ⟨S9216x504, ((broadcastInDim S9216x504 ![] bcast_S_S9216x504 (constant (F := Ideal) S_ .f32 0x00000000#32)))⟩]
    concatenates_S9216x4096_S9216x1536_S9216x8_S9216x504_S9216x6144_d1

theorem ofPrompt_read (x : Vec Ideal S2x4096x2048 .f32) (g : Vec Ideal S1x2048 .f32) (w : Vec Ideal S1x2048x5640 .f32) (i : Fin 8192) (j : Fin 5640) :
    ofPrompt x g w (ix2 i j) = proj (fun k => x (ix3 ⟨i.val / 4096, by omega⟩ ⟨i.val % 4096, by omega⟩ k)) (fun k => g (ix2 0 k)) (fun k => w (ix3 0 k j)) := by
  pointwise [ofPrompt, proj, normed]

theorem ofSample_read (x : Vec Ideal S128x8x2048 .f32) (g : Vec Ideal S1x2048 .f32) (w : Vec Ideal S1x2048x5640 .f32) (i : Fin 1024) (j : Fin 5640) :
    ofSample x g w (ix2 i j) = proj (fun k => x (ix3 ⟨i.val / 8, by omega⟩ ⟨i.val % 8, by omega⟩ k)) (fun k => g (ix2 0 k)) (fun k => w (ix3 0 k j)) := by
  pointwise [ofSample, proj, normed]

theorem together_read (a : Vec Ideal S8192x5640 .f32) (b : Vec Ideal S1024x5640 .f32) (i : Fin 9216) (j : Fin 5640) :
    together a b (ix2 i j) = if h : i.val < 8192 then a (ix2 ⟨i.val, h⟩ j) else b (ix2 ⟨i.val - 8192, by omega⟩ j) := by
  pointwise [together]

theorem arranged_read (z : Vec Ideal S9216x5640 .f32) (i : Fin 9216) (j : Fin 6144) :
    arranged z (ix2 i j) = if h : j.val < 4096 then z (ix2 i ⟨1544 + j.val, by omega⟩)
      else if h : j.val < 5640 then z (ix2 i ⟨j.val - 4096, by omega⟩) else 0 := by
  pointwise [arranged]
  by_cases h1 : j.val < 4096
  · simp only [h1, ↓reduceDIte]
  · by_cases h2 : j.val < 5640
    · by_cases h3 : j.val - 4096 < 1536
      · simp only [h1, h2, h3, ↓reduceDIte]
      · have h4 : j.val - 4096 - 1536 < 8 := by omega
        simp only [h1, h2, h3, h4, ↓reduceDIte]
        congr 2
        exact Fin.ext (by dsimp only; omega)
    · have h3 : ¬j.val - 4096 < 1536 := by omega
      have h4 : ¬j.val - 4096 - 1536 < 8 := by omega
      simp only [h1, h2, h3, h4, ↓reduceDIte]

theorem result_eq (m : (ℓ : Loc nD τ sig) → Buf (Elt Ideal) ℓ) (c : Dev nD) : Cert.Reference4Ideal.Value.res_main_v39 m c
    = arranged (together (ofPrompt (m ((c : Thread nD τ).loc main_arg0)) (m ((c : Thread nD τ).loc main_arg2)) (m ((c : Thread nD τ).loc main_arg3)))
        (ofSample (m ((c : Thread nD τ).loc main_arg1)) (m ((c : Thread nD τ).loc main_arg2)) (m ((c : Thread nD τ).loc main_arg3)))) := rfl

theorem proj_zero (x g : Fin 2048 → EReal) : proj x g (fun _ => 0) = 0 := by
  unfold proj
  exact Finset.sum_eq_zero fun k _ => mul_zero _

/-- Arranging the products' columns is the product with the arranged columns. -/
theorem same (x : Vec Ideal S2x4096x2048 .f32) (y : Vec Ideal S128x8x2048 .f32) (g : Vec Ideal S1x2048 .f32) (w : Vec Ideal S1x2048x5640 .f32) (i : Fin 9216) (j : Fin 6144) :
    arranged (together (ofPrompt x g w) (ofSample y g w)) (ix2 i j)
      = proj (fun k => rows x y (ix2 i k)) (fun k => g (ix2 0 k)) (fun k => weights w (ix2 k j)) := by
  rw [arranged_read]
  simp only [together_read, ofPrompt_read, ofSample_read, rows_read, weights_read, columns_read]
  by_cases hi : i.val < 8192 <;> by_cases h1 : j.val < 4096
  all_goals simp only [hi, h1, ↓reduceDIte]
  all_goals by_cases h2 : j.val < 5640
  all_goals first
    | (have h3 : j.val < 5760 := by omega); simp only [h2, h3, ↓reduceDIte]
    | by_cases h3 : j.val < 5760 <;> simp only [h2, h3, ↓reduceDIte] <;> exact (proj_zero _ _).symm

end Cert.Reference4Ideal.Parts

namespace Cert.EvenIn

open Idealize.ShloMosaic Idealize.ShloMosaic.TcCoe Idealize.SL.Sem Idealize.ShloMosaic.StableHlo

/-- The kernel and the reference end with the same array. -/
theorem same_values : Cert.algebraic_Kernel4Ideal_Reference4Ideal := by
  intro m g m' g' _ hargs
  refine ⟨fun c => Cert.Kernel4Ideal.Value.G3 m c, Cert.Kernel4Ideal.Value.run m g,
    (θ_run _ _ _).mono (fun r h c => ?_) (Cert.Reference4Ideal.Value.run m' g')⟩
  obtain ⟨h0, h1, h2, h3⟩ := hargs c
  obtain ⟨ho, hk⟩ := h c
  refine ⟨ho.trans ?_, hk⟩
  rw [Cert.Reference4Ideal.Parts.result_eq, h0, h1, h2, h3]
  funext i
  idx_vars i
  refine Eq.trans ?_ (Cert.Kernel4Ideal.EvenIn.kernel_read m c i0 i1).symm
  exact Cert.Reference4Ideal.Parts.same _ _ _ _ i0 i1

end Cert.EvenIn

end
-- ==== Proof.MemKv.lean ====
/-
  The projection of the memory's rows to the keys and values the attention over the memory reads: one call over both column
  halves, against the two products of the normed rows.
-/
module

public import proofs.«01_k».proof.Proof.Gen.Kernel5Ideal.Value
public import proofs.«01_k».proof.Proof.Gen.Reference5Ideal.Run
public import proofs.«01_k».proof.Defs
public import Idealize.ShloMosaic.Lib.Pointwise
public import Idealize.ShloMosaic.Lib.Pipeline.Value
public import Idealize.ShloMosaic.Lib.StableHlo.RunRead

@[expose] public section

set_option maxRecDepth 65536

noncomputable section

namespace Cert.Kernel5Ideal.Mem

open Idealize.ShloMosaic Idealize.ShloMosaic.TcCoe Idealize.SL.Sem Idealize.ShloMosaic.StableHlo Cert.Kernel5Ideal Cert.Kernel5Ideal.Gen

section Points

variable {F : FTy → Type} [FloatOps F]
variable (m : (ℓ : Loc nD τ sig) → Buf (Elt F) ℓ)

theorem offX : (![0, 0] : Fin S512x2048.rank → ℕ) = fun _ => 0 := by funext a; fin_cases a <;> rfl
theorem offG : (![0, 0] : Fin S1x2048.rank → ℕ) = fun _ => 0 := by funext a; fin_cases a <;> rfl
theorem offW : (![0, 0] : Fin S2048x1024.rank → ℕ) = fun _ => 0 := by funext a; fin_cases a <;> rfl
theorem offO : (![0, 0] : Fin S512x1024.rank → ℕ) = fun _ => 0 := by funext a; fin_cases a <;> rfl

theorem out0_A_3_eq (c : Dev nD) (i : grid0.Coords) (a2 : Memref sig .tc .vmem S512x2048 .f32) (h2 : a2.IsWhole) (a3 : Memref sig .tc .vmem S1x2048 .f32)
    (h3 : a3.IsWhole) (a4 : Memref sig .tc .vmem S2048x1024 .f32) (h4 : a4.IsWhole) (a5 : Memref sig .tc .vmem S512x1024 .f32) (h5 : a5.IsWhole)
    (a6 : Memref sig .tc .vmem S512x2048 .bf16) (h6 : a6.IsWhole) (hc0 : cond0_0 i)
    (x0 : Vec F S512x2048 .f32) (x1 : Vec F S1x2048 .f32) (x2 : Vec F S2048x1024 .f32) :
    out0_A_3 (F := F) c i a2 h2 a3 h3 a4 h4 a5 h5 a6 h6 hc0 x0 x1 x2 = k0_pay2 (k0_pay1 x0 x1) x2 := by
  unfold out0_A_3
  rw [View.read_writes_eq_canon _ _ _ (cover0_A_3 c i a2 h2 a3 h3 a4 h4 a5 h5 a6 h6 hc0 x0 x1 x2)]
  unfold kernelRun0_A
  dsimp only
  sl_unfold_words
  simp only [View.readAt_eq_ld, h2.read_unread, h3.read_unread, h4.read_unread]
  rw [View.canon_unit_zero offO, View.readCov_unit_zero (h := offX), View.ld_unit_zero offX, View.ld_unit_zero offG, View.ld_unit_zero offW]

/-- The grid's one point. -/
def pt : Fin cfg0.N := ⟨0, lt_of_lt_of_eq (by decide) N_0.symm⟩

theorem idx_all : win0_0.index pt = ![0, 0] ∧ win0_1.index pt = ![0, 0] ∧ win0_2.index pt = ![0, 0] ∧ win0_3.index pt = ![0, 0] := by
  decide +kernel

theorem rows_read (x : Vec F S2x256x2048 .f32) (r : Fin 512) (k : Fin 2048) : shapeCast S512x2048 x shapeCasts_S2x256x2048_S512x2048 (ix2 r k)
    = x (ix3 ⟨r.val / 256, by omega⟩ ⟨r.val % 256, by omega⟩ k) := by
  pointwise

theorem gain_read (x : Vec F S2x2048 .f32) (k : Fin 2048) : shapeCast S1x2048 (shapeCast S2048 (extractStridedSlice S1x2048 ![0, 0] x slices_S2x2048_S1x2048_0_0) shapeCasts_S1x2048_S2048) shapeCasts_S2048_S1x2048 (ix2 0 k)
    = x (ix2 0 k) := by
  pointwise

theorem blk0 (c : Dev nD) (r : Fin 512) (k : Fin 2048) : iblk m c 0 pt (ix2 r k)
    = m ((c : Thread nD τ).loc main_arg0) (ix3 ⟨r.val / 256, by omega⟩ ⟨r.val % 256, by omega⟩ k) := by
  have hv : V m c main_v5 = shapeCast S512x2048 (m ((c : Thread nD τ).loc main_arg0)) shapeCasts_S2x256x2048_S512x2048 := by
    simp only [V, hostOps0, List.flatten_cons, List.flatten_nil, List.append_nil, List.cons_append, List.nil_append]
    after_reads_simp
    rfl
  have he : iblk m c 0 pt (ix2 r k) = V m c main_v5 (ix2 r k) := by
    refine congrArg (V m c main_v5) (funext fun a => ?_)
    have e := congrFun idx_all.1
    match a with
    | ⟨0, _⟩ => exact Fin.ext (by have := e 0; show win0_0.index pt 0 * 512 + 1 * r.val = _; rw [this]; show 0 * 512 + 1 * r.val = r.val; omega)
    | ⟨1, _⟩ => exact Fin.ext (by have := e 1; show win0_0.index pt 1 * 2048 + 1 * k.val = _; rw [this]; show 0 * 2048 + 1 * k.val = k.val; omega)
  rw [he, hv]
  exact rows_read _ r k

theorem blk1 (c : Dev nD) (k : Fin 2048) : iblk m c 1 pt (ix2 0 k) = m ((c : Thread nD τ).loc main_arg1) (ix2 0 k) := by
  have hv : V m c main_v8 = shapeCast S1x2048 (shapeCast S2048 (extractStridedSlice S1x2048 ![0, 0] (m ((c : Thread nD τ).loc main_arg1)) slices_S2x2048_S1x2048_0_0) shapeCasts_S1x2048_S2048) shapeCasts_S2048_S1x2048 := by
    simp only [V, hostOps0, List.flatten_cons, List.flatten_nil, List.append_nil, List.cons_append, List.nil_append]
    after_reads_simp
    rfl
  have he : iblk m c 1 pt (ix2 0 k) = V m c main_v8 (ix2 0 k) := by
    refine congrArg (V m c main_v8) (funext fun a => ?_)
    have e := congrFun idx_all.2.1
    match a with
    | ⟨0, _⟩ => exact Fin.ext (by have := e 0; show win0_1.index pt 0 * 1 + 1 * 0 = _; rw [this]; rfl)
    | ⟨1, _⟩ => exact Fin.ext (by have := e 1; show win0_1.index pt 1 * 2048 + 1 * k.val = _; rw [this]; show 0 * 2048 + 1 * k.val = k.val; omega)
  rw [he, hv]
  exact gain_read _ k

/-- The key and the value weights side by side. -/
def both (k v : (⟨S2x2048x512, .f32⟩ : BufTy).Contents (Elt F)) : Vec F S2048x1024 .f32 :=
  concatenate S2048x1024 1 [⟨S2048x512, shapeCast S2048x512 (extractStridedSlice S1x2048x512 ![0, 0, 0] k slices_S2x2048x512_S1x2048x512_0_0_0) shapeCasts_S1x2048x512_S2048x512⟩,
    ⟨S2048x512, shapeCast S2048x512 (extractStridedSlice S1x2048x512 ![0, 0, 0] v slices_S2x2048x512_S1x2048x512_0_0_0) shapeCasts_S1x2048x512_S2048x512⟩] concatenates_S2048x512_S2048x512_S2048x1024_d1

theorem blk2 (c : Dev nD) (k : Fin 2048) (j : Fin 1024) : iblk m c 2 pt (ix2 k j)
    = both (m ((c : Thread nD τ).loc main_arg2)) (m ((c : Thread nD τ).loc main_arg3)) (ix2 k j) := by
  have hv : V m c main_v4 = both (m ((c : Thread nD τ).loc main_arg2)) (m ((c : Thread nD τ).loc main_arg3)) := by
    simp only [V, hostOps0, List.flatten_cons, List.flatten_nil, List.append_nil, List.cons_append, List.nil_append]
    after_reads_simp
    rfl
  rw [← hv]
  refine congrArg (V m c main_v4) (funext fun a => ?_)
  have e := congrFun idx_all.2.2.1
  match a with
  | ⟨0, _⟩ => exact Fin.ext (by have := e 0; show win0_2.index pt 0 * 2048 + 1 * k.val = _; rw [this]; show 0 * 2048 + 1 * k.val = k.val; omega)
  | ⟨1, _⟩ => exact Fin.ext (by have := e 1; show win0_2.index pt 1 * 1024 + 1 * j.val = _; rw [this]; show 0 * 1024 + 1 * j.val = j.val; omega)

theorem left_out (c : Dev nD) (r : Fin 512) (j : Fin 1024) : (dats m 0 c).arrAt 3 cfg0.N (ix2 r j)
    = k0_pay2 (k0_pay1 (iblk m c 0 pt) (iblk m c 1 pt)) (iblk m c 2 pt) (ix2 r j) := by
  have hb := congrFun (Cert.Kernel5Ideal.Value.blocks3 m c pt (by decide +kernel)) (ix2 r j)
  rw [Cert.Kernel5Ideal.Value.flushed3_A, out0_A_3_eq] at hb
  refine Eq.trans ?_ (hb.trans rfl)
  refine congrArg ((dats m 0 c).arrAt 3 cfg0.N) (funext fun a => ?_)
  have e := congrFun idx_all.2.2.2
  match a with
  | ⟨0, _⟩ => exact Fin.ext (by have := e 0; show _ = win0_3.index pt 0 * 512 + 1 * r.val; rw [this]; show r.val = 0 * 512 + 1 * r.val; omega)
  | ⟨1, _⟩ => exact Fin.ext (by have := e 1; show _ = win0_3.index pt 1 * 1024 + 1 * j.val; rw [this]; show j.val = 0 * 1024 + 1 * j.val; omega)

end Points

/-! ## The values -/

/-- An element of a row after its norm. -/
def normed (x g : Fin 2048 → EReal) (k : Fin 2048) : EReal :=
  x k * Ideal.rsqrt (Ideal.div (∑ k, x k * x k) (Ideal.ofBits .f32 0x45000000#32) + Ideal.ofBits .f32 0x358637BD#32) * g k

/-- One element of the product of a normed row with a column. -/
def proj (x g w : Fin 2048 → EReal) : EReal := ∑ k, normed x g k * w k

theorem pay_read (x : Vec Ideal S512x2048 .f32) (g : Vec Ideal S1x2048 .f32) (w : Vec Ideal S2048x1024 .f32) (r : Fin 512) (j : Fin 1024) :
    k0_pay2 (k0_pay1 x g) w (ix2 r j) = proj (fun k => x (ix2 r k)) (fun k => g (ix2 0 k)) (fun k => w (ix2 k j)) := by
  pointwise [k0_pay1, k0_pay2]
  rfl

variable (m : (ℓ : Loc nD τ sig) → Buf (Elt Ideal) ℓ)

/-- What the result ends with. -/
theorem kernel_read (c : Dev nD) (r : Fin 512) (j : Fin 1024) : (dats m 0 c).arrAt 3 cfg0.N (ix2 r j)
    = proj (fun k => m ((c : Thread nD τ).loc main_arg0) (ix3 ⟨r.val / 256, by omega⟩ ⟨r.val % 256, by omega⟩ k)) (fun k => m ((c : Thread nD τ).loc main_arg1) (ix2 0 k))
        (fun k => both (m ((c : Thread nD τ).loc main_arg2)) (m ((c : Thread nD τ).loc main_arg3)) (ix2 k j)) := by
  rw [left_out, pay_read]
  congr 1
  · funext k; exact blk0 m c _ _
  · funext k; exact blk1 m c _
  · funext k; exact blk2 m c _ _

end Cert.Kernel5Ideal.Mem

namespace Cert.Mem

open Idealize.ShloMosaic Idealize.ShloMosaic.TcCoe Idealize.SL.Sem Idealize.ShloMosaic.StableHlo

/-- The kernel and the reference end with the same array. -/
theorem same_values : Cert.algebraic_Kernel5Ideal_Reference5Ideal := by
  intro m g m' g' _ hargs
  refine ⟨fun c => (Cert.Kernel5Ideal.Gen.dats m 0 c).arrAt 3 Cert.Kernel5Ideal.cfg0.N, Cert.Kernel5Ideal.Value.run_blocks m g,
    (θ_run _ _ _).mono (fun r h c => ?_) (Cert.Reference5Ideal.Value.run m' g')⟩
  obtain ⟨h0, h1, h2, h3⟩ := hargs c
  obtain ⟨ho, hk⟩ := h c
  refine ⟨ho.trans ?_, hk⟩
  rw [h0, h1, h2, h3]
  funext i
  idx_vars i
  refine Eq.trans ?_ (Cert.Kernel5Ideal.Mem.kernel_read m c i0 i1).symm
  pointwise [Cert.Kernel5Ideal.Mem.proj, Cert.Kernel5Ideal.Mem.normed, Cert.Kernel5Ideal.Mem.both]
  by_cases h : i1.val < 512 <;> simp only [h, ↓reduceDIte]

end Cert.Mem

end
-- ==== Proof.Rows.lean ====
/-
  The values that the norms and the projections share: a normed row, and its product with a column.
-/
module

public import Idealize.ShloMosaic.Lib.Pointwise

@[expose] public section

noncomputable section

namespace Cert.Rows

open Idealize.ShloMosaic

/-- An element of a row of `n` after its norm and gain; `d` is the row's length as the programs have it. -/
def normed {n : ℕ} (d : EReal) (x g : Fin n → EReal) (k : Fin n) : EReal :=
  x k * Ideal.rsqrt (Ideal.div (∑ k, x k * x k) d + Ideal.ofBits .f32 0x358637BD#32) * g k

/-- The product of a row with a column. -/
def prod {n : ℕ} (x w : Fin n → EReal) : EReal := ∑ k, x k * w k

theorem prod_zero {n : ℕ} (x : Fin n → EReal) : prod x (fun _ => 0) = 0 :=
  Finset.sum_eq_zero fun k _ => mul_zero _

end Cert.Rows

end
-- ==== Proof.FinalNorm.lean ====
/-
  The final norm of the prompt's rows and of the samples': a block of rows at each point of the grid, against the norm of all.
-/
module

public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Rows
public import proofs.«01_k».proof.Defs
public import Idealize.ShloMosaic.Lib.Pointwise
public import Idealize.ShloMosaic.Lib.Pipeline.Value
public import Idealize.ShloMosaic.Lib.StableHlo.RunRead

@[expose] public section

set_option maxRecDepth 65536

noncomputable section

namespace Cert.Kernel6Ideal.Norm

open Idealize.ShloMosaic Idealize.ShloMosaic.TcCoe Idealize.SL.Sem Idealize.ShloMosaic.StableHlo Cert.Kernel6Ideal Cert.Kernel6Ideal.Gen

variable (m : (ℓ : Loc nD τ sig) → Buf (Elt Ideal) ℓ)

theorem offX : (![0, 0] : Fin S512x2048.rank → ℕ) = fun _ => 0 := by funext a; fin_cases a <;> rfl
theorem offG : (![0, 0] : Fin S1x2048.rank → ℕ) = fun _ => 0 := by funext a; fin_cases a <;> rfl

theorem pay_read (x : Vec Ideal S512x2048 .f32) (g : Vec Ideal S1x2048 .f32) (r : Fin 512) (k : Fin 2048) :
    out0_2 x g (ix2 r k) = Cert.Rows.normed (Ideal.ofBits .f32 0x45000000#32) (fun k => x (ix2 r k)) (fun k => g (ix2 0 k)) k := by
  unfold out0_2
  rw [View.canon_unit_zero offX, View.ld_unit_zero offX, View.ld_unit_zero offG]
  pointwise [k0_pay1, Cert.Rows.normed]

theorem idx_all : ∀ t : Fin cfg0.N, win0_0.index t = ![t.val, 0] ∧ win0_1.index t = ![0, 0] ∧ win0_2.index t = ![t.val, 0] :=
  (by decide +kernel : ∀ t : Fin grid0.N, _)

theorem blk0 (c : Dev nD) (t : Fin cfg0.N) (r : Fin 512) (k : Fin 2048) : iblk m c 0 t (ix2 r k)
    = m ((c : Thread nD τ).loc main_arg0) (ix2 ⟨(t.val) * 512 + r.val, by have := lt_of_lt_of_eq t.isLt N_0; omega⟩ k) := by
  rw [← V_main_arg0 m c]
  refine congrArg (V m c main_arg0) (funext fun a => ?_)
  have e := congrFun (idx_all t).1
  match a with
  | ⟨0, _⟩ => exact Fin.ext (by have := e 0; show win0_0.index t 0 * 512 + 1 * r.val = _; rw [this]; show (t.val) * 512 + 1 * r.val = (t.val) * 512 + r.val; omega)
  | ⟨1, _⟩ => exact Fin.ext (by have := e 1; show win0_0.index t 1 * 2048 + 1 * k.val = _; rw [this]; show 0 * 2048 + 1 * k.val = k.val; omega)

theorem gain_read (x : Vec Ideal S2048 .f32) (k : Fin 2048) : shapeCast S1x2048 x shapeCasts_S2048_S1x2048 (ix2 0 k) = x (ix1 k) := by
  pointwise

theorem blk1 (c : Dev nD) (t : Fin cfg0.N) (k : Fin 2048) : iblk m c 1 t (ix2 0 k) = m ((c : Thread nD τ).loc main_arg1) (ix1 k) := by
  have hv : V m c main_v0 = shapeCast S1x2048 (m ((c : Thread nD τ).loc main_arg1)) shapeCasts_S2048_S1x2048 := by
    simp only [V, hostOps0, List.flatten_cons, List.flatten_nil, List.append_nil, List.cons_append, List.nil_append]
    after_reads_simp
    rfl
  have he : iblk m c 1 t (ix2 0 k) = V m c main_v0 (ix2 0 k) := by
    refine congrArg (V m c main_v0) (funext fun a => ?_)
    have e := congrFun (idx_all t).2.1
    match a with
    | ⟨0, _⟩ => exact Fin.ext (by have := e 0; show win0_1.index t 0 * 1 + 1 * 0 = _; rw [this]; rfl)
    | ⟨1, _⟩ => exact Fin.ext (by have := e 1; show win0_1.index t 1 * 2048 + 1 * k.val = _; rw [this]; show 0 * 2048 + 1 * k.val = k.val; omega)
  rw [he, hv]
  exact gain_read _ k

/-- What the result ends with. -/
theorem kernel_read (c : Dev nD) (i : Fin 8192) (k : Fin 2048) : (dats m 0 c).arrAt 2 cfg0.N (ix2 i k)
    = Cert.Rows.normed (Ideal.ofBits .f32 0x45000000#32) (fun k => m ((c : Thread nD τ).loc main_arg0) (ix2 ⟨i.val, by omega⟩ k))
        (fun k => m ((c : Thread nD τ).loc main_arg1) (ix1 k)) k := by
  have ht : i.val / 512 < cfg0.N := lt_of_lt_of_eq (by omega) N_0.symm
  have hb := congrFun (Cert.Kernel6Ideal.Value.blocks2 m c ⟨i.val / 512, ht⟩ (flush0_2 _)) (ix2 ⟨i.val % 512, by omega⟩ k)
  rw [Cert.Kernel6Ideal.Value.flushed2] at hb
  have e := congrFun (idx_all ⟨i.val / 512, ht⟩).2.2
  refine (congrArg ((dats m 0 c).arrAt 2 cfg0.N) (funext fun a => ?_)).trans ((hb.trans rfl).trans ((pay_read _ _ _ k).trans ?_))
  · match a with
    | ⟨0, _⟩ => exact Fin.ext (by have := e 0; show _ = win0_2.index _ 0 * 512 + 1 * (i.val % 512); rw [this]; show i.val = i.val / 512 * 512 + 1 * (i.val % 512); omega)
    | ⟨1, _⟩ => exact Fin.ext (by have := e 1; show _ = win0_2.index _ 1 * 2048 + 1 * k.val; rw [this]; show k.val = 0 * 2048 + 1 * k.val; omega)
  · simp only [blk0, blk1]
    congr 1
    funext k
    congr 2
    exact Fin.ext (by dsimp only; omega)

end Cert.Kernel6Ideal.Norm

namespace Cert.Kernel7Ideal.Norm

open Idealize.ShloMosaic Idealize.ShloMosaic.TcCoe Idealize.SL.Sem Idealize.ShloMosaic.StableHlo Cert.Kernel7Ideal Cert.Kernel7Ideal.Gen

variable (m : (ℓ : Loc nD τ sig) → Buf (Elt Ideal) ℓ)

theorem offX : (![0, 0] : Fin S512x2048.rank → ℕ) = fun _ => 0 := by funext a; fin_cases a <;> rfl
theorem offG : (![0, 0] : Fin S1x2048.rank → ℕ) = fun _ => 0 := by funext a; fin_cases a <;> rfl

theorem pay_read (x : Vec Ideal S512x2048 .f32) (g : Vec Ideal S1x2048 .f32) (r : Fin 512) (k : Fin 2048) :
    out0_2 x g (ix2 r k) = Cert.Rows.normed (Ideal.ofBits .f32 0x45000000#32) (fun k => x (ix2 r k)) (fun k => g (ix2 0 k)) k := by
  unfold out0_2
  rw [View.canon_unit_zero offX, View.ld_unit_zero offX, View.ld_unit_zero offG]
  pointwise [k0_pay1, Cert.Rows.normed]

theorem idx_all : ∀ t : Fin cfg0.N, win0_0.index t = ![16 + t.val, 0] ∧ win0_1.index t = ![0, 0] ∧ win0_2.index t = ![t.val, 0] :=
  (by decide +kernel : ∀ t : Fin grid0.N, _)

theorem blk0 (c : Dev nD) (t : Fin cfg0.N) (r : Fin 512) (k : Fin 2048) : iblk m c 0 t (ix2 r k)
    = m ((c : Thread nD τ).loc main_arg0) (ix2 ⟨(16 + t.val) * 512 + r.val, by have := lt_of_lt_of_eq t.isLt N_0; omega⟩ k) := by
  rw [← V_main_arg0 m c]
  refine congrArg (V m c main_arg0) (funext fun a => ?_)
  have e := congrFun (idx_all t).1
  match a with
  | ⟨0, _⟩ => exact Fin.ext (by have := e 0; show win0_0.index t 0 * 512 + 1 * r.val = _; rw [this]; show (16 + t.val) * 512 + 1 * r.val = (16 + t.val) * 512 + r.val; omega)
  | ⟨1, _⟩ => exact Fin.ext (by have := e 1; show win0_0.index t 1 * 2048 + 1 * k.val = _; rw [this]; show 0 * 2048 + 1 * k.val = k.val; omega)

theorem gain_read (x : Vec Ideal S2048 .f32) (k : Fin 2048) : shapeCast S1x2048 x shapeCasts_S2048_S1x2048 (ix2 0 k) = x (ix1 k) := by
  pointwise

theorem blk1 (c : Dev nD) (t : Fin cfg0.N) (k : Fin 2048) : iblk m c 1 t (ix2 0 k) = m ((c : Thread nD τ).loc main_arg1) (ix1 k) := by
  have hv : V m c main_v0 = shapeCast S1x2048 (m ((c : Thread nD τ).loc main_arg1)) shapeCasts_S2048_S1x2048 := by
    simp only [V, hostOps0, List.flatten_cons, List.flatten_nil, List.append_nil, List.cons_append, List.nil_append]
    after_reads_simp
    rfl
  have he : iblk m c 1 t (ix2 0 k) = V m c main_v0 (ix2 0 k) := by
    refine congrArg (V m c main_v0) (funext fun a => ?_)
    have e := congrFun (idx_all t).2.1
    match a with
    | ⟨0, _⟩ => exact Fin.ext (by have := e 0; show win0_1.index t 0 * 1 + 1 * 0 = _; rw [this]; rfl)
    | ⟨1, _⟩ => exact Fin.ext (by have := e 1; show win0_1.index t 1 * 2048 + 1 * k.val = _; rw [this]; show 0 * 2048 + 1 * k.val = k.val; omega)
  rw [he, hv]
  exact gain_read _ k

/-- What the result ends with. -/
theorem kernel_read (c : Dev nD) (i : Fin 1024) (k : Fin 2048) : (dats m 0 c).arrAt 2 cfg0.N (ix2 i k)
    = Cert.Rows.normed (Ideal.ofBits .f32 0x45000000#32) (fun k => m ((c : Thread nD τ).loc main_arg0) (ix2 ⟨8192 + i.val, by omega⟩ k))
        (fun k => m ((c : Thread nD τ).loc main_arg1) (ix1 k)) k := by
  have ht : i.val / 512 < cfg0.N := lt_of_lt_of_eq (by omega) N_0.symm
  have hb := congrFun (Cert.Kernel7Ideal.Value.blocks2 m c ⟨i.val / 512, ht⟩ (flush0_2 _)) (ix2 ⟨i.val % 512, by omega⟩ k)
  rw [Cert.Kernel7Ideal.Value.flushed2] at hb
  have e := congrFun (idx_all ⟨i.val / 512, ht⟩).2.2
  refine (congrArg ((dats m 0 c).arrAt 2 cfg0.N) (funext fun a => ?_)).trans ((hb.trans rfl).trans ((pay_read _ _ _ k).trans ?_))
  · match a with
    | ⟨0, _⟩ => exact Fin.ext (by have := e 0; show _ = win0_2.index _ 0 * 512 + 1 * (i.val % 512); rw [this]; show i.val = i.val / 512 * 512 + 1 * (i.val % 512); omega)
    | ⟨1, _⟩ => exact Fin.ext (by have := e 1; show _ = win0_2.index _ 1 * 2048 + 1 * k.val; rw [this]; show k.val = 0 * 2048 + 1 * k.val; omega)
  · simp only [blk0, blk1]
    congr 1
    funext k
    congr 2
    exact Fin.ext (by dsimp only; omega)

end Cert.Kernel7Ideal.Norm

namespace Cert.FinalNorm

open Idealize.ShloMosaic Idealize.ShloMosaic.TcCoe Idealize.SL.Sem Idealize.ShloMosaic.StableHlo

/-- The prompt's rows: the kernel and the reference end with the same array. -/
theorem same_prompt : Cert.algebraic_Kernel6Ideal_Reference6Ideal := by
  intro m g m' g' _ hargs
  refine ⟨fun c => (Cert.Kernel6Ideal.Gen.dats m 0 c).arrAt 2 Cert.Kernel6Ideal.cfg0.N, Cert.Kernel6Ideal.Value.run_blocks m g,
    (θ_run _ _ _).mono (fun r h c => ?_) (Cert.Reference6Ideal.Value.run m' g')⟩
  obtain ⟨h0, h1⟩ := hargs c
  obtain ⟨ho, hk⟩ := h c
  refine ⟨ho.trans ?_, hk⟩
  rw [h0, h1]
  funext i
  idx_vars i
  refine Eq.trans ?_ (Cert.Kernel6Ideal.Norm.kernel_read m c i0 i1).symm
  pointwise [Cert.Rows.normed]

/-- The samples' rows. -/
theorem same_sample : Cert.algebraic_Kernel7Ideal_Reference7Ideal := by
  intro m g m' g' _ hargs
  refine ⟨fun c => (Cert.Kernel7Ideal.Gen.dats m 0 c).arrAt 2 Cert.Kernel7Ideal.cfg0.N, Cert.Kernel7Ideal.Value.run_blocks m g,
    (θ_run _ _ _).mono (fun r h c => ?_) (Cert.Reference7Ideal.Value.run m' g')⟩
  obtain ⟨h0, h1⟩ := hargs c
  obtain ⟨ho, hk⟩ := h c
  refine ⟨ho.trans ?_, hk⟩
  rw [h0, h1]
  funext i
  idx_vars i
  refine Eq.trans ?_ (Cert.Kernel7Ideal.Norm.kernel_read m c i0 i1).symm
  pointwise [Cert.Rows.normed]

end Cert.FinalNorm

end
-- ==== Proof.OutProj.lean ====
/-
  The output projections with the residual added: a block of rows and columns at each point, the whole inner dimension in one product.
-/
module

public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Rows
public import proofs.«01_k».proof.Defs
public import Idealize.ShloMosaic.Lib.Pointwise
public import Idealize.ShloMosaic.Lib.Pipeline.Value
public import Idealize.ShloMosaic.Lib.StableHlo.RunRead

@[expose] public section

set_option maxRecDepth 65536

noncomputable section

namespace Cert.Kernel8Ideal.Out

open Idealize.ShloMosaic Idealize.ShloMosaic.TcCoe Idealize.SL.Sem Idealize.ShloMosaic.StableHlo Cert.Kernel8Ideal Cert.Kernel8Ideal.Gen

variable (m : (ℓ : Loc nD τ sig) → Buf (Elt Ideal) ℓ)

theorem offA : (![0, 0] : Fin S1024x2048.rank → ℕ) = fun _ => 0 := by funext a; fin_cases a <;> rfl
theorem offW : (![0, 0, 0] : Fin S1x2048x1024.rank → ℕ) = fun _ => 0 := by funext a; fin_cases a <;> rfl
theorem offO : (![0, 0] : Fin S1024x1024.rank → ℕ) = fun _ => 0 := by funext a; fin_cases a <;> rfl

theorem pay_read (x : Vec Ideal S1024x2048 .bf16) (w : Vec Ideal S1x2048x1024 .f32) (y : Vec Ideal S1024x1024 .f32) (r j : Fin 1024) :
    out0_3 x w y (ix2 r j) = Cert.Rows.prod (fun k => (x (ix2 r k) : EReal)) (fun k => w (ix3 0 k j)) + y (ix2 r j) := by
  unfold out0_3
  rw [View.canon_unit_zero offO, View.ld_unit_zero offA, View.ld_unit_zero offW, View.ld_unit_zero offO]
  pointwise [k0_pay1, Cert.Rows.prod]

theorem idx_all : ∀ t : Fin cfg0.N, win0_0.index t = ![t.val / 2, 0] ∧ win0_1.index t = ![0, 0, t.val % 2] ∧ win0_2.index t = ![t.val / 2, t.val % 2]
    ∧ win0_3.index t = ![t.val / 2, t.val % 2] :=
  (by decide +kernel : ∀ t : Fin grid0.N, _)

theorem blk0 (c : Dev nD) (t : Fin cfg0.N) (r : Fin 1024) (k : Fin 2048) : iblk m c 0 t (ix2 r k)
    = m ((c : Thread nD τ).loc main_arg0) (ix2 ⟨t.val / 2 * 1024 + r.val, by have := lt_of_lt_of_eq t.isLt N_0; omega⟩ k) := by
  rw [← V_main_arg0 m c]
  refine congrArg (V m c main_arg0) (funext fun a => ?_)
  have e := congrFun (idx_all t).1
  match a with
  | ⟨0, _⟩ => exact Fin.ext (by have := e 0; show win0_0.index t 0 * 1024 + 1 * r.val = _; rw [this]; show t.val / 2 * 1024 + 1 * r.val = t.val / 2 * 1024 + r.val; omega)
  | ⟨1, _⟩ => exact Fin.ext (by have := e 1; show win0_0.index t 1 * 2048 + 1 * k.val = _; rw [this]; show 0 * 2048 + 1 * k.val = k.val; omega)

theorem blk1 (c : Dev nD) (t : Fin cfg0.N) (k : Fin 2048) (j : Fin 1024) : iblk m c 1 t (ix3 0 k j)
    = m ((c : Thread nD τ).loc main_arg1) (ix3 0 k ⟨t.val % 2 * 1024 + j.val, by omega⟩) := by
  rw [← V_main_arg1 m c]
  refine congrArg (V m c main_arg1) (funext fun a => ?_)
  have e := congrFun (idx_all t).2.1
  match a with
  | ⟨0, _⟩ => exact Fin.ext (by have := e 0; show win0_1.index t 0 * 1 + 1 * 0 = _; rw [this]; rfl)
  | ⟨1, _⟩ => exact Fin.ext (by have := e 1; show win0_1.index t 1 * 2048 + 1 * k.val = _; rw [this]; show 0 * 2048 + 1 * k.val = k.val; omega)
  | ⟨2, _⟩ => exact Fin.ext (by have := e 2; show win0_1.index t 2 * 1024 + 1 * j.val = _; rw [this]; show t.val % 2 * 1024 + 1 * j.val = t.val % 2 * 1024 + j.val; omega)

theorem blk2 (c : Dev nD) (t : Fin cfg0.N) (r j : Fin 1024) : iblk m c 2 t (ix2 r j)
    = m ((c : Thread nD τ).loc main_arg2) (ix2 ⟨t.val / 2 * 1024 + r.val, by have := lt_of_lt_of_eq t.isLt N_0; omega⟩ ⟨t.val % 2 * 1024 + j.val, by omega⟩) := by
  rw [← V_main_arg2 m c]
  refine congrArg (V m c main_arg2) (funext fun a => ?_)
  have e := congrFun (idx_all t).2.2.1
  match a with
  | ⟨0, _⟩ => exact Fin.ext (by have := e 0; show win0_2.index t 0 * 1024 + 1 * r.val = _; rw [this]; show t.val / 2 * 1024 + 1 * r.val = t.val / 2 * 1024 + r.val; omega)
  | ⟨1, _⟩ => exact Fin.ext (by have := e 1; show win0_2.index t 1 * 1024 + 1 * j.val = _; rw [this]; show t.val % 2 * 1024 + 1 * j.val = t.val % 2 * 1024 + j.val; omega)

/-- One element of the result: the residual and the product. -/
def elem (x w : Fin 2048 → EReal) (y : EReal) : EReal := y + Cert.Rows.prod x w

/-- What the result ends with. -/
theorem kernel_read (c : Dev nD) (i0 : Fin 9216) (i1 : Fin 2048) : (dats m 0 c).arrAt 3 cfg0.N (ix2 i0 i1)
    = elem (fun k => m ((c : Thread nD τ).loc main_arg0) (ix2 i0 k)) (fun k => m ((c : Thread nD τ).loc main_arg1) (ix3 0 k i1))
        (m ((c : Thread nD τ).loc main_arg2) (ix2 i0 i1)) := by
  have ht : i0.val / 1024 * 2 + i1.val / 1024 < cfg0.N := lt_of_lt_of_eq (by omega) N_0.symm
  have hb := congrFun (Cert.Kernel8Ideal.Value.blocks3 m c ⟨i0.val / 1024 * 2 + i1.val / 1024, ht⟩ (flush0_3 _)) (ix2 ⟨i0.val % 1024, by omega⟩ ⟨i1.val % 1024, by omega⟩)
  rw [Cert.Kernel8Ideal.Value.flushed3] at hb
  have e := congrFun (idx_all ⟨i0.val / 1024 * 2 + i1.val / 1024, ht⟩).2.2.2
  refine (congrArg ((dats m 0 c).arrAt 3 cfg0.N) (funext fun a => ?_)).trans ((hb.trans rfl).trans ((pay_read _ _ _ _ _).trans ?_))
  · match a with
    | ⟨0, _⟩ => exact Fin.ext (by have := e 0; show _ = win0_3.index _ 0 * 1024 + 1 * (i0.val % 1024); rw [this]; show i0.val = (i0.val / 1024 * 2 + i1.val / 1024) / 2 * 1024 + 1 * (i0.val % 1024); omega)
    | ⟨1, _⟩ => exact Fin.ext (by have := e 1; show _ = win0_3.index _ 1 * 1024 + 1 * (i1.val % 1024); rw [this]; show i1.val = (i0.val / 1024 * 2 + i1.val / 1024) % 2 * 1024 + 1 * (i1.val % 1024); omega)
  · have er : (⟨(i0.val / 1024 * 2 + i1.val / 1024) / 2 * 1024 + i0.val % 1024, by omega⟩ : Fin 9216) = i0 := Fin.ext (by dsimp only; omega)
    have ej : (⟨(i0.val / 1024 * 2 + i1.val / 1024) % 2 * 1024 + i1.val % 1024, by omega⟩ : Fin 2048) = i1 := Fin.ext (by dsimp only; omega)
    simp only [blk0, blk1, blk2, er, ej]
    exact add_comm _ _

end Cert.Kernel8Ideal.Out

namespace Cert.Kernel9Ideal.Out

open Idealize.ShloMosaic Idealize.ShloMosaic.TcCoe Idealize.SL.Sem Idealize.ShloMosaic.StableHlo Cert.Kernel9Ideal Cert.Kernel9Ideal.Gen

variable (m : (ℓ : Loc nD τ sig) → Buf (Elt Ideal) ℓ)

theorem offA : (![0, 0] : Fin S1024x512.rank → ℕ) = fun _ => 0 := by funext a; fin_cases a <;> rfl
theorem offW : (![0, 0, 0] : Fin S1x512x1024.rank → ℕ) = fun _ => 0 := by funext a; fin_cases a <;> rfl
theorem offO : (![0, 0] : Fin S1024x1024.rank → ℕ) = fun _ => 0 := by funext a; fin_cases a <;> rfl

theorem pay_read (x : Vec Ideal S1024x512 .bf16) (w : Vec Ideal S1x512x1024 .f32) (y : Vec Ideal S1024x1024 .f32) (r j : Fin 1024) :
    out0_3 x w y (ix2 r j) = Cert.Rows.prod (fun k => (x (ix2 r k) : EReal)) (fun k => w (ix3 0 k j)) + y (ix2 r j) := by
  unfold out0_3
  rw [View.canon_unit_zero offO, View.ld_unit_zero offA, View.ld_unit_zero offW, View.ld_unit_zero offO]
  pointwise [k0_pay1, Cert.Rows.prod]

theorem idx_all : ∀ t : Fin cfg0.N, win0_0.index t = ![t.val / 2, 0] ∧ win0_1.index t = ![0, 0, t.val % 2] ∧ win0_2.index t = ![t.val / 2, t.val % 2]
    ∧ win0_3.index t = ![t.val / 2, t.val % 2] :=
  (by decide +kernel : ∀ t : Fin grid0.N, _)

theorem blk0 (c : Dev nD) (t : Fin cfg0.N) (r : Fin 1024) (k : Fin 512) : iblk m c 0 t (ix2 r k)
    = m ((c : Thread nD τ).loc main_arg0) (ix2 ⟨t.val / 2 * 1024 + r.val, by have := lt_of_lt_of_eq t.isLt N_0; omega⟩ k) := by
  rw [← V_main_arg0 m c]
  refine congrArg (V m c main_arg0) (funext fun a => ?_)
  have e := congrFun (idx_all t).1
  match a with
  | ⟨0, _⟩ => exact Fin.ext (by have := e 0; show win0_0.index t 0 * 1024 + 1 * r.val = _; rw [this]; show t.val / 2 * 1024 + 1 * r.val = t.val / 2 * 1024 + r.val; omega)
  | ⟨1, _⟩ => exact Fin.ext (by have := e 1; show win0_0.index t 1 * 512 + 1 * k.val = _; rw [this]; show 0 * 512 + 1 * k.val = k.val; omega)

theorem blk1 (c : Dev nD) (t : Fin cfg0.N) (k : Fin 512) (j : Fin 1024) : iblk m c 1 t (ix3 0 k j)
    = m ((c : Thread nD τ).loc main_arg1) (ix3 0 k ⟨t.val % 2 * 1024 + j.val, by omega⟩) := by
  rw [← V_main_arg1 m c]
  refine congrArg (V m c main_arg1) (funext fun a => ?_)
  have e := congrFun (idx_all t).2.1
  match a with
  | ⟨0, _⟩ => exact Fin.ext (by have := e 0; show win0_1.index t 0 * 1 + 1 * 0 = _; rw [this]; rfl)
  | ⟨1, _⟩ => exact Fin.ext (by have := e 1; show win0_1.index t 1 * 512 + 1 * k.val = _; rw [this]; show 0 * 512 + 1 * k.val = k.val; omega)
  | ⟨2, _⟩ => exact Fin.ext (by have := e 2; show win0_1.index t 2 * 1024 + 1 * j.val = _; rw [this]; show t.val % 2 * 1024 + 1 * j.val = t.val % 2 * 1024 + j.val; omega)

theorem blk2 (c : Dev nD) (t : Fin cfg0.N) (r j : Fin 1024) : iblk m c 2 t (ix2 r j)
    = m ((c : Thread nD τ).loc main_arg2) (ix2 ⟨t.val / 2 * 1024 + r.val, by have := lt_of_lt_of_eq t.isLt N_0; omega⟩ ⟨t.val % 2 * 1024 + j.val, by omega⟩) := by
  rw [← V_main_arg2 m c]
  refine congrArg (V m c main_arg2) (funext fun a => ?_)
  have e := congrFun (idx_all t).2.2.1
  match a with
  | ⟨0, _⟩ => exact Fin.ext (by have := e 0; show win0_2.index t 0 * 1024 + 1 * r.val = _; rw [this]; show t.val / 2 * 1024 + 1 * r.val = t.val / 2 * 1024 + r.val; omega)
  | ⟨1, _⟩ => exact Fin.ext (by have := e 1; show win0_2.index t 1 * 1024 + 1 * j.val = _; rw [this]; show t.val % 2 * 1024 + 1 * j.val = t.val % 2 * 1024 + j.val; omega)

/-- One element of the result: the residual and the product. -/
def elem (x w : Fin 512 → EReal) (y : EReal) : EReal := y + Cert.Rows.prod x w

/-- What the result ends with. -/
theorem kernel_read (c : Dev nD) (i0 : Fin 9216) (i1 : Fin 2048) : (dats m 0 c).arrAt 3 cfg0.N (ix2 i0 i1)
    = elem (fun k => m ((c : Thread nD τ).loc main_arg0) (ix2 i0 k)) (fun k => m ((c : Thread nD τ).loc main_arg1) (ix3 0 k i1))
        (m ((c : Thread nD τ).loc main_arg2) (ix2 i0 i1)) := by
  have ht : i0.val / 1024 * 2 + i1.val / 1024 < cfg0.N := lt_of_lt_of_eq (by omega) N_0.symm
  have hb := congrFun (Cert.Kernel9Ideal.Value.blocks3 m c ⟨i0.val / 1024 * 2 + i1.val / 1024, ht⟩ (flush0_3 _)) (ix2 ⟨i0.val % 1024, by omega⟩ ⟨i1.val % 1024, by omega⟩)
  rw [Cert.Kernel9Ideal.Value.flushed3] at hb
  have e := congrFun (idx_all ⟨i0.val / 1024 * 2 + i1.val / 1024, ht⟩).2.2.2
  refine (congrArg ((dats m 0 c).arrAt 3 cfg0.N) (funext fun a => ?_)).trans ((hb.trans rfl).trans ((pay_read _ _ _ _ _).trans ?_))
  · match a with
    | ⟨0, _⟩ => exact Fin.ext (by have := e 0; show _ = win0_3.index _ 0 * 1024 + 1 * (i0.val % 1024); rw [this]; show i0.val = (i0.val / 1024 * 2 + i1.val / 1024) / 2 * 1024 + 1 * (i0.val % 1024); omega)
    | ⟨1, _⟩ => exact Fin.ext (by have := e 1; show _ = win0_3.index _ 1 * 1024 + 1 * (i1.val % 1024); rw [this]; show i1.val = (i0.val / 1024 * 2 + i1.val / 1024) % 2 * 1024 + 1 * (i1.val % 1024); omega)
  · have er : (⟨(i0.val / 1024 * 2 + i1.val / 1024) / 2 * 1024 + i0.val % 1024, by omega⟩ : Fin 9216) = i0 := Fin.ext (by dsimp only; omega)
    have ej : (⟨(i0.val / 1024 * 2 + i1.val / 1024) % 2 * 1024 + i1.val % 1024, by omega⟩ : Fin 2048) = i1 := Fin.ext (by dsimp only; omega)
    simp only [blk0, blk1, blk2, er, ej]
    exact add_comm _ _

end Cert.Kernel9Ideal.Out

namespace Cert.Reference8Ideal.Out

open Idealize.ShloMosaic Idealize.ShloMosaic.TcCoe Idealize.SL.Sem Idealize.ShloMosaic.StableHlo Cert.Reference8Ideal Cert.Reference8Ideal.Gen

theorem ref_read (x : Vec Ideal S9216x2048 .bf16) (w : Vec Ideal S1x2048x2048 .f32) (y : Vec Ideal S9216x2048 .f32) (i : Fin 9216) (j : Fin 2048) :
    addf y (Host.dotGeneral (F := Ideal) (φ₂ := .f32) dot_S9216x2048_S2048x2048_S9216x2048_1_0_0_1_n_n none (extf .f32 x bitsLt_bf16_f32) (shapeCast S2048x2048 w shapeCasts_S1x2048x2048_S2048x2048)) (ix2 i j)
      = Cert.Kernel8Ideal.Out.elem (fun k => (x (ix2 i k) : EReal)) (fun k => w (ix3 0 k j)) (y (ix2 i j)) := by
  pointwise [Cert.Kernel8Ideal.Out.elem, Cert.Rows.prod]

end Cert.Reference8Ideal.Out

namespace Cert.Reference9Ideal.Out

open Idealize.ShloMosaic Idealize.ShloMosaic.TcCoe Idealize.SL.Sem Idealize.ShloMosaic.StableHlo Cert.Reference9Ideal Cert.Reference9Ideal.Gen

theorem ref_read (x : Vec Ideal S9216x512 .bf16) (w : Vec Ideal S2x512x2048 .f32) (y : Vec Ideal S9216x2048 .f32) (i : Fin 9216) (j : Fin 2048) :
    addf y (Host.dotGeneral (F := Ideal) (φ₂ := .f32) dot_S9216x512_S512x2048_S9216x2048_1_0_0_1_n_n none (extf .f32 x bitsLt_bf16_f32) (shapeCast S512x2048 (extractStridedSlice S1x512x2048 ![0, 0, 0] w slices_S2x512x2048_S1x512x2048_0_0_0) shapeCasts_S1x512x2048_S512x2048)) (ix2 i j)
      = Cert.Kernel9Ideal.Out.elem (fun k => (x (ix2 i k) : EReal)) (fun k => w (ix3 0 k j)) (y (ix2 i j)) := by
  pointwise [Cert.Kernel9Ideal.Out.elem, Cert.Rows.prod]

end Cert.Reference9Ideal.Out

namespace Cert.OutProj

open Idealize.ShloMosaic Idealize.ShloMosaic.TcCoe Idealize.SL.Sem Idealize.ShloMosaic.StableHlo

/-- The projection after the even layer's mixers, and after the latent attention: the kernel and the reference end with the same array. -/
theorem same_mixer : Cert.algebraic_Kernel8Ideal_Reference8Ideal := by
  intro m g m' g' _ hargs
  refine ⟨fun c => (Cert.Kernel8Ideal.Gen.dats m 0 c).arrAt 3 Cert.Kernel8Ideal.cfg0.N, Cert.Kernel8Ideal.Value.run_blocks m g,
    (θ_run _ _ _).mono (fun r h c => ?_) (Cert.Reference8Ideal.Value.run m' g')⟩
  obtain ⟨h0, h1, h2⟩ := hargs c
  obtain ⟨ho, hk⟩ := h c
  refine ⟨ho.trans ?_, hk⟩
  rw [h0, h1, h2]
  funext i
  idx_vars i
  exact (Cert.Reference8Ideal.Out.ref_read _ _ _ i0 i1).trans (Cert.Kernel8Ideal.Out.kernel_read m c i0 i1).symm

/-- The projection after the attention over the memory. -/
theorem same_memory : Cert.algebraic_Kernel9Ideal_Reference9Ideal := by
  intro m g m' g' _ hargs
  refine ⟨fun c => (Cert.Kernel9Ideal.Gen.dats m 0 c).arrAt 3 Cert.Kernel9Ideal.cfg0.N, Cert.Kernel9Ideal.Value.run_blocks m g,
    (θ_run _ _ _).mono (fun r h c => ?_) (Cert.Reference9Ideal.Value.run m' g')⟩
  obtain ⟨h0, h1, h2⟩ := hargs c
  obtain ⟨ho, hk⟩ := h c
  refine ⟨ho.trans ?_, hk⟩
  rw [h0, h1, h2]
  funext i
  idx_vars i
  exact (Cert.Reference9Ideal.Out.ref_read _ _ _ i0 i1).trans (Cert.Kernel9Ideal.Out.kernel_read m c i0 i1).symm

end Cert.OutProj

end
-- ==== Proof.MemQ.lean ====
/-
  The projection of the attention over the memory's queries: one block of rows at a point, all columns, against the product of the normed rows.
-/
module

public import proofs.«01_k».proof.Proof.Gen.Kernel10Ideal.Value
public import proofs.«01_k».proof.Proof.Gen.Reference10Ideal.Run
public import proofs.«01_k».proof.Proof.Rows
public import proofs.«01_k».proof.Defs
public import Idealize.ShloMosaic.Lib.Pointwise
public import Idealize.ShloMosaic.Lib.Pipeline.Value
public import Idealize.ShloMosaic.Lib.StableHlo.RunRead

@[expose] public section

set_option maxRecDepth 65536

noncomputable section

namespace Cert.Kernel10Ideal.MemQ

open Idealize.ShloMosaic Idealize.ShloMosaic.TcCoe Idealize.SL.Sem Idealize.ShloMosaic.StableHlo Cert.Kernel10Ideal Cert.Kernel10Ideal.Gen

theorem offX : (![0, 0] : Fin S1024x2048.rank → ℕ) = fun _ => 0 := by funext a; fin_cases a <;> rfl
theorem offG : (![0, 0] : Fin S1x2048.rank → ℕ) = fun _ => 0 := by funext a; fin_cases a <;> rfl
theorem offW : (![0, 0, 0] : Fin S1x2048x512.rank → ℕ) = fun _ => 0 := by funext a; fin_cases a <;> rfl
theorem offO : (![0, 0] : Fin S1024x512.rank → ℕ) = fun _ => 0 := by funext a; fin_cases a <;> rfl

theorem out0_A_3_eq {F : FTy → Type} [FloatOps F] (c : Dev nD) (i : grid0.Coords) (a2 : Memref sig .tc .vmem S1024x2048 .f32) (h2 : a2.IsWhole) (a3 : Memref sig .tc .vmem S1x2048 .f32)
    (h3 : a3.IsWhole) (a4 : Memref sig .tc .vmem S1x2048x512 .f32) (h4 : a4.IsWhole) (a5 : Memref sig .tc .vmem S1024x512 .f32) (h5 : a5.IsWhole)
    (a6 : Memref sig .tc .vmem S1024x2048 .bf16) (h6 : a6.IsWhole) (hc0 : cond0_0 i)
    (x0 : Vec F S1024x2048 .f32) (x1 : Vec F S1x2048 .f32) (x2 : Vec F S1x2048x512 .f32) :
    out0_A_3 (F := F) c i a2 h2 a3 h3 a4 h4 a5 h5 a6 h6 hc0 x0 x1 x2 = k0_pay2 (k0_pay1 x0 x1) x2 := by
  unfold out0_A_3
  rw [View.read_writes_eq_canon _ _ _ (cover0_A_3 c i a2 h2 a3 h3 a4 h4 a5 h5 a6 h6 hc0 x0 x1 x2)]
  unfold kernelRun0_A
  dsimp only
  sl_unfold_words
  simp only [View.readAt_eq_ld, h2.read_unread, h3.read_unread, h4.read_unread]
  rw [View.canon_unit_zero offO, View.readCov_unit_zero (h := offX), View.ld_unit_zero offX, View.ld_unit_zero offG, View.ld_unit_zero offW]

variable (m : (ℓ : Loc nD τ sig) → Buf (Elt Ideal) ℓ)

theorem idx_all : ∀ t : Fin cfg0.N, win0_0.index t = ![t.val, 0] ∧ win0_1.index t = ![0, 0] ∧ win0_2.index t = ![0, 0, 0] ∧ win0_3.index t = ![t.val, 0] :=
  (by decide +kernel : ∀ t : Fin grid0.N, _)

theorem blk0 (c : Dev nD) (t : Fin cfg0.N) (r : Fin 1024) (k : Fin 2048) : iblk m c 0 t (ix2 r k)
    = m ((c : Thread nD τ).loc main_arg0) (ix2 ⟨t.val * 1024 + r.val, by have := lt_of_lt_of_eq t.isLt N_0; omega⟩ k) := by
  rw [← V_main_arg0 m c]
  refine congrArg (V m c main_arg0) (funext fun a => ?_)
  have e := congrFun (idx_all t).1
  match a with
  | ⟨0, _⟩ => exact Fin.ext (by have := e 0; show win0_0.index t 0 * 1024 + 1 * r.val = _; rw [this]; show t.val * 1024 + 1 * r.val = t.val * 1024 + r.val; omega)
  | ⟨1, _⟩ => exact Fin.ext (by have := e 1; show win0_0.index t 1 * 2048 + 1 * k.val = _; rw [this]; show 0 * 2048 + 1 * k.val = k.val; omega)

theorem gain_read (x : Vec Ideal S2x2048 .f32) (k : Fin 2048) : shapeCast S1x2048 (shapeCast S2048 (extractStridedSlice S1x2048 ![0, 0] x slices_S2x2048_S1x2048_0_0) shapeCasts_S1x2048_S2048) shapeCasts_S2048_S1x2048 (ix2 0 k)
    = x (ix2 0 k) := by
  pointwise

theorem blk1 (c : Dev nD) (t : Fin cfg0.N) (k : Fin 2048) : iblk m c 1 t (ix2 0 k) = m ((c : Thread nD τ).loc main_arg1) (ix2 0 k) := by
  have hv : V m c main_v2 = shapeCast S1x2048 (shapeCast S2048 (extractStridedSlice S1x2048 ![0, 0] (m ((c : Thread nD τ).loc main_arg1)) slices_S2x2048_S1x2048_0_0) shapeCasts_S1x2048_S2048) shapeCasts_S2048_S1x2048 := by
    simp only [V, hostOps0, List.flatten_cons, List.flatten_nil, List.append_nil, List.cons_append, List.nil_append]
    after_reads_simp
    rfl
  have he : iblk m c 1 t (ix2 0 k) = V m c main_v2 (ix2 0 k) := by
    refine congrArg (V m c main_v2) (funext fun a => ?_)
    have e := congrFun (idx_all t).2.1
    match a with
    | ⟨0, _⟩ => exact Fin.ext (by have := e 0; show win0_1.index t 0 * 1 + 1 * 0 = _; rw [this]; rfl)
    | ⟨1, _⟩ => exact Fin.ext (by have := e 1; show win0_1.index t 1 * 2048 + 1 * k.val = _; rw [this]; show 0 * 2048 + 1 * k.val = k.val; omega)
  rw [he, hv]
  exact gain_read _ k

theorem blk2 (c : Dev nD) (t : Fin cfg0.N) (k : Fin 2048) (j : Fin 512) : iblk m c 2 t (ix3 0 k j) = m ((c : Thread nD τ).loc main_arg2) (ix3 0 k j) := by
  rw [← V_main_arg2 m c]
  refine congrArg (V m c main_arg2) (funext fun a => ?_)
  have e := congrFun (idx_all t).2.2.1
  match a with
  | ⟨0, _⟩ => exact Fin.ext (by have := e 0; show win0_2.index t 0 * 1 + 1 * 0 = _; rw [this]; rfl)
  | ⟨1, _⟩ => exact Fin.ext (by have := e 1; show win0_2.index t 1 * 2048 + 1 * k.val = _; rw [this]; show 0 * 2048 + 1 * k.val = k.val; omega)
  | ⟨2, _⟩ => exact Fin.ext (by have := e 2; show win0_2.index t 2 * 512 + 1 * j.val = _; rw [this]; show 0 * 512 + 1 * j.val = j.val; omega)

/-- One element of the product of a normed row with a column. -/
def elem (x g w : Fin 2048 → EReal) : EReal := Cert.Rows.prod (Cert.Rows.normed (Ideal.ofBits .f32 0x45000000#32) x g) w

theorem pay_read (x : Vec Ideal S1024x2048 .f32) (g : Vec Ideal S1x2048 .f32) (w : Vec Ideal S1x2048x512 .f32) (r : Fin 1024) (j : Fin 512) :
    k0_pay2 (k0_pay1 x g) w (ix2 r j) = elem (fun k => x (ix2 r k)) (fun k => g (ix2 0 k)) (fun k => w (ix3 0 k j)) := by
  pointwise [k0_pay1, k0_pay2]
  rfl

/-- What the result ends with. -/
theorem kernel_read (c : Dev nD) (i : Fin 9216) (j : Fin 512) : (dats m 0 c).arrAt 3 cfg0.N (ix2 i j)
    = elem (fun k => m ((c : Thread nD τ).loc main_arg0) (ix2 i k)) (fun k => m ((c : Thread nD τ).loc main_arg1) (ix2 0 k))
        (fun k => m ((c : Thread nD τ).loc main_arg2) (ix3 0 k j)) := by
  have ht : i.val / 1024 < cfg0.N := lt_of_lt_of_eq (by omega) N_0.symm
  have hb := congrFun (Cert.Kernel10Ideal.Value.blocks3 m c ⟨i.val / 1024, ht⟩ (flush0_3 _)) (ix2 ⟨i.val % 1024, by omega⟩ j)
  rw [Cert.Kernel10Ideal.Value.flushed3_A, out0_A_3_eq] at hb
  have e := congrFun (idx_all ⟨i.val / 1024, ht⟩).2.2.2
  refine (congrArg ((dats m 0 c).arrAt 3 cfg0.N) (funext fun a => ?_)).trans ((hb.trans rfl).trans ((pay_read _ _ _ _ _).trans ?_))
  · match a with
    | ⟨0, _⟩ => exact Fin.ext (by have := e 0; show _ = win0_3.index _ 0 * 1024 + 1 * (i.val % 1024); rw [this]; show i.val = i.val / 1024 * 1024 + 1 * (i.val % 1024); omega)
    | ⟨1, _⟩ => exact Fin.ext (by have := e 1; show _ = win0_3.index _ 1 * 512 + 1 * j.val; rw [this]; show j.val = 0 * 512 + 1 * j.val; omega)
  · have er : (⟨i.val / 1024 * 1024 + i.val % 1024, by omega⟩ : Fin 9216) = i := Fin.ext (by dsimp only; omega)
    simp only [blk0, blk1, blk2, er]

end Cert.Kernel10Ideal.MemQ

namespace Cert.Reference10Ideal.MemQ

open Idealize.ShloMosaic Idealize.ShloMosaic.TcCoe Idealize.SL.Sem Idealize.ShloMosaic.StableHlo Cert.Reference10Ideal Cert.Reference10Ideal.Gen

/-- The reference's result as a function of its arguments. -/
def result (x : Vec Ideal S9216x2048 .f32) (g : Vec Ideal S2x2048 .f32) (w : Vec Ideal S2x2048x512 .f32) : Vec Ideal S9216x512 .f32 :=
  Host.dotGeneral (F := Ideal) (φ₂ := .f32) dot_S9216x2048_S2048x512_S9216x512_1_0_0_1_n_n none (mulf (mulf x (broadcastInDim S9216x2048 ![0, 1] bcast_S9216x1_S9216x2048_0_1
    (Host.rsqrt (addf (Host.divf (broadcastInDim S9216x1 ![0] bcast_S9216_S9216x1_0 (Host.reduceAdd (mulf x x) (constant (F := Ideal) S_ .f32 0x00000000#32) reducesTo_S9216x2048_S9216_d1 h_S_))
    (broadcastInDim S9216x1 ![] bcast_S_S9216x1 (constant (F := Ideal) S_ .f32 0x45000000#32))) (broadcastInDim S9216x1 ![] bcast_S_S9216x1 (constant (F := Ideal) S_ .f32 0x358637BD#32))))))
    (broadcastInDim S9216x2048 ![0, 1] bcast_S1x2048_S9216x2048_0_1 (broadcastInDim S1x2048 ![1] bcast_S2048_S1x2048_1
    (shapeCast S2048 (extractStridedSlice S1x2048 ![0, 0] g slices_S2x2048_S1x2048_0_0) shapeCasts_S1x2048_S2048))))
    (shapeCast S2048x512 (extractStridedSlice S1x2048x512 ![0, 0, 0] w slices_S2x2048x512_S1x2048x512_0_0_0) shapeCasts_S1x2048x512_S2048x512)

theorem result_read (x : Vec Ideal S9216x2048 .f32) (g : Vec Ideal S2x2048 .f32) (w : Vec Ideal S2x2048x512 .f32) (i : Fin 9216) (j : Fin 512) :
    result x g w (ix2 i j) = Cert.Kernel10Ideal.MemQ.elem (fun k => x (ix2 i k)) (fun k => g (ix2 0 k)) (fun k => w (ix3 0 k j)) := by
  pointwise [result, Cert.Kernel10Ideal.MemQ.elem, Cert.Rows.prod, Cert.Rows.normed]

end Cert.Reference10Ideal.MemQ

namespace Cert.MemQ

open Idealize.ShloMosaic Idealize.ShloMosaic.TcCoe Idealize.SL.Sem Idealize.ShloMosaic.StableHlo

/-- The kernel and the reference end with the same array. -/
theorem same_values : Cert.algebraic_Kernel10Ideal_Reference10Ideal := by
  intro m g m' g' _ hargs
  refine ⟨fun c => (Cert.Kernel10Ideal.Gen.dats m 0 c).arrAt 3 Cert.Kernel10Ideal.cfg0.N, Cert.Kernel10Ideal.Value.run_blocks m g,
    (θ_run _ _ _).mono (fun r h c => ?_) (Cert.Reference10Ideal.Value.run m' g')⟩
  obtain ⟨h0, h1, h2⟩ := hargs c
  obtain ⟨ho, hk⟩ := h c
  refine ⟨ho.trans ?_, hk⟩
  rw [h0, h1, h2]
  funext i
  idx_vars i
  exact (Cert.Reference10Ideal.MemQ.result_read _ _ _ i0 i1).trans (Cert.Kernel10Ideal.MemQ.kernel_read m c i0 i1).symm

end Cert.MemQ

end
-- ==== Proof.MlaIn.lean ====
/-
  The latent attention's down projection: one call over the weight columns filled up with zeros, against the product of the normed rows.
-/
module

public import proofs.«01_k».proof.Proof.Gen.Kernel11Ideal.Value
public import proofs.«01_k».proof.Proof.Gen.Reference11Ideal.Run
public import proofs.«01_k».proof.Proof.Rows
public import proofs.«01_k».proof.Defs
public import Idealize.ShloMosaic.Lib.Pointwise
public import Idealize.ShloMosaic.Lib.Pipeline.Value
public import Idealize.ShloMosaic.Lib.StableHlo.RunRead

@[expose] public section

set_option maxRecDepth 65536

noncomputable section

namespace Cert.Kernel11Ideal.MlaIn

open Idealize.ShloMosaic Idealize.ShloMosaic.TcCoe Idealize.SL.Sem Idealize.ShloMosaic.StableHlo Cert.Kernel11Ideal Cert.Kernel11Ideal.Gen

section Points

variable {F : FTy → Type} [FloatOps F]
variable (m : (ℓ : Loc nD τ sig) → Buf (Elt F) ℓ)

section Cases

variable (c : Dev nD) (i : grid0.Coords) (a2 : Memref sig .tc .vmem S1024x2048 .f32) (h2 : a2.IsWhole) (a3 : Memref sig .tc .vmem S1x2048 .f32)
  (h3 : a3.IsWhole) (a4 : Memref sig .tc .vmem S2048x384 .f32) (h4 : a4.IsWhole) (a5 : Memref sig .tc .vmem S1024x384 .f32) (h5 : a5.IsWhole)
  (a6 : Memref sig .tc .vmem S1024x2048 .bf16) (h6 : a6.IsWhole)
  (x0 : Vec F S1024x2048 .f32) (x1 : Vec F S1x2048 .f32) (x2 : Vec F S2048x384 .f32) (xs0 : Vec F S1024x2048 .bf16)

theorem sout0_A_0_eq (hc0 : cond0_0 i) : sout0_A_0 (F := F) c i a2 h2 a3 h3 a4 h4 a5 h5 a6 h6 hc0 x0 x1 x2 = k0_pay1 x0 x1 := by
  unfold sout0_A_0
  rw [View.read_writes_eq_canon _ _ _ (scover0_A_0 c i a2 h2 a3 h3 a4 h4 a5 h5 a6 h6 hc0 x0 x1 x2)]
  unfold kernelRun0_A
  dsimp only
  sl_unfold_words
  simp only [View.readAt_eq_ld, h2.read_unread, h3.read_unread]
  rw [View.canon_unit_zero (S := S1024x2048) (funext fun a => by fin_cases a <;> rfl),
    View.ld_unit_zero (S := S1024x2048) (funext fun a => by fin_cases a <;> rfl), View.ld_unit_zero (S := S1x2048) (funext fun a => by fin_cases a <;> rfl)]

theorem out0_A_3_eq (hc0 : cond0_0 i) : out0_A_3 (F := F) c i a2 h2 a3 h3 a4 h4 a5 h5 a6 h6 hc0 x0 x1 x2 = k0_pay2 (k0_pay1 x0 x1) x2 := by
  unfold out0_A_3
  rw [View.read_writes_eq_canon _ _ _ (cover0_A_3 c i a2 h2 a3 h3 a4 h4 a5 h5 a6 h6 hc0 x0 x1 x2)]
  unfold kernelRun0_A
  dsimp only
  sl_unfold_words
  simp only [View.readAt_eq_ld, h2.read_unread, h3.read_unread, h4.read_unread]
  rw [View.canon_unit_zero (S := S1024x384) (funext fun a => by fin_cases a <;> rfl),
    View.readCov_unit_zero (S := S1024x2048) (h := funext fun a => by fin_cases a <;> rfl),
    View.ld_unit_zero (S := S1024x2048) (funext fun a => by fin_cases a <;> rfl), View.ld_unit_zero (S := S1x2048) (funext fun a => by fin_cases a <;> rfl),
    View.ld_unit_zero (S := S2048x384) (funext fun a => by fin_cases a <;> rfl)]

theorem out0_B_3_eq (hc0 : ¬cond0_0 i) : out0_B_3 (F := F) c i a2 h2 a3 h3 a4 h4 a5 h5 a6 h6 hc0 x0 x1 x2 xs0 = k0_pay2 xs0 x2 := by
  unfold out0_B_3
  rw [View.read_writes_eq_canon _ _ _ (cover0_B_3 c i a2 h2 a3 h3 a4 h4 a5 h5 a6 h6 hc0 x0 x1 x2 xs0)]
  unfold kernelRun0_B
  dsimp only
  sl_unfold_words
  simp only [View.readAt_eq_ld, h4.read_unread, h6.read_unread]
  rw [View.canon_unit_zero (S := S1024x384) (funext fun a => by fin_cases a <;> rfl),
    View.ld_unit_zero (S := S1024x2048) (funext fun a => by fin_cases a <;> rfl), View.ld_unit_zero (S := S2048x384) (funext fun a => by fin_cases a <;> rfl)]

end Cases

theorem N_27 : cfg0.N = 27 := N_0

theorem idx_x : ∀ t : Fin cfg0.N, win0_0.index t = ![t.val / 3, 0] ∧ win0_1.index t = ![0, 0] ∧ win0_2.index t = ![0, t.val % 3] :=
  (by decide +kernel : ∀ t : Fin grid0.N, _)

/-- The weights' columns filled up with zeros to three blocks. -/
def weights (w : Vec F S1x2048x1088 .f32) : Vec F S2048x1152 .f32 :=
  pad S2048x1152 ![0, 0] ![0, 64] ![0, 0] (shapeCast S2048x1088 w shapeCasts_S1x2048x1088_S2048x1088) (sitofp .f32 (constantI S_ 32 0#32)) pads_S2048x1088_S2048x1152_000_0640 h_S_

theorem gain_read (x : Vec F S1x2048 .f32) (k : Fin 2048) : shapeCast S1x2048 (shapeCast S2048 x shapeCasts_S1x2048_S2048) shapeCasts_S2048_S1x2048 (ix2 0 k) = x (ix2 0 k) := by
  pointwise

theorem V_gain (c : Dev nD) : V m c main_v3 = shapeCast S1x2048 (shapeCast S2048 (m ((c : Thread nD τ).loc main_arg1)) shapeCasts_S1x2048_S2048) shapeCasts_S2048_S1x2048 := by
  simp only [V, hostOps0, hostOps0_1, hostOps0_2, List.flatten_cons, List.flatten_nil, List.append_nil, List.cons_append, List.nil_append]
  after_reads_simp
  rfl

theorem V_weights (c : Dev nD) : V m c main_v2 = weights (m ((c : Thread nD τ).loc main_arg2)) := by
  simp only [V, hostOps0, hostOps0_1, hostOps0_2, List.flatten_cons, List.flatten_nil, List.append_nil, List.cons_append, List.nil_append]
  after_reads_simp
  rfl

theorem blk0 (c : Dev nD) (t : Fin cfg0.N) (r : Fin 1024) (k : Fin 2048) : iblk m c 0 t (ix2 r k)
    = m ((c : Thread nD τ).loc main_arg0) (ix2 ⟨t.val / 3 * 1024 + r.val, by have := lt_of_lt_of_eq t.isLt N_27; omega⟩ k) := by
  rw [← V_main_arg0 m c]
  refine congrArg (V m c main_arg0) (funext fun a => ?_)
  have e := congrFun (idx_x t).1
  match a with
  | ⟨0, _⟩ => exact Fin.ext (by have := e 0; show win0_0.index t 0 * 1024 + 1 * r.val = _; rw [this]; show t.val / 3 * 1024 + 1 * r.val = t.val / 3 * 1024 + r.val; omega)
  | ⟨1, _⟩ => exact Fin.ext (by have := e 1; show win0_0.index t 1 * 2048 + 1 * k.val = _; rw [this]; show 0 * 2048 + 1 * k.val = k.val; omega)

theorem blk1 (c : Dev nD) (t : Fin cfg0.N) (k : Fin 2048) : iblk m c 1 t (ix2 0 k) = m ((c : Thread nD τ).loc main_arg1) (ix2 0 k) := by
  have he : iblk m c 1 t (ix2 0 k) = V m c main_v3 (ix2 0 k) := by
    refine congrArg (V m c main_v3) (funext fun a => ?_)
    have e := congrFun (idx_x t).2.1
    match a with
    | ⟨0, _⟩ => exact Fin.ext (by have := e 0; show win0_1.index t 0 * 1 + 1 * 0 = _; rw [this]; rfl)
    | ⟨1, _⟩ => exact Fin.ext (by have := e 1; show win0_1.index t 1 * 2048 + 1 * k.val = _; rw [this]; show 0 * 2048 + 1 * k.val = k.val; omega)
  rw [he, V_gain]
  exact gain_read _ k

theorem blk2 (c : Dev nD) (t : Fin cfg0.N) (k : Fin 2048) (j : Fin 384) : iblk m c 2 t (ix2 k j)
    = weights (m ((c : Thread nD τ).loc main_arg2)) (ix2 k ⟨t.val % 3 * 384 + j.val, by omega⟩) := by
  rw [← V_weights m c]
  refine congrArg (V m c main_v2) (funext fun a => ?_)
  have e := congrFun (idx_x t).2.2
  match a with
  | ⟨0, _⟩ => exact Fin.ext (by have := e 0; show win0_2.index t 0 * 2048 + 1 * k.val = _; rw [this]; show 0 * 2048 + 1 * k.val = k.val; omega)
  | ⟨1, _⟩ => exact Fin.ext (by have := e 1; show win0_2.index t 1 * 384 + 1 * j.val = _; rw [this]; show t.val % 3 * 384 + 1 * j.val = t.val % 3 * 384 + j.val; omega)

/-- The points of one row block read the same rows. -/
theorem same_rows (c : Dev nD) (t u : Fin cfg0.N) (h : t.val / 3 = u.val / 3) : iblk m c 0 t = iblk m c 0 u := by
  funext j; idx_vars j
  exact (blk0 m c t _ _).trans (Eq.trans (by simp only [h]) (blk0 m c u _ _).symm)

theorem same_gain (c : Dev nD) (t u : Fin cfg0.N) : iblk m c 1 t = iblk m c 1 u := by
  funext j; idx_vars j
  obtain rfl : j0 = 0 := Subsingleton.elim _ _
  exact (blk1 m c t _).trans (blk1 m c u _).symm

/-- The scratch holds the normed rows of the point's row block. -/
theorem carried (c : Dev nD) : ∀ (n : ℕ) (hn : n < cfg0.N), (outsAt0 m c n hn).2 = k0_pay1 (iblk m c 0 ⟨n, hn⟩) (iblk m c 1 ⟨n, hn⟩) := by
  intro n
  induction n with
  | zero => intro hn; rw [outsAt0_A m c ⟨0, hn⟩ rfl]; dsimp only; exact sout0_A_0_eq (F := F) ..
  | succ n ih =>
    intro hn
    by_cases h0 : (n + 1) % 3 = 0
    · rw [outsAt0_A m c ⟨n + 1, hn⟩ h0]; dsimp only; exact sout0_A_0_eq (F := F) ..
    · rw [outsAt0_B m c ⟨n + 1, hn⟩ h0]
      dsimp only
      refine (ih (by omega)).trans ?_
      rw [same_rows m c ⟨n, by omega⟩ ⟨n + 1, hn⟩ (by show n / 3 = (n + 1) / 3; omega), same_gain m c ⟨n, by omega⟩ ⟨n + 1, hn⟩]

theorem left_out (c : Dev nD) (t : Fin cfg0.N) : (outsAt0 m c t.val t.isLt).1 = k0_pay2 (k0_pay1 (iblk m c 0 t) (iblk m c 1 t)) (iblk m c 2 t) := by
  by_cases h0 : t.val % 3 = 0
  · rw [outsAt0_A m c t h0]; dsimp only; exact out0_A_3_eq (F := F) ..
  · rw [outsAt0_B m c t h0]
    dsimp only
    have hp : t.val - 1 < cfg0.N := Nat.lt_of_le_of_lt (Nat.sub_le _ _) t.isLt
    rw [carried m c (t.val - 1) hp, same_rows m c ⟨t.val - 1, hp⟩ t (by show (t.val - 1) / 3 = _; omega), same_gain m c ⟨t.val - 1, hp⟩ t]
    exact out0_B_3_eq (F := F) ..

end Points

/-! ## The values -/

/-- One element of the product of a normed row with a column. -/
def elem (x g w : Fin 2048 → EReal) : EReal := Cert.Rows.prod (Cert.Rows.normed (Ideal.ofBits .f32 0x45000000#32) x g) w

theorem pay_read (x : Vec Ideal S1024x2048 .f32) (g : Vec Ideal S1x2048 .f32) (w : Vec Ideal S2048x384 .f32) (r : Fin 1024) (j : Fin 384) :
    k0_pay2 (k0_pay1 x g) w (ix2 r j) = elem (fun k => x (ix2 r k)) (fun k => g (ix2 0 k)) (fun k => w (ix2 k j)) := by
  pointwise [k0_pay1, k0_pay2]
  rfl

variable (m : (ℓ : Loc nD τ sig) → Buf (Elt Ideal) ℓ)

theorem outs_at (c : Dev nD) (n k : ℕ) (e : n = k) (hn : n < cfg0.N) (hk : k < cfg0.N) : outsAt0 m c n hn = outsAt0 m c k hk := by
  subst e; rfl

/-- What the result ends with. -/
theorem kernel_read (c : Dev nD) (i0 : Fin 9216) (i1 : Fin 1152) : Cert.Kernel11Ideal.Value.G3 m c (ix2 i0 i1)
    = elem (fun k => m ((c : Thread nD τ).loc main_arg0) (ix2 i0 k)) (fun k => m ((c : Thread nD τ).loc main_arg1) (ix2 0 k))
        (fun k => weights (m ((c : Thread nD τ).loc main_arg2)) (ix2 k i1)) := by
  have ht : 3 * (i0.val / 1024) + i1.val / 384 < cfg0.N := lt_of_lt_of_eq (by omega) N_27.symm
  have e0 : Cert.Kernel11Ideal.Value.pt3Of (ix2 i0 i1) = 3 * (i0.val / 1024) + i1.val / 384 := by
    show 3 * (i0.val / 1024 - 0) + 1 * (i1.val / 384 - 0) = _
    omega
  have el : Cert.Kernel11Ideal.Value.loc3Of (ix2 i0 i1) = ix2 ⟨i0.val % 1024, by omega⟩ ⟨i1.val % 384, by omega⟩ := by
    funext a
    match a with
    | ⟨0, _⟩ => rfl
    | ⟨1, _⟩ => rfl
  unfold Cert.Kernel11Ideal.Value.G3
  refine (dif_pos (by rw [e0]; exact ht)).trans ?_
  rw [el, ← Cert.Kernel11Ideal.Value.outsAt0_sweep m c _ (by rw [e0]; exact ht), outs_at m c _ _ e0 _ ht,
    left_out m c ⟨3 * (i0.val / 1024) + i1.val / 384, ht⟩, pay_read]
  congr 1
  · funext k
    refine (blk0 m c _ _ _).trans (congrArg (m ((c : Thread nD τ).loc main_arg0)) ?_)
    congr 1; exact Fin.ext (by dsimp only; omega)
  · funext k
    exact blk1 m c _ _
  · funext k
    refine (blk2 m c _ _ _).trans (congrArg (weights _) ?_)
    congr 1; exact Fin.ext (by dsimp only; omega)

/-- The fill is zero. -/
theorem fill_zero : (FloatOps.sitofp FTy.f32 0#32 : Ideal .f32) = (0 : EReal) := by
  show (((0#32 : BitVec 32).toInt : ℝ) : EReal) = 0
  simp

theorem weights_read (w : Vec Ideal S1x2048x1088 .f32) (k : Fin 2048) (j : Fin 1152) :
    weights w (ix2 k j) = if h : j.val < 1088 then w (ix3 0 k ⟨j.val, h⟩) else 0 := by
  pointwise [weights]
  split
  · rfl
  · exact fill_zero

end Cert.Kernel11Ideal.MlaIn

namespace Cert.Reference11Ideal.MlaIn

open Idealize.ShloMosaic Idealize.ShloMosaic.TcCoe Idealize.SL.Sem Idealize.ShloMosaic.StableHlo Cert.Reference11Ideal Cert.Reference11Ideal.Gen Cert.Kernel11Ideal.MlaIn

/-- The product of the normed rows with the weights. -/
def product (x : Vec Ideal S9216x2048 .f32) (g : Vec Ideal S1x2048 .f32) (w : Vec Ideal S1x2048x1088 .f32) : Vec Ideal S9216x1088 .f32 :=
  Host.dotGeneral (F := Ideal) (φ₂ := .f32) dot_S9216x2048_S2048x1088_S9216x1088_1_0_0_1_n_n none (mulf (mulf x (broadcastInDim S9216x2048 ![0, 1] bcast_S9216x1_S9216x2048_0_1
    (Host.rsqrt (addf (Host.divf (broadcastInDim S9216x1 ![0] bcast_S9216_S9216x1_0 (Host.reduceAdd (mulf x x) (constant (F := Ideal) S_ .f32 0x00000000#32) reducesTo_S9216x2048_S9216_d1 h_S_))
    (broadcastInDim S9216x1 ![] bcast_S_S9216x1 (constant (F := Ideal) S_ .f32 0x45000000#32))) (broadcastInDim S9216x1 ![] bcast_S_S9216x1 (constant (F := Ideal) S_ .f32 0x358637BD#32))))))
    (broadcastInDim S9216x2048 ![0, 1] bcast_S1x2048_S9216x2048_0_1 (broadcastInDim S1x2048 ![1] bcast_S2048_S1x2048_1 (shapeCast S2048 g shapeCasts_S1x2048_S2048))))
    (shapeCast S2048x1088 w shapeCasts_S1x2048x1088_S2048x1088)

/-- The same with columns of zeros after it. -/
def filled (z : Vec Ideal S9216x1088 .f32) : Vec Ideal S9216x1152 .f32 :=
  concatenate S9216x1152 1 [⟨S9216x1088, z⟩, ⟨S9216x64, (broadcastInDim S9216x64 ![] bcast_S_S9216x64 (constant (F := Ideal) S_ .f32 0x00000000#32))⟩] concatenates_S9216x1088_S9216x64_S9216x1152_d1

theorem product_read (x : Vec Ideal S9216x2048 .f32) (g : Vec Ideal S1x2048 .f32) (w : Vec Ideal S1x2048x1088 .f32) (i : Fin 9216) (j : Fin 1088) :
    product x g w (ix2 i j) = elem (fun k => x (ix2 i k)) (fun k => g (ix2 0 k)) (fun k => w (ix3 0 k j)) := by
  pointwise [product, elem, Cert.Rows.prod, Cert.Rows.normed]

theorem filled_read (z : Vec Ideal S9216x1088 .f32) (i : Fin 9216) (j : Fin 1152) : filled z (ix2 i j) = if h : j.val < 1088 then z (ix2 i ⟨j.val, h⟩) else 0 := by
  pointwise [filled]

theorem same (x : Vec Ideal S9216x2048 .f32) (g : Vec Ideal S1x2048 .f32) (w : Vec Ideal S1x2048x1088 .f32) (i : Fin 9216) (j : Fin 1152) :
    filled (product x g w) (ix2 i j) = elem (fun k => x (ix2 i k)) (fun k => g (ix2 0 k)) (fun k => weights w (ix2 k j)) := by
  rw [filled_read]
  simp only [product_read, weights_read]
  by_cases h : j.val < 1088 <;> simp only [h, ↓reduceDIte]
  exact (Cert.Rows.prod_zero _).symm

end Cert.Reference11Ideal.MlaIn

namespace Cert.MlaIn

open Idealize.ShloMosaic Idealize.ShloMosaic.TcCoe Idealize.SL.Sem Idealize.ShloMosaic.StableHlo

/-- The kernel and the reference end with the same array. -/
theorem same_values : Cert.algebraic_Kernel11Ideal_Reference11Ideal := by
  intro m g m' g' _ hargs
  refine ⟨fun c => Cert.Kernel11Ideal.Value.G3 m c, Cert.Kernel11Ideal.Value.run m g,
    (θ_run _ _ _).mono (fun r h c => ?_) (Cert.Reference11Ideal.Value.run m' g')⟩
  obtain ⟨h0, h1, h2⟩ := hargs c
  obtain ⟨ho, hk⟩ := h c
  refine ⟨ho.trans ?_, hk⟩
  rw [h0, h1, h2]
  funext i
  idx_vars i
  refine Eq.trans ?_ (Cert.Kernel11Ideal.MlaIn.kernel_read m c i0 i1).symm
  exact Cert.Reference11Ideal.MlaIn.same _ _ _ i0 i1

end Cert.MlaIn

end
-- ==== Proof.MlaPrep.lean ====
/-
  The latent attention's rows after the down projection: the two norms and the rotation of the shared key, over tables of cosines and sines on all rows, against the norms and rotations of the prompt and of the samples.
-/
module

public import proofs.«01_k».proof.Proof.Gen.Kernel12Ideal.Value
public import proofs.«01_k».proof.Proof.Gen.Reference12Ideal.Run
public import proofs.«01_k».proof.Proof.Rows
public import proofs.«01_k».proof.Defs
public import Idealize.ShloMosaic.Lib.Pointwise
public import Idealize.ShloMosaic.Lib.Pipeline.Value
public import Idealize.ShloMosaic.Lib.StableHlo.RunRead

@[expose] public section

set_option maxRecDepth 65536

noncomputable section

namespace Cert.MlaPrep

open Idealize.ShloMosaic

/-- One of the rotation's 32 frequencies. -/
def freq (j : Fin 32) : EReal :=
  Ideal.pow (Ideal.ofBits .f32 0x461C4000#32) (Ideal.div (-(FloatOps.sitofp (F := Ideal) .f32 (BitVec.ofNat 32 j.val) : EReal)) (Ideal.ofBits .f32 0x42000000#32))

/-- The position of a row: the prompt's from zero in each sequence, the samples' after the cached ones. -/
def position (i : Fin 9216) : BitVec 32 :=
  if i.val < 8192 then BitVec.ofNat 32 (i.val % 4096) else IntOp.addi (16384#32) (BitVec.ofNat 32 ((i.val - 8192) % 8))

def angle (i : Fin 9216) (j : Fin 32) : EReal := (FloatOps.sitofp (F := Ideal) .f32 (position i) : EReal) * freq j

/-- A row's 64 rotated columns, then zeros: `x` is the row, `a` its angles. -/
def rotated (x : Fin 1152 → EReal) (a : Fin 32 → EReal) (j : Fin 128) : EReal :=
  if h : j.val < 32 then x ⟨1024 + j.val, by omega⟩ * Ideal.cos (a ⟨j.val, h⟩) - x ⟨1056 + j.val, by omega⟩ * Ideal.sin (a ⟨j.val, h⟩)
  else if h' : j.val < 64 then x ⟨1024 + j.val, by omega⟩ * Ideal.cos (a ⟨j.val - 32, by omega⟩) + x ⟨992 + j.val, by omega⟩ * Ideal.sin (a ⟨j.val - 32, by omega⟩)
  else 0

/-- The norm of 512 columns of a row from column `o` on. -/
def part (o : ℕ) (ho : o + 512 ≤ 1152) (x : Fin 1152 → EReal) (g : Fin 512 → EReal) (k : Fin 512) : EReal :=
  Cert.Rows.normed (Ideal.ofBits .f32 0x44000000#32) (fun k : Fin 512 => x ⟨o + k.val, by omega⟩) g k

end Cert.MlaPrep

namespace Cert.Kernel12Ideal.MlaPrep

open Idealize.ShloMosaic Idealize.ShloMosaic.TcCoe Idealize.SL.Sem Idealize.ShloMosaic.StableHlo Cert.Kernel12Ideal Cert.Kernel12Ideal.Gen

/-- The rows' positions as the program has them. -/
def positions : Vec Ideal S9216 .i32 :=
  concatenate S9216 0 [⟨S8192, shapeCast S8192 (broadcastInDim S2x4096 ![0, 1] bcast_S1x4096_S2x4096_0_1 (shapeCast S1x4096 (iotaInDim S4096 32 0) shapeCasts_S4096_S1x4096)) shapeCasts_S2x4096_S8192⟩,
    ⟨S1024, shapeCast S1024 (broadcastInDim S128x8 ![0, 1] bcast_S1x8_S128x8_0_1 (shapeCast S1x8 (addi (broadcastInDim S8 ![] bcast_S_S8 (constantI S_ 32 16384#32)) (iotaInDim S8 32 0)) shapeCasts_S8_S1x8)) shapeCasts_S128x8_S1024⟩]
    concatenates_S8192_S1024_S9216_d0

/-- The angles: a position times one of the 32 frequencies. -/
def angles (p : Vec Ideal S9216 .i32) : Vec Ideal S9216x32 .f32 :=
  mulf (broadcastInDim S9216x32 ![0, 1] bcast_S9216x1_S9216x32_0_1 (broadcastInDim S9216x1 ![0] bcast_S9216_S9216x1_0 (sitofp .f32 p)))
    (broadcastInDim S9216x32 ![0, 1] bcast_S1x32_S9216x32_0_1 (broadcastInDim S1x32 ![1] bcast_S32_S1x32_1 (Host.powf (F := Ideal) (broadcastInDim S32 ![] bcast_S_S32 (constant S_ .f32 0x461C4000#32))
      (Host.divf (Host.negf (sitofp .f32 (iotaInDim S32 32 0))) (broadcastInDim S32 ![] bcast_S_S32 (constant S_ .f32 0x42000000#32))))))

/-- Four pieces of 32 columns side by side. -/
def four (a b c d : Vec Ideal S9216x32 .f32) : Vec Ideal S9216x128 .f32 :=
  concatenate S9216x128 1 [⟨S9216x32, a⟩, ⟨S9216x32, b⟩, ⟨S9216x32, c⟩, ⟨S9216x32, d⟩] concatenates_S9216x32_S9216x32_S9216x32_S9216x32_S9216x128_d1

def zeros : Vec Ideal S9216x32 .f32 := broadcastInDim S9216x32 ![] bcast_S_S9216x32 (constant (F := Ideal) S_ .f32 0x00000000#32)

def cosines (a : Vec Ideal S9216x32 .f32) : Vec Ideal S9216x128 .f32 := four (Host.cos (F := Ideal) (φ := .f32) a) (Host.cos (F := Ideal) (φ := .f32) a) zeros zeros
def minus (a : Vec Ideal S9216x32 .f32) : Vec Ideal S9216x128 .f32 := four (Host.negf (F := Ideal) (φ := .f32) (Host.sin (F := Ideal) (φ := .f32) a)) zeros zeros zeros
def plus (a : Vec Ideal S9216x32 .f32) : Vec Ideal S9216x128 .f32 := four zeros (Host.sin (F := Ideal) (φ := .f32) a) zeros zeros

theorem angles_read (i : Fin 9216) (j : Fin 32) : angles positions (ix2 i j) = Cert.MlaPrep.angle i j := by
  have hp : positions (ix1 i) = Cert.MlaPrep.position i := by
    pointwise [positions, Cert.MlaPrep.position]
    rfl
  have ha : ∀ p : Vec Ideal S9216 .i32, angles p (ix2 i j) = (FloatOps.sitofp (F := Ideal) .f32 (p (ix1 i)) : EReal) * Cert.MlaPrep.freq j := by
    intro p
    pointwise [angles, Cert.MlaPrep.freq]
  rw [ha, hp]
  rfl

theorem zeros_read (i : Fin 9216) (j : Fin 32) : zeros (ix2 i j) = (0 : EReal) := by
  pointwise [zeros]

theorem four_read (a b c d : Vec Ideal S9216x32 .f32) (i : Fin 9216) (j : Fin 128) : four a b c d (ix2 i j)
    = if h : j.val < 32 then a (ix2 i ⟨j.val, h⟩) else if h : j.val - 32 < 32 then b (ix2 i ⟨j.val - 32, h⟩)
      else if h : j.val - 32 - 32 < 32 then c (ix2 i ⟨j.val - 32 - 32, h⟩) else d (ix2 i ⟨j.val - 32 - 32 - 32, by omega⟩) := by
  pointwise [four]

/-- The rotation of a row: two rolled copies of it, times the tables. -/
theorem turn (a : Vec Ideal S9216x32 .f32) (x : Fin 1152 → EReal) (i : Fin 9216) (j : Fin 128) :
    x ⟨1024 + j.val, by omega⟩ * cosines a (ix2 i j) + x ⟨1024 + (j.val + 128 - 96) % 128, by omega⟩ * minus a (ix2 i j)
      + x ⟨1024 + (j.val + 128 - 32) % 128, by omega⟩ * plus a (ix2 i j) = Cert.MlaPrep.rotated x (fun k => a (ix2 i k)) j := by
  have hc : ∀ (b : Vec Ideal S9216x32 .f32) (k : Fin 32), Host.cos (F := Ideal) (φ := .f32) b (ix2 i k) = Ideal.cos (b (ix2 i k)) := fun b k => by pointwise
  have hs : ∀ (b : Vec Ideal S9216x32 .f32) (k : Fin 32), Host.sin (F := Ideal) (φ := .f32) b (ix2 i k) = Ideal.sin (b (ix2 i k)) := fun b k => by pointwise
  have hn : ∀ (b : Vec Ideal S9216x32 .f32) (k : Fin 32), Host.negf (F := Ideal) (φ := .f32) b (ix2 i k) = -(b (ix2 i k) : EReal) := fun b k => by pointwise
  unfold cosines minus plus Cert.MlaPrep.rotated
  simp only [four_read, zeros_read, hc, hs, hn]
  by_cases h : j.val < 32
  · simp only [dif_pos h, mul_zero, add_zero, mul_neg, sub_eq_add_neg]
    congr 3
    congr 1
    exact Fin.ext (by dsimp only; omega)
  · by_cases h' : j.val < 64
    · have h2 : j.val - 32 < 32 := by omega
      simp only [dif_neg h, dif_pos h', dif_pos h2, mul_zero, add_zero]
      congr 2
      exact congrArg x (Fin.ext (by dsimp only; omega))
    · have h2 : ¬ j.val - 32 < 32 := by omega
      simp only [dif_neg h, dif_neg h', dif_neg h2, dite_eq_ite, ite_self, mul_zero, add_zero]

theorem offG : (![0, 0] : Fin S1x512.rank → ℕ) = fun _ => 0 := by funext a; fin_cases a <;> rfl
theorem offO : (![0, 0] : Fin S1024x512.rank → ℕ) = fun _ => 0 := by funext a; fin_cases a <;> rfl
theorem offT : (![0, 0] : Fin S1024x128.rank → ℕ) = fun _ => 0 := by funext a; fin_cases a <;> rfl

theorem cut0 (x : Vec Ideal S1024x1152 .f32) (r : Fin 1024) (k : Fin 512) : View.ld x r0_0 (ix2 r k) = x (ix2 r ⟨0 + k.val, by omega⟩) := by
  refine congrArg x (funext fun a => ?_)
  match a with
  | ⟨0, _⟩ => exact Fin.ext (by show 0 + 1 * r.val = r.val; omega)
  | ⟨1, _⟩ => exact Fin.ext (by show 0 + 1 * k.val = 0 + k.val; omega)

theorem cut3 (x : Vec Ideal S1024x1152 .f32) (r : Fin 1024) (k : Fin 512) : View.ld x r0_3 (ix2 r k) = x (ix2 r ⟨512 + k.val, by omega⟩) := by
  refine congrArg x (funext fun a => ?_)
  match a with
  | ⟨0, _⟩ => exact Fin.ext (by show 0 + 1 * r.val = r.val; omega)
  | ⟨1, _⟩ => exact Fin.ext (by show 512 + 1 * k.val = 512 + k.val; omega)

theorem cut4 (x : Vec Ideal S1024x1152 .f32) (r : Fin 1024) (k : Fin 128) : View.ld x r0_4 (ix2 r k) = x (ix2 r ⟨1024 + k.val, by omega⟩) := by
  refine congrArg x (funext fun a => ?_)
  match a with
  | ⟨0, _⟩ => exact Fin.ext (by show 0 + 1 * r.val = r.val; omega)
  | ⟨1, _⟩ => exact Fin.ext (by show 1024 + 1 * k.val = 1024 + k.val; omega)

theorem pay2_read (x : Vec Ideal S1024x512 .f32) (g : Vec Ideal S1x512 .f32) (r : Fin 1024) (k : Fin 512) :
    (k0_pay2 x g (ix2 r k) : EReal) = Cert.Rows.normed (Ideal.ofBits .f32 0x44000000#32) (fun k => x (ix2 r k)) (fun k => g (ix2 0 k)) k := by
  pointwise [k0_pay2, Cert.Rows.normed]

theorem pay3_read (x : Vec Ideal S1024x512 .f32) (g : Vec Ideal S1x512 .f32) (r : Fin 1024) (k : Fin 512) :
    k0_pay3 x g (ix2 r k) = Cert.Rows.normed (Ideal.ofBits .f32 0x44000000#32) (fun k => x (ix2 r k)) (fun k => g (ix2 0 k)) k := by
  pointwise [k0_pay3, Cert.Rows.normed]

theorem pay1_read (z c s u : Vec Ideal S1024x128 .f32) (r : Fin 1024) (j : Fin 128) : k0_pay1 z c s u (ix2 r j)
    = z (ix2 r j) * c (ix2 r j) + z (ix2 r ⟨(j.val + 128 - 96) % 128, by omega⟩) * s (ix2 r j) + z (ix2 r ⟨(j.val + 128 - 32) % 128, by omega⟩) * u (ix2 r j) := by
  pointwise [k0_pay1]

section Outs

variable (x0 : Vec Ideal S1024x1152 .f32) (x1 x2 : Vec Ideal S1x512 .f32) (x3 x4 x5 : Vec Ideal S1024x128 .f32) (r : Fin 1024)

theorem out6_read (k : Fin 512) : (out0_6 x0 x1 x2 x3 x4 x5 (ix2 r k) : EReal) = Cert.MlaPrep.part 0 (by omega) (fun k => x0 (ix2 r k)) (fun k => x1 (ix2 0 k)) k := by
  unfold out0_6
  rw [View.canon_unit_zero offO, View.ld_unit_zero offG, pay2_read]
  exact congrArg (fun f => Cert.Rows.normed _ f _ k) (funext fun k => cut0 x0 r k)

theorem out7_read (k : Fin 512) : out0_7 x0 x1 x2 x3 x4 x5 (ix2 r k) = Cert.MlaPrep.part 512 (by omega) (fun k => x0 (ix2 r k)) (fun k => x2 (ix2 0 k)) k := by
  unfold out0_7
  rw [View.canon_unit_zero offO, View.ld_unit_zero offG, pay3_read]
  exact congrArg (fun f => Cert.Rows.normed _ f _ k) (funext fun k => cut3 x0 r k)

theorem out8_read (j : Fin 128) : out0_8 x0 x1 x2 x3 x4 x5 (ix2 r j)
    = x0 (ix2 r ⟨1024 + j.val, by omega⟩) * x3 (ix2 r j) + x0 (ix2 r ⟨1024 + (j.val + 128 - 96) % 128, by omega⟩) * x4 (ix2 r j)
      + x0 (ix2 r ⟨1024 + (j.val + 128 - 32) % 128, by omega⟩) * x5 (ix2 r j) := by
  unfold out0_8
  rw [View.canon_unit_zero offT, View.ld_unit_zero offT, View.ld_unit_zero offT, View.ld_unit_zero offT, pay1_read]
  exact congrArg₂ (· + ·) (congrArg₂ (· + ·) (congrArg (· * x3 (ix2 r j)) (cut4 x0 r j)) (congrArg (· * x4 (ix2 r j)) (cut4 x0 r _))) (congrArg (· * x5 (ix2 r j)) (cut4 x0 r _))

end Outs

variable (m : (ℓ : Loc nD τ sig) → Buf (Elt Ideal) ℓ)

theorem V_cosines (c : Dev nD) : V m c main_v28 = cosines (angles positions) := by
  simp only [V, hostOps0, List.flatten_cons, List.flatten_nil, List.append_nil, List.cons_append, List.nil_append]
  after_reads_simp
  rfl

theorem V_minus (c : Dev nD) : V m c main_v30 = minus (angles positions) := by
  simp only [V, hostOps0, List.flatten_cons, List.flatten_nil, List.append_nil, List.cons_append, List.nil_append]
  after_reads_simp
  rfl

theorem V_plus (c : Dev nD) : V m c main_v31 = plus (angles positions) := by
  simp only [V, hostOps0, List.flatten_cons, List.flatten_nil, List.append_nil, List.cons_append, List.nil_append]
  after_reads_simp
  rfl

theorem gain_read (x : Vec Ideal S1x512 .f32) (k : Fin 512) : shapeCast S1x512 (shapeCast S512 x shapeCasts_S1x512_S512) shapeCasts_S512_S1x512 (ix2 0 k) = x (ix2 0 k) := by
  pointwise

theorem V_gain1 (c : Dev nD) : V m c main_v32 = shapeCast S1x512 (shapeCast S512 (m ((c : Thread nD τ).loc main_arg1)) shapeCasts_S1x512_S512) shapeCasts_S512_S1x512 := by
  simp only [V, hostOps0, List.flatten_cons, List.flatten_nil, List.append_nil, List.cons_append, List.nil_append]
  after_reads_simp
  rfl

theorem V_gain2 (c : Dev nD) : V m c main_v33 = shapeCast S1x512 (shapeCast S512 (m ((c : Thread nD τ).loc main_arg2)) shapeCasts_S1x512_S512) shapeCasts_S512_S1x512 := by
  simp only [V, hostOps0, List.flatten_cons, List.flatten_nil, List.append_nil, List.cons_append, List.nil_append]
  after_reads_simp
  rfl

theorem idx_in : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

theorem idx_out : ∀ t : Fin cfg0.N, win0_6.index t = ![t.val, 0] ∧ win0_7.index t = ![t.val, 0] ∧ win0_8.index t = ![t.val, 0] :=
  (by decide +kernel : ∀ t : Fin grid0.N, _)

/-- The row of the arrays that row `r` of point `t`'s block is. -/
def row (t : Fin cfg0.N) (r : Fin 1024) : Fin 9216 := ⟨t.val * 1024 + r.val, by have := lt_of_lt_of_eq t.isLt N_0; omega⟩

theorem blk0 (c : Dev nD) (t : Fin cfg0.N) (r : Fin 1024) (k : Fin 1152) : iblk m c 0 t (ix2 r k) = m ((c : Thread nD τ).loc main_arg0) (ix2 (row t r) k) := by
  rw [← V_main_arg0 m c]
  refine congrArg (V m c main_arg0) (funext fun a => ?_)
  have e := congrFun (idx_in t).1
  match a with
  | ⟨0, _⟩ => exact Fin.ext (by have := e 0; show win0_0.index t 0 * 1024 + 1 * r.val = _; rw [this]; show t.val * 1024 + 1 * r.val = t.val * 1024 + r.val; omega)
  | ⟨1, _⟩ => exact Fin.ext (by have := e 1; show win0_0.index t 1 * 1152 + 1 * k.val = _; rw [this]; show 0 * 1152 + 1 * k.val = k.val; omega)

theorem blk1 (c : Dev nD) (t : Fin cfg0.N) (k : Fin 512) : iblk m c 1 t (ix2 0 k) = m ((c : Thread nD τ).loc main_arg1) (ix2 0 k) := by
  have he : iblk m c 1 t (ix2 0 k) = V m c main_v32 (ix2 0 k) := by
    refine congrArg (V m c main_v32) (funext fun a => ?_)
    have e := congrFun (idx_in t).2.1
    match a with
    | ⟨0, _⟩ => exact Fin.ext (by have := e 0; show win0_1.index t 0 * 1 + 1 * 0 = _; rw [this]; rfl)
    | ⟨1, _⟩ => exact Fin.ext (by have := e 1; show win0_1.index t 1 * 512 + 1 * k.val = _; rw [this]; show 0 * 512 + 1 * k.val = k.val; omega)
  rw [he, V_gain1]
  exact gain_read _ k

theorem blk2 (c : Dev nD) (t : Fin cfg0.N) (k : Fin 512) : iblk m c 2 t (ix2 0 k) = m ((c : Thread nD τ).loc main_arg2) (ix2 0 k) := by
  have he : iblk m c 2 t (ix2 0 k) = V m c main_v33 (ix2 0 k) := by
    refine congrArg (V m c main_v33) (funext fun a => ?_)
    have e := congrFun (idx_in t).2.2.1
    match a with
    | ⟨0, _⟩ => exact Fin.ext (by have := e 0; show win0_2.index t 0 * 1 + 1 * 0 = _; rw [this]; rfl)
    | ⟨1, _⟩ => exact Fin.ext (by have := e 1; show win0_2.index t 1 * 512 + 1 * k.val = _; rw [this]; show 0 * 512 + 1 * k.val = k.val; omega)
  rw [he, V_gain2]
  exact gain_read _ k

theorem blk3 (c : Dev nD) (t : Fin cfg0.N) (r : Fin 1024) (j : Fin 128) : iblk m c 3 t (ix2 r j) = cosines (angles positions) (ix2 (row t r) j) := by
  rw [← V_cosines m c]
  refine congrArg (V m c main_v28) (funext fun a => ?_)
  have e := congrFun (idx_in t).2.2.2.1
  match a with
  | ⟨0, _⟩ => exact Fin.ext (by have := e 0; show win0_3.index t 0 * 1024 + 1 * r.val = _; rw [this]; show t.val * 1024 + 1 * r.val = t.val * 1024 + r.val; omega)
  | ⟨1, _⟩ => exact Fin.ext (by have := e 1; show win0_3.index t 1 * 128 + 1 * j.val = _; rw [this]; show 0 * 128 + 1 * j.val = j.val; omega)

theorem blk4 (c : Dev nD) (t : Fin cfg0.N) (r : Fin 1024) (j : Fin 128) : iblk m c 4 t (ix2 r j) = minus (angles positions) (ix2 (row t r) j) := by
  rw [← V_minus m c]
  refine congrArg (V m c main_v30) (funext fun a => ?_)
  have e := congrFun (idx_in t).2.2.2.2.1
  match a with
  | ⟨0, _⟩ => exact Fin.ext (by have := e 0; show win0_4.index t 0 * 1024 + 1 * r.val = _; rw [this]; show t.val * 1024 + 1 * r.val = t.val * 1024 + r.val; omega)
  | ⟨1, _⟩ => exact Fin.ext (by have := e 1; show win0_4.index t 1 * 128 + 1 * j.val = _; rw [this]; show 0 * 128 + 1 * j.val = j.val; omega)

theorem blk5 (c : Dev nD) (t : Fin cfg0.N) (r : Fin 1024) (j : Fin 128) : iblk m c 5 t (ix2 r j) = plus (angles positions) (ix2 (row t r) j) := by
  rw [← V_plus m c]
  refine congrArg (V m c main_v31) (funext fun a => ?_)
  have e := congrFun (idx_in t).2.2.2.2.2
  match a with
  | ⟨0, _⟩ => exact Fin.ext (by have := e 0; show win0_5.index t 0 * 1024 + 1 * r.val = _; rw [this]; show t.val * 1024 + 1 * r.val = t.val * 1024 + r.val; omega)
  | ⟨1, _⟩ => exact Fin.ext (by have := e 1; show win0_5.index t 1 * 128 + 1 * j.val = _; rw [this]; show 0 * 128 + 1 * j.val = j.val; omega)

theorem point_lt (i : Fin 9216) : i.val / 1024 < cfg0.N := lt_of_lt_of_eq (by omega) N_0.symm

theorem row_of (i : Fin 9216) : row ⟨i.val / 1024, point_lt i⟩ ⟨i.val % 1024, by omega⟩ = i := Fin.ext (by show i.val / 1024 * 1024 + i.val % 1024 = i.val; omega)

/-- What the queries' array ends with. -/
theorem read_q (c : Dev nD) (i : Fin 9216) (k : Fin 512) : ((dats m 0 c).arrAt 6 cfg0.N (ix2 i k) : EReal)
    = Cert.MlaPrep.part 0 (by omega) (fun k => m ((c : Thread nD τ).loc main_arg0) (ix2 i k)) (fun k => m ((c : Thread nD τ).loc main_arg1) (ix2 0 k)) k := by
  have hb := congrFun (Cert.Kernel12Ideal.Value.blocks6 m c ⟨i.val / 1024, point_lt i⟩ (flush0_6 _)) (ix2 ⟨i.val % 1024, by omega⟩ k)
  rw [Cert.Kernel12Ideal.Value.flushed6] at hb
  have e := congrFun (idx_out ⟨i.val / 1024, point_lt i⟩).1
  refine (congrArg ((dats m 0 c).arrAt 6 cfg0.N) (funext fun a => ?_)).trans ((hb.trans rfl).trans ((out6_read _ _ _ _ _ _ _ _).trans ?_))
  · match a with
    | ⟨0, _⟩ => exact Fin.ext (by have := e 0; show _ = win0_6.index _ 0 * 1024 + 1 * (i.val % 1024); rw [this]; show i.val = i.val / 1024 * 1024 + 1 * (i.val % 1024); omega)
    | ⟨1, _⟩ => exact Fin.ext (by have := e 1; show _ = win0_6.index _ 1 * 512 + 1 * k.val; rw [this]; show k.val = 0 * 512 + 1 * k.val; omega)
  · simp only [blk0, blk1, row_of]

/-- What the latent rows' array ends with. -/
theorem read_c (c : Dev nD) (i : Fin 9216) (k : Fin 512) : (dats m 0 c).arrAt 7 cfg0.N (ix2 i k)
    = Cert.MlaPrep.part 512 (by omega) (fun k => m ((c : Thread nD τ).loc main_arg0) (ix2 i k)) (fun k => m ((c : Thread nD τ).loc main_arg2) (ix2 0 k)) k := by
  have hb := congrFun (Cert.Kernel12Ideal.Value.blocks7 m c ⟨i.val / 1024, point_lt i⟩ (flush0_7 _)) (ix2 ⟨i.val % 1024, by omega⟩ k)
  rw [Cert.Kernel12Ideal.Value.flushed7] at hb
  have e := congrFun (idx_out ⟨i.val / 1024, point_lt i⟩).2.1
  refine (congrArg ((dats m 0 c).arrAt 7 cfg0.N) (funext fun a => ?_)).trans ((hb.trans rfl).trans ((out7_read _ _ _ _ _ _ _ _).trans ?_))
  · match a with
    | ⟨0, _⟩ => exact Fin.ext (by have := e 0; show _ = win0_7.index _ 0 * 1024 + 1 * (i.val % 1024); rw [this]; show i.val = i.val / 1024 * 1024 + 1 * (i.val % 1024); omega)
    | ⟨1, _⟩ => exact Fin.ext (by have := e 1; show _ = win0_7.index _ 1 * 512 + 1 * k.val; rw [this]; show k.val = 0 * 512 + 1 * k.val; omega)
  · simp only [blk0, blk2, row_of]

/-- What the rotated key's array ends with. -/
theorem read_k (c : Dev nD) (i : Fin 9216) (j : Fin 128) : (dats m 0 c).arrAt 8 cfg0.N (ix2 i j)
    = Cert.MlaPrep.rotated (fun k => m ((c : Thread nD τ).loc main_arg0) (ix2 i k)) (Cert.MlaPrep.angle i) j := by
  have hb := congrFun (Cert.Kernel12Ideal.Value.blocks8 m c ⟨i.val / 1024, point_lt i⟩ (flush0_8 _)) (ix2 ⟨i.val % 1024, by omega⟩ j)
  rw [Cert.Kernel12Ideal.Value.flushed8] at hb
  have e := congrFun (idx_out ⟨i.val / 1024, point_lt i⟩).2.2
  refine (congrArg ((dats m 0 c).arrAt 8 cfg0.N) (funext fun a => ?_)).trans ((hb.trans rfl).trans ((out8_read _ _ _ _ _ _ _ _).trans ?_))
  · match a with
    | ⟨0, _⟩ => exact Fin.ext (by have := e 0; show _ = win0_8.index _ 0 * 1024 + 1 * (i.val % 1024); rw [this]; show i.val = i.val / 1024 * 1024 + 1 * (i.val % 1024); omega)
    | ⟨1, _⟩ => exact Fin.ext (by have := e 1; show _ = win0_8.index _ 1 * 128 + 1 * j.val; rw [this]; show j.val = 0 * 128 + 1 * j.val; omega)
  · simp only [blk0, blk3, blk4, blk5, row_of]
    refine (turn (angles positions) (fun k => m ((c : Thread nD τ).loc main_arg0) (ix2 i k)) i j).trans ?_
    simp only [angles_read]

end Cert.Kernel12Ideal.MlaPrep

namespace Cert.Reference12Ideal.MlaPrep

open Idealize.ShloMosaic Idealize.ShloMosaic.TcCoe Idealize.SL.Sem Idealize.ShloMosaic.StableHlo Cert.Reference12Ideal Cert.Reference12Ideal.Gen

/-- The prompt's rows. -/
def promptRows (z : Vec Ideal S9216x1152 .f32) : Vec Ideal S2x4096x1152 .f32 :=
  shapeCast S2x4096x1152 (extractStridedSlice S8192x1152 ![0, 0] z slices_S9216x1152_S8192x1152_0_0) shapeCasts_S8192x1152_S2x4096x1152

/-- The samples' rows. -/
def sampleRows (z : Vec Ideal S9216x1152 .f32) : Vec Ideal S128x8x1152 .f32 :=
  shapeCast S128x8x1152 (extractStridedSlice S1024x1152 ![8192, 0] z slices_S9216x1152_S1024x1152_8192_0) shapeCasts_S1024x1152_S128x8x1152

def promptNorm (x : Vec Ideal S2x4096x512 .f32) (g : Vec Ideal S1x512 .f32) : Vec Ideal S2x4096x512 .f32 :=
  mulf (mulf x (broadcastInDim S2x4096x512 ![0, 1, 2] bcast_S2x4096x1_S2x4096x512_0_1_2 (Host.rsqrt (addf (Host.divf (broadcastInDim S2x4096x1 ![0, 1] bcast_S2x4096_S2x4096x1_0_1
    (Host.reduceAdd (mulf x x) (constant (F := Ideal) S_ .f32 0x00000000#32) reducesTo_S2x4096x512_S2x4096_d2 h_S_)) (broadcastInDim S2x4096x1 ![] bcast_S_S2x4096x1 (constant (F := Ideal) S_ .f32 0x44000000#32)))
    (broadcastInDim S2x4096x1 ![] bcast_S_S2x4096x1 (constant (F := Ideal) S_ .f32 0x358637BD#32))))))
    (broadcastInDim S2x4096x512 ![0, 1, 2] bcast_S1x1x512_S2x4096x512_0_1_2 (broadcastInDim S1x1x512 ![2] bcast_S512_S1x1x512_2 (shapeCast S512 g shapeCasts_S1x512_S512)))

def sampleNorm (x : Vec Ideal S128x8x512 .f32) (g : Vec Ideal S1x512 .f32) : Vec Ideal S128x8x512 .f32 :=
  mulf (mulf x (broadcastInDim S128x8x512 ![0, 1, 2] bcast_S128x8x1_S128x8x512_0_1_2 (Host.rsqrt (addf (Host.divf (broadcastInDim S128x8x1 ![0, 1] bcast_S128x8_S128x8x1_0_1
    (Host.reduceAdd (mulf x x) (constant (F := Ideal) S_ .f32 0x00000000#32) reducesTo_S128x8x512_S128x8_d2 h_S_)) (broadcastInDim S128x8x1 ![] bcast_S_S128x8x1 (constant (F := Ideal) S_ .f32 0x44000000#32)))
    (broadcastInDim S128x8x1 ![] bcast_S_S128x8x1 (constant (F := Ideal) S_ .f32 0x358637BD#32))))))
    (broadcastInDim S128x8x512 ![0, 1, 2] bcast_S1x1x512_S128x8x512_0_1_2 (broadcastInDim S1x1x512 ![2] bcast_S512_S1x1x512_2 (shapeCast S512 g shapeCasts_S1x512_S512)))

/-- All rows of the normed columns. -/
def allRows (x : Vec Ideal S2x4096x512 .f32) (y : Vec Ideal S128x8x512 .f32) : Vec Ideal S9216x512 .f32 :=
  concatenate S9216x512 0 [⟨S8192x512, shapeCast S8192x512 x shapeCasts_S2x4096x512_S8192x512⟩, ⟨S1024x512, shapeCast S1024x512 y shapeCasts_S128x8x512_S1024x512⟩] concatenates_S8192x512_S1024x512_S9216x512_d0

def queries (z : Vec Ideal S9216x1152 .f32) (g : Vec Ideal S1x512 .f32) : FVec Ideal S9216x512 .bf16 :=
  truncf (F := Ideal) .bf16 (allRows (promptNorm (extractStridedSlice S2x4096x512 ![0, 0, 0] (promptRows z) slices_S2x4096x1152_S2x4096x512_0_0_0) g)
    (sampleNorm (extractStridedSlice S128x8x512 ![0, 0, 0] (sampleRows z) slices_S128x8x1152_S128x8x512_0_0_0) g)) bitsLt_bf16_f32

def latents (z : Vec Ideal S9216x1152 .f32) (g : Vec Ideal S1x512 .f32) : Vec Ideal S9216x512 .f32 :=
  allRows (promptNorm (extractStridedSlice S2x4096x512 ![0, 0, 512] (promptRows z) slices_S2x4096x1152_S2x4096x512_0_0_512) g)
    (sampleNorm (extractStridedSlice S128x8x512 ![0, 0, 512] (sampleRows z) slices_S128x8x1152_S128x8x512_0_0_512) g)

def freqs : Vec Ideal S32 .f32 := Host.powf (F := Ideal) (broadcastInDim S32 ![] bcast_S_S32 (constant S_ .f32 0x461C4000#32))
  (Host.divf (Host.negf (sitofp .f32 (iotaInDim S32 32 0))) (broadcastInDim S32 ![] bcast_S_S32 (constant S_ .f32 0x42000000#32)))

def promptAngles : Vec Ideal S4096x32 .f32 :=
  mulf (broadcastInDim S4096x32 ![0, 1] bcast_S4096x1_S4096x32_0_1 (broadcastInDim S4096x1 ![0] bcast_S4096_S4096x1_0 (sitofp (F := Ideal) .f32 (iotaInDim S4096 32 0))))
    (broadcastInDim S4096x32 ![0, 1] bcast_S1x32_S4096x32_0_1 (broadcastInDim S1x32 ![1] bcast_S32_S1x32_1 freqs))

def sampleAngles : Vec Ideal S8x32 .f32 :=
  mulf (broadcastInDim S8x32 ![0, 1] bcast_S8x1_S8x32_0_1 (broadcastInDim S8x1 ![0] bcast_S8_S8x1_0 (sitofp (F := Ideal) .f32 (addi (broadcastInDim S8 ![] bcast_S_S8 (constantI S_ 32 16384#32)) (iotaInDim S8 32 0)))))
    (broadcastInDim S8x32 ![0, 1] bcast_S1x32_S8x32_0_1 (broadcastInDim S1x32 ![1] bcast_S32_S1x32_1 freqs))

/-- An angle's cosine or sine for each row of the prompt. -/
def promptTable (a : Vec Ideal S4096x32 .f32) : Vec Ideal S2x4096x1x32 .f32 :=
  broadcastInDim S2x4096x1x32 ![0, 1, 2, 3] bcast_S1x4096x1x32_S2x4096x1x32_0_1_2_3 (broadcastInDim S1x4096x1x32 ![1, 2, 3] bcast_S4096x1x32_S1x4096x1x32_1_2_3 (broadcastInDim S4096x1x32 ![0, 2] bcast_S4096x32_S4096x1x32_0_2 a))

def sampleTable (a : Vec Ideal S8x32 .f32) : Vec Ideal S128x8x1x32 .f32 :=
  broadcastInDim S128x8x1x32 ![0, 1, 2, 3] bcast_S1x8x1x32_S128x8x1x32_0_1_2_3 (broadcastInDim S1x8x1x32 ![1, 2, 3] bcast_S8x1x32_S1x8x1x32_1_2_3 (broadcastInDim S8x1x32 ![0, 2] bcast_S8x32_S8x1x32_0_2 a))

def promptTurn (x : Vec Ideal S2x4096x1x64 .f32) (c s : Vec Ideal S2x4096x1x32 .f32) : Vec Ideal S2x4096x1x64 .f32 :=
  concatenate S2x4096x1x64 3
    [⟨S2x4096x1x32, subf (F := Ideal) (φ := .f32) (mulf (extractStridedSlice S2x4096x1x32 ![0, 0, 0, 0] x slices_S2x4096x1x64_S2x4096x1x32_0_0_0_0) c) (mulf (extractStridedSlice S2x4096x1x32 ![0, 0, 0, 32] x slices_S2x4096x1x64_S2x4096x1x32_0_0_0_32) s)⟩,
      ⟨S2x4096x1x32, addf (F := Ideal) (φ := .f32) (mulf (extractStridedSlice S2x4096x1x32 ![0, 0, 0, 32] x slices_S2x4096x1x64_S2x4096x1x32_0_0_0_32) c) (mulf (extractStridedSlice S2x4096x1x32 ![0, 0, 0, 0] x slices_S2x4096x1x64_S2x4096x1x32_0_0_0_0) s)⟩]
    concatenates_S2x4096x1x32_S2x4096x1x32_S2x4096x1x64_d3

def sampleTurn (x : Vec Ideal S128x8x1x64 .f32) (c s : Vec Ideal S128x8x1x32 .f32) : Vec Ideal S128x8x1x64 .f32 :=
  concatenate S128x8x1x64 3
    [⟨S128x8x1x32, subf (F := Ideal) (φ := .f32) (mulf (extractStridedSlice S128x8x1x32 ![0, 0, 0, 0] x slices_S128x8x1x64_S128x8x1x32_0_0_0_0) c) (mulf (extractStridedSlice S128x8x1x32 ![0, 0, 0, 32] x slices_S128x8x1x64_S128x8x1x32_0_0_0_32) s)⟩,
      ⟨S128x8x1x32, addf (F := Ideal) (φ := .f32) (mulf (extractStridedSlice S128x8x1x32 ![0, 0, 0, 32] x slices_S128x8x1x64_S128x8x1x32_0_0_0_32) c) (mulf (extractStridedSlice S128x8x1x32 ![0, 0, 0, 0] x slices_S128x8x1x64_S128x8x1x32_0_0_0_0) s)⟩]
    concatenates_S128x8x1x32_S128x8x1x32_S128x8x1x64_d3

/-- All rows of the rotated columns, filled up with zeros. -/
def filled (x : Vec Ideal S2x4096x1x64 .f32) (y : Vec Ideal S128x8x1x64 .f32) : Vec Ideal S9216x128 .f32 :=
  concatenate S9216x128 1
    [⟨S9216x64, concatenate S9216x64 0 [⟨S8192x64, shapeCast S8192x64 (shapeCast S2x4096x64 x shapeCasts_S2x4096x1x64_S2x4096x64) shapeCasts_S2x4096x64_S8192x64⟩,
      ⟨S1024x64, shapeCast S1024x64 (shapeCast S128x8x64 y shapeCasts_S128x8x1x64_S128x8x64) shapeCasts_S128x8x64_S1024x64⟩] concatenates_S8192x64_S1024x64_S9216x64_d0⟩,
      ⟨S9216x64, broadcastInDim S9216x64 ![] bcast_S_S9216x64 (constant (F := Ideal) S_ .f32 0x00000000#32)⟩]
    concatenates_S9216x64_S9216x64_S9216x128_d1

/-- The prompt's columns of the shared key, with one head. -/
def promptKey (x : Vec Ideal S2x4096x1152 .f32) : Vec Ideal S2x4096x1x64 .f32 :=
  broadcastInDim S2x4096x1x64 ![0, 1, 3] bcast_S2x4096x64_S2x4096x1x64_0_1_3 (extractStridedSlice S2x4096x64 ![0, 0, 1024] x slices_S2x4096x1152_S2x4096x64_0_0_1024)

def sampleKey (x : Vec Ideal S128x8x1152 .f32) : Vec Ideal S128x8x1x64 .f32 :=
  broadcastInDim S128x8x1x64 ![0, 1, 3] bcast_S128x8x64_S128x8x1x64_0_1_3 (extractStridedSlice S128x8x64 ![0, 0, 1024] x slices_S128x8x1152_S128x8x64_0_0_1024)

def keys (z : Vec Ideal S9216x1152 .f32) : Vec Ideal S9216x128 .f32 :=
  filled (promptTurn (promptKey (promptRows z))
      (promptTable (Host.cos (F := Ideal) (φ := .f32) promptAngles)) (promptTable (Host.sin (F := Ideal) (φ := .f32) promptAngles)))
    (sampleTurn (sampleKey (sampleRows z))
      (sampleTable (Host.cos (F := Ideal) (φ := .f32) sampleAngles)) (sampleTable (Host.sin (F := Ideal) (φ := .f32) sampleAngles)))

theorem promptNorm_read (x : Vec Ideal S2x4096x512 .f32) (g : Vec Ideal S1x512 .f32) (b : Fin 2) (s : Fin 4096) (k : Fin 512) :
    promptNorm x g (ix3 b s k) = Cert.Rows.normed (Ideal.ofBits .f32 0x44000000#32) (fun k => x (ix3 b s k)) (fun k => g (ix2 0 k)) k := by
  pointwise [promptNorm, Cert.Rows.normed]

theorem sampleNorm_read (x : Vec Ideal S128x8x512 .f32) (g : Vec Ideal S1x512 .f32) (b : Fin 128) (s : Fin 8) (k : Fin 512) :
    sampleNorm x g (ix3 b s k) = Cert.Rows.normed (Ideal.ofBits .f32 0x44000000#32) (fun k => x (ix3 b s k)) (fun k => g (ix2 0 k)) k := by
  pointwise [sampleNorm, Cert.Rows.normed]

theorem promptRows_read (z : Vec Ideal S9216x1152 .f32) (b : Fin 2) (s : Fin 4096) (k : Fin 1152) : promptRows z (ix3 b s k) = z (ix2 ⟨b.val * 4096 + s.val, by omega⟩ k) := by
  pointwise [promptRows]

theorem sampleRows_read (z : Vec Ideal S9216x1152 .f32) (b : Fin 128) (s : Fin 8) (k : Fin 1152) : sampleRows z (ix3 b s k) = z (ix2 ⟨8192 + (b.val * 8 + s.val), by omega⟩ k) := by
  pointwise [sampleRows]

theorem allRows_read (x : Vec Ideal S2x4096x512 .f32) (y : Vec Ideal S128x8x512 .f32) (i : Fin 9216) (k : Fin 512) : allRows x y (ix2 i k)
    = if h : i.val < 8192 then x (ix3 ⟨i.val / 4096, by omega⟩ ⟨i.val % 4096, by omega⟩ k) else y (ix3 ⟨(i.val - 8192) / 8, by omega⟩ ⟨(i.val - 8192) % 8, by omega⟩ k) := by
  pointwise [allRows]

theorem promptAngles_read (s : Fin 4096) (j : Fin 32) : promptAngles (ix2 s j) = (FloatOps.sitofp (F := Ideal) .f32 (BitVec.ofNat 32 s.val) : EReal) * Cert.MlaPrep.freq j := by
  pointwise [promptAngles, freqs, Cert.MlaPrep.freq]

theorem sampleAngles_read (s : Fin 8) (j : Fin 32) : sampleAngles (ix2 s j) = (FloatOps.sitofp (F := Ideal) .f32 (IntOp.addi (16384#32) (BitVec.ofNat 32 s.val)) : EReal) * Cert.MlaPrep.freq j := by
  pointwise [sampleAngles, freqs, Cert.MlaPrep.freq]

theorem promptTable_read (a : Vec Ideal S4096x32 .f32) (b : Fin 2) (s : Fin 4096) (j : Fin 32) : promptTable a (ix4 b s 0 j) = a (ix2 s j) := by
  pointwise [promptTable]

theorem sampleTable_read (a : Vec Ideal S8x32 .f32) (b : Fin 128) (s : Fin 8) (j : Fin 32) : sampleTable a (ix4 b s 0 j) = a (ix2 s j) := by
  pointwise [sampleTable]

theorem promptTurn_read (x : Vec Ideal S2x4096x1x64 .f32) (c d : Vec Ideal S2x4096x1x32 .f32) (b : Fin 2) (s : Fin 4096) (j : Fin 64) : promptTurn x c d (ix4 b s 0 j)
    = if h : j.val < 32 then x (ix4 b s 0 j) * c (ix4 b s 0 ⟨j.val, h⟩) - x (ix4 b s 0 ⟨32 + j.val, by omega⟩) * d (ix4 b s 0 ⟨j.val, h⟩)
      else x (ix4 b s 0 ⟨32 + (j.val - 32), by omega⟩) * c (ix4 b s 0 ⟨j.val - 32, by omega⟩) + x (ix4 b s 0 ⟨j.val - 32, by omega⟩) * d (ix4 b s 0 ⟨j.val - 32, by omega⟩) := by
  pointwise [promptTurn]

theorem sampleTurn_read (x : Vec Ideal S128x8x1x64 .f32) (c d : Vec Ideal S128x8x1x32 .f32) (b : Fin 128) (s : Fin 8) (j : Fin 64) : sampleTurn x c d (ix4 b s 0 j)
    = if h : j.val < 32 then x (ix4 b s 0 j) * c (ix4 b s 0 ⟨j.val, h⟩) - x (ix4 b s 0 ⟨32 + j.val, by omega⟩) * d (ix4 b s 0 ⟨j.val, h⟩)
      else x (ix4 b s 0 ⟨32 + (j.val - 32), by omega⟩) * c (ix4 b s 0 ⟨j.val - 32, by omega⟩) + x (ix4 b s 0 ⟨j.val - 32, by omega⟩) * d (ix4 b s 0 ⟨j.val - 32, by omega⟩) := by
  pointwise [sampleTurn]

theorem filled_read (x : Vec Ideal S2x4096x1x64 .f32) (y : Vec Ideal S128x8x1x64 .f32) (i : Fin 9216) (j : Fin 128) : filled x y (ix2 i j)
    = if h : j.val < 64 then
        if h' : i.val < 8192 then x (ix4 ⟨i.val / 4096, by omega⟩ ⟨i.val % 4096, by omega⟩ 0 ⟨j.val, h⟩)
        else y (ix4 ⟨(i.val - 8192) / 8, by omega⟩ ⟨(i.val - 8192) % 8, by omega⟩ 0 ⟨j.val, h⟩)
      else (0 : EReal) := by
  pointwise [filled]

theorem promptCut (o : ℕ) (x : Vec Ideal S2x4096x1152 .f32) (h : S2x4096x1152.Slices ![0, 0, o] S2x4096x512) (ho : o + 512 ≤ 1152) (b : Fin 2) (s : Fin 4096) (k : Fin 512) :
    extractStridedSlice S2x4096x512 ![0, 0, o] x h (ix3 b s k) = x (ix3 b s ⟨o + k.val, by omega⟩) := by
  pointwise

theorem sampleCut (o : ℕ) (x : Vec Ideal S128x8x1152 .f32) (h : S128x8x1152.Slices ![0, 0, o] S128x8x512) (ho : o + 512 ≤ 1152) (b : Fin 128) (s : Fin 8) (k : Fin 512) :
    extractStridedSlice S128x8x512 ![0, 0, o] x h (ix3 b s k) = x (ix3 b s ⟨o + k.val, by omega⟩) := by
  pointwise

theorem promptKey_read (x : Vec Ideal S2x4096x1152 .f32) (b : Fin 2) (s : Fin 4096) (j : Fin 64) :
    promptKey x (ix4 b s 0 j) = x (ix3 b s ⟨1024 + j.val, by omega⟩) := by
  pointwise [promptKey]

theorem sampleKey_read (x : Vec Ideal S128x8x1152 .f32) (b : Fin 128) (s : Fin 8) (j : Fin 64) :
    sampleKey x (ix4 b s 0 j) = x (ix3 b s ⟨1024 + j.val, by omega⟩) := by
  pointwise [sampleKey]

/-- The norm of the columns from `o` on, in the prompt's rows and in the samples'. -/
theorem part_read (o : ℕ) (ho : o + 512 ≤ 1152) (hp : S2x4096x1152.Slices ![0, 0, o] S2x4096x512) (hs : S128x8x1152.Slices ![0, 0, o] S128x8x512)
    (z : Vec Ideal S9216x1152 .f32) (g : Vec Ideal S1x512 .f32) (i : Fin 9216) (k : Fin 512) :
    allRows (promptNorm (extractStridedSlice S2x4096x512 ![0, 0, o] (promptRows z) hp) g) (sampleNorm (extractStridedSlice S128x8x512 ![0, 0, o] (sampleRows z) hs) g) (ix2 i k)
      = Cert.MlaPrep.part o ho (fun k => z (ix2 i k)) (fun k => g (ix2 0 k)) k := by
  rw [allRows_read]
  by_cases h : i.val < 8192
  · have e : (⟨i.val / 4096 * 4096 + i.val % 4096, by omega⟩ : Fin 9216) = i := Fin.ext (by dsimp only; omega)
    rw [dif_pos h, promptNorm_read]
    simp only [promptCut o _ hp ho, promptRows_read, e]
    rfl
  · have e : (⟨8192 + ((i.val - 8192) / 8 * 8 + (i.val - 8192) % 8), by omega⟩ : Fin 9216) = i := Fin.ext (by dsimp only; omega)
    rw [dif_neg h, sampleNorm_read]
    simp only [sampleCut o _ hs ho, sampleRows_read, e]
    rfl

theorem queries_read (z : Vec Ideal S9216x1152 .f32) (g : Vec Ideal S1x512 .f32) (i : Fin 9216) (k : Fin 512) :
    (queries z g (ix2 i k) : EReal) = Cert.MlaPrep.part 0 (by omega) (fun k => z (ix2 i k)) (fun k => g (ix2 0 k)) k :=
  Eq.trans (by pointwise [queries]) (part_read 0 (by omega) slices_S2x4096x1152_S2x4096x512_0_0_0 slices_S128x8x1152_S128x8x512_0_0_0 z g i k)

theorem latents_read (z : Vec Ideal S9216x1152 .f32) (g : Vec Ideal S1x512 .f32) (i : Fin 9216) (k : Fin 512) :
    latents z g (ix2 i k) = Cert.MlaPrep.part 512 (by omega) (fun k => z (ix2 i k)) (fun k => g (ix2 0 k)) k :=
  part_read 512 (by omega) slices_S2x4096x1152_S2x4096x512_0_0_512 slices_S128x8x1152_S128x8x512_0_0_512 z g i k

theorem keys_read (z : Vec Ideal S9216x1152 .f32) (i : Fin 9216) (j : Fin 128) :
    keys z (ix2 i j) = Cert.MlaPrep.rotated (fun k => z (ix2 i k)) (Cert.MlaPrep.angle i) j := by
  have hc : ∀ (b : Vec Ideal S4096x32 .f32) (s : Fin 4096) (k : Fin 32), Host.cos (F := Ideal) (φ := .f32) b (ix2 s k) = Ideal.cos (b (ix2 s k)) := fun b s k => by pointwise
  have hs : ∀ (b : Vec Ideal S4096x32 .f32) (s : Fin 4096) (k : Fin 32), Host.sin (F := Ideal) (φ := .f32) b (ix2 s k) = Ideal.sin (b (ix2 s k)) := fun b s k => by pointwise
  have hc' : ∀ (b : Vec Ideal S8x32 .f32) (s : Fin 8) (k : Fin 32), Host.cos (F := Ideal) (φ := .f32) b (ix2 s k) = Ideal.cos (b (ix2 s k)) := fun b s k => by pointwise
  have hs' : ∀ (b : Vec Ideal S8x32 .f32) (s : Fin 8) (k : Fin 32), Host.sin (F := Ideal) (φ := .f32) b (ix2 s k) = Ideal.sin (b (ix2 s k)) := fun b s k => by pointwise
  unfold keys Cert.MlaPrep.rotated Cert.MlaPrep.angle Cert.MlaPrep.position
  rw [filled_read]
  by_cases h : i.val < 8192
  · have e : (⟨i.val / 4096 * 4096 + i.val % 4096, by omega⟩ : Fin 9216) = i := Fin.ext (by dsimp only; omega)
    simp only [dif_pos h, if_pos h, promptTurn_read, promptKey_read, promptTable_read, promptRows_read, hc, hs, promptAngles_read, e]
    by_cases h1 : j.val < 32
    · have h2 : j.val < 64 := by omega
      have e1 : (⟨1024 + (32 + j.val), by omega⟩ : Fin 1152) = ⟨1056 + j.val, by omega⟩ := Fin.ext (by dsimp only; omega)
      simp only [dif_pos h1, dif_pos h2, e1]
    · by_cases h2 : j.val < 64
      · have e1 : (⟨1024 + (32 + (j.val - 32)), by omega⟩ : Fin 1152) = ⟨1024 + j.val, by omega⟩ := Fin.ext (by dsimp only; omega)
        have e2 : (⟨1024 + (j.val - 32), by omega⟩ : Fin 1152) = ⟨992 + j.val, by omega⟩ := Fin.ext (by dsimp only; omega)
        simp only [dif_neg h1, dif_pos h2, e1, e2]
      · simp only [dif_neg h1, dif_neg h2]
  · have e : (⟨8192 + ((i.val - 8192) / 8 * 8 + (i.val - 8192) % 8), by omega⟩ : Fin 9216) = i := Fin.ext (by dsimp only; omega)
    simp only [dif_neg h, if_neg h, sampleTurn_read, sampleKey_read, sampleTable_read, sampleRows_read, hc', hs', sampleAngles_read, e]
    by_cases h1 : j.val < 32
    · have h2 : j.val < 64 := by omega
      have e1 : (⟨1024 + (32 + j.val), by omega⟩ : Fin 1152) = ⟨1056 + j.val, by omega⟩ := Fin.ext (by dsimp only; omega)
      simp only [dif_pos h1, dif_pos h2, e1]
    · by_cases h2 : j.val < 64
      · have e1 : (⟨1024 + (32 + (j.val - 32)), by omega⟩ : Fin 1152) = ⟨1024 + j.val, by omega⟩ := Fin.ext (by dsimp only; omega)
        have e2 : (⟨1024 + (j.val - 32), by omega⟩ : Fin 1152) = ⟨992 + j.val, by omega⟩ := Fin.ext (by dsimp only; omega)
        simp only [dif_neg h1, dif_pos h2, e1, e2]
      · simp only [dif_neg h1, dif_neg h2]

end Cert.Reference12Ideal.MlaPrep

namespace Cert.MlaPrep

open Idealize.ShloMosaic Idealize.ShloMosaic.TcCoe Idealize.SL.Sem Idealize.ShloMosaic.StableHlo

/-- The kernel and the reference end with the same three arrays. -/
theorem same_values : Cert.algebraic_Kernel12Ideal_Reference12Ideal := by
  intro m g m' g' _ hargs
  refine ⟨fun c => (Cert.Kernel12Ideal.Gen.dats m 0 c).arrAt 6 Cert.Kernel12Ideal.cfg0.N, fun c => (Cert.Kernel12Ideal.Gen.dats m 0 c).arrAt 7 Cert.Kernel12Ideal.cfg0.N,
    fun c => (Cert.Kernel12Ideal.Gen.dats m 0 c).arrAt 8 Cert.Kernel12Ideal.cfg0.N, Cert.Kernel12Ideal.Value.run_blocks m g,
    (θ_run _ _ _).mono (fun r h c => ?_) (Cert.Reference12Ideal.Value.run m' g')⟩
  obtain ⟨h0, h1, h2⟩ := hargs c
  obtain ⟨hq, hl, hr, hk⟩ := h c
  refine ⟨hq.trans ?_, hl.trans ?_, hr.trans ?_, hk⟩
  · rw [h0, h1]
    funext i
    idx_vars i
    exact (Cert.Reference12Ideal.MlaPrep.queries_read _ _ i0 i1).trans (Cert.Kernel12Ideal.MlaPrep.read_q m c i0 i1).symm
  · rw [h0, h2]
    funext i
    idx_vars i
    exact (Cert.Reference12Ideal.MlaPrep.latents_read _ _ i0 i1).trans (Cert.Kernel12Ideal.MlaPrep.read_c m c i0 i1).symm
  · unfold Cert.Reference12Ideal.Value.res_main_v151
    rw [h0]
    funext i
    idx_vars i
    exact (Cert.Reference12Ideal.MlaPrep.keys_read _ i0 i1).trans (Cert.Kernel12Ideal.MlaPrep.read_k m c i0 i1).symm

end Cert.MlaPrep

end
-- ==== Proof.KvUp.lean ====
/-
  The keys and values of the latent attention's prompt out of the cached latents: a block of rows and columns at each point, against the two contractions.
-/
module

public import proofs.«01_k».proof.Proof.Gen.Kernel13Ideal.Value
public import proofs.«01_k».proof.Proof.Gen.Reference13Ideal.Run
public import proofs.«01_k».proof.Proof.Rows
public import proofs.«01_k».proof.Defs
public import Idealize.ShloMosaic.Lib.Pointwise
public import Idealize.ShloMosaic.Lib.Pipeline.Value
public import Idealize.ShloMosaic.Lib.StableHlo.RunRead

@[expose] public section

set_option maxRecDepth 65536

noncomputable section

namespace Cert.Kernel13Ideal.KvUp

open Idealize.ShloMosaic Idealize.ShloMosaic.TcCoe Idealize.SL.Sem Idealize.ShloMosaic.StableHlo Cert.Kernel13Ideal Cert.Kernel13Ideal.Gen

theorem offX : (![0, 0] : Fin S1024x512.rank → ℕ) = fun _ => 0 := by funext a; fin_cases a <;> rfl
theorem offW : (![0, 0] : Fin S512x1024.rank → ℕ) = fun _ => 0 := by funext a; fin_cases a <;> rfl
theorem offO : (![0, 0] : Fin S1024x1024.rank → ℕ) = fun _ => 0 := by funext a; fin_cases a <;> rfl

variable (m : (ℓ : Loc nD τ sig) → Buf (Elt Ideal) ℓ)

theorem idx_all : ∀ t : Fin cfg0.N, win0_0.index t = ![t.val / 4, 0] ∧ win0_1.index t = ![0, t.val % 4] ∧ win0_2.index t = ![t.val / 4, t.val % 4] :=
  (by decide +kernel : ∀ t : Fin grid0.N, _)

/-- The prompt's rows. -/
def rows (x : Vec Ideal S9216x512 .f32) : Vec Ideal S8192x512 .f32 := extractStridedSlice S8192x512 ![0, 0] x slices_S9216x512_S8192x512_0_0

/-- The key and the value weights side by side, the heads one after another. -/
def both (k v : Vec Ideal S1x512x16x128 .f32) : Vec Ideal S512x4096 .f32 :=
  concatenate S512x4096 1 [⟨S512x2048, shapeCast S512x2048 (shapeCast S512x16x128 k shapeCasts_S1x512x16x128_S512x16x128) shapeCasts_S512x16x128_S512x2048⟩,
    ⟨S512x2048, shapeCast S512x2048 (shapeCast S512x16x128 v shapeCasts_S1x512x16x128_S512x16x128) shapeCasts_S512x16x128_S512x2048⟩] concatenates_S512x2048_S512x2048_S512x4096_d1

theorem rows_read (x : Vec Ideal S9216x512 .f32) (i : Fin 8192) (k : Fin 512) : rows x (ix2 i k) = x (ix2 ⟨i.val, by omega⟩ k) := by
  pointwise [rows]

theorem both_read (k v : Vec Ideal S1x512x16x128 .f32) (a : Fin 512) (j : Fin 4096) : both k v (ix2 a j)
    = if h : j.val < 2048 then k (ix4 0 a ⟨j.val / 128, by omega⟩ ⟨j.val % 128, by omega⟩) else v (ix4 0 a ⟨(j.val - 2048) / 128, by omega⟩ ⟨(j.val - 2048) % 128, by omega⟩) := by
  pointwise [both]

theorem V_rows (c : Dev nD) : V m c main_v5 = rows (m ((c : Thread nD τ).loc main_arg0)) := by
  simp only [V, hostOps0, List.flatten_cons, List.flatten_nil, List.append_nil, List.cons_append, List.nil_append]
  after_reads_simp
  rfl

theorem V_both (c : Dev nD) : V m c main_v4 = both (m ((c : Thread nD τ).loc main_arg1)) (m ((c : Thread nD τ).loc main_arg2)) := by
  simp only [V, hostOps0, List.flatten_cons, List.flatten_nil, List.append_nil, List.cons_append, List.nil_append]
  after_reads_simp
  rfl

theorem blk0 (c : Dev nD) (t : Fin cfg0.N) (r : Fin 1024) (k : Fin 512) : iblk m c 0 t (ix2 r k)
    = rows (m ((c : Thread nD τ).loc main_arg0)) (ix2 ⟨t.val / 4 * 1024 + r.val, by have := lt_of_lt_of_eq t.isLt N_0; omega⟩ k) := by
  rw [← V_rows m c]
  refine congrArg (V m c main_v5) (funext fun a => ?_)
  have e := congrFun (idx_all t).1
  match a with
  | ⟨0, _⟩ => exact Fin.ext (by have := e 0; show win0_0.index t 0 * 1024 + 1 * r.val = _; rw [this]; show t.val / 4 * 1024 + 1 * r.val = t.val / 4 * 1024 + r.val; omega)
  | ⟨1, _⟩ => exact Fin.ext (by have := e 1; show win0_0.index t 1 * 512 + 1 * k.val = _; rw [this]; show 0 * 512 + 1 * k.val = k.val; omega)

theorem blk1 (c : Dev nD) (t : Fin cfg0.N) (k : Fin 512) (j : Fin 1024) : iblk m c 1 t (ix2 k j)
    = both (m ((c : Thread nD τ).loc main_arg1)) (m ((c : Thread nD τ).loc main_arg2)) (ix2 k ⟨t.val % 4 * 1024 + j.val, by omega⟩) := by
  rw [← V_both m c]
  refine congrArg (V m c main_v4) (funext fun a => ?_)
  have e := congrFun (idx_all t).2.1
  match a with
  | ⟨0, _⟩ => exact Fin.ext (by have := e 0; show win0_1.index t 0 * 512 + 1 * k.val = _; rw [this]; show 0 * 512 + 1 * k.val = k.val; omega)
  | ⟨1, _⟩ => exact Fin.ext (by have := e 1; show win0_1.index t 1 * 1024 + 1 * j.val = _; rw [this]; show t.val % 4 * 1024 + 1 * j.val = t.val % 4 * 1024 + j.val; omega)

theorem pay_read (x : Vec Ideal S1024x512 .f32) (w : Vec Ideal S512x1024 .f32) (r j : Fin 1024) :
    (out0_2 x w (ix2 r j) : EReal) = Cert.Rows.prod (fun k => x (ix2 r k)) (fun k => w (ix2 k j)) := by
  unfold out0_2
  rw [View.canon_unit_zero offO, View.ld_unit_zero offX, View.ld_unit_zero offW]
  pointwise [k0_pay1, Cert.Rows.prod]

/-- What the result ends with. -/
theorem kernel_read (c : Dev nD) (i : Fin 8192) (j : Fin 4096) : (dats m 0 c).arrAt 2 cfg0.N (ix2 i j)
    = Cert.Rows.prod (fun k => rows (m ((c : Thread nD τ).loc main_arg0)) (ix2 i k))
        (fun k => both (m ((c : Thread nD τ).loc main_arg1)) (m ((c : Thread nD τ).loc main_arg2)) (ix2 k j)) := by
  have ht : i.val / 1024 * 4 + j.val / 1024 < cfg0.N := lt_of_lt_of_eq (by omega) N_0.symm
  have hb := congrFun (Cert.Kernel13Ideal.Value.blocks2 m c ⟨i.val / 1024 * 4 + j.val / 1024, ht⟩ (flush0_2 _)) (ix2 ⟨i.val % 1024, by omega⟩ ⟨j.val % 1024, by omega⟩)
  rw [Cert.Kernel13Ideal.Value.flushed2] at hb
  have e := congrFun (idx_all ⟨i.val / 1024 * 4 + j.val / 1024, ht⟩).2.2
  refine (congrArg ((dats m 0 c).arrAt 2 cfg0.N) (funext fun a => ?_)).trans ((hb.trans rfl).trans ((pay_read _ _ _ _).trans ?_))
  · match a with
    | ⟨0, _⟩ => exact Fin.ext (by have := e 0; show _ = win0_2.index _ 0 * 1024 + 1 * (i.val % 1024); rw [this]; show i.val = (i.val / 1024 * 4 + j.val / 1024) / 4 * 1024 + 1 * (i.val % 1024); omega)
    | ⟨1, _⟩ => exact Fin.ext (by have := e 1; show _ = win0_2.index _ 1 * 1024 + 1 * (j.val % 1024); rw [this]; show j.val = (i.val / 1024 * 4 + j.val / 1024) % 4 * 1024 + 1 * (j.val % 1024); omega)
  · have er : (⟨(i.val / 1024 * 4 + j.val / 1024) / 4 * 1024 + i.val % 1024, by omega⟩ : Fin 8192) = i := Fin.ext (by dsimp only; omega)
    have ej : (⟨(i.val / 1024 * 4 + j.val / 1024) % 4 * 1024 + j.val % 1024, by omega⟩ : Fin 4096) = j := Fin.ext (by dsimp only; omega)
    simp only [blk0, blk1, er, ej]

end Cert.Kernel13Ideal.KvUp

namespace Cert.Reference13Ideal.KvUp

open Idealize.ShloMosaic Idealize.ShloMosaic.TcCoe Idealize.SL.Sem Idealize.ShloMosaic.StableHlo Cert.Reference13Ideal Cert.Reference13Ideal.Gen

/-- One of the two contractions. -/
def part (x : Vec Ideal S9216x512 .f32) (w : Vec Ideal S1x512x16x128 .f32) : Vec Ideal S8192x2048 .f32 :=
  shapeCast S8192x2048 (Host.dotGeneral (F := Ideal) (φ₁ := .f32) (φ₂ := .f32) dot_S2x4096x512_S512x16x128_S2x4096x16x128_2_0_01_12_n_n none
    (shapeCast S2x4096x512 (extractStridedSlice (α := Ideal .f32) S8192x512 ![0, 0] x slices_S9216x512_S8192x512_0_0) shapeCasts_S8192x512_S2x4096x512)
    (shapeCast S512x16x128 w shapeCasts_S1x512x16x128_S512x16x128)) shapeCasts_S2x4096x16x128_S8192x2048

/-- The two side by side. -/
def joined (a b : Vec Ideal S8192x2048 .f32) : FVec Ideal S8192x4096 .bf16 :=
  truncf (F := Ideal) .bf16 (concatenate S8192x4096 1 [⟨S8192x2048, a⟩, ⟨S8192x2048, b⟩] concatenates_S8192x2048_S8192x2048_S8192x4096_d1) bitsLt_bf16_f32

theorem part_read (x : Vec Ideal S9216x512 .f32) (w : Vec Ideal S1x512x16x128 .f32) (i : Fin 8192) (j : Fin 2048) : part x w (ix2 i j)
    = Cert.Rows.prod (fun k => x (ix2 ⟨i.val, by omega⟩ k)) (fun k => w (ix4 0 k ⟨j.val / 128, by omega⟩ ⟨j.val % 128, by omega⟩)) := by
  pointwise [part, Cert.Rows.prod]

theorem joined_read (a b : Vec Ideal S8192x2048 .f32) (i : Fin 8192) (j : Fin 4096) : (joined a b (ix2 i j) : EReal)
    = if h : j.val < 2048 then a (ix2 i ⟨j.val, h⟩) else b (ix2 i ⟨j.val - 2048, by omega⟩) := by
  pointwise [joined]

end Cert.Reference13Ideal.KvUp

namespace Cert.KvUp

open Idealize.ShloMosaic Idealize.ShloMosaic.TcCoe Idealize.SL.Sem Idealize.ShloMosaic.StableHlo Cert.Reference13Ideal Cert.Reference13Ideal.KvUp

/-- The product with the weights side by side is the two contractions side by side. -/
theorem same (x : Vec Ideal S9216x512 .f32) (k v : Vec Ideal S1x512x16x128 .f32) (i : Fin 8192) (j : Fin 4096) :
    (joined (part x k) (part x v) (ix2 i j) : EReal)
      = Cert.Rows.prod (fun a => Cert.Kernel13Ideal.KvUp.rows x (ix2 i a)) (fun a => Cert.Kernel13Ideal.KvUp.both k v (ix2 a j)) := by
  rw [joined_read]
  simp only [part_read, Cert.Kernel13Ideal.KvUp.rows_read, Cert.Kernel13Ideal.KvUp.both_read]
  by_cases h : j.val < 2048 <;> simp only [h, ↓reduceDIte]

/-- The kernel and the reference end with the same array. -/
theorem same_values : Cert.algebraic_Kernel13Ideal_Reference13Ideal := by
  intro m g m' g' _ hargs
  refine ⟨fun c => (Cert.Kernel13Ideal.Gen.dats m 0 c).arrAt 2 Cert.Kernel13Ideal.cfg0.N, Cert.Kernel13Ideal.Value.run_blocks m g,
    (θ_run _ _ _).mono (fun r h c => ?_) (Cert.Reference13Ideal.Value.run m' g')⟩
  obtain ⟨h0, h1, h2⟩ := hargs c
  obtain ⟨ho, hk⟩ := h c
  refine ⟨ho.trans ?_, hk⟩
  rw [h0, h1, h2]
  funext i
  idx_vars i
  exact (same _ _ _ i0 i1).trans (Cert.Kernel13Ideal.KvUp.kernel_read m c i0 i1).symm

end Cert.KvUp

end
-- ==== Proof.GateSum.lean ====
/-
  The values that the gates' two calls share: the logarithm of the logistic function in the kernel's form and in the reference's,
  products with a mask of zeros and ones split into three parts, and a running sum as a window sum.
-/
module

public import Idealize.ShloMosaic.Lib.Pointwise

@[expose] public section

set_option maxRecDepth 16384

noncomputable section

namespace Cert.Gates

open Idealize.ShloMosaic

/-- The part of the logarithm that is never infinite. -/
def tail (x : EReal) : EReal := Ideal.log (1 + Ideal.exp (-(max x (-x))))

/-- The logarithm of the logistic function. -/
def lf (x : EReal) : EReal := min x 0 - tail x

theorem tail_real (x : EReal) : ∃ r : ℝ, tail x = (r : EReal) := by
  have hr : ∀ y : ℝ, ∃ r : ℝ, Ideal.log (1 + Ideal.exp (y : EReal)) = (r : EReal) := by
    intro y
    have h : (1 : EReal) + Ideal.exp (y : EReal) = ((1 + Real.exp y : ℝ) : EReal) := by
      show ((1 : ℝ) : EReal) + ((Real.exp y : ℝ) : EReal) = _
      exact (EReal.coe_add _ _).symm
    rw [h]
    refine ⟨Real.log (1 + Real.exp y), ?_⟩
    show (if 1 + Real.exp y ≤ 0 then (⊥ : EReal) else _) = _
    exact if_neg (not_le.mpr (by positivity))
  have h0 : ∃ r : ℝ, Ideal.log (1 + Ideal.exp (⊥ : EReal)) = (r : EReal) := by
    have h : (1 : EReal) + Ideal.exp (⊥ : EReal) = ((1 : ℝ) : EReal) := by
      show (1 : EReal) + 0 = _
      rw [add_zero]; rfl
    rw [h]
    refine ⟨Real.log 1, ?_⟩
    show (if (1 : ℝ) ≤ 0 then (⊥ : EReal) else _) = _
    exact if_neg (by norm_num)
  unfold tail
  induction x using EReal.rec with
  | bot => rw [EReal.neg_bot, max_eq_right bot_le, EReal.neg_top]; exact h0
  | top => rw [EReal.neg_top, max_eq_left bot_le, EReal.neg_top]; exact h0
  | coe x =>
    have h : -(max (x : EReal) (-(x : EReal))) = ((-(max x (-x)) : ℝ) : EReal) := by
      rw [← EReal.coe_neg, ← EReal.coe_strictMono.monotone.map_max, ← EReal.coe_neg]
    rw [h]
    exact hr _

theorem lf_ne_top (x : EReal) : lf x ≠ ⊤ := by
  obtain ⟨r, hr⟩ := tail_real x
  unfold lf
  rw [hr]
  have h : min x 0 - (r : EReal) ≤ 0 - (r : EReal) := EReal.sub_le_sub (min_le_right _ _) le_rfl
  intro e
  rw [e, zero_sub, ← EReal.coe_neg] at h
  exact absurd (top_le_iff.mp h) (EReal.coe_ne_top _)

/-- The reference's form. -/
theorem lf_ref (x : EReal) : -(max (-x) 0 + Ideal.log (1 + Ideal.exp (-(max (-x - 0) (-(-x - 0)))))) = lf x := by
  obtain ⟨r, hr⟩ := tail_real x
  have e : Ideal.log (1 + Ideal.exp (-(max (-x - 0) (-(-x - 0))))) = tail x := by
    unfold tail
    rw [sub_zero, neg_neg, max_comm]
  rw [e, EReal.neg_add (Or.inr (by rw [hr]; exact EReal.coe_ne_top _)) (Or.inr (by rw [hr]; exact EReal.coe_ne_bot _))]
  unfold lf
  congr 1
  rcases le_total x 0 with h | h
  · rw [min_eq_left h, max_eq_left (by rw [← neg_zero]; exact EReal.neg_le_neg_iff.mpr h), neg_neg]
  · rw [min_eq_right h, max_eq_right (by rw [← neg_zero]; exact EReal.neg_le_neg_iff.mpr h), neg_zero]

/-- A value and what is left of it after itself is taken off, twice, times zero or one. -/
theorem three (p : Prop) [Decidable p] (y : EReal) (hy : y ≠ ⊤) :
    (if p then (1 : EReal) else 0) * y + (if p then (1 : EReal) else 0) * (y - y) + (if p then (1 : EReal) else 0) * (y - y - (y - y)) = if p then y else 0 := by
  split_ifs
  · rw [one_mul, one_mul, one_mul]
    induction y using EReal.rec with
    | bot => simp
    | top => exact absurd rfl hy
    | coe y => rw [EReal.sub_self (EReal.coe_ne_top y) (EReal.coe_ne_bot y), sub_zero, add_zero, add_zero]
  · rw [zero_mul, zero_mul, zero_mul, add_zero, add_zero]

/-- Three products with one mask, of values whose parts are left over, are the sum over the mask. -/
theorem masked {n : ℕ} (p : Fin n → Prop) [DecidablePred p] (y : Fin n → EReal) (hy : ∀ s, y s ≠ ⊤) :
    ∑ s, (if p s then (1 : EReal) else 0) * y s + ∑ s, (if p s then (1 : EReal) else 0) * (y s - y s) + ∑ s, (if p s then (1 : EReal) else 0) * (y s - y s - (y s - y s))
      = ∑ s, if p s then y s else 0 := by
  rw [← Finset.sum_add_distrib, ← Finset.sum_add_distrib]
  exact Finset.sum_congr rfl fun s _ => three (p s) (y s) (hy s)

theorem le_bit (a b : ℕ) (ha : a < 2 ^ 31) (hb : b < 2 ^ 31) :
    IntOp.cmpi .sle (BitVec.ofNat 32 a) (BitVec.ofNat 32 b) = if a ≤ b then 1#1 else 0#1 := by
  have h : (BitVec.ofNat 32 a).sle (BitVec.ofNat 32 b) = decide (a ≤ b) := by
    rw [BitVec.sle_eq_decide]
    congr 1
    rw [BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega), Int.ofNat_le]
  unfold IntOp.cmpi
  dsimp only
  rw [h]
  by_cases hab : a ≤ b <;> simp [hab]

theorem foldl_sum {α : Type} (g : α → EReal) (l : List α) (a : EReal) : l.foldl (fun r n => r + g n) a = a + (l.map g).sum := by
  induction l generalizing a with
  | nil => simp
  | cons x l ih => rw [List.foldl_cons, ih, List.map_cons, List.sum_cons, add_assoc]

/-- The window's places are its rows. -/
def places (W : ℕ) : Fin W ≃ Shape.Idx (⟨3, ![1, W, 1]⟩ : Shape) where
  toFun s := ix3 0 s 0
  invFun i := i 1
  left_inv _ := rfl
  right_inv i := by
    funext a
    match a with
    | ⟨0, _⟩ => exact Subsingleton.elim (α := Fin 1) _ _
    | ⟨1, _⟩ => rfl
    | ⟨2, _⟩ => exact Subsingleton.elim (α := Fin 1) _ _

/-- Row `s` of a column as a sequence. -/
def row {A W C : ℕ} (x : FVec Ideal (⟨3, ![A, W, C]⟩ : Shape) .f32) (b : Fin A) (k : Fin C) (s : ℕ) : EReal :=
  if hs : s < W then x (ix3 b ⟨s, hs⟩ k) else 0

/-- A window that ends at each row and reaches over all before it. -/
theorem winAdd {A W C : ℕ} (P : ℕ) (hP : P + 1 = W) (x : FVec Ideal (⟨3, ![A, W, C]⟩ : Shape) .f32) {u : Shape} (z : FVec Ideal u .f32) (hu : 0 < u.numel)
    (hz : z (Shape.Idx.first hu) = 0) (hw) (b : Fin A) (r : Fin W) (k : Fin C) :
    Host.reduceWindowAdd (F := Ideal) (s := (⟨3, ![A, W, C]⟩ : Shape)) (t := (⟨3, ![A, W, C]⟩ : Shape)) ![1, W, 1] ![1, 1, 1] ![0, P, 0] ![0, 0, 0] x z hw hu (ix3 b r k)
      = ∑ s ∈ Finset.range (r.val + 1), row x b k s := by
  unfold Host.reduceWindowAdd
  simp only [FloatOps.hostReduceWindowAdd, hz, Ideal.hostReduceWindowAdd]
  unfold Host.reduceWindow
  dsimp only
  rw [foldl_sum, zero_add, ← Fin.sum_univ_def]
  let G : Shape.Idx (⟨3, ![1, W, 1]⟩ : Shape) → EReal := fun p => if hin : ∀ a : Fin 3, (![0, P, 0] : Fin 3 → ℕ) a ≤ (ix3 b r k (a.cast hw.1.symm)).val * (![1, 1, 1] : Fin 3 → ℕ) a + (p a).val
      ∧ (ix3 b r k (a.cast hw.1.symm)).val * (![1, 1, 1] : Fin 3 → ℕ) a + (p a).val - (![0, P, 0] : Fin 3 → ℕ) a < (⟨3, ![A, W, C]⟩ : Shape).size a
      then x (fun a => ⟨(ix3 b r k (a.cast hw.1.symm)).val * (![1, 1, 1] : Fin 3 → ℕ) a + (p a).val - (![0, P, 0] : Fin 3 → ℕ) a, (hin a).2⟩) else 0
  refine (Finset.sum_congr (g := fun i => G ((Shape.rowMajor (⟨3, ![1, W, 1]⟩ : Shape)).symm i)) rfl fun i _ => ?_).trans ?_
  · dsimp only [G]
    by_cases hp : ∀ a : Fin 3, (![0, P, 0] : Fin 3 → ℕ) a ≤ (ix3 b r k (a.cast hw.1.symm)).val * (![1, 1, 1] : Fin 3 → ℕ) a + ((Shape.rowMajor (⟨3, ![1, W, 1]⟩ : Shape)).symm i a).val
      ∧ (ix3 b r k (a.cast hw.1.symm)).val * (![1, 1, 1] : Fin 3 → ℕ) a + ((Shape.rowMajor (⟨3, ![1, W, 1]⟩ : Shape)).symm i a).val - (![0, P, 0] : Fin 3 → ℕ) a < (⟨3, ![A, W, C]⟩ : Shape).size a
    · refine (dif_pos hp).trans (Eq.symm ?_)
      exact dif_pos hp
    · refine (dif_neg hp).trans (Eq.symm ?_)
      exact dif_neg hp
  rw [Equiv.sum_comp (Shape.rowMajor (⟨3, ![1, W, 1]⟩ : Shape)).symm G, ← Equiv.sum_comp (places W)]
  have hr := r.isLt
  have e : ∀ s : Fin W, G (places W s) = if P ≤ r.val + s.val then row x b k (r.val + s.val - P) else 0 := by
    intro s
    have hs := s.isLt
    dsimp only [G]
    by_cases h63 : P ≤ r.val + s.val
    · rw [if_pos h63, dif_pos]
      · unfold row
        rw [dif_pos (by omega)]
        congr 1; funext a
        match a with
        | ⟨0, _⟩ => exact Fin.ext (by show b.val * 1 + 0 - 0 = b.val; omega)
        | ⟨1, _⟩ => exact Fin.ext (by show r.val * 1 + s.val - P = r.val + s.val - P; omega)
        | ⟨2, _⟩ => exact Fin.ext (by show k.val * 1 + 0 - 0 = k.val; omega)
      · intro a
        have hb := b.isLt
        have hk := k.isLt
        match a with
        | ⟨0, _⟩ => exact ⟨Nat.zero_le _, by show b.val * 1 + 0 - 0 < A; omega⟩
        | ⟨1, _⟩ => exact ⟨by show P ≤ r.val * 1 + s.val; omega, by show r.val * 1 + s.val - P < W; omega⟩
        | ⟨2, _⟩ => exact ⟨Nat.zero_le _, by show k.val * 1 + 0 - 0 < C; omega⟩
    · rw [if_neg h63, dif_neg]
      intro hin
      have : P ≤ r.val * 1 + s.val := (hin 1).1
      omega
  refine (Finset.sum_congr rfl fun s _ => e s).trans ?_
  rw [Fin.sum_univ_eq_sum_range (fun s => if P ≤ r.val + s then row x b k (r.val + s - P) else 0), ← Finset.sum_filter]
  refine Finset.sum_nbij' (fun s => r.val + s - P) (fun s => s + P - r.val) ?_ ?_ ?_ ?_ ?_
  · intro s hs; simp only [Finset.mem_filter, Finset.mem_range] at *; omega
  · intro s hs; simp only [Finset.mem_filter, Finset.mem_range] at *; omega
  · intro s hs; simp only [Finset.mem_filter, Finset.mem_range] at *; omega
  · intro s hs; simp only [Finset.mem_filter, Finset.mem_range] at *; omega
  · intro s hs; rfl

/-- The bias, filled up with zeros to the lanes. -/
def bias (b : FVec Ideal (⟨2, ![1, 8]⟩ : Shape) .f32) (k : Fin 128) : EReal := if h : k.val < 8 then b (ix2 0 ⟨k.val, h⟩) else 0

/-- Row `n` of a lane's logarithms. -/
def entry {R : ℕ} (x : FVec Ideal (⟨2, ![R, 128]⟩ : Shape) .f32) (b : FVec Ideal (⟨2, ![1, 8]⟩ : Shape) .f32) (k : Fin 128) (n : ℕ) : EReal :=
  if h : n < R then lf (x (ix2 ⟨n, h⟩ k) + bias b k) else 0

theorem entry_of {R : ℕ} (x : FVec Ideal (⟨2, ![R, 128]⟩ : Shape) .f32) (b : FVec Ideal (⟨2, ![1, 8]⟩ : Shape) .f32) (k : Fin 128) (i : Fin R) :
    entry x b k i.val = lf (x (ix2 i k) + bias b k) := dif_pos i.isLt

/-- The fill is zero. -/
theorem fill_zero : (FloatOps.sitofp FTy.f32 0#32 : Ideal .f32) = (0 : EReal) := by
  show (((0#32 : BitVec 32).toInt : ℝ) : EReal) = 0
  simp

/-- The rows up to one. -/
theorem upto (f : ℕ → EReal) (r : Fin 512) : ∑ s : Fin 512, (if s.val ≤ r.val then f s.val else 0) = ∑ q ∈ Finset.range (r.val + 1), f q := by
  have hr := r.isLt
  rw [Fin.sum_univ_eq_sum_range (fun s => if s ≤ r.val then f s else 0), ← Finset.sum_filter]
  refine Finset.sum_congr (Finset.ext fun s => ?_) fun _ _ => rfl
  simp only [Finset.mem_filter, Finset.mem_range]; omega

/-- The rows up to one within its eight. -/
theorem within (f : ℕ → EReal) (r : Fin 512) : ∑ s : Fin 512, (if s.val ≤ r.val ∧ r.val / 8 = s.val / 8 then f s.val else 0)
    = ∑ q ∈ Finset.range (r.val % 8 + 1), f (r.val / 8 * 8 + q) := by
  have hr := r.isLt
  rw [Fin.sum_univ_eq_sum_range (fun s => if s ≤ r.val ∧ r.val / 8 = s / 8 then f s else 0), ← Finset.sum_filter]
  refine Finset.sum_nbij' (fun s => s - r.val / 8 * 8) (fun q => r.val / 8 * 8 + q) ?_ ?_ ?_ ?_ ?_
  · intro s hs; simp only [Finset.mem_filter, Finset.mem_range] at *; omega
  · intro s hs; simp only [Finset.mem_filter, Finset.mem_range] at *; omega
  · intro s hs; simp only [Finset.mem_filter, Finset.mem_range] at *; omega
  · intro s hs; simp only [Finset.mem_filter, Finset.mem_range] at *; omega
  · intro s hs
    simp only [Finset.mem_filter, Finset.mem_range] at hs
    congr 1; omega

end Cert.Gates

end
-- ==== Proof.GatesSample.lean ====
/-
  The gates of the samples' call: the logarithm of the logistic function of the biased projection, and its running sum within each eight rows.
-/
module

public import proofs.«01_k».proof.Proof.Gen.Kernel15Ideal.Value
public import proofs.«01_k».proof.Proof.Gen.Reference15Ideal.Run
public import proofs.«01_k».proof.Proof.GateSum
public import proofs.«01_k».proof.Defs
public import Idealize.ShloMosaic.Lib.Pointwise
public import Idealize.ShloMosaic.Lib.Pipeline.Value
public import Idealize.ShloMosaic.Lib.StableHlo.RunRead

@[expose] public section

set_option maxRecDepth 65536

noncomputable section

namespace Cert.Kernel15Ideal.Gates

open Idealize.ShloMosaic Idealize.ShloMosaic.TcCoe Idealize.SL.Sem Idealize.ShloMosaic.StableHlo Cert.Kernel15Ideal Cert.Kernel15Ideal.Gen Cert.Gates

section Cases

variable {F : FTy → Type} [FloatOps F] (c : Dev nD) (i : grid0.Coords) (a1 : Memref sig .tc .vmem S512x128 .f32) (h1 : a1.IsWhole) (a2 : Memref sig .tc .vmem S1x128 .f32)
  (h2 : a2.IsWhole) (a3 : Memref sig .tc .vmem S512x128 .f32) (h3 : a3.IsWhole) (a4 : Memref sig .tc .vmem S512x128 .f32) (h4 : a4.IsWhole)
  (a5 : Memref sig .tc .vmem S1x128 .f32) (h5 : a5.IsWhole) (x0 : Vec F S512x128 .f32) (x1 : Vec F S1x128 .f32)

theorem out0_A_2_eq : out0_A_2 (F := F) c i a1 h1 a2 h2 a3 h3 a4 h4 a5 h5 x0 x1 = k0_pay1 x0 x1 := by
  unfold out0_A_2
  rw [View.read_writes_eq_canon _ _ _ (cover0_A_2 c i a1 h1 a2 h2 a3 h3 a4 h4 a5 h5 x0 x1)]
  unfold kernelRun0_A
  dsimp only
  sl_unfold_words
  simp only [View.readAt_eq_ld, h1.read_unread, h2.read_unread]
  rw [View.canon_unit_zero (S := S512x128) (funext fun a => by fin_cases a <;> rfl),
    View.ld_unit_zero (S := S512x128) (funext fun a => by fin_cases a <;> rfl), View.ld_unit_zero (S := S1x128) (funext fun a => by fin_cases a <;> rfl)]

theorem out0_A_3_eq : out0_A_3 (F := F) c i a1 h1 a2 h2 a3 h3 a4 h4 a5 h5 x0 x1
    = k0_pay6 (k0_pay1 x0 x1) (iota .tc S512x512 32 [1] iota_S512x512_d1_w32) k0_pay2 k0_pay3 k0_pay4 k0_pay5 := by
  unfold out0_A_3
  rw [View.read_writes_eq_canon _ _ _ (cover0_A_3 c i a1 h1 a2 h2 a3 h3 a4 h4 a5 h5 x0 x1)]
  unfold kernelRun0_A
  dsimp only
  sl_unfold_words
  simp only [View.readAt_eq_ld, h1.read_unread, h2.read_unread]
  rw [View.canon_unit_zero (S := S512x128) (funext fun a => by fin_cases a <;> rfl),
    View.ld_unit_zero (S := S512x128) (funext fun a => by fin_cases a <;> rfl), View.ld_unit_zero (S := S1x128) (funext fun a => by fin_cases a <;> rfl)]

end Cases

/-! ## The mask -/

/-- The eight that a number belongs to: the floor of its eighth. -/
def eighth (v : IVec S512x512 32) : IVec S512x512 32 :=
  select (andi (cmpi .ne (subi (extui 32 (cmpi .sgt v (broadcast S512x512 0#32)) natLt_1_32) (extui 32 (cmpi .slt v (broadcast S512x512 0#32)) natLt_1_32))
      (broadcast S512x512 (Scalar.subi (Scalar.extui (Scalar.cmpi .sgt 8#32 0#32)) (Scalar.extui (Scalar.cmpi .slt 8#32 0#32)))))
    (cmpi .ne (remsi v (broadcast S512x512 8#32)) (broadcast S512x512 0#32)))
    (subi (divsi v (broadcast S512x512 8#32)) (broadcast S512x512 1#32)) (divsi v (broadcast S512x512 8#32))

/-- Which rows a row's sum takes. -/
def mask : IVec S512x512 1 := andi k0_pay2 (cmpi .eq (eighth (iota .tc S512x512 32 [0] iota_S512x512_d0_w32)) (eighth (iota .tc S512x512 32 [1] iota_S512x512_d1_w32)))

theorem eighth_row (r s : Fin 512) : eighth (iota .tc S512x512 32 [0] iota_S512x512_d0_w32) (ix2 r s) = BitVec.ofNat 32 (r.val / 8) := by
  pointwise [eighth]
  revert r; clear s; decide +kernel

theorem eighth_col (r s : Fin 512) : eighth (iota .tc S512x512 32 [1] iota_S512x512_d1_w32) (ix2 r s) = BitVec.ofNat 32 (s.val / 8) := by
  pointwise [eighth]
  revert s; clear r; decide +kernel

theorem mask_read (r s : Fin 512) : mask (ix2 r s) = if s.val ≤ r.val ∧ r.val / 8 = s.val / 8 then 1#1 else 0#1 := by
  have e : mask (ix2 r s) = IntOp.andi (IntOp.cmpi .sle (BitVec.ofNat 32 s.val) (BitVec.ofNat 32 r.val))
      (IntOp.cmpi .eq (eighth (iota .tc S512x512 32 [0] iota_S512x512_d0_w32) (ix2 r s)) (eighth (iota .tc S512x512 32 [1] iota_S512x512_d1_w32) (ix2 r s))) := by
    pointwise [mask, k0_pay2]
  have hr := r.isLt
  have hs := s.isLt
  have he : IntOp.cmpi .eq (BitVec.ofNat 32 (r.val / 8)) (BitVec.ofNat 32 (s.val / 8)) = if r.val / 8 = s.val / 8 then 1#1 else 0#1 := by
    unfold IntOp.cmpi
    dsimp only
    by_cases h : r.val / 8 = s.val / 8
    · rw [h, if_pos rfl]; simp
    · have hn : BitVec.ofNat 32 (r.val / 8) ≠ BitVec.ofNat 32 (s.val / 8) := by
        intro hh
        have := congrArg BitVec.toNat hh
        rw [BitVec.toNat_ofNat, BitVec.toNat_ofNat, Nat.mod_eq_of_lt (by omega), Nat.mod_eq_of_lt (by omega)] at this
        exact h this
      rw [if_neg h, beq_eq_false_iff_ne.mpr hn]; rfl
  rw [e, eighth_row, eighth_col, he, le_bit _ _ (by omega) (by omega)]
  by_cases h1 : s.val ≤ r.val <;> by_cases h2 : r.val / 8 = s.val / 8 <;> simp [h1, h2, IntOp.andi]

/-! ## The sums -/

/-- The kernel's sums of the rows that a mask takes. -/
def sums (x : FVec Ideal S512x128 .f32) (M : IVec S512x512 1) : FVec Ideal S512x128 .f32 :=
  let m : FVec Ideal S512x512 .bf16 := truncf (F := Ideal) .bf16 (select M (broadcast S512x512 (Scalar.ofBits .f32 0x3F800000#32 : Ideal .f32)) (broadcast S512x512 (Scalar.ofBits .f32 0x00000000#32 : Ideal .f32))) bitsLt_bf16_f32
  let x1 : FVec Ideal S512x128 .bf16 := truncf (F := Ideal) .bf16 x bitsLt_bf16_f32
  let y : FVec Ideal S512x128 .f32 := subf x (extf (F := Ideal) .f32 x1 bitsLt_bf16_f32)
  let x2 : FVec Ideal S512x128 .bf16 := truncf (F := Ideal) .bf16 y bitsLt_bf16_f32
  let x3 : FVec Ideal S512x128 .bf16 := truncf (F := Ideal) .bf16 (subf (F := Ideal) (φ := .f32) y (extf (F := Ideal) .f32 x2 bitsLt_bf16_f32)) bitsLt_bf16_f32
  addf (addf (matmul dot_S512x512_S512x128_S512x128_1_0_0_1_n_n none m x1 (constant S512x128 .f32 0x00000000#32))
    (matmul dot_S512x512_S512x128_S512x128_1_0_0_1_n_n none m x2 (constant S512x128 .f32 0x00000000#32)))
    (matmul dot_S512x512_S512x128_S512x128_1_0_0_1_n_n none m x3 (constant S512x128 .f32 0x00000000#32))

theorem pay6_eq (x : FVec Ideal S512x128 .f32) : k0_pay6 x (iota .tc S512x512 32 [1] iota_S512x512_d1_w32) k0_pay2 k0_pay3 k0_pay4 k0_pay5 = sums x mask := rfl

theorem sums_read (x : FVec Ideal S512x128 .f32) (M : IVec S512x512 1) (p : Fin 512 → Fin 512 → Prop) [∀ r s, Decidable (p r s)]
    (hM : ∀ r s, M (ix2 r s) = if p r s then 1#1 else 0#1) (r : Fin 512) (k : Fin 128) (hx : ∀ s, x (ix2 s k) ≠ (⊤ : EReal)) :
    sums x M (ix2 r k) = (∑ s, if p r s then x (ix2 s k) else 0 : EReal) := by
  have hs : ∀ s, Scalar.select (M (ix2 r s)) (1 : EReal) 0 = if p r s then 1 else 0 := by
    intro s
    rw [hM]
    by_cases h : p r s
    · rw [if_pos h, if_pos h]; rfl
    · rw [if_neg h, if_neg h]; rfl
  rw [← masked (p r) (fun s => x (ix2 s k)) hx]
  simp only [← hs]
  pointwise [sums]

theorem lf_read (x : Vec Ideal S512x128 .f32) (b : Vec Ideal S1x128 .f32) (r : Fin 512) (k : Fin 128) : k0_pay1 x b (ix2 r k) = lf (x (ix2 r k) + b (ix2 0 k)) := by
  pointwise [k0_pay1, lf, tail]
  rw [zero_sub]
  rfl

/-! ## What the call ends with -/

theorem bias_read (b : Vec Ideal S1x8 .f32) (k : Fin 128) : shapeCast S1x128 (pad S128 ![0] ![120] ![0] (shapeCast S8 b shapeCasts_S1x8_S8)
    (sitofp (F := Ideal) .f32 (constantI S_ 32 0#32)) pads_S8_S128_01200 h_S_) shapeCasts_S128_S1x128 (ix2 0 k) = bias b k := by
  pointwise [bias]
  split
  · rfl
  · exact fill_zero

variable (m : (ℓ : Loc nD τ sig) → Buf (Elt Ideal) ℓ)

theorem idx_all : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem blk0 (c : Dev nD) (t : Fin cfg0.N) (r : Fin 512) (k : Fin 128) : iblk m c 0 t (ix2 r k)
    = m ((c : Thread nD τ).loc main_arg0) (ix2 ⟨t.val * 512 + r.val, by have := lt_of_lt_of_eq t.isLt N_0; omega⟩ k) := by
  rw [← V_main_arg0 m c]
  refine congrArg (V m c main_arg0) (funext fun a => ?_)
  have e := congrFun (idx_all t).1
  match a with
  | ⟨0, _⟩ => exact Fin.ext (by have := e 0; show win0_0.index t 0 * 512 + 1 * r.val = _; rw [this]; show t.val * 512 + 1 * r.val = t.val * 512 + r.val; omega)
  | ⟨1, _⟩ => exact Fin.ext (by have := e 1; show win0_0.index t 1 * 128 + 1 * k.val = _; rw [this]; show 0 * 128 + 1 * k.val = k.val; omega)

theorem blk1 (c : Dev nD) (t : Fin cfg0.N) (k : Fin 128) : iblk m c 1 t (ix2 0 k) = bias (m ((c : Thread nD τ).loc main_arg1)) k := by
  have hv : V m c main_v2 = shapeCast S1x128 (pad S128 ![0] ![120] ![0] (shapeCast S8 (m ((c : Thread nD τ).loc main_arg1)) shapeCasts_S1x8_S8)
      (sitofp (F := Ideal) .f32 (constantI S_ 32 0#32)) pads_S8_S128_01200 h_S_) shapeCasts_S128_S1x128 := by
    simp only [V, hostOps0, hostOps0_1, hostOps0_2, List.flatten_cons, List.flatten_nil, List.append_nil, List.cons_append, List.nil_append]
    after_reads_simp
    rfl
  have he : iblk m c 1 t (ix2 0 k) = V m c main_v2 (ix2 0 k) := by
    refine congrArg (V m c main_v2) (funext fun a => ?_)
    have e := congrFun (idx_all t).2.1
    match a with
    | ⟨0, _⟩ => exact Fin.ext (by have := e 0; show win0_1.index t 0 * 1 + 1 * 0 = _; rw [this]; rfl)
    | ⟨1, _⟩ => exact Fin.ext (by have := e 1; show win0_1.index t 1 * 128 + 1 * k.val = _; rw [this]; show 0 * 128 + 1 * k.val = k.val; omega)
  rw [he, hv]
  exact bias_read _ k

/-- A point's block of logarithms. -/
theorem block_read (c : Dev nD) (t : Fin cfg0.N) (r : Fin 512) (k : Fin 128) : k0_pay1 (iblk m c 0 t) (iblk m c 1 t) (ix2 r k)
    = entry (m ((c : Thread nD τ).loc main_arg0)) (m ((c : Thread nD τ).loc main_arg1)) k (t.val * 512 + r.val) := by
  have h : t.val * 512 + r.val < 1024 := by have := lt_of_lt_of_eq t.isLt N_0; omega
  rw [lf_read, blk0, blk1]
  exact (entry_of (R := 1024) _ _ k ⟨t.val * 512 + r.val, h⟩).symm

theorem kernel_lf (c : Dev nD) (i : Fin 1024) (k : Fin 128) : (dats m 0 c).arrAt 2 cfg0.N (ix2 i k)
    = entry (m ((c : Thread nD τ).loc main_arg0)) (m ((c : Thread nD τ).loc main_arg1)) k i.val := by
  have ht : i.val / 512 < cfg0.N := lt_of_lt_of_eq (by omega) N_0.symm
  have hb := congrFun (Cert.Kernel15Ideal.Value.blocks2 m c ⟨i.val / 512, ht⟩ (flush0_2 _)) (ix2 ⟨i.val % 512, by omega⟩ k)
  rw [Cert.Kernel15Ideal.Value.flushed2_A, out0_A_2_eq] at hb
  have e := congrFun (idx_all ⟨i.val / 512, ht⟩).2.2.1
  refine (congrArg ((dats m 0 c).arrAt 2 cfg0.N) (funext fun a => ?_)).trans ((hb.trans rfl).trans ((block_read m c _ _ _).trans ?_))
  · match a with
    | ⟨0, _⟩ => exact Fin.ext (by have := e 0; show _ = win0_2.index _ 0 * 512 + 1 * (i.val % 512); rw [this]; show i.val = i.val / 512 * 512 + 1 * (i.val % 512); omega)
    | ⟨1, _⟩ => exact Fin.ext (by have := e 1; show _ = win0_2.index _ 1 * 128 + 1 * k.val; rw [this]; show k.val = 0 * 128 + 1 * k.val; omega)
  · congr 1; dsimp only; omega

theorem kernel_sum (c : Dev nD) (i : Fin 1024) (k : Fin 128) : (dats m 0 c).arrAt 3 cfg0.N (ix2 i k)
    = ∑ q ∈ Finset.range (i.val % 8 + 1), entry (m ((c : Thread nD τ).loc main_arg0)) (m ((c : Thread nD τ).loc main_arg1)) k (i.val / 8 * 8 + q) := by
  have ht : i.val / 512 < cfg0.N := lt_of_lt_of_eq (by omega) N_0.symm
  have hb := congrFun (Cert.Kernel15Ideal.Value.blocks3 m c ⟨i.val / 512, ht⟩ (flush0_3 _)) (ix2 ⟨i.val % 512, by omega⟩ k)
  rw [Cert.Kernel15Ideal.Value.flushed3_A, out0_A_3_eq, pay6_eq] at hb
  have e := congrFun (idx_all ⟨i.val / 512, ht⟩).2.2.2
  refine (congrArg ((dats m 0 c).arrAt 3 cfg0.N) (funext fun a => ?_)).trans ((hb.trans rfl).trans
    ((sums_read _ _ _ mask_read ⟨i.val % 512, by omega⟩ k fun s => by rw [lf_read]; exact lf_ne_top _).trans ?_))
  · match a with
    | ⟨0, _⟩ => exact Fin.ext (by have := e 0; show _ = win0_3.index _ 0 * 512 + 1 * (i.val % 512); rw [this]; show i.val = i.val / 512 * 512 + 1 * (i.val % 512); omega)
    | ⟨1, _⟩ => exact Fin.ext (by have := e 1; show _ = win0_3.index _ 1 * 128 + 1 * k.val; rw [this]; show k.val = 0 * 128 + 1 * k.val; omega)
  · simp only [block_read]
    rw [within (fun s => entry (m ((c : Thread nD τ).loc main_arg0)) (m ((c : Thread nD τ).loc main_arg1)) k (i.val / 512 * 512 + s)) ⟨i.val % 512, by omega⟩]
    dsimp only
    rw [show i.val % 512 % 8 = i.val % 8 by omega]
    refine Finset.sum_congr rfl fun q _ => ?_
    congr 1; omega

end Cert.Kernel15Ideal.Gates

namespace Cert.Reference15Ideal.Gates

open Idealize.ShloMosaic Idealize.ShloMosaic.TcCoe Idealize.SL.Sem Idealize.ShloMosaic.StableHlo Cert.Reference15Ideal Cert.Reference15Ideal.Gen Cert.Gates

/-- The biased projection. -/
def biased (x : Vec Ideal S1024x128 .f32) (b : Vec Ideal S1x8 .f32) : Vec Ideal S1024x128 .f32 :=
  addf (F := Ideal) (φ := .f32) x (broadcastInDim S1024x128 ![0, 1] bcast_S1x128_S1024x128_0_1 (broadcastInDim S1x128 ![1] bcast_S128_S1x128_1
    (pad S128 ![0] ![120] ![0] (shapeCast S8 b shapeCasts_S1x8_S8) (sitofp (F := Ideal) .f32 (constantI S_ 32 0#32)) pads_S8_S128_01200 h_S_)))

/-- The zeros it is compared with. -/
def zeros : Vec Ideal S1024x128 .f32 := broadcastInDim S1024x128 ![] bcast_S_S1024x128 (constant (F := Ideal) S_ .f32 0x00000000#32)

/-- The logarithm of the logistic function. -/
def logs (z : Vec Ideal S1024x128 .f32) : Vec Ideal S1024x128 .f32 :=
  Host.negf (F := Ideal) (φ := .f32) (select (cmpf (F := Ideal) (φ := .f32) .une (subf (F := Ideal) (φ := .f32) (Host.negf (F := Ideal) (φ := .f32) z) zeros) (subf (F := Ideal) (φ := .f32) (Host.negf (F := Ideal) (φ := .f32) z) zeros))
    (addf (F := Ideal) (φ := .f32) (Host.negf (F := Ideal) (φ := .f32) z) zeros)
    (addf (F := Ideal) (φ := .f32) (maximumf (F := Ideal) (φ := .f32) (Host.negf (F := Ideal) (φ := .f32) z) zeros) (Host.log1p (F := Ideal) (φ := .f32) (Host.exp (F := Ideal) (φ := .f32) (Host.negf (F := Ideal) (φ := .f32)
      (Host.absf (F := Ideal) (φ := .f32) (subf (F := Ideal) (φ := .f32) (Host.negf (F := Ideal) (φ := .f32) z) zeros)))))))

/-- Its running sums. -/
def running (y : Vec Ideal S1024x128 .f32) : Vec Ideal S1024x128 .f32 :=
  shapeCast S1024x128 (Host.reduceWindowAdd (F := Ideal) ![1, 8, 1] ![1, 1, 1] ![0, 7, 0] ![0, 0, 0] (shapeCast S128x8x128 y shapeCasts_S1024x128_S128x8x128)
    (broadcastInDim S_ ![] bcast_S_S_ (constant (F := Ideal) S_ .f32 0x00000000#32)) reduceWindows_S128x8x128_S128x8x128_w1s1p0_0_w8s1p7_0_w1s1p0_0 h_S_) shapeCasts_S128x8x128_S1024x128

theorem biased_read (x : Vec Ideal S1024x128 .f32) (b : Vec Ideal S1x8 .f32) (i : Fin 1024) (k : Fin 128) : biased x b (ix2 i k) = x (ix2 i k) + bias b k := by
  pointwise [biased, bias]
  congr 1
  split
  · rfl
  · exact fill_zero

theorem logs_read (z : Vec Ideal S1024x128 .f32) (i : Fin 1024) (k : Fin 128) : logs z (ix2 i k) = lf (z (ix2 i k)) := by
  rw [← lf_ref]
  pointwise [logs, zeros]
  rw [if_neg (not_not.mpr rfl)]
  rfl

theorem cut_read (y : Vec Ideal S128x8x128 .f32) (i : Fin 1024) (k : Fin 128) : shapeCast S1024x128 y shapeCasts_S128x8x128_S1024x128 (ix2 i k)
    = y (ix3 ⟨i.val / 8, by omega⟩ ⟨i.val % 8, by omega⟩ k) := by
  pointwise

theorem fold_read (y : Vec Ideal S1024x128 .f32) (b : Fin 128) (r : Fin 8) (k : Fin 128) : shapeCast S128x8x128 y shapeCasts_S1024x128_S128x8x128 (ix3 b r k)
    = y (ix2 ⟨b.val * 8 + r.val, by omega⟩ k) := by
  pointwise

theorem running_read (y : Vec Ideal S1024x128 .f32) (f : ℕ → EReal) (k : Fin 128) (h : ∀ i : Fin 1024, y (ix2 i k) = f i.val) (i : Fin 1024) :
    running y (ix2 i k) = ∑ q ∈ Finset.range (i.val % 8 + 1), f (i.val / 8 * 8 + q) := by
  unfold running
  refine (cut_read _ i k).trans ((winAdd 7 rfl _ _ h_S_ (by pointwise) _ ⟨i.val / 8, by omega⟩ ⟨i.val % 8, by omega⟩ k).trans (Finset.sum_congr rfl fun q hq => ?_))
  have hq8 : q < 8 := by have := Finset.mem_range.mp hq; omega
  unfold row
  rw [dif_pos hq8, fold_read, h]

end Cert.Reference15Ideal.Gates

namespace Cert.GatesSample

open Idealize.ShloMosaic Idealize.ShloMosaic.TcCoe Idealize.SL.Sem Idealize.ShloMosaic.StableHlo Cert.Gates Cert.Reference15Ideal.Gates

theorem lf_same (x : FVec Ideal (⟨2, ![1024, 128]⟩ : Shape) .f32) (b : FVec Ideal (⟨2, ![1, 8]⟩ : Shape) .f32) (i : Fin 1024) (k : Fin 128) :
    logs (biased x b) (ix2 i k) = entry x b k i.val := by
  rw [logs_read, biased_read, entry_of]

/-- The kernel and the reference end with the same arrays. -/
theorem same_values : Cert.algebraic_Kernel15Ideal_Reference15Ideal := by
  intro m g m' g' _ hargs
  refine ⟨fun c => (Cert.Kernel15Ideal.Gen.dats m 0 c).arrAt 2 Cert.Kernel15Ideal.cfg0.N, fun c => (Cert.Kernel15Ideal.Gen.dats m 0 c).arrAt 3 Cert.Kernel15Ideal.cfg0.N,
    Cert.Kernel15Ideal.Value.run_blocks m g, (θ_run _ _ _).mono (fun r h c => ?_) (Cert.Reference15Ideal.Value.run m' g')⟩
  obtain ⟨h0, h1⟩ := hargs c
  obtain ⟨ho, hs, hk⟩ := h c
  refine ⟨ho.trans ?_, hs.trans ?_, hk⟩
  · rw [h0, h1]
    funext i
    idx_vars i
    exact (lf_same _ _ i0 i1).trans (Cert.Kernel15Ideal.Gates.kernel_lf m c i0 i1).symm
  · rw [h0, h1]
    funext i
    idx_vars i
    exact (running_read _ _ i1 (fun i => lf_same _ _ i i1) i0).trans (Cert.Kernel15Ideal.Gates.kernel_sum m c i0 i1).symm

end Cert.GatesSample

end
-- ==== Proof.GatesPrompt.lean ====
/-
  The gates of the prompt's call: the logarithm of the logistic function of the biased projection, and its running sum over each sequence,
  a block of rows at a point and the sum so far handed on in the scratch.
-/
module

public import proofs.«01_k».proof.Proof.Gen.Kernel14Ideal.Value
public import proofs.«01_k».proof.Proof.Gen.Reference14Ideal.Run
public import proofs.«01_k».proof.Proof.GatesSample

@[expose] public section

set_option maxRecDepth 65536

noncomputable section

namespace Cert.Kernel14Ideal.Gates

open Idealize.ShloMosaic Idealize.ShloMosaic.TcCoe Idealize.SL.Sem Idealize.ShloMosaic.StableHlo Cert.Kernel14Ideal Cert.Kernel14Ideal.Gen Cert.Gates

section Cases

variable {F : FTy → Type} [FloatOps F] (c : Dev nD) (i : grid0.Coords) (a1 : Memref sig .tc .vmem S512x128 .f32) (h1 : a1.IsWhole) (a2 : Memref sig .tc .vmem S1x128 .f32)
  (h2 : a2.IsWhole) (a3 : Memref sig .tc .vmem S512x128 .f32) (h3 : a3.IsWhole) (a4 : Memref sig .tc .vmem S512x128 .f32) (h4 : a4.IsWhole)
  (a5 : Memref sig .tc .vmem S1x128 .f32) (h5 : a5.IsWhole) (x0 : Vec F S512x128 .f32) (x1 : Vec F S1x128 .f32) (xs0 : Vec F S1x128 .f32)

theorem out0_A_2_eq (hc0 : cond0_0 i) : out0_A_2 (F := F) c i a1 h1 a2 h2 a3 h3 a4 h4 a5 h5 hc0 x0 x1 = k0_pay4 x0 x1 := by
  unfold out0_A_2
  rw [View.read_writes_eq_canon _ _ _ (cover0_A_2 c i a1 h1 a2 h2 a3 h3 a4 h4 a5 h5 hc0 x0 x1)]
  unfold kernelRun0_A
  dsimp only
  sl_unfold_words
  simp only [View.readAt_eq_ld, h1.read_unread, h2.read_unread, h5.read_unread]
  rw [View.canon_unit_zero (S := S512x128) (funext fun a => by fin_cases a <;> rfl),
    View.ld_unit_zero (S := S512x128) (funext fun a => by fin_cases a <;> rfl),
    View.ld_unit_zero (S := S1x128) (funext fun a => by fin_cases a <;> rfl)]

theorem out0_A_3_eq (hc0 : cond0_0 i) : out0_A_3 (F := F) c i a1 h1 a2 h2 a3 h3 a4 h4 a5 h5 hc0 x0 x1 = k0_pay2 (k0_pay5 x0 x1) k0_pay1 := by
  unfold out0_A_3
  rw [View.read_writes_eq_canon _ _ _ (cover0_A_3 c i a1 h1 a2 h2 a3 h3 a4 h4 a5 h5 hc0 x0 x1)]
  unfold kernelRun0_A
  dsimp only
  sl_unfold_words
  simp only [View.readAt_eq_ld, h1.read_unread, h2.read_unread, h5.read_unread]
  rw [View.canon_unit_zero (S := S512x128) (funext fun a => by fin_cases a <;> rfl),
    View.readCov_unit_zero (S := S1x128) (h := funext fun a => by fin_cases a <;> rfl),
    View.ld_unit_zero (S := S512x128) (funext fun a => by fin_cases a <;> rfl),
    View.ld_unit_zero (S := S1x128) (funext fun a => by fin_cases a <;> rfl)]

theorem sout0_A_0_eq (hc0 : cond0_0 i) : sout0_A_0 (F := F) c i a1 h1 a2 h2 a3 h3 a4 h4 a5 h5 hc0 x0 x1 = k0_pay3 (k0_pay5 x0 x1) k0_pay1 := by
  unfold sout0_A_0
  rw [View.read_writes_eq_canon _ _ _ (scover0_A_0 c i a1 h1 a2 h2 a3 h3 a4 h4 a5 h5 hc0 x0 x1)]
  unfold kernelRun0_A
  dsimp only
  sl_unfold_words
  simp only [View.readAt_eq_ld, h1.read_unread, h2.read_unread, h5.read_unread]
  rw [View.canon_cons_unit_zero (S := S1x128) (funext fun a => by fin_cases a <;> rfl),
    View.readCov_unit_zero (S := S1x128) (h := funext fun a => by fin_cases a <;> rfl),
    View.ld_unit_zero (S := S512x128) (funext fun a => by fin_cases a <;> rfl),
    View.ld_unit_zero (S := S1x128) (funext fun a => by fin_cases a <;> rfl)]

theorem out0_B_2_eq (hc0 : ¬cond0_0 i) : out0_B_2 (F := F) c i a1 h1 a2 h2 a3 h3 a4 h4 a5 h5 hc0 x0 x1 xs0 = k0_pay4 x0 x1 := by
  unfold out0_B_2
  rw [View.read_writes_eq_canon _ _ _ (cover0_B_2 c i a1 h1 a2 h2 a3 h3 a4 h4 a5 h5 hc0 x0 x1 xs0)]
  unfold kernelRun0_B
  dsimp only
  sl_unfold_words
  simp only [View.readAt_eq_ld, h1.read_unread, h2.read_unread, h5.read_unread]
  rw [View.canon_unit_zero (S := S512x128) (funext fun a => by fin_cases a <;> rfl),
    View.ld_unit_zero (S := S512x128) (funext fun a => by fin_cases a <;> rfl),
    View.ld_unit_zero (S := S1x128) (funext fun a => by fin_cases a <;> rfl)]

theorem out0_B_3_eq (hc0 : ¬cond0_0 i) : out0_B_3 (F := F) c i a1 h1 a2 h2 a3 h3 a4 h4 a5 h5 hc0 x0 x1 xs0 = k0_pay2 (k0_pay5 x0 x1) xs0 := by
  unfold out0_B_3
  rw [View.read_writes_eq_canon _ _ _ (cover0_B_3 c i a1 h1 a2 h2 a3 h3 a4 h4 a5 h5 hc0 x0 x1 xs0)]
  unfold kernelRun0_B
  dsimp only
  sl_unfold_words
  simp only [View.readAt_eq_ld, h1.read_unread, h2.read_unread, h5.read_unread]
  rw [View.canon_unit_zero (S := S512x128) (funext fun a => by fin_cases a <;> rfl),
    View.ld_unit_zero (S := S512x128) (funext fun a => by fin_cases a <;> rfl),
    View.ld_unit_zero (S := S1x128) (funext fun a => by fin_cases a <;> rfl),
    View.ld_unit_zero (S := S1x128) (funext fun a => by fin_cases a <;> rfl)]

theorem sout0_B_0_eq (hc0 : ¬cond0_0 i) : sout0_B_0 (F := F) c i a1 h1 a2 h2 a3 h3 a4 h4 a5 h5 hc0 x0 x1 xs0 = k0_pay3 (k0_pay5 x0 x1) xs0 := by
  unfold sout0_B_0
  rw [View.read_writes_eq_canon _ _ _ (scover0_B_0 c i a1 h1 a2 h2 a3 h3 a4 h4 a5 h5 hc0 x0 x1 xs0)]
  unfold kernelRun0_B
  dsimp only
  sl_unfold_words
  simp only [View.readAt_eq_ld, h1.read_unread, h2.read_unread, h5.read_unread]
  rw [View.canon_unit_zero (S := S1x128) (funext fun a => by fin_cases a <;> rfl),
    View.ld_unit_zero (S := S512x128) (funext fun a => by fin_cases a <;> rfl),
    View.ld_unit_zero (S := S1x128) (funext fun a => by fin_cases a <;> rfl),
    View.ld_unit_zero (S := S1x128) (funext fun a => by fin_cases a <;> rfl)]

end Cases

/-! ## The values -/

/-- Which rows a row's sum takes. -/
def mask : IVec S512x512 1 := cmpi .sle (iota .tc S512x512 32 [1] iota_S512x512_d1_w32) (iota .tc S512x512 32 [0] iota_S512x512_d0_w32)

theorem mask_read (r s : Fin 512) : mask (ix2 r s) = if s.val ≤ r.val then 1#1 else 0#1 := by
  have hr := r.isLt
  have hs := s.isLt
  rw [← le_bit _ _ (by omega) (by omega)]
  pointwise [mask]

theorem pay4_eq (x : Vec Ideal S512x128 .f32) (b : Vec Ideal S1x128 .f32) : k0_pay4 x b = Cert.Kernel15Ideal.Gen.k0_pay1 x b := rfl

theorem pay5_eq (x : Vec Ideal S512x128 .f32) (b : Vec Ideal S1x128 .f32) : k0_pay5 x b = Cert.Kernel15Ideal.Gates.sums (k0_pay4 x b) mask := rfl

theorem lf_read (x : Vec Ideal S512x128 .f32) (b : Vec Ideal S1x128 .f32) (r : Fin 512) (k : Fin 128) : k0_pay4 x b (ix2 r k) = lf (x (ix2 r k) + b (ix2 0 k)) :=
  Cert.Kernel15Ideal.Gates.lf_read x b r k

theorem add_read (v : Vec Ideal S512x128 .f32) (w : Vec Ideal S1x128 .f32) (r : Fin 512) (k : Fin 128) : k0_pay2 v w (ix2 r k) = (v (ix2 r k) + w (ix2 0 k) : EReal) := by
  pointwise [k0_pay2]

theorem next_read (v : Vec Ideal S512x128 .f32) (w : Vec Ideal S1x128 .f32) (k : Fin 128) : k0_pay3 v w (ix2 0 k) = (v (ix2 ⟨511, by omega⟩ k) + w (ix2 0 k) : EReal) := by
  pointwise [k0_pay3, k0_pay2]

theorem zero_read (k : Fin 128) : k0_pay1 (F := Ideal) (ix2 0 k) = (0 : EReal) := by
  pointwise [k0_pay1]

theorem bias_read (b : Vec Ideal S1x8 .f32) (k : Fin 128) : shapeCast S1x128 (pad S128 ![0] ![120] ![0] (shapeCast S8 b shapeCasts_S1x8_S8)
    (sitofp (F := Ideal) .f32 (constantI S_ 32 0#32)) pads_S8_S128_01200 h_S_) shapeCasts_S128_S1x128 (ix2 0 k) = bias b k := by
  pointwise [bias]
  split
  · rfl
  · exact fill_zero

variable (m : (ℓ : Loc nD τ sig) → Buf (Elt Ideal) ℓ)

theorem idx_all : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem blk0 (c : Dev nD) (t : Fin cfg0.N) (r : Fin 512) (k : Fin 128) : iblk m c 0 t (ix2 r k)
    = m ((c : Thread nD τ).loc main_arg0) (ix2 ⟨t.val * 512 + r.val, by have := lt_of_lt_of_eq t.isLt N_0; omega⟩ k) := by
  rw [← V_main_arg0 m c]
  refine congrArg (V m c main_arg0) (funext fun a => ?_)
  have e := congrFun (idx_all t).1
  match a with
  | ⟨0, _⟩ => exact Fin.ext (by have := e 0; show win0_0.index t 0 * 512 + 1 * r.val = _; rw [this]; show t.val * 512 + 1 * r.val = t.val * 512 + r.val; omega)
  | ⟨1, _⟩ => exact Fin.ext (by have := e 1; show win0_0.index t 1 * 128 + 1 * k.val = _; rw [this]; show 0 * 128 + 1 * k.val = k.val; omega)

theorem blk1 (c : Dev nD) (t : Fin cfg0.N) (k : Fin 128) : iblk m c 1 t (ix2 0 k) = bias (m ((c : Thread nD τ).loc main_arg1)) k := by
  have hv : V m c main_v2 = shapeCast S1x128 (pad S128 ![0] ![120] ![0] (shapeCast S8 (m ((c : Thread nD τ).loc main_arg1)) shapeCasts_S1x8_S8)
      (sitofp (F := Ideal) .f32 (constantI S_ 32 0#32)) pads_S8_S128_01200 h_S_) shapeCasts_S128_S1x128 := by
    simp only [V, hostOps0, hostOps0_1, hostOps0_2, List.flatten_cons, List.flatten_nil, List.append_nil, List.cons_append, List.nil_append]
    after_reads_simp
    rfl
  have he : iblk m c 1 t (ix2 0 k) = V m c main_v2 (ix2 0 k) := by
    refine congrArg (V m c main_v2) (funext fun a => ?_)
    have e := congrFun (idx_all t).2.1
    match a with
    | ⟨0, _⟩ => exact Fin.ext (by have := e 0; show win0_1.index t 0 * 1 + 1 * 0 = _; rw [this]; rfl)
    | ⟨1, _⟩ => exact Fin.ext (by have := e 1; show win0_1.index t 1 * 128 + 1 * k.val = _; rw [this]; show 0 * 128 + 1 * k.val = k.val; omega)
  rw [he, hv]
  exact bias_read _ k

/-- A point's block of logarithms. -/
theorem block_read (c : Dev nD) (t : Fin cfg0.N) (r : Fin 512) (k : Fin 128) : k0_pay4 (iblk m c 0 t) (iblk m c 1 t) (ix2 r k)
    = entry (m ((c : Thread nD τ).loc main_arg0)) (m ((c : Thread nD τ).loc main_arg1)) k (t.val * 512 + r.val) := by
  have h : t.val * 512 + r.val < 8192 := by have := lt_of_lt_of_eq t.isLt N_0; omega
  rw [lf_read, blk0, blk1]
  exact (entry_of (R := 8192) _ _ k ⟨t.val * 512 + r.val, h⟩).symm

/-- A point's sums of its own rows. -/
theorem own_read (c : Dev nD) (t : Fin cfg0.N) (r : Fin 512) (k : Fin 128) : k0_pay5 (iblk m c 0 t) (iblk m c 1 t) (ix2 r k)
    = ∑ q ∈ Finset.range (r.val + 1), entry (m ((c : Thread nD τ).loc main_arg0)) (m ((c : Thread nD τ).loc main_arg1)) k (t.val * 512 + q) := by
  rw [pay5_eq]
  refine (Cert.Kernel15Ideal.Gates.sums_read _ _ _ mask_read r k fun s => by rw [lf_read]; exact lf_ne_top _).trans ?_
  simp only [block_read]
  exact upto (fun s => entry (m ((c : Thread nD τ).loc main_arg0)) (m ((c : Thread nD τ).loc main_arg1)) k (t.val * 512 + s)) r

/-- The sum of the first `l` rows of the sequence that point `n` is in. -/
def sofar (c : Dev nD) (k : Fin 128) (n l : ℕ) : EReal :=
  ∑ q ∈ Finset.range l, entry (m ((c : Thread nD τ).loc main_arg0)) (m ((c : Thread nD τ).loc main_arg1)) k (n / 8 * 4096 + q)

/-- The rows before a point and its own. -/
theorem sofar_own (c : Dev nD) (t : Fin cfg0.N) (r : Fin 512) (k : Fin 128) :
    k0_pay5 (iblk m c 0 t) (iblk m c 1 t) (ix2 r k) + sofar m c k t.val (t.val % 8 * 512) = sofar m c k t.val (t.val % 8 * 512 + (r.val + 1)) := by
  unfold sofar
  rw [Finset.sum_range_add, own_read, add_comm]
  congr 1
  refine Finset.sum_congr rfl fun q _ => ?_
  congr 1; omega

/-- What a point leaves: its logarithms, its sums and the sum it hands on. -/
theorem left_out (c : Dev nD) : ∀ (n : ℕ) (hn : n < cfg0.N), (outsAt0 m c n hn).1 = k0_pay4 (iblk m c 0 ⟨n, hn⟩) (iblk m c 1 ⟨n, hn⟩)
    ∧ (∀ (r : Fin 512) (k : Fin 128), (outsAt0 m c n hn).2.1 (ix2 r k) = sofar m c k n (n % 8 * 512 + (r.val + 1)))
    ∧ ∀ k : Fin 128, (outsAt0 m c n hn).2.2 (ix2 0 k) = sofar m c k n (n % 8 * 512 + 512) := by
  have hA : ∀ (t : Fin cfg0.N), t.val % 8 = 0 → (outsAt0 m c t.val t.isLt).1 = k0_pay4 (iblk m c 0 t) (iblk m c 1 t)
      ∧ (∀ (r : Fin 512) (k : Fin 128), (outsAt0 m c t.val t.isLt).2.1 (ix2 r k) = sofar m c k t.val (t.val % 8 * 512 + (r.val + 1)))
      ∧ ∀ k : Fin 128, (outsAt0 m c t.val t.isLt).2.2 (ix2 0 k) = sofar m c k t.val (t.val % 8 * 512 + 512) := by
    intro t h0
    have hz : ∀ k, k0_pay1 (F := Ideal) (ix2 0 k) = sofar m c k t.val (t.val % 8 * 512) := by
      intro k
      rw [zero_read, h0]
      rfl
    rw [outsAt0_A m c t h0]
    dsimp only
    rw [out0_A_2_eq, out0_A_3_eq, sout0_A_0_eq]
    refine ⟨rfl, fun r k => ?_, fun k => ?_⟩
    · rw [add_read, hz, sofar_own]
    · rw [next_read, hz, sofar_own]
  intro n
  induction n with
  | zero => intro hn; exact hA ⟨0, hn⟩ rfl
  | succ n ih =>
    intro hn
    by_cases h0 : (n + 1) % 8 = 0
    · exact hA ⟨n + 1, hn⟩ h0
    · have hz : ∀ k, (outsAt0 m c n (by omega)).2.2 (ix2 0 k) = sofar m c k (n + 1) ((n + 1) % 8 * 512) := by
        intro k
        rw [(ih (by omega)).2.2]
        unfold sofar
        rw [show (n + 1) % 8 * 512 = n % 8 * 512 + 512 by omega, show (n + 1) / 8 = n / 8 by omega]
      have hB := outsAt0_B m c ⟨n + 1, hn⟩ h0
      dsimp only at hB
      rw [hB]
      dsimp only
      rw [out0_B_2_eq, out0_B_3_eq, sout0_B_0_eq]
      refine ⟨rfl, fun r k => ?_, fun k => ?_⟩
      · rw [add_read]
        exact (congrArg (_ + ·) (hz k)).trans (sofar_own m c ⟨n + 1, hn⟩ r k)
      · rw [next_read]
        exact (congrArg (_ + ·) (hz k)).trans (sofar_own m c ⟨n + 1, hn⟩ ⟨511, by omega⟩ k)

theorem kernel_lf (c : Dev nD) (i : Fin 8192) (k : Fin 128) : (dats m 0 c).arrAt 2 cfg0.N (ix2 i k)
    = entry (m ((c : Thread nD τ).loc main_arg0)) (m ((c : Thread nD τ).loc main_arg1)) k i.val := by
  have ht : i.val / 512 < cfg0.N := lt_of_lt_of_eq (by omega) N_0.symm
  have hb := congrFun (Cert.Kernel14Ideal.Value.blocks2 m c ⟨i.val / 512, ht⟩ (flush0_2 _)) (ix2 ⟨i.val % 512, by omega⟩ k)
  rw [Cert.Kernel14Ideal.Value.flushed2, (left_out m c _ ht).1] at hb
  have e := congrFun (idx_all ⟨i.val / 512, ht⟩).2.2.1
  refine (congrArg ((dats m 0 c).arrAt 2 cfg0.N) (funext fun a => ?_)).trans ((hb.trans rfl).trans ((block_read m c _ _ _).trans ?_))
  · match a with
    | ⟨0, _⟩ => exact Fin.ext (by have := e 0; show _ = win0_2.index _ 0 * 512 + 1 * (i.val % 512); rw [this]; show i.val = i.val / 512 * 512 + 1 * (i.val % 512); omega)
    | ⟨1, _⟩ => exact Fin.ext (by have := e 1; show _ = win0_2.index _ 1 * 128 + 1 * k.val; rw [this]; show k.val = 0 * 128 + 1 * k.val; omega)
  · congr 1; dsimp only; omega

theorem kernel_sum (c : Dev nD) (i : Fin 8192) (k : Fin 128) : (dats m 0 c).arrAt 3 cfg0.N (ix2 i k)
    = ∑ q ∈ Finset.range (i.val % 4096 + 1), entry (m ((c : Thread nD τ).loc main_arg0)) (m ((c : Thread nD τ).loc main_arg1)) k (i.val / 4096 * 4096 + q) := by
  have ht : i.val / 512 < cfg0.N := lt_of_lt_of_eq (by omega) N_0.symm
  have hb := congrFun (Cert.Kernel14Ideal.Value.blocks3 m c ⟨i.val / 512, ht⟩ (flush0_3 _)) (ix2 ⟨i.val % 512, by omega⟩ k)
  rw [Cert.Kernel14Ideal.Value.flushed3] at hb
  have e := congrFun (idx_all ⟨i.val / 512, ht⟩).2.2.2
  refine (congrArg ((dats m 0 c).arrAt 3 cfg0.N) (funext fun a => ?_)).trans ((hb.trans rfl).trans (((left_out m c _ ht).2.1 _ _).trans ?_))
  · match a with
    | ⟨0, _⟩ => exact Fin.ext (by have := e 0; show _ = win0_3.index _ 0 * 512 + 1 * (i.val % 512); rw [this]; show i.val = i.val / 512 * 512 + 1 * (i.val % 512); omega)
    | ⟨1, _⟩ => exact Fin.ext (by have := e 1; show _ = win0_3.index _ 1 * 128 + 1 * k.val; rw [this]; show k.val = 0 * 128 + 1 * k.val; omega)
  · unfold sofar
    dsimp only
    rw [show i.val / 512 % 8 * 512 + (i.val % 512 + 1) = i.val % 4096 + 1 by omega, show i.val / 512 / 8 = i.val / 4096 by omega]

end Cert.Kernel14Ideal.Gates

namespace Cert.Reference14Ideal.Gates

open Idealize.ShloMosaic Idealize.ShloMosaic.TcCoe Idealize.SL.Sem Idealize.ShloMosaic.StableHlo Cert.Reference14Ideal Cert.Reference14Ideal.Gen Cert.Gates

/-- The biased projection. -/
def biased (x : Vec Ideal S8192x128 .f32) (b : Vec Ideal S1x8 .f32) : Vec Ideal S8192x128 .f32 :=
  addf (F := Ideal) (φ := .f32) x (broadcastInDim S8192x128 ![0, 1] bcast_S1x128_S8192x128_0_1 (broadcastInDim S1x128 ![1] bcast_S128_S1x128_1
    (pad S128 ![0] ![120] ![0] (shapeCast S8 b shapeCasts_S1x8_S8) (sitofp (F := Ideal) .f32 (constantI S_ 32 0#32)) pads_S8_S128_01200 h_S_)))

/-- The zeros it is compared with. -/
def zeros : Vec Ideal S8192x128 .f32 := broadcastInDim S8192x128 ![] bcast_S_S8192x128 (constant (F := Ideal) S_ .f32 0x00000000#32)

/-- The logarithm of the logistic function. -/
def logs (z : Vec Ideal S8192x128 .f32) : Vec Ideal S8192x128 .f32 :=
  Host.negf (F := Ideal) (φ := .f32) (select (cmpf (F := Ideal) (φ := .f32) .une (subf (F := Ideal) (φ := .f32) (Host.negf (F := Ideal) (φ := .f32) z) zeros) (subf (F := Ideal) (φ := .f32) (Host.negf (F := Ideal) (φ := .f32) z) zeros))
    (addf (F := Ideal) (φ := .f32) (Host.negf (F := Ideal) (φ := .f32) z) zeros)
    (addf (F := Ideal) (φ := .f32) (maximumf (F := Ideal) (φ := .f32) (Host.negf (F := Ideal) (φ := .f32) z) zeros) (Host.log1p (F := Ideal) (φ := .f32) (Host.exp (F := Ideal) (φ := .f32) (Host.negf (F := Ideal) (φ := .f32)
      (Host.absf (F := Ideal) (φ := .f32) (subf (F := Ideal) (φ := .f32) (Host.negf (F := Ideal) (φ := .f32) z) zeros)))))))

/-- Its running sums. -/
def running (y : Vec Ideal S8192x128 .f32) : Vec Ideal S8192x128 .f32 :=
  shapeCast S8192x128 (Host.reduceWindowAdd (F := Ideal) ![1, 4096, 1] ![1, 1, 1] ![0, 4095, 0] ![0, 0, 0] (shapeCast S2x4096x128 y shapeCasts_S8192x128_S2x4096x128)
    (broadcastInDim S_ ![] bcast_S_S_ (constant (F := Ideal) S_ .f32 0x00000000#32)) reduceWindows_S2x4096x128_S2x4096x128_w1s1p0_0_w4096s1p4095_0_w1s1p0_0 h_S_) shapeCasts_S2x4096x128_S8192x128

theorem biased_read (x : Vec Ideal S8192x128 .f32) (b : Vec Ideal S1x8 .f32) (i : Fin 8192) (k : Fin 128) : biased x b (ix2 i k) = x (ix2 i k) + bias b k := by
  pointwise [biased, bias]
  congr 1
  split
  · rfl
  · exact fill_zero

theorem logs_read (z : Vec Ideal S8192x128 .f32) (i : Fin 8192) (k : Fin 128) : logs z (ix2 i k) = lf (z (ix2 i k)) := by
  rw [← lf_ref]
  pointwise [logs, zeros]
  rw [if_neg (not_not.mpr rfl)]
  rfl

theorem cut_read (y : Vec Ideal S2x4096x128 .f32) (i : Fin 8192) (k : Fin 128) : shapeCast S8192x128 y shapeCasts_S2x4096x128_S8192x128 (ix2 i k)
    = y (ix3 ⟨i.val / 4096, by omega⟩ ⟨i.val % 4096, by omega⟩ k) := by
  pointwise

theorem fold_read (y : Vec Ideal S8192x128 .f32) (b : Fin 2) (r : Fin 4096) (k : Fin 128) : shapeCast S2x4096x128 y shapeCasts_S8192x128_S2x4096x128 (ix3 b r k)
    = y (ix2 ⟨b.val * 4096 + r.val, by omega⟩ k) := by
  pointwise

theorem running_read (y : Vec Ideal S8192x128 .f32) (f : ℕ → EReal) (k : Fin 128) (h : ∀ i : Fin 8192, y (ix2 i k) = f i.val) (i : Fin 8192) :
    running y (ix2 i k) = ∑ q ∈ Finset.range (i.val % 4096 + 1), f (i.val / 4096 * 4096 + q) := by
  unfold running
  refine (cut_read _ i k).trans ((winAdd 4095 rfl _ _ h_S_ (by pointwise) _ ⟨i.val / 4096, by omega⟩ ⟨i.val % 4096, by omega⟩ k).trans (Finset.sum_congr rfl fun q hq => ?_))
  have hq8 : q < 4096 := by have := Finset.mem_range.mp hq; omega
  unfold row
  rw [dif_pos hq8, fold_read, h]

end Cert.Reference14Ideal.Gates

namespace Cert.GatesPrompt

open Idealize.ShloMosaic Idealize.ShloMosaic.TcCoe Idealize.SL.Sem Idealize.ShloMosaic.StableHlo Cert.Gates Cert.Reference14Ideal.Gates

theorem lf_same (x : FVec Ideal (⟨2, ![8192, 128]⟩ : Shape) .f32) (b : FVec Ideal (⟨2, ![1, 8]⟩ : Shape) .f32) (i : Fin 8192) (k : Fin 128) :
    logs (biased x b) (ix2 i k) = entry x b k i.val := by
  rw [logs_read, biased_read, entry_of]

/-- The kernel and the reference end with the same arrays. -/
theorem same_values : Cert.algebraic_Kernel14Ideal_Reference14Ideal := by
  intro m g m' g' _ hargs
  refine ⟨fun c => (Cert.Kernel14Ideal.Gen.dats m 0 c).arrAt 2 Cert.Kernel14Ideal.cfg0.N, fun c => (Cert.Kernel14Ideal.Gen.dats m 0 c).arrAt 3 Cert.Kernel14Ideal.cfg0.N,
    Cert.Kernel14Ideal.Value.run_blocks m g, (θ_run _ _ _).mono (fun r h c => ?_) (Cert.Reference14Ideal.Value.run m' g')⟩
  obtain ⟨h0, h1⟩ := hargs c
  obtain ⟨ho, hs, hk⟩ := h c
  refine ⟨ho.trans ?_, hs.trans ?_, hk⟩
  · rw [h0, h1]
    funext i
    idx_vars i
    exact (lf_same _ _ i0 i1).trans (Cert.Kernel14Ideal.Gates.kernel_lf m c i0 i1).symm
  · rw [h0, h1]
    funext i
    idx_vars i
    exact (running_read _ _ i1 (fun i => lf_same _ _ i i1) i0).trans (Cert.Kernel14Ideal.Gates.kernel_sum m c i0 i1).symm

end Cert.GatesPrompt

end
-- ==== Proof.HgrnSampleHead.lean ====
/-
  The samples' call of the recurrence: what one point leaves, head by head. A point holds two sequences of eight positions, and
  a sequence is one chunk.
-/
module

public import proofs.«01_k».proof.Proof.Gen.Kernel16Ideal.Value
public import Idealize.ShloMosaic.Lib.Pointwise
public import Idealize.ShloMosaic.Lib.Tactic
public import Idealize.ShloMosaic.Lib.Pipeline.ReadBack

@[expose] public section

set_option maxRecDepth 16384

noncomputable section

namespace Cert.Kernel16Ideal.Hgrn

open Idealize.ShloMosaic Idealize.ShloMosaic.TcCoe Cert.Kernel16Ideal Cert.Kernel16Ideal.Gen

variable {F : FTy → Type} [FloatOps F]

/-- The forget gate: the lower bound plus the rest of the unit times the sigmoid. -/
def gate (lb : Vec F S1x128 .f32) (f : Vec F S8x128 .f32) : Vec F S8x128 .f32 :=
  addf (broadcastTo S8x128 lb broadcasts_S1x128_S8x128)
    (mulf (broadcastTo S8x128 (subf (broadcast S1x128 (Scalar.ofBits .f32 0x3F800000#32)) lb) broadcasts_S1x128_S8x128) (logistic f))

/-- What the gate leaves of the unit: the key of the position. -/
def key (lb : Vec F S1x128 .f32) (f : Vec F S8x128 .f32) : Vec F S8x128 .f32 :=
  subf (broadcast S8x128 (Scalar.ofBits .f32 0x3F800000#32)) (gate lb f)

/-- One round of the doubling prefix sum: every row from `s` on takes the row `s` above it. -/
def dbl (s : BitVec 32) (x : Vec F S8x128 .f32) : Vec F S8x128 .f32 :=
  addf x (select (cmpi .sge (iota .tc S8x128 32 [0] iota_S8x128_d0_w32) (broadcast S8x128 s))
    (dynamicRotate 0 s none x rotates_S8x128_d0) (broadcast S8x128 (Scalar.ofBits .f32 0x00000000#32)))

/-- The prefix sum along the positions, in three rounds. -/
def cum (x : Vec F S8x128 .f32) : Vec F S8x128 .f32 :=
  dbl 4#32 (dbl 2#32 (dbl 1#32 x))

/-- The logarithm of the decay up to each position. -/
def dec (lb : Vec F S1x128 .f32) (f : Vec F S8x128 .f32) : Vec F S8x128 .f32 := cum (log (gate lb f))

/-- The decay of the whole chunk. -/
def last (lb : Vec F S1x128 .f32) (f : Vec F S8x128 .f32) : Vec F S1x128 .f32 :=
  extractStridedSlice S1x128 ![7, 0] (dec lb f) slices_S8x128_o7_0_S1x128

def qe (lb : Vec F S1x128 .f32) (f q : Vec F S8x128 .f32) : Vec F S8x128 .bf16 :=
  truncf .bf16 (mulf q (exp (dec lb f))) bitsLt_bf16_f32

def ke (lb : Vec F S1x128 .f32) (f : Vec F S8x128 .f32) : Vec F S8x128 .bf16 :=
  truncf .bf16 (mulf (key lb f) (exp (subf (broadcast S8x128 (Scalar.ofBits .f32 0x00000000#32)) (dec lb f)))) bitsLt_bf16_f32

/-- The pairs of positions a chunk mixes: the later with the earlier. -/
def mask : IVec S8x8 1 := k0_pay34

def att (lb : Vec F S1x128 .f32) (f q : Vec F S8x128 .f32) : Vec F S8x8 .bf16 :=
  truncf .bf16 (select mask (matmul dot_S8x128_S8x128_S8x8_1_1_0_0_n_n none (qe lb f q) (ke lb f) (constant S8x8 .f32 0x00000000#32))
    (broadcast S8x8 (Scalar.ofBits .f32 0x00000000#32))) bitsLt_bf16_f32

/-- The output of the chunk before the norm: what the positions of the chunk give, and what the state gives. -/
def mix (lb : Vec F S1x128 .f32) (f q v : Vec F S8x128 .f32) (st : Vec F S128x128 .f32) : Vec F S8x128 .f32 :=
  addf (matmul dot_S8x8_S8x128_S8x128_1_0_0_1_n_n none (att lb f q) (truncf .bf16 v bitsLt_bf16_f32) (constant S8x128 .f32 0x00000000#32))
    (matmul dot_S8x128_S128x128_S8x128_1_1_0_0_n_n none (qe lb f q) (truncf .bf16 st bitsLt_bf16_f32) (constant S8x128 .f32 0x00000000#32))

/-- The state after the chunk. -/
def nxt (lb : Vec F S1x128 .f32) (f v : Vec F S8x128 .f32) (st : Vec F S128x128 .f32) : Vec F S128x128 .f32 :=
  addf (mulf st (broadcastTo S128x128 (exp (last lb f)) broadcasts_S1x128_S128x128))
    (matmul dot_S8x128_S8x128_S128x128_0_0_1_1_n_n none (truncf .bf16 v bitsLt_bf16_f32)
      (truncf .bf16 (mulf (key lb f) (exp (subf (broadcastTo S8x128 (last lb f) broadcasts_S1x128_S8x128) (dec lb f)))) bitsLt_bf16_f32)
      (constant S128x128 .f32 0x00000000#32))

/-- The normalised and gated output. -/
def outp (nw : Vec F S1x128 .f32) (o g : Vec F S8x128 .f32) : Vec F S8x128 .bf16 :=
  truncf .bf16 (mulf (mulf (mulf o (broadcastTo S8x128 (rsqrt (addf (divf
      (shapeCast S8x1 (multiReduction .add [1] S8 (mulf o o) 0x00000000#32 reduces_S8x128_S8 (.inl rfl) rfl) shapeCasts_S8_S8x1)
      (broadcast S8x1 (Scalar.ofBits .f32 0x43000000#32))) (broadcast S8x1 (Scalar.ofBits .f32 0x358637BD#32)))) broadcasts_S8x1_S8x128))
    (broadcastTo S8x128 nw broadcasts_S1x128_S8x128)) (mulf g (logistic g))) bitsLt_bf16_f32

/-- The 128 columns of head `h` in the rows of sequence `n` of a block. -/
def hd (n : Fin 2) (h : Fin 8) (x : Vec F S16x1024 .f32) : Vec F S8x128 .f32 := fun j =>
  x (ix2 ⟨8 * n.val + (j 0).val, by have := n.isLt; have : (j 0).val < 8 := (j 0).isLt; omega⟩
    ⟨128 * h.val + (j 1).val, by have := h.isLt; have : (j 1).val < 128 := (j 1).isLt; omega⟩)

/-- Head `h`'s 128 columns of the row of lower bounds. -/
def hd1 (h : Fin 8) (x : Vec F S1x1024 .f32) : Vec F S1x128 .f32 :=
  fun j => x (ix2 (j 0) ⟨128 * h.val + (j 1).val, by have := h.isLt; have : (j 1).val < 128 := (j 1).isLt; omega⟩)

/-- The state a head starts from, transposed. -/
def hs (n : Fin 2) (h : Fin 8) (s : Vec F S2x8x128x128 .f32) : Vec F S128x128 .f32 := fun j => s (ix4 n h (j 1) (j 0))

theorem ld_hd (x : Vec F S16x1024 .f32) (n : Fin 2) (h : Fin 8) (r : ℕ) (hr : r = 8 * n.val) (o : ℕ) (ho : o = 128 * h.val) (inb) :
    View.ld x (Rect.unit ![r, o] ![8, 128] inb) = hd n h x := by
  subst hr ho; funext j; refine congrArg x (funext fun a => Fin.ext ?_)
  match a with
  | ⟨0, _⟩ => show 8 * n.val + 1 * (j 0).val = 8 * n.val + (j 0).val; omega
  | ⟨1, _⟩ => show 128 * h.val + 1 * (j 1).val = 128 * h.val + (j 1).val; omega

theorem ld_hd1 (x : Vec F S1x1024 .f32) (h : Fin 8) (o : ℕ) (ho : o = 128 * h.val) (inb) :
    View.ld x (Rect.unit ![0, o] ![1, 128] inb) = hd1 h x := by
  subst ho; funext j; refine congrArg x (funext fun a => Fin.ext ?_)
  match a with
  | ⟨0, _⟩ => show 0 + 1 * (j 0).val = (j 0).val; omega
  | ⟨1, _⟩ => show 128 * h.val + 1 * (j 1).val = 128 * h.val + (j 1).val; omega

theorem turn (v : Vec F S1x1x128x128 .f32) (hc) : shapeCast S128x128 (k0_pay2 v) hc = fun j => v (ix4 0 0 (j 1) (j 0)) := by
  funext j; idx_vars j
  pointwise [k0_pay2]

theorem turn_back (v : Vec F S128x128 .f32) (hc) (x : S1x1x128x128.Idx) : k0_pay2 (shapeCast S1x1x128x128 v hc) x = v (ix2 (x 3) (x 2)) := by
  idx_vars x
  pointwise [k0_pay2]

theorem ld_hs (s : Vec F S2x8x128x128 .f32) (n : Fin 2) (h : Fin 8) (q : ℕ) (hq : q = n.val) (p : ℕ) (hp : p = h.val) (inb) (hc) :
    shapeCast (s := S1x1x128x128) S128x128 (k0_pay2 (View.ld s (Rect.unit ![q, p, 0, 0] ![1, 1, 128, 128] inb))) hc = hs n h s := by
  rw [turn]
  subst hq hp; funext j; refine congrArg s (funext fun a => Fin.ext ?_)
  match a with
  | ⟨0, _⟩ => show n.val + 1 * 0 = n.val; omega
  | ⟨1, _⟩ => show h.val + 1 * 0 = h.val; omega
  | ⟨2, _⟩ => show 0 + 1 * (j 1).val = (j 1).val; omega
  | ⟨3, _⟩ => show 0 + 1 * (j 0).val = (j 0).val; omega

/-- The block of outputs a point leaves. -/
def O7 (x0 x1 x2 x3 : Vec F S16x1024 .f32) (x4 : Vec F S1x1024 .f32) (x5 : Vec F S1x128 .f32) (s : Vec F S2x8x128x128 .f32) :
    Vec F S16x1024 .bf16 := fun j =>
  have hk : (j 0).val < 16 := (j 0).isLt
  have hl : (j 1).val < 1024 := (j 1).isLt
  have n : Fin 2 := ⟨(j 0).val / 8, by omega⟩
  have h : Fin 8 := ⟨(j 1).val / 128, by omega⟩
  outp x5 (mix (hd1 h x4) (hd n h x1) (hd n h x0) (hd n h x2) (hs n h s)) (hd n h x3) (ix2 ⟨(j 0).val % 8, by omega⟩ ⟨(j 1).val % 128, by omega⟩)

/-- The block of states a point leaves. -/
def S8 (x1 x2 : Vec F S16x1024 .f32) (x4 : Vec F S1x1024 .f32) (s : Vec F S2x8x128x128 .f32) : Vec F S2x8x128x128 .f32 := fun j =>
  nxt (hd1 (j 1) x4) (hd (j 0) (j 1) x1) (hd (j 0) (j 1) x2) (hs (j 0) (j 1) s) (ix2 (j 3) (j 2))

theorem pieceO (x0 x1 x2 x3 : Vec F S16x1024 .f32) (x4 : Vec F S1x1024 .f32) (x5 : Vec F S1x128 .f32) (s : Vec F S2x8x128x128 .f32)
    (n : Fin 2) (h : Fin 8) (r : ℕ) (hr : r = 8 * n.val) (o : ℕ) (ho : o = 128 * h.val) (q : ℕ) (hq : q = n.val) (p : ℕ) (hp : p = h.val)
    (i0 i1 i2 i3 i4 i5 i6 i7) (hc hc' hc'') (x : S8x128.Idx) :
    outp (shapeCast (s := S1x128) S1x128 (View.ld x5 (Rect.unit ![0, 0] ![1, 128] i5)) hc'')
      (mix (shapeCast (s := S1x128) S1x128 (View.ld x4 (Rect.unit ![0, o] ![1, 128] i4)) hc) (View.ld x1 (Rect.unit ![r, o] ![8, 128] i1))
        (View.ld x0 (Rect.unit ![r, o] ![8, 128] i0)) (View.ld x2 (Rect.unit ![r, o] ![8, 128] i2))
        (shapeCast (s := S1x1x128x128) S128x128 (k0_pay2 (View.ld s (Rect.unit ![q, p, 0, 0] ![1, 1, 128, 128] i6))) hc'))
      (View.ld x3 (Rect.unit ![r, o] ![8, 128] i3)) x
    = O7 x0 x1 x2 x3 x4 x5 s ((Rect.unit (s := S16x1024) ![r, o] ![8, 128] i7).emb x) := by
  rw [ld_hd x1 n h r hr o ho, ld_hd x0 n h r hr o ho, ld_hd x2 n h r hr o ho, ld_hd x3 n h r hr o ho, ld_hs s n h q hq p hp, ld_hd1 x4 h o ho,
    shapeCast_self, shapeCast_self, View.ld_unit_zero (S := S1x128) (funext fun a => by fin_cases a <;> rfl)]
  subst hr ho
  have hk : (x 0).val < 8 := (x 0).isLt
  have hl : (x 1).val < 128 := (x 1).isLt
  have e1 : ((Rect.unit (s := S16x1024) ![8 * n.val, 128 * h.val] ![8, 128] i7).emb x 1).val = 128 * h.val + (x 1).val := by
    show 128 * h.val + 1 * (x 1).val = _; omega
  have e0 : ((Rect.unit (s := S16x1024) ![8 * n.val, 128 * h.val] ![8, 128] i7).emb x 0).val = 8 * n.val + (x 0).val := by
    show 8 * n.val + 1 * (x 0).val = _; omega
  have hh : (⟨((Rect.unit (s := S16x1024) ![8 * n.val, 128 * h.val] ![8, 128] i7).emb x 1).val / 128, by rw [e1]; omega⟩ : Fin 8) = h :=
    Fin.ext (by show _ / 128 = _; rw [e1]; omega)
  have hn : (⟨((Rect.unit (s := S16x1024) ![8 * n.val, 128 * h.val] ![8, 128] i7).emb x 0).val / 8, by rw [e0]; omega⟩ : Fin 2) = n :=
    Fin.ext (by show _ / 8 = _; rw [e0]; omega)
  unfold O7
  dsimp only
  rw [hh, hn]
  congr 1
  funext a
  match a with
  | ⟨0, _⟩ => exact Fin.ext (by show (x 0).val = _ % 8; rw [e0]; omega)
  | ⟨1, _⟩ => exact Fin.ext (by show (x 1).val = _ % 128; rw [e1]; omega)

theorem pieceT (x1 x2 : Vec F S16x1024 .f32) (x4 : Vec F S1x1024 .f32) (s : Vec F S2x8x128x128 .f32)
    (n : Fin 2) (h : Fin 8) (r : ℕ) (hr : r = 8 * n.val) (o : ℕ) (ho : o = 128 * h.val) (q : ℕ) (hq : q = n.val) (p : ℕ) (hp : p = h.val)
    (i1 i2 i4 i6 i7) (hc hc' hc'') (x : S1x1x128x128.Idx) :
    k0_pay2 (shapeCast S1x1x128x128 (nxt (shapeCast (s := S1x128) S1x128 (View.ld x4 (Rect.unit ![0, o] ![1, 128] i4)) hc)
        (View.ld x1 (Rect.unit ![r, o] ![8, 128] i1)) (View.ld x2 (Rect.unit ![r, o] ![8, 128] i2))
        (shapeCast (s := S1x1x128x128) S128x128 (k0_pay2 (View.ld s (Rect.unit ![q, p, 0, 0] ![1, 1, 128, 128] i6))) hc')) hc'') x
    = S8 x1 x2 x4 s ((Rect.unit (s := S2x8x128x128) ![q, p, 0, 0] ![1, 1, 128, 128] i7).emb x) := by
  rw [turn_back, ld_hd x1 n h r hr o ho, ld_hd x2 n h r hr o ho, ld_hs s n h q hq p hp, ld_hd1 x4 h o ho, shapeCast_self]
  subst hq hp
  have e0 : (Rect.unit (s := S2x8x128x128) ![n.val, h.val, 0, 0] ![1, 1, 128, 128] i7).emb x 0 = n :=
    Fin.ext (by show n.val + 1 * (x 0).val = _; have : (x 0).val < 1 := (x 0).isLt; omega)
  have e1 : (Rect.unit (s := S2x8x128x128) ![n.val, h.val, 0, 0] ![1, 1, 128, 128] i7).emb x 1 = h :=
    Fin.ext (by show h.val + 1 * (x 1).val = _; have : (x 1).val < 1 := (x 1).isLt; omega)
  have e2 : (Rect.unit (s := S2x8x128x128) ![n.val, h.val, 0, 0] ![1, 1, 128, 128] i7).emb x 2 = x 2 :=
    Fin.ext (by show 0 + 1 * (x 2).val = _; omega)
  have e3 : (Rect.unit (s := S2x8x128x128) ![n.val, h.val, 0, 0] ![1, 1, 128, 128] i7).emb x 3 = x 3 :=
    Fin.ext (by show 0 + 1 * (x 3).val = _; omega)
  unfold S8
  rw [e0, e1, e2, e3]

end Cert.Kernel16Ideal.Hgrn

end
-- ==== Proof.HgrnSampleCases.lean ====
/-
  The samples' call of the recurrence: the body's pieces are the heads of two sequences.
-/
module

public import proofs.«01_k».proof.Proof.HgrnSampleHead

@[expose] public section

set_option maxRecDepth 16384

noncomputable section

namespace Cert.Kernel16Ideal.Hgrn

open Idealize.ShloMosaic Idealize.ShloMosaic.TcCoe Cert.Kernel16Ideal Cert.Kernel16Ideal.Gen

variable {F : FTy → Type} [FloatOps F]

variable (c : Dev nD) (i : grid0.Coords) (a0 : Memref sig .tc .vmem S16x1024 .f32) (h0 : a0.IsWhole)
   (a1 : Memref sig .tc .vmem S16x1024 .f32) (h1 : a1.IsWhole)
   (a2 : Memref sig .tc .vmem S16x1024 .f32) (h2 : a2.IsWhole)
   (a3 : Memref sig .tc .vmem S16x1024 .f32) (h3 : a3.IsWhole)
   (a4 : Memref sig .tc .vmem S1x1024 .f32) (h4 : a4.IsWhole)
   (a5 : Memref sig .tc .vmem S1x128 .f32) (h5 : a5.IsWhole)
   (a6 : Memref sig .tc .vmem S2x8x128x128 .f32) (h6 : a6.IsWhole)
   (a7 : Memref sig .tc .vmem S16x1024 .bf16) (h7 : a7.IsWhole)
   (a8 : Memref sig .tc .vmem S2x8x128x128 .f32) (h8 : a8.IsWhole)
   (a9 : Memref sig .tc .vmem S2x8x128x128 .f32) (h9 : a9.IsWhole)
  (x0 x1 x2 x3 : Vec F S16x1024 .f32) (x4 : Vec F S1x1024 .f32) (x5 : Vec F S1x128 .f32) (x6 : Vec F S2x8x128x128 .f32)

theorem out0_A_7_eq (hc0 : cond0_0 i) (hc1 : cond0_1 i) :
    out0_A_7 (F := F) c i a0 h0 a1 h1 a2 h2 a3 h3 a4 h4 a5 h5 a6 h6 a7 h7 a8 h8 a9 h9 hc0 hc1 x0 x1 x2 x3 x4 x5 x6 = O7 x0 x1 x2 x3 x4 x5 x6 := by
  unfold out0_A_7
  rw [View.read_writes_eq_canon _ _ _ (cover0_A_7 c i a0 h0 a1 h1 a2 h2 a3 h3 a4 h4 a5 h5 a6 h6 a7 h7 a8 h8 a9 h9 hc0 hc1 x0 x1 x2 x3 x4 x5 x6)]
  have hcov := cover0_A_7 c i a0 h0 a1 h1 a2 h2 a3 h3 a4 h4 a5 h5 a6 h6 a7 h7 a8 h8 a9 h9 hc0 hc1 x0 x1 x2 x3 x4 x5 x6
  revert hcov
  unfold kernelRun0_A
  dsimp only
  sl_unfold_words
  simp (disch := decide) only [View.readAt_eq_ld, h0.read_unread, h1.read_unread, h2.read_unread, h3.read_unread, h4.read_unread, h5.read_unread,
    h6.read_unread, ↓View.readCov_cons_toLoadRect, ↓View.readCov_skip]
  intro hcov
  funext y
  refine View.canon_apply_of_pieces _ _ ?_ y (hcov y)
  simp only [List.forall_mem_cons, List.not_mem_nil, false_imp_iff, implies_true, and_true]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  · exact pieceO x0 x1 x2 x3 x4 x5 x6 1 7 8 rfl 896 rfl 1 rfl 7 rfl _ _ _ _ _ _ _ _ _ _ _ x
  · exact pieceO x0 x1 x2 x3 x4 x5 x6 1 6 8 rfl 768 rfl 1 rfl 6 rfl _ _ _ _ _ _ _ _ _ _ _ x
  · exact pieceO x0 x1 x2 x3 x4 x5 x6 1 5 8 rfl 640 rfl 1 rfl 5 rfl _ _ _ _ _ _ _ _ _ _ _ x
  · exact pieceO x0 x1 x2 x3 x4 x5 x6 1 4 8 rfl 512 rfl 1 rfl 4 rfl _ _ _ _ _ _ _ _ _ _ _ x
  · exact pieceO x0 x1 x2 x3 x4 x5 x6 1 3 8 rfl 384 rfl 1 rfl 3 rfl _ _ _ _ _ _ _ _ _ _ _ x
  · exact pieceO x0 x1 x2 x3 x4 x5 x6 1 2 8 rfl 256 rfl 1 rfl 2 rfl _ _ _ _ _ _ _ _ _ _ _ x
  · exact pieceO x0 x1 x2 x3 x4 x5 x6 1 1 8 rfl 128 rfl 1 rfl 1 rfl _ _ _ _ _ _ _ _ _ _ _ x
  · exact pieceO x0 x1 x2 x3 x4 x5 x6 1 0 8 rfl 0 rfl 1 rfl 0 rfl _ _ _ _ _ _ _ _ _ _ _ x
  · exact pieceO x0 x1 x2 x3 x4 x5 x6 0 7 0 rfl 896 rfl 0 rfl 7 rfl _ _ _ _ _ _ _ _ _ _ _ x
  · exact pieceO x0 x1 x2 x3 x4 x5 x6 0 6 0 rfl 768 rfl 0 rfl 6 rfl _ _ _ _ _ _ _ _ _ _ _ x
  · exact pieceO x0 x1 x2 x3 x4 x5 x6 0 5 0 rfl 640 rfl 0 rfl 5 rfl _ _ _ _ _ _ _ _ _ _ _ x
  · exact pieceO x0 x1 x2 x3 x4 x5 x6 0 4 0 rfl 512 rfl 0 rfl 4 rfl _ _ _ _ _ _ _ _ _ _ _ x
  · exact pieceO x0 x1 x2 x3 x4 x5 x6 0 3 0 rfl 384 rfl 0 rfl 3 rfl _ _ _ _ _ _ _ _ _ _ _ x
  · exact pieceO x0 x1 x2 x3 x4 x5 x6 0 2 0 rfl 256 rfl 0 rfl 2 rfl _ _ _ _ _ _ _ _ _ _ _ x
  · exact pieceO x0 x1 x2 x3 x4 x5 x6 0 1 0 rfl 128 rfl 0 rfl 1 rfl _ _ _ _ _ _ _ _ _ _ _ x
  · exact pieceO x0 x1 x2 x3 x4 x5 x6 0 0 0 rfl 0 rfl 0 rfl 0 rfl _ _ _ _ _ _ _ _ _ _ _ x

theorem out0_A_8_eq (hc0 : cond0_0 i) (hc1 : cond0_1 i) :
    out0_A_8 (F := F) c i a0 h0 a1 h1 a2 h2 a3 h3 a4 h4 a5 h5 a6 h6 a7 h7 a8 h8 a9 h9 hc0 hc1 x0 x1 x2 x3 x4 x5 x6 = S8 x1 x2 x4 x6 := by
  unfold out0_A_8
  rw [View.read_writes_eq_canon _ _ _ (cover0_A_8 c i a0 h0 a1 h1 a2 h2 a3 h3 a4 h4 a5 h5 a6 h6 a7 h7 a8 h8 a9 h9 hc0 hc1 x0 x1 x2 x3 x4 x5 x6)]
  have hcov := cover0_A_8 c i a0 h0 a1 h1 a2 h2 a3 h3 a4 h4 a5 h5 a6 h6 a7 h7 a8 h8 a9 h9 hc0 hc1 x0 x1 x2 x3 x4 x5 x6
  revert hcov
  unfold kernelRun0_A
  dsimp only
  sl_unfold_words
  simp (disch := decide) only [View.readAt_eq_ld, h0.read_unread, h1.read_unread, h2.read_unread, h3.read_unread, h4.read_unread, h5.read_unread,
    h6.read_unread, ↓View.readCov_cons_toLoadRect, ↓View.readCov_skip]
  intro hcov
  funext y
  refine View.canon_apply_of_pieces _ _ ?_ y (hcov y)
  simp only [List.forall_mem_cons, List.not_mem_nil, false_imp_iff, implies_true, and_true]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  · exact pieceT x1 x2 x4 x6 1 7 8 rfl 896 rfl 1 rfl 7 rfl _ _ _ _ _ _ _ _ x
  · exact pieceT x1 x2 x4 x6 1 6 8 rfl 768 rfl 1 rfl 6 rfl _ _ _ _ _ _ _ _ x
  · exact pieceT x1 x2 x4 x6 1 5 8 rfl 640 rfl 1 rfl 5 rfl _ _ _ _ _ _ _ _ x
  · exact pieceT x1 x2 x4 x6 1 4 8 rfl 512 rfl 1 rfl 4 rfl _ _ _ _ _ _ _ _ x
  · exact pieceT x1 x2 x4 x6 1 3 8 rfl 384 rfl 1 rfl 3 rfl _ _ _ _ _ _ _ _ x
  · exact pieceT x1 x2 x4 x6 1 2 8 rfl 256 rfl 1 rfl 2 rfl _ _ _ _ _ _ _ _ x
  · exact pieceT x1 x2 x4 x6 1 1 8 rfl 128 rfl 1 rfl 1 rfl _ _ _ _ _ _ _ _ x
  · exact pieceT x1 x2 x4 x6 1 0 8 rfl 0 rfl 1 rfl 0 rfl _ _ _ _ _ _ _ _ x
  · exact pieceT x1 x2 x4 x6 0 7 0 rfl 896 rfl 0 rfl 7 rfl _ _ _ _ _ _ _ _ x
  · exact pieceT x1 x2 x4 x6 0 6 0 rfl 768 rfl 0 rfl 6 rfl _ _ _ _ _ _ _ _ x
  · exact pieceT x1 x2 x4 x6 0 5 0 rfl 640 rfl 0 rfl 5 rfl _ _ _ _ _ _ _ _ x
  · exact pieceT x1 x2 x4 x6 0 4 0 rfl 512 rfl 0 rfl 4 rfl _ _ _ _ _ _ _ _ x
  · exact pieceT x1 x2 x4 x6 0 3 0 rfl 384 rfl 0 rfl 3 rfl _ _ _ _ _ _ _ _ x
  · exact pieceT x1 x2 x4 x6 0 2 0 rfl 256 rfl 0 rfl 2 rfl _ _ _ _ _ _ _ _ x
  · exact pieceT x1 x2 x4 x6 0 1 0 rfl 128 rfl 0 rfl 1 rfl _ _ _ _ _ _ _ _ x
  · exact pieceT x1 x2 x4 x6 0 0 0 rfl 0 rfl 0 rfl 0 rfl _ _ _ _ _ _ _ _ x

end Cert.Kernel16Ideal.Hgrn

end
-- ==== Proof.HgrnSampleRef.lean ====
/-
  The reference of the samples' call in stages, and the stages at an index. A sequence is one chunk of eight positions.
-/
module

public import proofs.«01_k».proof.Proof.Gen.Reference16Ideal.Run
public import proofs.«01_k».proof.Proof.HgrnValue

@[expose] public section

set_option maxRecDepth 65536

noncomputable section

namespace Cert.Reference16Ideal.Hgrn

open Idealize.ShloMosaic Idealize.ShloMosaic.TcCoe Idealize.SL.Sem Idealize.ShloMosaic.StableHlo Cert.Reference16Ideal Cert.Reference16Ideal.Gen
open Cert.HgrnWindow (row winAdd)
open Cert.ReferenceIdeal.Step (A_main_v13 A_main_v15 A_main_v16 A_main_v17 A_main_v18 A_main_v20 A_main_v22 A_main_v23 A_main_v24 A_main_v25 A_main_v26 A_main_v27
  A_main_v28 A_main_v29 A_main_v33 A_main_v36 A_main_v39 K_main_v14 K_main_v19 K_main_v21 K_main_v32 K_main_cst_2 K_main_cst_3 K_main_cst_4 K_main_cst_5)

/-- The sample rows, cut into sequences and heads. -/
def heads (y : FVec Ideal S9216x1024 .f32) : FVec Ideal S128x8x8x128 .f32 :=
  transpose S128x8x8x128 [0, 2, 1, 3] (shapeCast S128x8x8x128 (extractStridedSlice S1024x1024 ![8192, 0] y slices_S9216x1024_S1024x1024_8192_0)
    shapeCasts_S1024x1024_S128x8x8x128) transposes_S128x8x8x128_S128x8x8x128_0_2_1_3

/-- The running sum along the positions. -/
def sums (l : FVec Ideal S128x8x8x128 .f32) : FVec Ideal S128x8x8x128 .f32 :=
  Host.reduceWindowAdd (F := Ideal) ![1, 1, 8, 1] ![1, 1, 1, 1] ![0, 0, 7, 0] ![0, 0, 0, 0] l
    (broadcastInDim S_ ![] bcast_S_S_ (constant (F := Ideal) S_ .f32 0x00000000#32))
    reduceWindows_S128x8x8x128_S128x8x8x128_w1s1p0_0_w1s1p0_0_w8s1p7_0_w1s1p0_0 h_S_

/-- The pairs of positions a sequence mixes: the later with the earlier. -/
def causal : IVec S8x8 1 :=
  select (cmpi .sge (addi (iotaInDim S8x8 32 0) (broadcastInDim S8x8 ![] bcast_S_S8x8 (constantI S_ 32 0#32))) (iotaInDim S8x8 32 1))
    (broadcastInDim S8x8 ![] bcast_S_S8x8 (constantI S_ 1 1#1)) (broadcastInDim S8x8 ![] bcast_S_S8x8 (constantI S_ 1 0#1))

/-- The queries with the decay so far. -/
def decayed (q c : FVec Ideal S128x8x8x128 .f32) : FVec Ideal S128x8x8x128 .f32 := mulf (F := Ideal) (φ := .f32) q (Host.exp (F := Ideal) (φ := .f32) c)

/-- The output before the norm. -/
def mixed (q k v c : FVec Ideal S128x8x8x128 .f32) (s : FVec Ideal S128x8x128x128 .f32) : FVec Ideal S128x8x8x128 .f32 :=
  addf (F := Ideal) (φ := .f32)
    (Host.dotGeneral (F := Ideal) (φ₁ := .f32) (φ₂ := .f32) dot_S128x8x8x8_S128x8x8x128_S128x8x8x128_3_2_2_3_01_01 none
      (select (broadcastInDim S128x8x8x8 ![2, 3] bcast_S8x8_S128x8x8x8_2_3 causal)
        (Host.dotGeneral (F := Ideal) (φ₁ := .f32) (φ₂ := .f32) dot_S128x8x8x128_S128x8x8x128_S128x8x8x8_3_3_2_2_01_01 none (decayed q c)
          (mulf (F := Ideal) (φ := .f32) k (Host.exp (F := Ideal) (φ := .f32) (Host.negf (F := Ideal) (φ := .f32) c))))
        (broadcastInDim S128x8x8x8 ![] bcast_S_S128x8x8x8 (constant (F := Ideal) S_ .f32 0x00000000#32))) v)
    (Host.dotGeneral (F := Ideal) (φ₁ := .f32) (φ₂ := .f32) dot_S128x8x8x128_S128x8x128x128_S128x8x8x128_3_2_2_3_01_01 none (decayed q c) s)

/-- The running sum at a sequence's last position. -/
def final (c : FVec Ideal S128x8x8x128 .f32) : FVec Ideal S128x8x1x128 .f32 :=
  extractStridedSlice S128x8x1x128 ![0, 0, 7, 0] c slices_S128x8x8x128_S128x8x1x128_0_0_7_0

/-- The state a sequence leaves. -/
def left (k v c : FVec Ideal S128x8x8x128 .f32) (s : FVec Ideal S128x8x128x128 .f32) : FVec Ideal S128x8x128x128 .f32 :=
  addf (F := Ideal) (φ := .f32)
    (mulf (F := Ideal) (φ := .f32) (broadcastInDim S128x8x128x128 ![0, 1, 2, 3] bcast_S128x8x128x1_S128x8x128x128_0_1_2_3
      (broadcastInDim S128x8x128x1 ![0, 1, 2] bcast_S128x8x128_S128x8x128x1_0_1_2
        (Host.exp (F := Ideal) (φ := .f32) (shapeCast S128x8x128 (final c) shapeCasts_S128x8x1x128_S128x8x128)))) s)
    (Host.dotGeneral (F := Ideal) (φ₁ := .f32) (φ₂ := .f32) dot_S128x8x8x128_S128x8x8x128_S128x8x128x128_2_2_3_3_01_01 none
      (mulf (F := Ideal) (φ := .f32) k (Host.exp (F := Ideal) (φ := .f32) (subf (F := Ideal) (φ := .f32)
        (broadcastInDim S128x8x8x128 ![0, 1, 2, 3] bcast_S128x8x1x128_S128x8x8x128_0_1_2_3 (final c)) c))) v)

/-- The outputs by position: the heads moved back behind the positions. -/
def moved (o : FVec Ideal S128x8x8x128 .f32) : FVec Ideal S128x8x8x128 .f32 :=
  transpose S128x8x8x128 [0, 2, 1, 3] o transposes_S128x8x8x128_S128x8x8x128_0_2_1_3

/-- The output gate's projection. -/
def outgate (x0 : FVec Ideal S9216x6144 .f32) : FVec Ideal S128x8x8x128 .f32 :=
  shapeCast S128x8x8x128 (extractStridedSlice S1024x1024 ![8192, 0] (extractStridedSlice S9216x1024 ![0, 3072] x0 slices_S9216x6144_S9216x1024_0_3072)
    slices_S9216x1024_S1024x1024_8192_0) shapeCasts_S1024x1024_S128x8x8x128

/-- The normalised and gated output. -/
def normed (o : FVec Ideal S128x8x8x128 .f32) (x0 : FVec Ideal S9216x6144 .f32) (x2 : FVec Ideal S1x128 .f32) : FVec Ideal S1024x1024 .bf16 :=
  truncf (F := Ideal) (φ := .f32) .bf16 (shapeCast S1024x1024 (mulf (F := Ideal) (φ := .f32) (mulf (F := Ideal) (φ := .f32) (mulf (F := Ideal) (φ := .f32) (moved o)
      (broadcastInDim S128x8x8x128 ![0, 1, 2, 3] bcast_S128x8x8x1_S128x8x8x128_0_1_2_3 (Host.rsqrt (F := Ideal) (φ := .f32) (addf (F := Ideal) (φ := .f32)
        (Host.divf (F := Ideal) (φ := .f32) (broadcastInDim S128x8x8x1 ![0, 1, 2] bcast_S128x8x8_S128x8x8x1_0_1_2
            (Host.reduceAdd (F := Ideal) (φ := .f32) (mulf (F := Ideal) (φ := .f32) (moved o) (moved o)) (constant (F := Ideal) S_ .f32 0x00000000#32) reducesTo_S128x8x8x128_S128x8x8_d3 h_S_))
          (broadcastInDim S128x8x8x1 ![] bcast_S_S128x8x8x1 (constant (F := Ideal) S_ .f32 0x43000000#32)))
        (broadcastInDim S128x8x8x1 ![] bcast_S_S128x8x8x1 (constant (F := Ideal) S_ .f32 0x358637BD#32))))))
      (broadcastInDim S128x8x8x128 ![0, 1, 2, 3] bcast_S1x1x1x128_S128x8x8x128_0_1_2_3 (broadcastInDim S1x1x1x128 ![3] bcast_S128_S1x1x1x128_3
        (shapeCast S128 x2 shapeCasts_S1x128_S128))))
      (mulf (F := Ideal) (φ := .f32) (outgate x0) (Host.divf (F := Ideal) (φ := .f32) (broadcastInDim S128x8x8x128 ![] bcast_S_S128x8x8x128 (constant (F := Ideal) S_ .f32 0x3F800000#32))
        (addf (F := Ideal) (φ := .f32) (broadcastInDim S128x8x8x128 ![] bcast_S_S128x8x8x128 (constant (F := Ideal) S_ .f32 0x3F800000#32))
          (Host.exp (F := Ideal) (φ := .f32) (Host.negf (F := Ideal) (φ := .f32) (outgate x0))))))) shapeCasts_S128x8x8x128_S1024x1024) bitsLt_bf16_f32

/-! ## The stages at an index -/

section
variable (b : Fin 128) (h r : Fin 8) (k : Fin 128)

theorem row_lt : 8192 + (b.val * 8 + r.val) < 9216 := by omega

theorem heads_read (y : FVec Ideal S9216x1024 .f32) : heads y (ix4 b h r k) = y (ix2 ⟨8192 + (b.val * 8 + r.val), row_lt b r⟩ ⟨h.val * 128 + k.val, by omega⟩) := by
  pointwise [heads]

theorem sums_read (l : FVec Ideal S128x8x8x128 .f32) : sums l (ix4 b h r k) = ∑ t ∈ Finset.range (r.val + 1), row l b h k t := by
  unfold sums
  exact winAdd 7 rfl _ _ h_S_ (by pointwise) _ b h r k

theorem mixed_read (q y v c : FVec Ideal S128x8x8x128 .f32) (s : FVec Ideal S128x8x128x128 .f32) : mixed q y v c s (ix4 b h r k) = ∑ x : Fin 8, Scalar.select
        (Scalar.select (IntOp.cmpi .sge (IntOp.addi (BitVec.ofNat 32 r.val) 0#32) (BitVec.ofNat 32 x.val)) 1#1 0#1)
        ((∑ j : Fin 128, q (ix4 b h r j) * Ideal.exp (c (ix4 b h r j)) * (y (ix4 b h x j) * Ideal.exp (-c (ix4 b h x j)))) * v (ix4 b h x k)) 0
      + ∑ j : Fin 128, q (ix4 b h r j) * Ideal.exp (c (ix4 b h r j)) * s (ix4 b h j k) := by
  pointwise [mixed, decayed, causal]

theorem left_read (y v c : FVec Ideal S128x8x8x128 .f32) (s : FVec Ideal S128x8x128x128 .f32) (i j : Fin 128) : left y v c s (ix4 b h i j)
    = Ideal.exp (c (ix4 b h 7 i)) * s (ix4 b h i j) + ∑ x : Fin 8, y (ix4 b h x i) * Ideal.exp (c (ix4 b h 7 i) - c (ix4 b h x i)) * v (ix4 b h x j) := by
  pointwise [left, final]

variable (x0 : FVec Ideal S9216x6144 .f32) (x1 : FVec Ideal S2x1024 .f32)

/-- The gate of a position, as the reference writes it. -/
def gateAt : EReal := A_main_v13 (F := Ideal) x0 x1 (ix1 ⟨h.val * 128 + k.val, by omega⟩) + (1 - A_main_v13 (F := Ideal) x0 x1 (ix1 ⟨h.val * 128 + k.val, by omega⟩))
  * Ideal.div 1 (1 + Ideal.exp (-x0 (ix2 ⟨8192 + (b.val * 8 + r.val), row_lt b r⟩ ⟨1024 + (h.val * 128 + k.val), by omega⟩)))

theorem q_read : heads (A_main_v29 (F := Ideal) x0 x1) (ix4 b h r k) = x0 (ix2 ⟨8192 + (b.val * 8 + r.val), row_lt b r⟩ ⟨h.val * 128 + k.val, by omega⟩) := by
  rw [heads_read]; pointwise [A_main_v29]

theorem v_read : heads (A_main_v36 (F := Ideal) x0 x1) (ix4 b h r k) = x0 (ix2 ⟨8192 + (b.val * 8 + r.val), row_lt b r⟩ ⟨2048 + (h.val * 128 + k.val), by omega⟩) := by
  rw [heads_read]; pointwise [A_main_v36]

theorem gate_at : A_main_v28 (F := Ideal) x0 x1 (ix2 ⟨8192 + (b.val * 8 + r.val), row_lt b r⟩ ⟨h.val * 128 + k.val, by omega⟩) = gateAt b h r k x0 x1 := by
  unfold gateAt
  pointwise [A_main_v28, A_main_v27, A_main_v26, A_main_v25, A_main_v24, A_main_v23, A_main_v22, A_main_v20, A_main_v18, A_main_v17, A_main_v16, A_main_v15,
    K_main_v14, K_main_v19, K_main_v21, K_main_cst_2, K_main_cst_3, K_main_cst_4]

theorem k_read : heads (A_main_v33 (F := Ideal) x0 x1) (ix4 b h r k) = 1 - gateAt b h r k x0 x1 := by
  rw [heads_read, ← gate_at]; pointwise [A_main_v33, K_main_v32, K_main_cst_5]

theorem l_read : heads (A_main_v39 (F := Ideal) x0 x1) (ix4 b h r k) = Ideal.log (gateAt b h r k x0 x1) := by
  rw [heads_read, ← gate_at]; pointwise [A_main_v39]

end

theorem normed_read (y : FVec Ideal S128x8x8x128 .f32) (x0 : FVec Ideal S9216x6144 .f32) (x2 : FVec Ideal S1x128 .f32)
    (p : Fin 1024) (w : Fin 1024) (o : Fin 128 → EReal)
    (ho : ∀ x : Fin 128, y (ix4 ⟨p.val / 8, by omega⟩ ⟨w.val / 128, by omega⟩ ⟨p.val % 8, by omega⟩ x) = o x) :
    normed y x0 x2 (ix2 p w) = o ⟨w.val % 128, by omega⟩ * Ideal.rsqrt (Ideal.div (∑ x : Fin 128, o x * o x) (Ideal.ofBits FTy.f32 1124073472#32)
      + Ideal.ofBits FTy.f32 897988541#32) * x2 (ix2 0 ⟨w.val % 128, by omega⟩) * (x0 (ix2 ⟨8192 + p.val, by omega⟩ ⟨3072 + w.val, by omega⟩)
        * Ideal.div 1 (1 + Ideal.exp (-x0 (ix2 ⟨8192 + p.val, by omega⟩ ⟨3072 + w.val, by omega⟩)))) := by
  simp only [← ho]
  pointwise [normed, moved, outgate]

/-! ## The results -/

variable (m : (ℓ : Loc nD τ sig) → Buf (Elt Ideal) ℓ) (c : Dev nD)

/-- What the reference leaves of the arguments. -/
def states (x0 : FVec Ideal S9216x6144 .f32) (x1 : FVec Ideal S2x1024 .f32) (x3 : FVec Ideal S1x128x8x128x128 .f32) : FVec Ideal S128x8x128x128 .f32 :=
  left (heads (A_main_v33 (F := Ideal) x0 x1)) (heads (A_main_v36 (F := Ideal) x0 x1)) (sums (heads (A_main_v39 (F := Ideal) x0 x1)))
    (shapeCast S128x8x128x128 x3 shapeCasts_S1x128x8x128x128_S128x8x128x128)

def outs (x0 : FVec Ideal S9216x6144 .f32) (x1 : FVec Ideal S2x1024 .f32) (x2 : FVec Ideal S1x128 .f32) (x3 : FVec Ideal S1x128x8x128x128 .f32) :
    FVec Ideal S1024x1024 .bf16 :=
  normed (mixed (heads (A_main_v29 (F := Ideal) x0 x1)) (heads (A_main_v33 (F := Ideal) x0 x1)) (heads (A_main_v36 (F := Ideal) x0 x1))
    (sums (heads (A_main_v39 (F := Ideal) x0 x1))) (shapeCast S128x8x128x128 x3 shapeCasts_S1x128x8x128x128_S128x8x128x128)) x0 x2

theorem states_eq : Value.res_main_v71 (F := Ideal) m c = states (m ((c.tc : Thread nD τ).loc main_arg0)) (m ((c.tc : Thread nD τ).loc main_arg1)) (m ((c.tc : Thread nD τ).loc main_arg3)) := by
  unfold Value.res_main_v71
  rfl

theorem outs_eq : Value.res_main_v93 (F := Ideal) m c = outs (m ((c.tc : Thread nD τ).loc main_arg0)) (m ((c.tc : Thread nD τ).loc main_arg1)) (m ((c.tc : Thread nD τ).loc main_arg2))
    (m ((c.tc : Thread nD τ).loc main_arg3)) := by
  unfold Value.res_main_v93
  rfl

end Cert.Reference16Ideal.Hgrn

end
-- ==== Proof.HgrnSample.lean ====
/-
  The samples' call of the recurrence: the kernel's results are the reference's, head by head.
-/
module

public import proofs.«01_k».proof.Proof.HgrnSampleCases
public import proofs.«01_k».proof.Proof.HgrnSampleRef
public import proofs.«01_k».proof.Defs
public import Idealize.ShloMosaic.Lib.StableHlo.RunRead

@[expose] public section

set_option maxRecDepth 65536

noncomputable section

namespace Cert.Kernel16Ideal.Hgrn

open Idealize.ShloMosaic Idealize.ShloMosaic.TcCoe Idealize.SL.Sem Idealize.ShloMosaic.StableHlo Cert.Kernel16Ideal Cert.Kernel16Ideal.Gen
open Cert.HgrnWindow (row)
open Cert.KernelIdeal.Hgrn (wsum wsum_one wsum_double wsum_all)
open Cert.ReferenceIdeal.Step (A_main_v13)

/-! ## The kernel's prefix sum: three doubling rounds -/

/-- Column `k` of a block of rows as a sequence. -/
def col (x : Vec Ideal S8x128 .f32) (k : Fin 128) (s : ℕ) : EReal := if h : s < 8 then x (ix2 ⟨s, h⟩ k) else 0

theorem ge_bit (w : Fin 8) : ∀ r : Fin 8, IntOp.cmpi .sge (BitVec.ofNat 32 r.val) (BitVec.ofNat 32 w.val) = if w.val ≤ r.val then 1#1 else 0#1 := by
  revert w; decide +kernel

theorem dbl_apply (x y : Vec Ideal S8x128 .f32) (w : ℕ) (hw : w < 8)
    (h : ∀ (r : Fin 8) (k : Fin 128), y (ix2 r k) = wsum (col x k) w r.val)
    (hd : ∀ (r : Fin 8) (k : Fin 128), dbl (BitVec.ofNat 32 w) y (ix2 r k) = y (ix2 r k)
      + Scalar.select (IntOp.cmpi .sge (BitVec.ofNat 32 r.val) (BitVec.ofNat 32 w)) (y (ix2 ⟨(r.val + 8 - w) % 8, Nat.mod_lt _ (by omega)⟩ k)) 0)
    (r : Fin 8) (k : Fin 128) : dbl (BitVec.ofNat 32 w) y (ix2 r k) = wsum (col x k) (w + w) r.val := by
  rw [hd, wsum_double, h, h]
  congr 1
  rw [ge_bit ⟨w, hw⟩ r]
  by_cases hr : w ≤ r.val
  · rw [if_pos hr, if_pos hr]
    show wsum (col x k) w ((r.val + 8 - w) % 8) = _
    congr 1
    have := r.isLt
    omega
  · rw [if_neg hr, if_neg hr]; rfl

theorem dbl_read_1 (y : Vec Ideal S8x128 .f32) (r : Fin 8) (k : Fin 128) : dbl (BitVec.ofNat 32 1) y (ix2 r k) = y (ix2 r k)
    + Scalar.select (IntOp.cmpi .sge (BitVec.ofNat 32 r.val) (BitVec.ofNat 32 1)) (y (ix2 ⟨(r.val + 8 - 1) % 8, Nat.mod_lt _ (by omega)⟩ k)) 0 := by
  pointwise [dbl]

theorem dbl_read_2 (y : Vec Ideal S8x128 .f32) (r : Fin 8) (k : Fin 128) : dbl (BitVec.ofNat 32 2) y (ix2 r k) = y (ix2 r k)
    + Scalar.select (IntOp.cmpi .sge (BitVec.ofNat 32 r.val) (BitVec.ofNat 32 2)) (y (ix2 ⟨(r.val + 8 - 2) % 8, Nat.mod_lt _ (by omega)⟩ k)) 0 := by
  pointwise [dbl]

theorem dbl_read_4 (y : Vec Ideal S8x128 .f32) (r : Fin 8) (k : Fin 128) : dbl (BitVec.ofNat 32 4) y (ix2 r k) = y (ix2 r k)
    + Scalar.select (IntOp.cmpi .sge (BitVec.ofNat 32 r.val) (BitVec.ofNat 32 4)) (y (ix2 ⟨(r.val + 8 - 4) % 8, Nat.mod_lt _ (by omega)⟩ k)) 0 := by
  pointwise [dbl]

theorem cum_apply (x : Vec Ideal S8x128 .f32) (r : Fin 8) (k : Fin 128) : cum x (ix2 r k) = ∑ s ∈ Finset.range (r.val + 1), col x k s := by
  rw [← wsum_all _ 8 _ r.isLt]
  revert r k
  have h0 : ∀ (r : Fin 8) (k : Fin 128), x (ix2 r k) = wsum (col x k) 1 r.val := fun r k => by
    rw [wsum_one]; unfold col; rw [dif_pos r.isLt]
  have h1 := dbl_apply x _ 1 (by omega) h0 (dbl_read_1 _)
  have h2 := dbl_apply x _ 2 (by omega) h1 (dbl_read_2 _)
  exact dbl_apply x _ 4 (by omega) h2 (dbl_read_4 _)

/-! ## A head of a sequence at an index -/

theorem causal_bit : ∀ r x : Fin 8, IntOp.cmpi .sle (BitVec.ofNat 32 x.val) (BitVec.ofNat 32 r.val)
    = Scalar.select (IntOp.cmpi .sge (IntOp.addi (BitVec.ofNat 32 r.val) 0#32) (BitVec.ofNat 32 x.val)) 1#1 0#1 := by
  decide +kernel

theorem gate_read (lb : Vec Ideal S1x128 .f32) (f : Vec Ideal S8x128 .f32) (r : Fin 8) (k : Fin 128) :
    gate lb f (ix2 r k) = lb (ix2 0 k) + (1 - lb (ix2 0 k)) * Ideal.logistic (f (ix2 r k)) := by
  pointwise [gate]

theorem outp_read (nw : Vec Ideal S1x128 .f32) (o g : Vec Ideal S8x128 .f32) (r : Fin 8) (j : Fin 128) :
    outp nw o g (ix2 r j) = o (ix2 r j) * Ideal.rsqrt (Ideal.div (∑ x : Fin 128, o (ix2 r x) * o (ix2 r x)) (Ideal.ofBits FTy.f32 1124073472#32)
      + Ideal.ofBits FTy.f32 897988541#32) * nw (ix2 0 j) * (g (ix2 r j) * Ideal.logistic (g (ix2 r j))) := by
  pointwise [outp]

section
variable (lb : Vec Ideal S1x128 .f32) (f q v : Vec Ideal S8x128 .f32) (st : Vec Ideal S128x128 .f32)

theorem mix_read (r : Fin 8) (j : Fin 128) : mix lb f q v st (ix2 r j) = ∑ x : Fin 8, Scalar.select
        (IntOp.cmpi .sle (BitVec.ofNat 32 x.val) (BitVec.ofNat 32 r.val))
        ((∑ y : Fin 128, q (ix2 r y) * Ideal.exp (dec lb f (ix2 r y)) * ((1 - gate lb f (ix2 x y)) * Ideal.exp (0 - dec lb f (ix2 x y))))
          * v (ix2 x j)) 0
      + ∑ y : Fin 128, q (ix2 r y) * Ideal.exp (dec lb f (ix2 r y)) * st (ix2 j y) := by
  pointwise [mix, att, qe, ke, mask, k0_pay34, key]

theorem nxt_read (j i : Fin 128) : nxt lb f v st (ix2 j i) = st (ix2 j i) * Ideal.exp (dec lb f (ix2 7 i))
      + ∑ x : Fin 8, v (ix2 x j) * ((1 - gate lb f (ix2 x i)) * Ideal.exp (dec lb f (ix2 7 i) - dec lb f (ix2 x i))) := by
  pointwise [nxt, key, last]

variable (Q K V L : FVec Ideal Cert.Reference16Ideal.S128x8x8x128 .f32) (S : FVec Ideal Cert.Reference16Ideal.S128x8x128x128 .f32) (b : Fin 128) (h : Fin 8)
variable (hq : ∀ (r : Fin 8) (k : Fin 128), q (ix2 r k) = Q (ix4 b h r k))
variable (hk : ∀ (r : Fin 8) (k : Fin 128), (1 : EReal) - gate lb f (ix2 r k) = K (ix4 b h r k))
variable (hv : ∀ (r : Fin 8) (k : Fin 128), v (ix2 r k) = V (ix4 b h r k))
variable (hl : ∀ (r : Fin 8) (k : Fin 128), log (gate lb f) (ix2 r k) = L (ix4 b h r k))
variable (hst : ∀ (i j : Fin 128), st (ix2 j i) = S (ix4 b h i j))

open Cert.Reference16Ideal.Hgrn (sums sums_read mixed mixed_read left left_read)

include hl in
theorem dec_eq (r : Fin 8) (k : Fin 128) : dec lb f (ix2 r k) = sums L (ix4 b h r k) := by
  rw [sums_read]
  unfold dec
  rw [cum_apply]
  refine Finset.sum_congr rfl fun t ht => ?_
  have : t < 8 := by have := r.isLt; have := Finset.mem_range.mp ht; omega
  unfold col row
  rw [dif_pos this, dif_pos this]
  exact hl _ _

include hq hk hv hl hst in
theorem mix_eq (r : Fin 8) (j : Fin 128) : mix lb f q v st (ix2 r j) = mixed Q K V (sums L) S (ix4 b h r j) := by
  rw [mix_read, mixed_read]
  simp only [dec_eq lb f L b h hl, hq, hk, hv, hst, causal_bit, zero_sub]

include hk hv hl hst in
theorem nxt_eq (i j : Fin 128) : nxt lb f v st (ix2 j i) = left K V (sums L) S (ix4 b h i j) := by
  rw [nxt_read, left_read]
  simp only [dec_eq lb f L b h hl, hk, hv, hst]
  rw [mul_comm]
  refine congrArg₂ _ rfl (Finset.sum_congr rfl fun x _ => ?_)
  rw [mul_comm]
end

/-! ## The blocks -/

variable (m : (ℓ : Loc nD τ sig) → Buf (Elt Ideal) ℓ) (c : Dev nD)

/-- The kernel's arguments. -/
abbrev a0 : FVec Ideal Cert.Reference16Ideal.S9216x6144 .f32 := m ((c : Thread nD τ).loc main_arg0)
abbrev a1 : FVec Ideal Cert.Reference16Ideal.S2x1024 .f32 := m ((c : Thread nD τ).loc main_arg1)
abbrev a2 : FVec Ideal Cert.Reference16Ideal.S1x128 .f32 := m ((c : Thread nD τ).loc main_arg2)
abbrev a3 : FVec Ideal Cert.Reference16Ideal.S1x128x8x128x128 .f32 := m ((c : Thread nD τ).loc main_arg3)

/-- The states the sequences start from. -/
abbrev before : FVec Ideal Cert.Reference16Ideal.S128x8x128x128 .f32 := shapeCast S128x8x128x128 (a3 m c) shapeCasts_S1x128x8x128x128_S128x8x128x128

theorem point_lt (t : Fin cfg0.N) : t.val < 64 := lt_of_lt_of_eq t.isLt (show cfg0.N = 64 from N_0)

theorem idx_all : ∀ t : Fin cfg0.N, win0_0.index t = ![512 + t.val, 0] ∧ win0_1.index t = ![512 + t.val, 1] ∧ win0_2.index t = ![512 + t.val, 2]
    ∧ win0_3.index t = ![512 + t.val, 3] ∧ win0_6.index t = ![t.val, 0, 0, 0] ∧ win0_7.index t = ![t.val, 0] ∧ win0_8.index t = ![t.val, 0, 0, 0] :=
  (by decide +kernel : ∀ t : Fin grid0.N, _)

theorem V_bound : V m c main_v16 = shapeCast S1x1024 (A_main_v13 (F := Ideal) (a0 m c) (a1 m c)) shapeCasts_S1024_S1x1024 := by
  simp only [V, hostOps0, hostOps0_1, hostOps0_2, List.flatten_cons, List.flatten_nil, List.append_nil, List.cons_append, List.nil_append]
  after_reads_simp
  rfl

theorem V_norm : V m c main_v17 = a2 m c := by
  simp only [V, hostOps0, hostOps0_1, hostOps0_2, List.flatten_cons, List.flatten_nil, List.append_nil, List.cons_append, List.nil_append]
  after_reads_simp
  exact Cert.KernelIdeal.Hgrn.cast_back _ _ _

theorem V_before : V m c main_v15 = before m c := by
  simp only [V, hostOps0, hostOps0_1, hostOps0_2, List.flatten_cons, List.flatten_nil, List.append_nil, List.cons_append, List.nil_append]
  after_reads_simp
  rfl

theorem blk4 (t : Fin cfg0.N) : iblk m c 4 t = shapeCast S1x1024 (A_main_v13 (F := Ideal) (a0 m c) (a1 m c)) shapeCasts_S1024_S1x1024 := by
  rw [← V_bound m c]
  refine funext fun j => congrArg (V m c main_v16) (funext fun a => ?_)
  match a with
  | ⟨0, _⟩ => exact Fin.ext (show 0 * 1 + 1 * (j 0).val = (j 0).val by omega)
  | ⟨1, _⟩ => exact Fin.ext ((show 0 * 1024 + 1 * (j 1).val = (j 1).val by omega))

theorem blk5 (t : Fin cfg0.N) : iblk m c 5 t = a2 m c := by
  rw [← V_norm m c]
  refine funext fun j => congrArg (V m c main_v17) (funext fun a => ?_)
  match a with
  | ⟨0, _⟩ => exact Fin.ext (show 0 * 1 + 1 * (j 0).val = (j 0).val by omega)
  | ⟨1, _⟩ => exact Fin.ext ((show 0 * 128 + 1 * (j 1).val = (j 1).val by omega))

/-- A column group's entry of a sequence's head. -/
abbrev entry (w : ℕ) (hw : w < 4) (b : Fin 128) (h r : Fin 8) (k : Fin 128) : EReal :=
  a0 m c (ix2 ⟨8192 + (b.val * 8 + r.val), Cert.Reference16Ideal.Hgrn.row_lt b r⟩ ⟨w * 1024 + (h.val * 128 + k.val), by omega⟩)

section
variable (t : Fin cfg0.N) (n : Fin 2) (b : Fin 128) (ht : b.val = 2 * t.val + n.val) (h : Fin 8)

open Cert.Reference16Ideal.Hgrn (row_lt heads q_read k_read v_read l_read gateAt)
open Cert.ReferenceIdeal.Step (A_main_v29 A_main_v33 A_main_v36 A_main_v39)

include ht in
/-- Where an entry of a point's block lies in the array. -/
theorem at_entry (w : ℕ) (hw : w < 4) (r : Fin 8) (k : Fin 128) (p : S9216x6144.Idx) (u : Fin 2 → ℕ) (hu : u = ![512 + t.val, w])
    (e0 : (p 0).val = u 0 * 16 + 1 * (8 * n.val + r.val)) (e1 : (p 1).val = u 1 * 1024 + 1 * (128 * h.val + k.val)) :
    V m c main_arg0 p = entry m c w hw b h r k := by
  subst hu
  unfold entry a0
  rw [← V_main_arg0 m c]
  refine congrArg (V m c main_arg0) (funext fun a => ?_)
  match a with
  | ⟨0, _⟩ => exact Fin.ext (e0.trans (by show (512 + t.val) * 16 + 1 * (8 * n.val + r.val) = 8192 + (b.val * 8 + r.val); omega))
  | ⟨1, _⟩ => exact Fin.ext (e1.trans (by show w * 1024 + 1 * (128 * h.val + k.val) = w * 1024 + (h.val * 128 + k.val); omega))

include ht in
theorem blk0 (r : Fin 8) (k : Fin 128) : hd n h (iblk m c 0 t) (ix2 r k) = entry m c 0 (by omega) b h r k :=
  at_entry m c t n b ht h 0 _ r k _ _ (idx_all t).1 rfl rfl

include ht in
theorem blk1 (r : Fin 8) (k : Fin 128) : hd n h (iblk m c 1 t) (ix2 r k) = entry m c 1 (by omega) b h r k :=
  at_entry m c t n b ht h 1 _ r k _ _ (idx_all t).2.1 rfl rfl

include ht in
theorem blk2 (r : Fin 8) (k : Fin 128) : hd n h (iblk m c 2 t) (ix2 r k) = entry m c 2 (by omega) b h r k :=
  at_entry m c t n b ht h 2 _ r k _ _ (idx_all t).2.2.1 rfl rfl

include ht in
theorem blk3 (r : Fin 8) (k : Fin 128) : hd n h (iblk m c 3 t) (ix2 r k) = entry m c 3 (by omega) b h r k :=
  at_entry m c t n b ht h 3 _ r k _ _ (idx_all t).2.2.2.1 rfl rfl

include ht in
theorem blk6 (i j : Fin 128) : hs n h (iblk m c 6 t) (ix2 j i) = before m c (ix4 b h i j) := by
  rw [← V_before m c]
  refine congrArg (V m c main_v15) (funext fun a => ?_)
  have e := congrFun (idx_all t).2.2.2.2.1
  match a with
  | ⟨0, _⟩ => exact Fin.ext (by have := e 0; show win0_6.index t 0 * 2 + 1 * n.val = _; rw [this]; show t.val * 2 + 1 * n.val = b.val; omega)
  | ⟨1, _⟩ => exact Fin.ext (by have := e 1; show win0_6.index t 1 * 8 + 1 * h.val = _; rw [this]; show 0 * 8 + 1 * h.val = h.val; omega)
  | ⟨2, _⟩ => exact Fin.ext (by have := e 2; show win0_6.index t 2 * 128 + 1 * i.val = _; rw [this]; show 0 * 128 + 1 * i.val = i.val; omega)
  | ⟨3, _⟩ => exact Fin.ext (by have := e 3; show win0_6.index t 3 * 128 + 1 * j.val = _; rw [this]; show 0 * 128 + 1 * j.val = j.val; omega)

include ht in
theorem head_q (r : Fin 8) (k : Fin 128) : hd n h (iblk m c 0 t) (ix2 r k) = heads (A_main_v29 (F := Ideal) (a0 m c) (a1 m c)) (ix4 b h r k) := by
  rw [q_read, blk0 m c t n b ht h]
  refine congrArg (a0 m c) ?_
  congr 1; exact Fin.ext (by dsimp only; omega)

include ht in
theorem head_v (r : Fin 8) (k : Fin 128) : hd n h (iblk m c 2 t) (ix2 r k) = heads (A_main_v36 (F := Ideal) (a0 m c) (a1 m c)) (ix4 b h r k) := by
  rw [v_read, blk2 m c t n b ht h]

include ht in
theorem head_gate (r : Fin 8) (k : Fin 128) : gate (hd1 h (iblk m c 4 t)) (hd n h (iblk m c 1 t)) (ix2 r k) = gateAt b h r k (a0 m c) (a1 m c) := by
  rw [gate_read, blk1 m c t n b ht h]
  have e : hd1 h (iblk m c 4 t) (ix2 0 k) = A_main_v13 (F := Ideal) (a0 m c) (a1 m c) (ix1 ⟨h.val * 128 + k.val, by omega⟩) := by
    rw [blk4]
    refine (Cert.Hgrn.flat_read _ _ ⟨128 * h.val + k.val, by omega⟩).trans (congrArg (A_main_v13 (F := Ideal) (a0 m c) (a1 m c)) ?_)
    congr 1; exact Fin.ext (by dsimp only; omega)
  rw [e]
  rfl

include ht in
theorem head_k (r : Fin 8) (k : Fin 128) : (1 : EReal) - gate (hd1 h (iblk m c 4 t)) (hd n h (iblk m c 1 t)) (ix2 r k)
    = heads (A_main_v33 (F := Ideal) (a0 m c) (a1 m c)) (ix4 b h r k) := by
  rw [k_read, head_gate m c t n b ht h]

include ht in
theorem head_l (r : Fin 8) (k : Fin 128) : log (gate (hd1 h (iblk m c 4 t)) (hd n h (iblk m c 1 t))) (ix2 r k)
    = heads (A_main_v39 (F := Ideal) (a0 m c) (a1 m c)) (ix4 b h r k) := by
  rw [l_read, ← head_gate m c t n b ht h]
  rfl

end

/-! ## The results -/

open Cert.Reference16Ideal.Hgrn (states outs normed_read)

theorem S8_eq (t : Fin cfg0.N) (n : Fin 2) (b : Fin 128) (ht : b.val = 2 * t.val + n.val) (h : Fin 8) (i j : Fin 128) :
    S8 (iblk m c 1 t) (iblk m c 2 t) (iblk m c 4 t) (iblk m c 6 t) (ix4 n h i j) = states (a0 m c) (a1 m c) (a3 m c) (ix4 b h i j) :=
  nxt_eq _ _ _ _ _ _ _ _ b h (head_k m c t n b ht h) (head_v m c t n b ht h) (head_l m c t n b ht h) (blk6 m c t n b ht h) i j

theorem kernel_states (b : Fin 128) (h : Fin 8) (i j : Fin 128) : (dats m 0 c).arrAt 8 cfg0.N (ix4 b h i j) = states (a0 m c) (a1 m c) (a3 m c) (ix4 b h i j) := by
  have ht : b.val / 2 < cfg0.N := lt_of_lt_of_eq (by omega) N_0.symm
  have hb := congrFun (Cert.Kernel16Ideal.Value.blocks8 m c ⟨b.val / 2, ht⟩ (flush0_8 _)) (ix4 ⟨b.val % 2, by omega⟩ h i j)
  rw [Cert.Kernel16Ideal.Value.flushed8_A, out0_A_8_eq] at hb
  have e := congrFun (idx_all ⟨b.val / 2, ht⟩).2.2.2.2.2.2
  refine (congrArg ((dats m 0 c).arrAt 8 cfg0.N) (funext fun a => ?_)).trans ((hb.trans rfl).trans
    (S8_eq m c ⟨b.val / 2, ht⟩ ⟨b.val % 2, by omega⟩ b (by dsimp only; omega) h i j))
  match a with
  | ⟨0, _⟩ => exact Fin.ext (by have := e 0; show _ = win0_8.index _ 0 * 2 + 1 * (b.val % 2); rw [this]; show b.val = b.val / 2 * 2 + 1 * (b.val % 2); omega)
  | ⟨1, _⟩ => exact Fin.ext (by have := e 1; show _ = win0_8.index _ 1 * 8 + 1 * h.val; rw [this]; show h.val = 0 * 8 + 1 * h.val; omega)
  | ⟨2, _⟩ => exact Fin.ext (by have := e 2; show _ = win0_8.index _ 2 * 128 + 1 * i.val; rw [this]; show i.val = 0 * 128 + 1 * i.val; omega)
  | ⟨3, _⟩ => exact Fin.ext (by have := e 3; show _ = win0_8.index _ 3 * 128 + 1 * j.val; rw [this]; show j.val = 0 * 128 + 1 * j.val; omega)

theorem O7_eq (t : Fin cfg0.N) (p w : Fin 1024) (ht : t.val = p.val / 16) :
    O7 (iblk m c 0 t) (iblk m c 1 t) (iblk m c 2 t) (iblk m c 3 t) (iblk m c 4 t) (iblk m c 5 t) (iblk m c 6 t) (ix2 ⟨p.val % 16, by omega⟩ w)
      = outs (a0 m c) (a1 m c) (a2 m c) (a3 m c) (ix2 p w) := by
  have hn : p.val % 16 / 8 < 2 := by omega
  have hb : p.val / 8 < 128 := by omega
  have hh : w.val / 128 < 8 := by omega
  have hr : p.val % 8 < 8 := by omega
  have hj : w.val % 128 < 128 := by omega
  have hr' : (⟨p.val % 16 % 8, by omega⟩ : Fin 8) = ⟨p.val % 8, hr⟩ := Fin.ext (by dsimp only; omega)
  have htt : (⟨p.val / 8, hb⟩ : Fin 128).val = 2 * t.val + (⟨p.val % 16 / 8, hn⟩ : Fin 2).val := by dsimp only; omega
  show outp (iblk m c 5 t) (mix (hd1 ⟨w.val / 128, hh⟩ (iblk m c 4 t)) (hd ⟨p.val % 16 / 8, hn⟩ ⟨w.val / 128, hh⟩ (iblk m c 1 t))
      (hd ⟨p.val % 16 / 8, hn⟩ ⟨w.val / 128, hh⟩ (iblk m c 0 t)) (hd ⟨p.val % 16 / 8, hn⟩ ⟨w.val / 128, hh⟩ (iblk m c 2 t))
      (hs ⟨p.val % 16 / 8, hn⟩ ⟨w.val / 128, hh⟩ (iblk m c 6 t))) (hd ⟨p.val % 16 / 8, hn⟩ ⟨w.val / 128, hh⟩ (iblk m c 3 t))
    (ix2 ⟨p.val % 16 % 8, by omega⟩ ⟨w.val % 128, hj⟩) = _
  rw [hr', outp_read, blk5]
  refine Eq.trans ?_ (normed_read _ _ _ p w _ (fun x => (mix_eq _ _ _ _ _ _ _ _ _ _ ⟨p.val / 8, hb⟩ ⟨w.val / 128, hh⟩ (head_q m c t _ _ htt _) (head_k m c t _ _ htt _)
    (head_v m c t _ _ htt _) (head_l m c t _ _ htt _) (blk6 m c t _ _ htt _) ⟨p.val % 8, hr⟩ x).symm)).symm
  rw [blk3 m c t ⟨p.val % 16 / 8, hn⟩ ⟨p.val / 8, hb⟩ htt]
  have e : entry m c 3 (by omega) ⟨p.val / 8, hb⟩ ⟨w.val / 128, hh⟩ ⟨p.val % 8, hr⟩ ⟨w.val % 128, hj⟩ = a0 m c (ix2 ⟨8192 + p.val, by omega⟩ ⟨3072 + w.val, by omega⟩) := by
    refine congrArg (a0 m c) ?_
    congr 1 <;> exact Fin.ext (by dsimp only; omega)
  rw [e]
  rfl

theorem kernel_outs (p w : Fin 1024) : (dats m 0 c).arrAt 7 cfg0.N (ix2 p w) = outs (a0 m c) (a1 m c) (a2 m c) (a3 m c) (ix2 p w) := by
  have ht : p.val / 16 < cfg0.N := lt_of_lt_of_eq (by omega) N_0.symm
  have hb := congrFun (Cert.Kernel16Ideal.Value.blocks7 m c ⟨p.val / 16, ht⟩ (flush0_7 _)) (ix2 ⟨p.val % 16, by omega⟩ w)
  rw [Cert.Kernel16Ideal.Value.flushed7_A, out0_A_7_eq] at hb
  have e := congrFun (idx_all ⟨p.val / 16, ht⟩).2.2.2.2.2.1
  refine (congrArg ((dats m 0 c).arrAt 7 cfg0.N) (funext fun a => ?_)).trans ((hb.trans rfl).trans (O7_eq m c ⟨p.val / 16, ht⟩ p w rfl))
  match a with
  | ⟨0, _⟩ => exact Fin.ext (by have := e 0; show _ = win0_7.index _ 0 * 16 + 1 * (p.val % 16); rw [this]; show p.val = p.val / 16 * 16 + 1 * (p.val % 16); omega)
  | ⟨1, _⟩ => exact Fin.ext (by have := e 1; show _ = win0_7.index _ 1 * 1024 + 1 * w.val; rw [this]; show w.val = 0 * 1024 + 1 * w.val; omega)

end Cert.Kernel16Ideal.Hgrn

namespace Cert.HgrnSample

open Idealize.ShloMosaic Idealize.ShloMosaic.TcCoe Idealize.SL.Sem

theorem same_values : Cert.algebraic_Kernel16Ideal_Reference16Ideal := by
  intro m g m' g' _ hargs
  refine ⟨fun c => (Cert.Kernel16Ideal.Gen.dats m 0 c).arrAt 7 Cert.Kernel16Ideal.cfg0.N, fun c => (Cert.Kernel16Ideal.Gen.dats m 0 c).arrAt 8 Cert.Kernel16Ideal.cfg0.N,
    Cert.Kernel16Ideal.Value.run_blocks m g, (θ_run _ _ _).mono (fun r h c => ?_) (Cert.Reference16Ideal.Value.run m' g')⟩
  obtain ⟨h0, h1, h2, h3⟩ := hargs c
  obtain ⟨ho, hs, hk⟩ := h c
  refine ⟨ho.trans ?_, hs.trans ?_, hk⟩
  · rw [Cert.Reference16Ideal.Hgrn.outs_eq, h0, h1, h2, h3]
    funext i
    idx_vars i
    exact (Cert.Kernel16Ideal.Hgrn.kernel_outs m c i0 i1).symm
  · rw [Cert.Reference16Ideal.Hgrn.states_eq, h0, h1, h3]
    funext i
    idx_vars i
    exact (Cert.Kernel16Ideal.Hgrn.kernel_states m c i0 i1 i2 i3).symm

end Cert.HgrnSample

end
-- ==== Proof.Frames.lean ====
/-
  The frames of the printed kernels. Each kernel's text is the same as the one read over the extended reals, whose run holds over
  any float values; so its frame is that run's at the bits.
-/
module

public import proofs.«01_k».proof.Proof.Gen.Kernel
public import proofs.«01_k».proof.Proof.Gen.KernelIdeal.Value
public import proofs.«01_k».proof.Proof.Gen.Kernel2
public import proofs.«01_k».proof.Proof.Gen.Kernel2Ideal.Value
public import proofs.«01_k».proof.Proof.Gen.Kernel3
public import proofs.«01_k».proof.Proof.Gen.Kernel3Ideal.Value
public import proofs.«01_k».proof.Proof.Gen.Kernel4
public import proofs.«01_k».proof.Proof.Gen.Kernel4Ideal.Value
public import proofs.«01_k».proof.Proof.Gen.Kernel5
public import proofs.«01_k».proof.Proof.Gen.Kernel5Ideal.Value
public import proofs.«01_k».proof.Proof.Gen.Kernel6
public import proofs.«01_k».proof.Proof.Gen.Kernel6Ideal.Value
public import proofs.«01_k».proof.Proof.Gen.Kernel7
public import proofs.«01_k».proof.Proof.Gen.Kernel7Ideal.Value
public import proofs.«01_k».proof.Proof.Gen.Kernel8
public import proofs.«01_k».proof.Proof.Gen.Kernel8Ideal.Value
public import proofs.«01_k».proof.Proof.Gen.Kernel9
public import proofs.«01_k».proof.Proof.Gen.Kernel9Ideal.Value
public import proofs.«01_k».proof.Proof.Gen.Kernel10
public import proofs.«01_k».proof.Proof.Gen.Kernel10Ideal.Value
public import proofs.«01_k».proof.Proof.Gen.Kernel11
public import proofs.«01_k».proof.Proof.Gen.Kernel11Ideal.Value
public import proofs.«01_k».proof.Proof.Gen.Kernel12
public import proofs.«01_k».proof.Proof.Gen.Kernel12Ideal.Value
public import proofs.«01_k».proof.Proof.Gen.Kernel13
public import proofs.«01_k».proof.Proof.Gen.Kernel13Ideal.Value
public import proofs.«01_k».proof.Proof.Gen.Kernel14
public import proofs.«01_k».proof.Proof.Gen.Kernel14Ideal.Value
public import proofs.«01_k».proof.Proof.Gen.Kernel15
public import proofs.«01_k».proof.Proof.Gen.Kernel15Ideal.Value
public import proofs.«01_k».proof.Proof.Gen.Kernel16
public import proofs.«01_k».proof.Proof.Gen.Kernel16Ideal.Value
public import proofs.«01_k».proof.Defs

@[expose] public section

set_option maxRecDepth 65536

noncomputable section

namespace Cert.Frames

open Idealize.ShloMosaic Idealize.ShloMosaic.TcCoe Idealize.SL.Sem

theorem defs : Cert.Kernel.defs (F := Bits) = Cert.KernelIdeal.defs (F := Bits) :=
  congrArg (Pipeline.defs Cert.Kernel.pcfgs) (congrArg Defs.onTc (funext fun l => funext fun x => match l, x with | 0, (_, _) => rfl))

theorem frame : Cert.quiescent_Kernel := fun m ρ _ => by
  show θ_run Cert.Kernel.defs _ _ _
  rw [defs]
  exact (θ_run Cert.KernelIdeal.defs _ _).mono (fun _ h => h) (Cert.KernelIdeal.Gen.frame (F := Bits) m ρ)

theorem defs2 : Cert.Kernel2.defs (F := Bits) = Cert.Kernel2Ideal.defs (F := Bits) :=
  congrArg (Pipeline.defs Cert.Kernel2.pcfgs) (congrArg Defs.onTc (funext fun l => funext fun x => match l, x with | 0, (_, _) => rfl))

theorem frame2 : Cert.quiescent_Kernel2 := fun m ρ _ => by
  show θ_run Cert.Kernel2.defs _ _ _
  rw [defs2]
  exact (θ_run Cert.Kernel2Ideal.defs _ _).mono (fun _ h => h) (Cert.Kernel2Ideal.Gen.frame (F := Bits) m ρ)

theorem defs3 : Cert.Kernel3.defs (F := Bits) = Cert.Kernel3Ideal.defs (F := Bits) :=
  congrArg (Pipeline.defs Cert.Kernel3.pcfgs) (congrArg Defs.onTc (funext fun l => funext fun x => match l, x with | 0, (_, _) => rfl))

theorem frame3 : Cert.quiescent_Kernel3 := fun m ρ _ => by
  show θ_run Cert.Kernel3.defs _ _ _
  rw [defs3]
  exact (θ_run Cert.Kernel3Ideal.defs _ _).mono (fun _ h => h) (Cert.Kernel3Ideal.Gen.frame (F := Bits) m ρ)

theorem defs4 : Cert.Kernel4.defs (F := Bits) = Cert.Kernel4Ideal.defs (F := Bits) :=
  congrArg (Pipeline.defs Cert.Kernel4.pcfgs) (congrArg Defs.onTc (funext fun l => funext fun x => match l, x with | 0, (_, _) => rfl))

theorem frame4 : Cert.quiescent_Kernel4 := fun m ρ _ => by
  show θ_run Cert.Kernel4.defs _ _ _
  rw [defs4]
  exact (θ_run Cert.Kernel4Ideal.defs _ _).mono (fun _ h => h) (Cert.Kernel4Ideal.Gen.frame (F := Bits) m ρ)

theorem defs5 : Cert.Kernel5.defs (F := Bits) = Cert.Kernel5Ideal.defs (F := Bits) :=
  congrArg (Pipeline.defs Cert.Kernel5.pcfgs) (congrArg Defs.onTc (funext fun l => funext fun x => match l, x with | 0, (_, _) => rfl))

theorem frame5 : Cert.quiescent_Kernel5 := fun m ρ _ => by
  show θ_run Cert.Kernel5.defs _ _ _
  rw [defs5]
  exact (θ_run Cert.Kernel5Ideal.defs _ _).mono (fun _ h => h) (Cert.Kernel5Ideal.Gen.frame (F := Bits) m ρ)

theorem defs6 : Cert.Kernel6.defs (F := Bits) = Cert.Kernel6Ideal.defs (F := Bits) :=
  congrArg (Pipeline.defs Cert.Kernel6.pcfgs) (congrArg Defs.onTc (funext fun l => funext fun x => match l, x with | 0, (_, _) => rfl))

theorem frame6 : Cert.quiescent_Kernel6 := fun m ρ _ => by
  show θ_run Cert.Kernel6.defs _ _ _
  rw [defs6]
  exact (θ_run Cert.Kernel6Ideal.defs _ _).mono (fun _ h => h) (Cert.Kernel6Ideal.Gen.frame (F := Bits) m ρ)

theorem defs7 : Cert.Kernel7.defs (F := Bits) = Cert.Kernel7Ideal.defs (F := Bits) :=
  congrArg (Pipeline.defs Cert.Kernel7.pcfgs) (congrArg Defs.onTc (funext fun l => funext fun x => match l, x with | 0, (_, _) => rfl))

theorem frame7 : Cert.quiescent_Kernel7 := fun m ρ _ => by
  show θ_run Cert.Kernel7.defs _ _ _
  rw [defs7]
  exact (θ_run Cert.Kernel7Ideal.defs _ _).mono (fun _ h => h) (Cert.Kernel7Ideal.Gen.frame (F := Bits) m ρ)

theorem defs8 : Cert.Kernel8.defs (F := Bits) = Cert.Kernel8Ideal.defs (F := Bits) :=
  congrArg (Pipeline.defs Cert.Kernel8.pcfgs) (congrArg Defs.onTc (funext fun l => funext fun x => match l, x with | 0, (_, _) => rfl))

theorem frame8 : Cert.quiescent_Kernel8 := fun m ρ _ => by
  show θ_run Cert.Kernel8.defs _ _ _
  rw [defs8]
  exact (θ_run Cert.Kernel8Ideal.defs _ _).mono (fun _ h => h) (Cert.Kernel8Ideal.Gen.frame (F := Bits) m ρ)

theorem defs9 : Cert.Kernel9.defs (F := Bits) = Cert.Kernel9Ideal.defs (F := Bits) :=
  congrArg (Pipeline.defs Cert.Kernel9.pcfgs) (congrArg Defs.onTc (funext fun l => funext fun x => match l, x with | 0, (_, _) => rfl))

theorem frame9 : Cert.quiescent_Kernel9 := fun m ρ _ => by
  show θ_run Cert.Kernel9.defs _ _ _
  rw [defs9]
  exact (θ_run Cert.Kernel9Ideal.defs _ _).mono (fun _ h => h) (Cert.Kernel9Ideal.Gen.frame (F := Bits) m ρ)

theorem defs10 : Cert.Kernel10.defs (F := Bits) = Cert.Kernel10Ideal.defs (F := Bits) :=
  congrArg (Pipeline.defs Cert.Kernel10.pcfgs) (congrArg Defs.onTc (funext fun l => funext fun x => match l, x with | 0, (_, _) => rfl))

theorem frame10 : Cert.quiescent_Kernel10 := fun m ρ _ => by
  show θ_run Cert.Kernel10.defs _ _ _
  rw [defs10]
  exact (θ_run Cert.Kernel10Ideal.defs _ _).mono (fun _ h => h) (Cert.Kernel10Ideal.Gen.frame (F := Bits) m ρ)

theorem defs11 : Cert.Kernel11.defs (F := Bits) = Cert.Kernel11Ideal.defs (F := Bits) :=
  congrArg (Pipeline.defs Cert.Kernel11.pcfgs) (congrArg Defs.onTc (funext fun l => funext fun x => match l, x with | 0, (_, _) => rfl))

theorem frame11 : Cert.quiescent_Kernel11 := fun m ρ _ => by
  show θ_run Cert.Kernel11.defs _ _ _
  rw [defs11]
  exact (θ_run Cert.Kernel11Ideal.defs _ _).mono (fun _ h => h) (Cert.Kernel11Ideal.Gen.frame (F := Bits) m ρ)

theorem defs12 : Cert.Kernel12.defs (F := Bits) = Cert.Kernel12Ideal.defs (F := Bits) :=
  congrArg (Pipeline.defs Cert.Kernel12.pcfgs) (congrArg Defs.onTc (funext fun l => funext fun x => match l, x with | 0, (_, _) => rfl))

theorem frame12 : Cert.quiescent_Kernel12 := fun m ρ _ => by
  show θ_run Cert.Kernel12.defs _ _ _
  rw [defs12]
  exact (θ_run Cert.Kernel12Ideal.defs _ _).mono (fun _ h => h) (Cert.Kernel12Ideal.Gen.frame (F := Bits) m ρ)

theorem defs13 : Cert.Kernel13.defs (F := Bits) = Cert.Kernel13Ideal.defs (F := Bits) :=
  congrArg (Pipeline.defs Cert.Kernel13.pcfgs) (congrArg Defs.onTc (funext fun l => funext fun x => match l, x with | 0, (_, _) => rfl))

theorem frame13 : Cert.quiescent_Kernel13 := fun m ρ _ => by
  show θ_run Cert.Kernel13.defs _ _ _
  rw [defs13]
  exact (θ_run Cert.Kernel13Ideal.defs _ _).mono (fun _ h => h) (Cert.Kernel13Ideal.Gen.frame (F := Bits) m ρ)

theorem defs14 : Cert.Kernel14.defs (F := Bits) = Cert.Kernel14Ideal.defs (F := Bits) :=
  congrArg (Pipeline.defs Cert.Kernel14.pcfgs) (congrArg Defs.onTc (funext fun l => funext fun x => match l, x with | 0, (_, _) => rfl))

theorem frame14 : Cert.quiescent_Kernel14 := fun m ρ _ => by
  show θ_run Cert.Kernel14.defs _ _ _
  rw [defs14]
  exact (θ_run Cert.Kernel14Ideal.defs _ _).mono (fun _ h => h) (Cert.Kernel14Ideal.Gen.frame (F := Bits) m ρ)

theorem defs15 : Cert.Kernel15.defs (F := Bits) = Cert.Kernel15Ideal.defs (F := Bits) :=
  congrArg (Pipeline.defs Cert.Kernel15.pcfgs) (congrArg Defs.onTc (funext fun l => funext fun x => match l, x with | 0, (_, _) => rfl))

theorem frame15 : Cert.quiescent_Kernel15 := fun m ρ _ => by
  show θ_run Cert.Kernel15.defs _ _ _
  rw [defs15]
  exact (θ_run Cert.Kernel15Ideal.defs _ _).mono (fun _ h => h) (Cert.Kernel15Ideal.Gen.frame (F := Bits) m ρ)

theorem defs16 : Cert.Kernel16.defs (F := Bits) = Cert.Kernel16Ideal.defs (F := Bits) :=
  congrArg (Pipeline.defs Cert.Kernel16.pcfgs) (congrArg Defs.onTc (funext fun l => funext fun x => match l, x with | 0, (_, _) => rfl))

theorem frame16 : Cert.quiescent_Kernel16 := fun m ρ _ => by
  show θ_run Cert.Kernel16.defs _ _ _
  rw [defs16]
  exact (θ_run Cert.Kernel16Ideal.defs _ _).mono (fun _ h => h) (Cert.Kernel16Ideal.Gen.frame (F := Bits) m ρ)

end Cert.Frames

end
-- ==== Proof.lean ====
module

public import proofs.«01_k».proof.Proof.Gen.KernelIdeal.Value
public import proofs.«01_k».proof.Proof.Gen.Kernel2
public import proofs.«01_k».proof.Proof.Gen.Reference2Ideal
public import proofs.«01_k».proof.Proof.Gen.Reference2Ideal.Run
public import proofs.«01_k».proof.Proof.Gen.Kernel3
public import proofs.«01_k».proof.Proof.Gen.Reference3Ideal
public import proofs.«01_k».proof.Proof.Gen.Reference3Ideal.Run
public import proofs.«01_k».proof.Proof.Gen.Kernel4
public import proofs.«01_k».proof.Proof.Gen.Reference4Ideal
public import proofs.«01_k».proof.Proof.Gen.Reference4Ideal.Run
public import proofs.«01_k».proof.Proof.Gen.Kernel5
public import proofs.«01_k».proof.Proof.Gen.Reference5Ideal
public import proofs.«01_k».proof.Proof.Gen.Reference5Ideal.Run
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16Ideal.Value
public import proofs.«01_k».proof.Proof.Gen.Reference16Ideal
public import proofs.«01_k».proof.Proof.Gen.Reference16Ideal.Run
public import proofs.«01_k».proof.Proof.HgrnValue
public import proofs.«01_k».proof.Proof.FfUp
public import proofs.«01_k».proof.Proof.FfDown
public import proofs.«01_k».proof.Proof.EvenIn
public import proofs.«01_k».proof.Proof.MemKv
public import proofs.«01_k».proof.Proof.FinalNorm
public import proofs.«01_k».proof.Proof.OutProj
public import proofs.«01_k».proof.Proof.MemQ
public import proofs.«01_k».proof.Proof.MlaIn
public import proofs.«01_k».proof.Proof.MlaPrep
public import proofs.«01_k».proof.Proof.KvUp
public import proofs.«01_k».proof.Proof.GatesPrompt
public import proofs.«01_k».proof.Proof.GatesSample
public import proofs.«01_k».proof.Proof.HgrnSample
public import proofs.«01_k».proof.Proof.Frames
public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The states of the reference's scan are the sequence the kernel is shown equal to. -/
theorem states_eq (m : (ℓ : Loc Cert.ReferenceIdeal.nD Cert.ReferenceIdeal.τ Cert.ReferenceIdeal.sig) → Buf (Elt Ideal) ℓ)
    (c : Dev Cert.ReferenceIdeal.nD) (n : ℕ) :
    Cert.ReferenceIdeal.Hgrn.states m c n
      = Cert.Hgrn.seq (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) n := by
  induction n with
  | zero => rfl
  | succ n ih => exact congrArg (Cert.ReferenceIdeal.Step.step n) ih

/-- The reference's scan and the kernel's grid end with the same two arrays. -/
theorem same_values : Cert.algebraic_KernelIdeal_ReferenceIdeal := by
  intro m g m' g' _ hargs
  refine ⟨fun c => Cert.KernelIdeal.Value.G6 m c, fun c => Cert.KernelIdeal.Value.G7 m c, Cert.KernelIdeal.Value.run m g,
    (θ_run _ _ _).mono (fun r h c => ?_) (Cert.ReferenceIdeal.Hgrn.runs m' g')⟩
  obtain ⟨h0, h1, h2⟩ := hargs c
  obtain ⟨ho, hS, hk⟩ := h c
  refine ⟨ho.trans ?_, hS.trans ?_, hk⟩
  · rw [states_eq, h0, h1, h2]
    exact (Cert.Hgrn.G6_eq m c).symm
  · rw [states_eq, h0, h1]
    exact (Cert.Hgrn.G7_eq m c).symm

theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_⟩
  · exact Cert.Frames.frame
  · exact fun m ρ _ => Cert.KernelIdeal.Gen.frame m ρ
  · exact fun m ρ _ => (θ_run _ _ _).mono
      (fun r h => ⟨fun c => (h c).2.2, sem_eq_zero_of_no_sems rfl r.2⟩) (Cert.ReferenceIdeal.Hgrn.runs m ρ)
  · exact Cert.Frames.frame2
  · exact fun m ρ _ => Cert.Kernel2Ideal.Gen.frame m ρ
  · exact fun m ρ _ => (θ_run _ _ _).mono
      (fun r h => ⟨fun c => (h c).2, sem_eq_zero_of_no_sems rfl r.2⟩) (Cert.Reference2Ideal.Value.run m ρ)
  · exact Cert.Frames.frame3
  · exact fun m ρ _ => Cert.Kernel3Ideal.Gen.frame m ρ
  · exact fun m ρ _ => (θ_run _ _ _).mono
      (fun r h => ⟨fun c => (h c).2, sem_eq_zero_of_no_sems rfl r.2⟩) (Cert.Reference3Ideal.Value.run m ρ)
  · exact Cert.Frames.frame4
  · exact fun m ρ _ => Cert.Kernel4Ideal.Gen.frame m ρ
  · exact fun m ρ _ => (θ_run _ _ _).mono
      (fun r h => ⟨fun c => (h c).2, sem_eq_zero_of_no_sems rfl r.2⟩) (Cert.Reference4Ideal.Value.run m ρ)
  · exact Cert.Frames.frame5
  · exact fun m ρ _ => Cert.Kernel5Ideal.Gen.frame m ρ
  · exact fun m ρ _ => (θ_run _ _ _).mono
      (fun r h => ⟨fun c => (h c).2, sem_eq_zero_of_no_sems rfl r.2⟩) (Cert.Reference5Ideal.Value.run m ρ)
  · exact Cert.Frames.frame6
  · exact fun m ρ _ => Cert.Kernel6Ideal.Gen.frame m ρ
  · exact fun m ρ _ => (θ_run _ _ _).mono
      (fun r h => ⟨fun c => (h c).2, sem_eq_zero_of_no_sems rfl r.2⟩) (Cert.Reference6Ideal.Value.run m ρ)
  · exact Cert.Frames.frame7
  · exact fun m ρ _ => Cert.Kernel7Ideal.Gen.frame m ρ
  · exact fun m ρ _ => (θ_run _ _ _).mono
      (fun r h => ⟨fun c => (h c).2, sem_eq_zero_of_no_sems rfl r.2⟩) (Cert.Reference7Ideal.Value.run m ρ)
  · exact Cert.Frames.frame8
  · exact fun m ρ _ => Cert.Kernel8Ideal.Gen.frame m ρ
  · exact fun m ρ _ => (θ_run _ _ _).mono
      (fun r h => ⟨fun c => (h c).2, sem_eq_zero_of_no_sems rfl r.2⟩) (Cert.Reference8Ideal.Value.run m ρ)
  · exact Cert.Frames.frame9
  · exact fun m ρ _ => Cert.Kernel9Ideal.Gen.frame m ρ
  · exact fun m ρ _ => (θ_run _ _ _).mono
      (fun r h => ⟨fun c => (h c).2, sem_eq_zero_of_no_sems rfl r.2⟩) (Cert.Reference9Ideal.Value.run m ρ)
  · exact Cert.Frames.frame10
  · exact fun m ρ _ => Cert.Kernel10Ideal.Gen.frame m ρ
  · exact fun m ρ _ => (θ_run _ _ _).mono
      (fun r h => ⟨fun c => (h c).2, sem_eq_zero_of_no_sems rfl r.2⟩) (Cert.Reference10Ideal.Value.run m ρ)
  · exact Cert.Frames.frame11
  · exact fun m ρ _ => Cert.Kernel11Ideal.Gen.frame m ρ
  · exact fun m ρ _ => (θ_run _ _ _).mono
      (fun r h => ⟨fun c => (h c).2, sem_eq_zero_of_no_sems rfl r.2⟩) (Cert.Reference11Ideal.Value.run m ρ)
  · exact Cert.Frames.frame12
  · exact fun m ρ _ => Cert.Kernel12Ideal.Gen.frame m ρ
  · exact fun m ρ _ => (θ_run _ _ _).mono
      (fun r h => ⟨fun c => (h c).2.2.2, sem_eq_zero_of_no_sems rfl r.2⟩) (Cert.Reference12Ideal.Value.run m ρ)
  · exact Cert.Frames.frame13
  · exact fun m ρ _ => Cert.Kernel13Ideal.Gen.frame m ρ
  · exact fun m ρ _ => (θ_run _ _ _).mono
      (fun r h => ⟨fun c => (h c).2, sem_eq_zero_of_no_sems rfl r.2⟩) (Cert.Reference13Ideal.Value.run m ρ)
  · exact Cert.Frames.frame14
  · exact fun m ρ _ => Cert.Kernel14Ideal.Gen.frame m ρ
  · exact fun m ρ _ => (θ_run _ _ _).mono
      (fun r h => ⟨fun c => (h c).2.2, sem_eq_zero_of_no_sems rfl r.2⟩) (Cert.Reference14Ideal.Value.run m ρ)
  · exact Cert.Frames.frame15
  · exact fun m ρ _ => Cert.Kernel15Ideal.Gen.frame m ρ
  · exact fun m ρ _ => (θ_run _ _ _).mono
      (fun r h => ⟨fun c => (h c).2.2, sem_eq_zero_of_no_sems rfl r.2⟩) (Cert.Reference15Ideal.Value.run m ρ)
  · exact Cert.Frames.frame16
  · exact fun m ρ _ => Cert.Kernel16Ideal.Gen.frame m ρ
  · exact fun m ρ _ => (θ_run _ _ _).mono
      (fun r h => ⟨fun c => (h c).2.2, sem_eq_zero_of_no_sems rfl r.2⟩) (Cert.Reference16Ideal.Value.run m ρ)
  · trivial
  · exact same_values
  · trivial
  · exact Cert.Up.same_values
  · trivial
  · exact Cert.Down.same_values
  · trivial
  · exact Cert.EvenIn.same_values
  · trivial
  · exact Cert.Mem.same_values
  · trivial
  · exact Cert.FinalNorm.same_prompt
  · trivial
  · exact Cert.FinalNorm.same_sample
  · trivial
  · exact Cert.OutProj.same_mixer
  · trivial
  · exact Cert.OutProj.same_memory
  · trivial
  · exact Cert.MemQ.same_values
  · trivial
  · exact Cert.MlaIn.same_values
  · trivial
  · exact Cert.MlaPrep.same_values
  · trivial
  · exact Cert.KvUp.same_values
  · trivial
  · exact Cert.GatesPrompt.same_values
  · trivial
  · exact Cert.GatesSample.same_values
  · trivial
  · exact Cert.HgrnSample.same_values⟩

end Cert.Proof

end
